-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def preserves_Kernel_KernelIdeal : Prop :=
  IdealRules.named_const.Statement Cert.KernelIdeal.κ "neg_log2e" .f32 0xBFB8AA3B#32 ((-((Real.log 2)⁻¹) : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v107) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v25_0)) (v1 : (c : Dev Cert.Kernel2Ideal.nD) → Buf (Elt Ideal) ((c.tc : Thread Cert.Kernel2Ideal.nD Cert.Kernel2Ideal.τ).loc Cert.Kernel2Ideal.main_v25_1)) (v2 : (c : Dev Cert.Kernel2Ideal.nD) → Buf (Elt Ideal) ((c.tc : Thread Cert.Kernel2Ideal.nD Cert.Kernel2Ideal.τ).loc Cert.Kernel2Ideal.main_v25_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v25_0) = v0 c
          ∧ r.2.mem ((c.tc : Thread Cert.Kernel2Ideal.nD Cert.Kernel2Ideal.τ).loc Cert.Kernel2Ideal.main_v25_1) = v1 c
          ∧ r.2.mem ((c.tc : Thread Cert.Kernel2Ideal.nD Cert.Kernel2Ideal.τ).loc Cert.Kernel2Ideal.main_v25_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v69) = v0 c
          ∧ r.2.mem ((c.tc : Thread Cert.Reference2Ideal.nD Cert.Reference2Ideal.τ).loc Cert.Reference2Ideal.main_v70) = v1 c
          ∧ r.2.mem ((c.tc : Thread Cert.Reference2Ideal.nD Cert.Reference2Ideal.τ).loc Cert.Reference2Ideal.main_v72) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
-- ==== Pre_finite.lean ====
abbrev S32768x12288 : Shape := ⟨2, ![32768, 12288]⟩
abbrev S32768x128 : Shape := ⟨2, ![32768, 128]⟩
abbrev S4x2048 : Shape := ⟨2, ![4, 2048]⟩
abbrev S2048 : Shape := ⟨1, ![2048]⟩
abbrev S1024 : Shape := ⟨1, ![1024]⟩
abbrev S_ : Shape := ⟨0, ![]⟩

class Facts : Prop where
  bitsLt_bf16_f32 : FTy.bits .bf16 < FTy.bits .f32
  bcast_S_S32768x12288 : S_.BroadcastsInDim S32768x12288 (![] : Fin 0 → Fin S32768x12288.rank)
  reducesTo_S32768x12288_S_d0_1 : S32768x12288.ReducesTo [0, 1] S_
  h_S_ : 0 < S_.numel
  bcast_S_S32768x128 : S_.BroadcastsInDim S32768x128 (![] : Fin 0 → Fin S32768x128.rank)
  reducesTo_S32768x128_S_d0_1 : S32768x128.ReducesTo [0, 1] S_
  bcast_S_S4x2048 : S_.BroadcastsInDim S4x2048 (![] : Fin 0 → Fin S4x2048.rank)
  reducesTo_S4x2048_S_d0_1 : S4x2048.ReducesTo [0, 1] S_
  bcast_S_S2048 : S_.BroadcastsInDim S2048 (![] : Fin 0 → Fin S2048.rank)
  reducesTo_S2048_S_d0 : S2048.ReducesTo [0] S_

variable [Facts]

def fn_part1 {F : FTy → Type} [FloatOps F] (main_v14 : IVec S_ 1) (main_v15 : FVec F S2048 .f32) (main_v16 : FVec F S2048 .f32) : IVec S_ 1 :=
  let main_v17 : IVec S2048 1 := cmpf .olt main_v15 main_v16
  let main_c_5 : IVec S_ 1 := constantI S_ 1 1#1
  let main_v18 : IVec S_ 1 := (fun x v => Host.reduce IntOp.andi x v reducesTo_S2048_S_d0 h_S_) main_v17 main_c_5
  let main_v19 : IVec S_ 1 := andi main_v14 main_v18
  main_v19

def fn {F : FTy → Type} [FloatOps F] (main_arg0 : FVec F S32768x12288 .bf16) (main_arg1 : FVec F S32768x128 .f32) (main_arg2 : FVec F S4x2048 .f32) (main_arg3 : FVec F S2048 .f32) (main_arg4 : FVec F S1024 .f32) : IVec S_ 1 :=
  let main_v0 : FVec F S32768x12288 .f32 := (extf .f32 · bitsLt_bf16_f32) main_arg0
  let main_v1 : FVec F S32768x12288 .f32 := Host.absf main_v0
  let main_cst : FVec F S_ .f32 := constant S_ .f32 0x7F800000#32
  let main_v2 : FVec F S32768x12288 .f32 := broadcastInDim S32768x12288 ![] bcast_S_S32768x12288 main_cst
  let main_v3 : IVec S32768x12288 1 := cmpf .olt main_v1 main_v2
  let main_c : IVec S_ 1 := constantI S_ 1 1#1
  let main_v4 : IVec S_ 1 := (fun x v => Host.reduce IntOp.andi x v reducesTo_S32768x12288_S_d0_1 h_S_) main_v3 main_c
  let main_v5 : FVec F S32768x128 .f32 := Host.absf main_arg1
  let main_cst_0 : FVec F S_ .f32 := constant S_ .f32 0x7F800000#32
  let main_v6 : FVec F S32768x128 .f32 := broadcastInDim S32768x128 ![] bcast_S_S32768x128 main_cst_0
  let main_v7 : IVec S32768x128 1 := cmpf .olt main_v5 main_v6
  let main_c_1 : IVec S_ 1 := constantI S_ 1 1#1
  let main_v8 : IVec S_ 1 := (fun x v => Host.reduce IntOp.andi x v reducesTo_S32768x128_S_d0_1 h_S_) main_v7 main_c_1
  let main_v9 : IVec S_ 1 := andi main_v4 main_v8
  let main_v10 : FVec F S4x2048 .f32 := Host.absf main_arg2
  let main_cst_2 : FVec F S_ .f32 := constant S_ .f32 0x7F800000#32
  let main_v11 : FVec F S4x2048 .f32 := broadcastInDim S4x2048 ![] bcast_S_S4x2048 main_cst_2
  let main_v12 : IVec S4x2048 1 := cmpf .olt main_v10 main_v11
  let main_c_3 : IVec S_ 1 := constantI S_ 1 1#1
  let main_v13 : IVec S_ 1 := (fun x v => Host.reduce IntOp.andi x v reducesTo_S4x2048_S_d0_1 h_S_) main_v12 main_c_3
  let main_v14 : IVec S_ 1 := andi main_v9 main_v13
  let main_v15 : FVec F S2048 .f32 := Host.absf main_arg3
  let main_cst_4 : FVec F S_ .f32 := constant S_ .f32 0x7F800000#32
  let main_v16 : FVec F S2048 .f32 := broadcastInDim S2048 ![] bcast_S_S2048 main_cst_4
  fn_part1 (F := F) main_v14 main_v15 main_v16
-- ==== Kernel.lean ====
abbrev S32768x12288 : Shape := ⟨2, ![32768, 12288]⟩
abbrev S32768x128 : Shape := ⟨2, ![32768, 128]⟩
abbrev S4x2048 : Shape := ⟨2, ![4, 2048]⟩
abbrev S2048 : Shape := ⟨1, ![2048]⟩
abbrev S1024 : Shape := ⟨1, ![1024]⟩
abbrev S128x32768 : Shape := ⟨2, ![128, 32768]⟩
abbrev S8x32768 : Shape := ⟨2, ![8, 32768]⟩
abbrev S1x2048 : Shape := ⟨2, ![1, 2048]⟩
abbrev S1x1024 : Shape := ⟨2, ![1, 1024]⟩
abbrev S32768x1024 : Shape := ⟨2, ![32768, 1024]⟩
abbrev S256x1024 : Shape := ⟨2, ![256, 1024]⟩
abbrev S256x128 : Shape := ⟨2, ![256, 128]⟩
abbrev S8x256 : Shape := ⟨2, ![8, 256]⟩
abbrev S4x256x256 : Shape := ⟨3, ![4, 256, 256]⟩
abbrev S4x1x256 : Shape := ⟨3, ![4, 1, 256]⟩
abbrev S4x8x128 : Shape := ⟨3, ![4, 8, 128]⟩
abbrev S8x1024 : Shape := ⟨2, ![8, 1024]⟩
abbrev S256x256 : Shape := ⟨2, ![256, 256]⟩
abbrev S1x256x256 : Shape := ⟨3, ![1, 256, 256]⟩
abbrev S16x1024 : Shape := ⟨2, ![16, 1024]⟩
abbrev S248x1024 : Shape := ⟨2, ![248, 1024]⟩
abbrev S256x1 : Shape := ⟨2, ![256, 1]⟩
abbrev S1x256 : Shape := ⟨2, ![1, 256]⟩
abbrev S1x8x128 : Shape := ⟨3, ![1, 8, 128]⟩
abbrev S8x128 : Shape := ⟨2, ![8, 128]⟩
abbrev S1x1 : Shape := ⟨2, ![1, 1]⟩
abbrev S256 : Shape := ⟨1, ![256]⟩
abbrev S1 : Shape := ⟨1, ![1]⟩
abbrev S1x1x256 : Shape := ⟨3, ![1, 1, 256]⟩

abbrev nBuf : Space → Nat
  | .hbm => 10
  | .vmem => 25
  | .smem => 0
  | _ => 0

abbrev bufTy : (tb : Table) → Fin (tcTables nBuf tb) → BufTy
  | .hbm, ⟨0, _⟩ => ⟨S32768x12288, .bf16⟩
  | .hbm, ⟨1, _⟩ => ⟨S32768x128, .f32⟩
  | .hbm, ⟨2, _⟩ => ⟨S4x2048, .f32⟩
  | .hbm, ⟨3, _⟩ => ⟨S2048, .f32⟩
  | .hbm, ⟨4, _⟩ => ⟨S1024, .f32⟩
  | .hbm, ⟨5, _⟩ => ⟨S128x32768, .f32⟩
  | .hbm, ⟨6, _⟩ => ⟨S8x32768, .f32⟩
  | .hbm, ⟨7, _⟩ => ⟨S1x2048, .f32⟩
  | .hbm, ⟨8, _⟩ => ⟨S1x1024, .f32⟩
  | .hbm, ⟨9, _⟩ => ⟨S32768x1024, .bf16⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | .local _ .vmem, ⟨10, _⟩ => ⟨S256x128, .f32⟩
  | .local _ .vmem, ⟨11, _⟩ => ⟨S256x128, .f32⟩
  | .local _ .vmem, ⟨12, _⟩ => ⟨S8x256, .f32⟩
  | .local _ .vmem, ⟨13, _⟩ => ⟨S8x256, .f32⟩
  | .local _ .vmem, ⟨14, _⟩ => ⟨S4x2048, .f32⟩
  | .local _ .vmem, ⟨15, _⟩ => ⟨S1x2048, .f32⟩
  | .local _ .vmem, ⟨16, _⟩ => ⟨S1x1024, .f32⟩
  | .local _ .vmem, ⟨17, _⟩ => ⟨S256x1024, .bf16⟩
  | .local _ .vmem, ⟨18, _⟩ => ⟨S256x1024, .bf16⟩
  | .local _ .vmem, ⟨19, _⟩ => ⟨S4x256x256, .f32⟩
  | .local _ .vmem, ⟨20, _⟩ => ⟨S4x1x256, .f32⟩
  | .local _ .vmem, ⟨21, _⟩ => ⟨S4x8x128, .f32⟩
  | .local _ .vmem, ⟨22, _⟩ => ⟨S8x1024, .f32⟩
  | .local _ .vmem, ⟨23, _⟩ => ⟨S8x1024, .f32⟩
  | .local _ .vmem, ⟨24, _⟩ => ⟨S4x256x256, .bf16⟩
  | _, _ => ⟨S32768x12288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg10_1 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_scratch3 : Ref sig .tc := ⟨.vmem, 22, rfl⟩
abbrev cc0_scratch4 : Ref sig .tc := ⟨.vmem, 23, rfl⟩
abbrev cc0_scratch5 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c4_i32 : BitVec 32 := 4#32
  let c0_i32 : BitVec 32 := 0#32
  ![v1.toNat, c4_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c5_i32 : BitVec 32 := 5#32
  let c0_i32 : BitVec 32 := 0#32
  ![v1.toNat, c5_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c6_i32 : BitVec 32 := 6#32
  let c0_i32 : BitVec 32 := 0#32
  ![v1.toNat, c6_i32.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c7_i32 : BitVec 32 := 7#32
  let c0_i32 : BitVec 32 := 0#32
  ![v1.toNat, c7_i32.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c8_i32 : BitVec 32 := 8#32
  let c0_i32 : BitVec 32 := 0#32
  ![v1.toNat, c8_i32.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![c0_i32.toNat, v1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S8x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S4x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== KernelIdeal.lean ====
variable {F : FTy → Type} [FloatOps F] [Named F]
def κ : String → Option EReal := fun
  | "neg_log2e" => some ((-((Real.log 2)⁻¹) : ℝ) : EReal)
  | _ => none
-- ==== ReferenceIdeal.lean ====
abbrev S32768x12288 : Shape := ⟨2, ![32768, 12288]⟩
abbrev S32768x128 : Shape := ⟨2, ![32768, 128]⟩
abbrev S4x2048 : Shape := ⟨2, ![4, 2048]⟩
abbrev S2048 : Shape := ⟨1, ![2048]⟩
abbrev S1024 : Shape := ⟨1, ![1024]⟩
abbrev S8x4096x128 : Shape := ⟨3, ![8, 4096, 128]⟩
abbrev S8x4096x4 : Shape := ⟨3, ![8, 4096, 4]⟩
abbrev S8x4096x12288 : Shape := ⟨3, ![8, 4096, 12288]⟩
abbrev S8x4096x2048 : Shape := ⟨3, ![8, 4096, 2048]⟩
abbrev S_ : Shape := ⟨0, ![]⟩
abbrev S8x4099x2048 : Shape := ⟨3, ![8, 4099, 2048]⟩
abbrev S1x2048 : Shape := ⟨2, ![1, 2048]⟩
abbrev S1x1x2048 : Shape := ⟨3, ![1, 1, 2048]⟩
abbrev S8x4096x1024 : Shape := ⟨3, ![8, 4096, 1024]⟩
abbrev S8x4096x4x256 : Shape := ⟨4, ![8, 4096, 4, 256]⟩
abbrev S8x4x4096x256 : Shape := ⟨4, ![8, 4, 4096, 256]⟩
abbrev S8x4x4096 : Shape := ⟨3, ![8, 4, 4096]⟩
abbrev S64x64 : Shape := ⟨2, ![64, 64]⟩
abbrev S8x4x256x256 : Shape := ⟨4, ![8, 4, 256, 256]⟩
abbrev S8x4x256 : Shape := ⟨3, ![8, 4, 256]⟩
abbrev S8x4 : Shape := ⟨2, ![8, 4]⟩
abbrev S8x4x64x64x256 : Shape := ⟨5, ![8, 4, 64, 64, 256]⟩
abbrev S64x8x4x64x256 : Shape := ⟨5, ![64, 8, 4, 64, 256]⟩
abbrev S8x4x64x64 : Shape := ⟨4, ![8, 4, 64, 64]⟩
abbrev S64x8x4x64 : Shape := ⟨4, ![64, 8, 4, 64]⟩
abbrev S1x8x4x64x256 : Shape := ⟨5, ![1, 8, 4, 64, 256]⟩
abbrev S8x4x64x256 : Shape := ⟨4, ![8, 4, 64, 256]⟩
abbrev S1x8x4x64 : Shape := ⟨4, ![1, 8, 4, 64]⟩
abbrev S8x4x64 : Shape := ⟨3, ![8, 4, 64]⟩
abbrev S8x4x64x1 : Shape := ⟨4, ![8, 4, 64, 1]⟩
abbrev S8x4x1x64 : Shape := ⟨4, ![8, 4, 1, 64]⟩
abbrev S8x4x1 : Shape := ⟨3, ![8, 4, 1]⟩
abbrev S8x4x1x1 : Shape := ⟨4, ![8, 4, 1, 1]⟩
abbrev S4x1x256 : Shape := ⟨3, ![4, 1, 256]⟩
abbrev S8x4x4096x1 : Shape := ⟨4, ![8, 4, 4096, 1]⟩
abbrev S1x4x1x256 : Shape := ⟨4, ![1, 4, 1, 256]⟩
abbrev S32768x1024 : Shape := ⟨2, ![32768, 1024]⟩

abbrev nBuf : Space → Nat
  | .hbm => 296
  | .vmem => 0
  | .smem => 0
  | _ => 0

abbrev hbmTy0_0 (i : Nat) : BufTy := match i % 128 with
  | 0 => ⟨S32768x12288, .bf16⟩
  | 1 => ⟨S32768x128, .f32⟩
  | 2 => ⟨S4x2048, .f32⟩
  | 3 => ⟨S2048, .f32⟩
  | 4 => ⟨S1024, .f32⟩
  | 5 => ⟨S8x4096x128, .f32⟩
  | 6 => ⟨S8x4096x4, .f32⟩
  | 7 => ⟨S8x4096x4, .f32⟩
  | 8 => ⟨S32768x12288, .f32⟩
  | 9 => ⟨S8x4096x12288, .f32⟩
  | 10 => ⟨S8x4096x2048, .f32⟩
  | 11 => ⟨S_, .i32⟩
  | 12 => ⟨S_, .f32⟩
  | 13 => ⟨S8x4099x2048, .f32⟩
  | 14 => ⟨S1x2048, .f32⟩
  | 15 => ⟨S2048, .f32⟩
  | 16 => ⟨S8x4096x2048, .f32⟩
  | 17 => ⟨S1x1x2048, .f32⟩
  | 18 => ⟨S8x4096x2048, .f32⟩
  | 19 => ⟨S8x4096x2048, .f32⟩
  | 20 => ⟨S1x2048, .f32⟩
  | 21 => ⟨S2048, .f32⟩
  | 22 => ⟨S8x4096x2048, .f32⟩
  | 23 => ⟨S1x1x2048, .f32⟩
  | 24 => ⟨S8x4096x2048, .f32⟩
  | 25 => ⟨S8x4096x2048, .f32⟩
  | 26 => ⟨S8x4096x2048, .f32⟩
  | 27 => ⟨S1x2048, .f32⟩
  | 28 => ⟨S2048, .f32⟩
  | 29 => ⟨S8x4096x2048, .f32⟩
  | 30 => ⟨S1x1x2048, .f32⟩
  | 31 => ⟨S8x4096x2048, .f32⟩
  | 32 => ⟨S8x4096x2048, .f32⟩
  | 33 => ⟨S8x4096x2048, .f32⟩
  | 34 => ⟨S1x2048, .f32⟩
  | 35 => ⟨S2048, .f32⟩
  | 36 => ⟨S8x4096x2048, .f32⟩
  | 37 => ⟨S1x1x2048, .f32⟩
  | 38 => ⟨S8x4096x2048, .f32⟩
  | 39 => ⟨S8x4096x2048, .f32⟩
  | 40 => ⟨S8x4096x2048, .f32⟩
  | 41 => ⟨S1x1x2048, .f32⟩
  | 42 => ⟨S8x4096x2048, .f32⟩
  | 43 => ⟨S8x4096x2048, .f32⟩
  | 44 => ⟨S8x4096x2048, .f32⟩
  | 45 => ⟨S8x4096x2048, .f32⟩
  | 46 => ⟨S_, .f32⟩
  | 47 => ⟨S8x4096x2048, .f32⟩
  | 48 => ⟨S8x4096x2048, .f32⟩
  | 49 => ⟨S_, .f32⟩
  | 50 => ⟨S8x4096x2048, .f32⟩
  | 51 => ⟨S8x4096x2048, .f32⟩
  | 52 => ⟨S8x4096x2048, .f32⟩
  | 53 => ⟨S8x4096x1024, .f32⟩
  | 54 => ⟨S8x4096x1024, .f32⟩
  | 55 => ⟨S8x4096x4x256, .f32⟩
  | 56 => ⟨S8x4x4096x256, .f32⟩
  | 57 => ⟨S8x4096x4x256, .f32⟩
  | 58 => ⟨S8x4x4096x256, .f32⟩
  | 59 => ⟨S_, .f32⟩
  | 60 => ⟨S8x4x4096x256, .f32⟩
  | 61 => ⟨S8x4x4096x256, .f32⟩
  | 62 => ⟨S32768x12288, .f32⟩
  | 63 => ⟨S8x4096x12288, .f32⟩
  | 64 => ⟨S8x4096x1024, .f32⟩
  | 65 => ⟨S8x4096x4x256, .f32⟩
  | 66 => ⟨S8x4x4096x256, .f32⟩
  | 67 => ⟨S8x4x4096, .f32⟩
  | 68 => ⟨S8x4x4096, .f32⟩
  | 69 => ⟨S8x4x4096, .f32⟩
  | 70 => ⟨S_, .f32⟩
  | 71 => ⟨S8x4x4096, .f32⟩
  | 72 => ⟨S8x4x4096, .f32⟩
  | 73 => ⟨S8x4x4096, .f32⟩
  | 74 => ⟨S8x4x4096, .f32⟩
  | 75 => ⟨S8x4x4096, .i1⟩
  | 76 => ⟨S8x4x4096, .f32⟩
  | 77 => ⟨S8x4x4096, .f32⟩
  | 78 => ⟨S8x4x4096, .f32⟩
  | 79 => ⟨S8x4x4096, .f32⟩
  | 80 => ⟨S8x4x4096, .f32⟩
  | 81 => ⟨S8x4x4096, .f32⟩
  | 82 => ⟨S8x4x4096, .f32⟩
  | 83 => ⟨S8x4x4096, .f32⟩
  | 84 => ⟨S8x4x4096, .f32⟩
  | 85 => ⟨S_, .i1⟩
  | 86 => ⟨S64x64, .i1⟩
  | 87 => ⟨S64x64, .i32⟩
  | 88 => ⟨S_, .i32⟩
  | 89 => ⟨S64x64, .i32⟩
  | 90 => ⟨S64x64, .i32⟩
  | 91 => ⟨S64x64, .i32⟩
  | 92 => ⟨S64x64, .i1⟩
  | 93 => ⟨S_, .i1⟩
  | 94 => ⟨S64x64, .i1⟩
  | 95 => ⟨S64x64, .i1⟩
  | 96 => ⟨S_, .f32⟩
  | 97 => ⟨S8x4x256x256, .f32⟩
  | 98 => ⟨S_, .f32⟩
  | 99 => ⟨S8x4x256, .f32⟩
  | 100 => ⟨S_, .f32⟩
  | 101 => ⟨S8x4, .f32⟩
  | 102 => ⟨S8x4x64x64x256, .f32⟩
  | 103 => ⟨S64x8x4x64x256, .f32⟩
  | 104 => ⟨S8x4x64x64x256, .f32⟩
  | 105 => ⟨S64x8x4x64x256, .f32⟩
  | 106 => ⟨S8x4x64x64x256, .f32⟩
  | 107 => ⟨S64x8x4x64x256, .f32⟩
  | 108 => ⟨S8x4x64x64, .f32⟩
  | 109 => ⟨S64x8x4x64, .f32⟩
  | 110 => ⟨S8x4x64x64, .f32⟩
  | 111 => ⟨S64x8x4x64, .f32⟩
  | 112 => ⟨S_, .f32⟩
  | 113 => ⟨S64x8x4x64x256, .f32⟩
  | 114 => ⟨S_, .i32⟩
  | 115 => ⟨S64x8x4x64x256, .f32⟩
  | 116 => ⟨S64x8x4x64x256, .f32⟩
  | 117 => ⟨S64x8x4x64x256, .f32⟩
  | 118 => ⟨S64x8x4x64, .f32⟩
  | 119 => ⟨S64x8x4x64, .f32⟩
  | 120 => ⟨S64x64, .i1⟩
  | 121 => ⟨S_, .i32⟩
  | 122 => ⟨S8x4x256x256, .f32⟩
  | 123 => ⟨S8x4x256, .f32⟩
  | 124 => ⟨S8x4, .f32⟩
  | 125 => ⟨S64x8x4x64x256, .f32⟩
  | 126 => ⟨S_, .i32⟩
  | 127 => ⟨S_, .i1⟩
  | _ => ⟨S32768x12288, .bf16⟩

abbrev hbmTy0_1 (i : Nat) : BufTy := match i % 128 with
  | 0 => ⟨S_, .i32⟩
  | 1 => ⟨S_, .i32⟩
  | 2 => ⟨S_, .i32⟩
  | 3 => ⟨S_, .i32⟩
  | 4 => ⟨S1x8x4x64x256, .f32⟩
  | 5 => ⟨S8x4x64x256, .f32⟩
  | 6 => ⟨S_, .i32⟩
  | 7 => ⟨S_, .i32⟩
  | 8 => ⟨S_, .i32⟩
  | 9 => ⟨S_, .i32⟩
  | 10 => ⟨S1x8x4x64x256, .f32⟩
  | 11 => ⟨S8x4x64x256, .f32⟩
  | 12 => ⟨S_, .i32⟩
  | 13 => ⟨S_, .i32⟩
  | 14 => ⟨S_, .i32⟩
  | 15 => ⟨S_, .i32⟩
  | 16 => ⟨S1x8x4x64x256, .f32⟩
  | 17 => ⟨S8x4x64x256, .f32⟩
  | 18 => ⟨S_, .i32⟩
  | 19 => ⟨S_, .i32⟩
  | 20 => ⟨S_, .i32⟩
  | 21 => ⟨S1x8x4x64, .f32⟩
  | 22 => ⟨S8x4x64, .f32⟩
  | 23 => ⟨S_, .i32⟩
  | 24 => ⟨S_, .i32⟩
  | 25 => ⟨S_, .i32⟩
  | 26 => ⟨S1x8x4x64, .f32⟩
  | 27 => ⟨S8x4x64, .f32⟩
  | 28 => ⟨S_, .f32⟩
  | 29 => ⟨S_, .f32⟩
  | 30 => ⟨S8x4x64, .f32⟩
  | 31 => ⟨S8x4x64x1, .f32⟩
  | 32 => ⟨S8x4x1x64, .f32⟩
  | 33 => ⟨S8x4x64x64, .f32⟩
  | 34 => ⟨S8x4x64x64, .f32⟩
  | 35 => ⟨S8x4x64x64, .f32⟩
  | 36 => ⟨S8x4x1x64, .f32⟩
  | 37 => ⟨S8x4x64x64, .f32⟩
  | 38 => ⟨S8x4x64x64, .f32⟩
  | 39 => ⟨S_, .f32⟩
  | 40 => ⟨S_, .f32⟩
  | 41 => ⟨S8x4x64x64, .i1⟩
  | 42 => ⟨S8x4x64x64, .f32⟩
  | 43 => ⟨S8x4x64x64, .f32⟩
  | 44 => ⟨S8x4x1, .f32⟩
  | 45 => ⟨S8x4x64, .f32⟩
  | 46 => ⟨S8x4x64, .f32⟩
  | 47 => ⟨S_, .f32⟩
  | 48 => ⟨S8x4x64, .f32⟩
  | 49 => ⟨S8x4x64, .f32⟩
  | 50 => ⟨S8x4x64x1, .f32⟩
  | 51 => ⟨S8x4x64x64, .f32⟩
  | 52 => ⟨S8x4x64x64, .f32⟩
  | 53 => ⟨S8x4x64x64, .f32⟩
  | 54 => ⟨S8x4x1, .f32⟩
  | 55 => ⟨S8x4x64, .f32⟩
  | 56 => ⟨S8x4x64, .f32⟩
  | 57 => ⟨S8x4x64, .f32⟩
  | 58 => ⟨S8x4x64, .f32⟩
  | 59 => ⟨S8x4x64x64, .f32⟩
  | 60 => ⟨S8x4x64x64, .f32⟩
  | 61 => ⟨S8x4x64x1, .f32⟩
  | 62 => ⟨S8x4x64x256, .f32⟩
  | 63 => ⟨S8x4x64x256, .f32⟩
  | 64 => ⟨S8x4x64x256, .f32⟩
  | 65 => ⟨S8x4x64x256, .f32⟩
  | 66 => ⟨S8x4x64x256, .f32⟩
  | 67 => ⟨S8x4x64, .f32⟩
  | 68 => ⟨S8x4x64, .f32⟩
  | 69 => ⟨S_, .f32⟩
  | 70 => ⟨S8x4x64, .f32⟩
  | 71 => ⟨S8x4x64, .f32⟩
  | 72 => ⟨S8x4x64, .f32⟩
  | 73 => ⟨S8x4x64, .f32⟩
  | 74 => ⟨S8x4x64, .f32⟩
  | 75 => ⟨S8x4x64, .f32⟩
  | 76 => ⟨S8x4x64x1, .f32⟩
  | 77 => ⟨S8x4x64x256, .f32⟩
  | 78 => ⟨S8x4x64x256, .f32⟩
  | 79 => ⟨S8x4x1, .f32⟩
  | 80 => ⟨S8x4, .f32⟩
  | 81 => ⟨S8x4x1, .f32⟩
  | 82 => ⟨S8x4x64, .f32⟩
  | 83 => ⟨S8x4x64, .f32⟩
  | 84 => ⟨S8x4x64, .f32⟩
  | 85 => ⟨S8x4, .f32⟩
  | 86 => ⟨S_, .f32⟩
  | 87 => ⟨S8x4, .f32⟩
  | 88 => ⟨S8x4, .f32⟩
  | 89 => ⟨S8x4, .f32⟩
  | 90 => ⟨S8x4, .f32⟩
  | 91 => ⟨S8x4, .f32⟩
  | 92 => ⟨S8x4x1, .f32⟩
  | 93 => ⟨S8x4x64, .f32⟩
  | 94 => ⟨S8x4x64, .f32⟩
  | 95 => ⟨S8x4x64, .f32⟩
  | 96 => ⟨S8x4x64x1, .f32⟩
  | 97 => ⟨S8x4x64x256, .f32⟩
  | 98 => ⟨S8x4x64x256, .f32⟩
  | 99 => ⟨S8x4x1x1, .f32⟩
  | 100 => ⟨S8x4x256x256, .f32⟩
  | 101 => ⟨S8x4x256x256, .f32⟩
  | 102 => ⟨S8x4x256x256, .f32⟩
  | 103 => ⟨S8x4x256x256, .f32⟩
  | 104 => ⟨S8x4x1, .f32⟩
  | 105 => ⟨S8x4x256, .f32⟩
  | 106 => ⟨S8x4x256, .f32⟩
  | 107 => ⟨S_, .f32⟩
  | 108 => ⟨S8x4x256, .f32⟩
  | 109 => ⟨S8x4x256, .f32⟩
  | 110 => ⟨S1x8x4x64x256, .f32⟩
  | 111 => ⟨S_, .i32⟩
  | 112 => ⟨S_, .i32⟩
  | 113 => ⟨S_, .i32⟩
  | 114 => ⟨S_, .i32⟩
  | 115 => ⟨S64x8x4x64x256, .f32⟩
  | 116 => ⟨S_, .i32⟩
  | 117 => ⟨S_, .i32⟩
  | 118 => ⟨S8x4x64x64x256, .f32⟩
  | 119 => ⟨S8x4x4096x256, .f32⟩
  | 120 => ⟨S32768x12288, .f32⟩
  | 121 => ⟨S8x4096x12288, .f32⟩
  | 122 => ⟨S8x4096x1024, .f32⟩
  | 123 => ⟨S8x4096x4x256, .f32⟩
  | 124 => ⟨S8x4x4096x256, .f32⟩
  | 125 => ⟨S8x4x4096x256, .f32⟩
  | 126 => ⟨S8x4x4096x256, .f32⟩
  | 127 => ⟨S_, .f32⟩
  | _ => ⟨S32768x12288, .bf16⟩

abbrev hbmTy0_2 (i : Nat) : BufTy := match i % 128 with
  | 0 => ⟨S8x4x4096x256, .f32⟩
  | 1 => ⟨S8x4x4096x256, .f32⟩
  | 2 => ⟨S_, .f32⟩
  | 3 => ⟨S8x4x4096x256, .f32⟩
  | 4 => ⟨S8x4x4096x256, .f32⟩
  | 5 => ⟨S8x4x4096x256, .f32⟩
  | 6 => ⟨S4x1x256, .f32⟩
  | 7 => ⟨S8x4x4096x256, .f32⟩
  | 8 => ⟨S_, .f32⟩
  | 9 => ⟨S8x4x4096, .f32⟩
  | 10 => ⟨S8x4x4096x1, .f32⟩
  | 11 => ⟨S_, .f32⟩
  | 12 => ⟨S8x4x4096x1, .f32⟩
  | 13 => ⟨S8x4x4096x1, .f32⟩
  | 14 => ⟨S_, .f32⟩
  | 15 => ⟨S8x4x4096x1, .f32⟩
  | 16 => ⟨S8x4x4096x1, .f32⟩
  | 17 => ⟨S8x4x4096x1, .f32⟩
  | 18 => ⟨S8x4x4096x256, .f32⟩
  | 19 => ⟨S8x4x4096x256, .f32⟩
  | 20 => ⟨S1x4x1x256, .f32⟩
  | 21 => ⟨S8x4x4096x256, .f32⟩
  | 22 => ⟨S8x4x4096x256, .f32⟩
  | 23 => ⟨S8x4096x4x256, .f32⟩
  | 24 => ⟨S8x4096x1024, .f32⟩
  | 25 => ⟨S32768x12288, .f32⟩
  | 26 => ⟨S8x4096x12288, .f32⟩
  | 27 => ⟨S8x4096x1024, .f32⟩
  | 28 => ⟨S8x4096x1024, .f32⟩
  | 29 => ⟨S8x4096x1024, .f32⟩
  | 30 => ⟨S_, .f32⟩
  | 31 => ⟨S8x4096x1024, .f32⟩
  | 32 => ⟨S8x4096x1024, .f32⟩
  | 33 => ⟨S_, .f32⟩
  | 34 => ⟨S8x4096x1024, .f32⟩
  | 35 => ⟨S8x4096x1024, .f32⟩
  | 36 => ⟨S8x4096x1024, .f32⟩
  | 37 => ⟨S8x4096x1024, .f32⟩
  | 38 => ⟨S32768x1024, .f32⟩
  | 39 => ⟨S32768x1024, .bf16⟩
  | _ => ⟨S32768x12288, .bf16⟩

abbrev hbmTy (i : Nat) : BufTy := match i / 128 with
  | 0 => hbmTy0_0 i
  | 1 => hbmTy0_1 i
  | 2 => hbmTy0_2 i
  | _ => ⟨S32768x12288, .bf16⟩

abbrev bufTy : (tb : Table) → Fin (tcTables nBuf tb) → BufTy
  | .hbm, ⟨i, _⟩ => hbmTy i
  | _, _ => ⟨S32768x12288, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_call0_v0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_call1_v0 : Ref sig .tc := ⟨.hbm, 44, rfl⟩
abbrev main_call1_v1 : Ref sig .tc := ⟨.hbm, 45, rfl⟩
abbrev main_call1_cst : Ref sig .tc := ⟨.hbm, 46, rfl⟩
abbrev main_call1_v2 : Ref sig .tc := ⟨.hbm, 47, rfl⟩
abbrev main_call1_v3 : Ref sig .tc := ⟨.hbm, 48, rfl⟩
abbrev main_call1_cst_0 : Ref sig .tc := ⟨.hbm, 49, rfl⟩
abbrev main_call1_v4 : Ref sig .tc := ⟨.hbm, 50, rfl⟩
abbrev main_call1_v5 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_call2_v0 : Ref sig .tc := ⟨.hbm, 69, rfl⟩
abbrev main_call2_call0_cst : Ref sig .tc := ⟨.hbm, 70, rfl⟩
abbrev main_call2_call0_v0 : Ref sig .tc := ⟨.hbm, 71, rfl⟩
abbrev main_call2_call0_v1 : Ref sig .tc := ⟨.hbm, 72, rfl⟩
abbrev main_call2_call0_v2 : Ref sig .tc := ⟨.hbm, 73, rfl⟩
abbrev main_call2_call0_v3 : Ref sig .tc := ⟨.hbm, 74, rfl⟩
abbrev main_call2_call0_v4 : Ref sig .tc := ⟨.hbm, 75, rfl⟩
abbrev main_call2_call0_v5 : Ref sig .tc := ⟨.hbm, 76, rfl⟩
abbrev main_call2_call0_v6 : Ref sig .tc := ⟨.hbm, 77, rfl⟩
abbrev main_call2_call0_v7 : Ref sig .tc := ⟨.hbm, 78, rfl⟩
abbrev main_call2_call0_v8 : Ref sig .tc := ⟨.hbm, 79, rfl⟩
abbrev main_call2_call0_v9 : Ref sig .tc := ⟨.hbm, 80, rfl⟩
abbrev main_call2_call0_v10 : Ref sig .tc := ⟨.hbm, 81, rfl⟩
abbrev main_call2_call0_v11 : Ref sig .tc := ⟨.hbm, 82, rfl⟩
abbrev main_call2_v1 : Ref sig .tc := ⟨.hbm, 83, rfl⟩
abbrev main_v53 : Ref sig .tc := ⟨.hbm, 84, rfl⟩
abbrev main_c_0 : Ref sig .tc := ⟨.hbm, 85, rfl⟩
abbrev main_v54 : Ref sig .tc := ⟨.hbm, 86, rfl⟩
abbrev main_call3_v0 : Ref sig .tc := ⟨.hbm, 87, rfl⟩
abbrev main_call3_c : Ref sig .tc := ⟨.hbm, 88, rfl⟩
abbrev main_call3_v1 : Ref sig .tc := ⟨.hbm, 89, rfl⟩
abbrev main_call3_v2 : Ref sig .tc := ⟨.hbm, 90, rfl⟩
abbrev main_call3_v3 : Ref sig .tc := ⟨.hbm, 91, rfl⟩
abbrev main_call3_v4 : Ref sig .tc := ⟨.hbm, 92, rfl⟩
abbrev main_call3_c_0 : Ref sig .tc := ⟨.hbm, 93, rfl⟩
abbrev main_call3_v5 : Ref sig .tc := ⟨.hbm, 94, rfl⟩
abbrev main_v55 : Ref sig .tc := ⟨.hbm, 95, rfl⟩
abbrev main_cst_1 : Ref sig .tc := ⟨.hbm, 96, rfl⟩
abbrev main_v56 : Ref sig .tc := ⟨.hbm, 97, rfl⟩
abbrev main_cst_2 : Ref sig .tc := ⟨.hbm, 98, rfl⟩
abbrev main_v57 : Ref sig .tc := ⟨.hbm, 99, rfl⟩
abbrev main_cst_3 : Ref sig .tc := ⟨.hbm, 100, rfl⟩
abbrev main_v58 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_cst_4 : Ref sig .tc := ⟨.hbm, 112, rfl⟩
abbrev main_v69 : Ref sig .tc := ⟨.hbm, 113, rfl⟩
abbrev main_c_5 : Ref sig .tc := ⟨.hbm, 114, rfl⟩
abbrev main_v70_0 : Ref sig .tc := ⟨.hbm, 115, rfl⟩
abbrev main_v70_1 : Ref sig .tc := ⟨.hbm, 116, rfl⟩
abbrev main_v70_2 : Ref sig .tc := ⟨.hbm, 117, rfl⟩
abbrev main_v70_3 : Ref sig .tc := ⟨.hbm, 118, rfl⟩
abbrev main_v70_4 : Ref sig .tc := ⟨.hbm, 119, rfl⟩
abbrev main_v70_5 : Ref sig .tc := ⟨.hbm, 120, rfl⟩
abbrev main_v70_6 : Ref sig .tc := ⟨.hbm, 121, rfl⟩
abbrev main_v70_7 : Ref sig .tc := ⟨.hbm, 122, rfl⟩
abbrev main_v70_8 : Ref sig .tc := ⟨.hbm, 123, rfl⟩
abbrev main_v70_9 : Ref sig .tc := ⟨.hbm, 124, rfl⟩
abbrev main_v70_10 : Ref sig .tc := ⟨.hbm, 125, rfl⟩
abbrev main_while0c_c_21 : Ref sig .tc := ⟨.hbm, 126, rfl⟩
abbrev main_while0c_v108 : Ref sig .tc := ⟨.hbm, 127, rfl⟩
abbrev main_while0b_call4_c : Ref sig .tc := ⟨.hbm, 128, rfl⟩
abbrev main_while0b_call4_c_0 : Ref sig .tc := ⟨.hbm, 129, rfl⟩
abbrev main_while0b_call4_c_1 : Ref sig .tc := ⟨.hbm, 130, rfl⟩
abbrev main_while0b_call4_c_2 : Ref sig .tc := ⟨.hbm, 131, rfl⟩
abbrev main_while0b_call4_v0 : Ref sig .tc := ⟨.hbm, 132, rfl⟩
abbrev main_while0b_v108 : Ref sig .tc := ⟨.hbm, 133, rfl⟩
abbrev main_while0b_call5_c : Ref sig .tc := ⟨.hbm, 134, rfl⟩
abbrev main_while0b_call5_c_0 : Ref sig .tc := ⟨.hbm, 135, rfl⟩
abbrev main_while0b_call5_c_1 : Ref sig .tc := ⟨.hbm, 136, rfl⟩
abbrev main_while0b_call5_c_2 : Ref sig .tc := ⟨.hbm, 137, rfl⟩
abbrev main_while0b_call5_v0 : Ref sig .tc := ⟨.hbm, 138, rfl⟩
abbrev main_while0b_v109 : Ref sig .tc := ⟨.hbm, 139, rfl⟩
abbrev main_while0b_call6_c : Ref sig .tc := ⟨.hbm, 140, rfl⟩
abbrev main_while0b_call6_c_0 : Ref sig .tc := ⟨.hbm, 141, rfl⟩
abbrev main_while0b_call6_c_1 : Ref sig .tc := ⟨.hbm, 142, rfl⟩
abbrev main_while0b_call6_c_2 : Ref sig .tc := ⟨.hbm, 143, rfl⟩
abbrev main_while0b_call6_v0 : Ref sig .tc := ⟨.hbm, 144, rfl⟩
abbrev main_while0b_v110 : Ref sig .tc := ⟨.hbm, 145, rfl⟩
abbrev main_while0b_call7_c : Ref sig .tc := ⟨.hbm, 146, rfl⟩
abbrev main_while0b_call7_c_0 : Ref sig .tc := ⟨.hbm, 147, rfl⟩
abbrev main_while0b_call7_c_1 : Ref sig .tc := ⟨.hbm, 148, rfl⟩
abbrev main_while0b_call7_v0 : Ref sig .tc := ⟨.hbm, 149, rfl⟩
abbrev main_while0b_v111 : Ref sig .tc := ⟨.hbm, 150, rfl⟩
abbrev main_while0b_call8_c : Ref sig .tc := ⟨.hbm, 151, rfl⟩
abbrev main_while0b_call8_c_0 : Ref sig .tc := ⟨.hbm, 152, rfl⟩
abbrev main_while0b_call8_c_1 : Ref sig .tc := ⟨.hbm, 153, rfl⟩
abbrev main_while0b_call8_v0 : Ref sig .tc := ⟨.hbm, 154, rfl⟩
abbrev main_while0b_v112 : Ref sig .tc := ⟨.hbm, 155, rfl⟩
abbrev main_while0b_call9_call0_cst : Ref sig .tc := ⟨.hbm, 156, rfl⟩
abbrev main_while0b_call9_call0_v0 : Ref sig .tc := ⟨.hbm, 157, rfl⟩
abbrev main_while0b_v113 : Ref sig .tc := ⟨.hbm, 158, rfl⟩
abbrev main_while0b_v114 : Ref sig .tc := ⟨.hbm, 159, rfl⟩
abbrev main_while0b_v115 : Ref sig .tc := ⟨.hbm, 160, rfl⟩
abbrev main_while0b_v116 : Ref sig .tc := ⟨.hbm, 161, rfl⟩
abbrev main_while0b_v117 : Ref sig .tc := ⟨.hbm, 162, rfl⟩
abbrev main_while0b_v118 : Ref sig .tc := ⟨.hbm, 163, rfl⟩
abbrev main_while0b_v119 : Ref sig .tc := ⟨.hbm, 164, rfl⟩
abbrev main_while0b_v120 : Ref sig .tc := ⟨.hbm, 165, rfl⟩
abbrev main_while0b_v121 : Ref sig .tc := ⟨.hbm, 166, rfl⟩
abbrev main_while0b_cst_21 : Ref sig .tc := ⟨.hbm, 167, rfl⟩
abbrev main_while0b_call10_v0 : Ref sig .tc := ⟨.hbm, 168, rfl⟩
abbrev main_while0b_call10_v1 : Ref sig .tc := ⟨.hbm, 169, rfl⟩
abbrev main_while0b_call10_v2 : Ref sig .tc := ⟨.hbm, 170, rfl⟩
abbrev main_while0b_v122 : Ref sig .tc := ⟨.hbm, 171, rfl⟩
abbrev main_while0b_v123 : Ref sig .tc := ⟨.hbm, 172, rfl⟩
abbrev main_while0b_v124 : Ref sig .tc := ⟨.hbm, 173, rfl⟩
abbrev main_while0b_v125 : Ref sig .tc := ⟨.hbm, 174, rfl⟩
abbrev main_while0b_cst_22 : Ref sig .tc := ⟨.hbm, 175, rfl⟩
abbrev main_while0b_v126 : Ref sig .tc := ⟨.hbm, 176, rfl⟩
abbrev main_while0b_v127 : Ref sig .tc := ⟨.hbm, 177, rfl⟩
abbrev main_while0b_v128 : Ref sig .tc := ⟨.hbm, 178, rfl⟩
abbrev main_while0b_v129 : Ref sig .tc := ⟨.hbm, 179, rfl⟩
abbrev main_while0b_v130 : Ref sig .tc := ⟨.hbm, 180, rfl⟩
abbrev main_while0b_v131 : Ref sig .tc := ⟨.hbm, 181, rfl⟩
abbrev main_while0b_v132 : Ref sig .tc := ⟨.hbm, 182, rfl⟩
abbrev main_while0b_v133 : Ref sig .tc := ⟨.hbm, 183, rfl⟩
abbrev main_while0b_v134 : Ref sig .tc := ⟨.hbm, 184, rfl⟩
abbrev main_while0b_v135 : Ref sig .tc := ⟨.hbm, 185, rfl⟩
abbrev main_while0b_v136 : Ref sig .tc := ⟨.hbm, 186, rfl⟩
abbrev main_while0b_v137 : Ref sig .tc := ⟨.hbm, 187, rfl⟩
abbrev main_while0b_v138 : Ref sig .tc := ⟨.hbm, 188, rfl⟩
abbrev main_while0b_v139 : Ref sig .tc := ⟨.hbm, 189, rfl⟩
abbrev main_while0b_v140 : Ref sig .tc := ⟨.hbm, 190, rfl⟩
abbrev main_while0b_v141 : Ref sig .tc := ⟨.hbm, 191, rfl⟩
abbrev main_while0b_v142 : Ref sig .tc := ⟨.hbm, 192, rfl⟩
abbrev main_while0b_v143 : Ref sig .tc := ⟨.hbm, 193, rfl⟩
abbrev main_while0b_v144 : Ref sig .tc := ⟨.hbm, 194, rfl⟩
abbrev main_while0b_v145 : Ref sig .tc := ⟨.hbm, 195, rfl⟩
abbrev main_while0b_v146 : Ref sig .tc := ⟨.hbm, 196, rfl⟩
abbrev main_while0b_cst_23 : Ref sig .tc := ⟨.hbm, 197, rfl⟩
abbrev main_while0b_v147 : Ref sig .tc := ⟨.hbm, 198, rfl⟩
abbrev main_while0b_v148 : Ref sig .tc := ⟨.hbm, 199, rfl⟩
abbrev main_while0b_v149 : Ref sig .tc := ⟨.hbm, 200, rfl⟩
abbrev main_while0b_v150 : Ref sig .tc := ⟨.hbm, 201, rfl⟩
abbrev main_while0b_v151 : Ref sig .tc := ⟨.hbm, 202, rfl⟩
abbrev main_while0b_v152 : Ref sig .tc := ⟨.hbm, 203, rfl⟩
abbrev main_while0b_v153 : Ref sig .tc := ⟨.hbm, 204, rfl⟩
abbrev main_while0b_v154 : Ref sig .tc := ⟨.hbm, 205, rfl⟩
abbrev main_while0b_v155 : Ref sig .tc := ⟨.hbm, 206, rfl⟩
abbrev main_while0b_v156 : Ref sig .tc := ⟨.hbm, 207, rfl⟩
abbrev main_while0b_v157 : Ref sig .tc := ⟨.hbm, 208, rfl⟩
abbrev main_while0b_v158 : Ref sig .tc := ⟨.hbm, 209, rfl⟩
abbrev main_while0b_v159 : Ref sig .tc := ⟨.hbm, 210, rfl⟩
abbrev main_while0b_v160 : Ref sig .tc := ⟨.hbm, 211, rfl⟩
abbrev main_while0b_v161 : Ref sig .tc := ⟨.hbm, 212, rfl⟩
abbrev main_while0b_v162 : Ref sig .tc := ⟨.hbm, 213, rfl⟩
abbrev main_while0b_cst_24 : Ref sig .tc := ⟨.hbm, 214, rfl⟩
abbrev main_while0b_v163 : Ref sig .tc := ⟨.hbm, 215, rfl⟩
abbrev main_while0b_v164 : Ref sig .tc := ⟨.hbm, 216, rfl⟩
abbrev main_while0b_v165 : Ref sig .tc := ⟨.hbm, 217, rfl⟩
abbrev main_while0b_v166 : Ref sig .tc := ⟨.hbm, 218, rfl⟩
abbrev main_while0b_v167 : Ref sig .tc := ⟨.hbm, 219, rfl⟩
abbrev main_while0b_v168 : Ref sig .tc := ⟨.hbm, 220, rfl⟩
abbrev main_while0b_v169 : Ref sig .tc := ⟨.hbm, 221, rfl⟩
abbrev main_while0b_v170 : Ref sig .tc := ⟨.hbm, 222, rfl⟩
abbrev main_while0b_v171 : Ref sig .tc := ⟨.hbm, 223, rfl⟩
abbrev main_while0b_v172 : Ref sig .tc := ⟨.hbm, 224, rfl⟩
abbrev main_while0b_v173 : Ref sig .tc := ⟨.hbm, 225, rfl⟩
abbrev main_while0b_v174 : Ref sig .tc := ⟨.hbm, 226, rfl⟩
abbrev main_while0b_v175 : Ref sig .tc := ⟨.hbm, 227, rfl⟩
abbrev main_while0b_v176 : Ref sig .tc := ⟨.hbm, 228, rfl⟩
abbrev main_while0b_v177 : Ref sig .tc := ⟨.hbm, 229, rfl⟩
abbrev main_while0b_v178 : Ref sig .tc := ⟨.hbm, 230, rfl⟩
abbrev main_while0b_v179 : Ref sig .tc := ⟨.hbm, 231, rfl⟩
abbrev main_while0b_v180 : Ref sig .tc := ⟨.hbm, 232, rfl⟩
abbrev main_while0b_v181 : Ref sig .tc := ⟨.hbm, 233, rfl⟩
abbrev main_while0b_v182 : Ref sig .tc := ⟨.hbm, 234, rfl⟩
abbrev main_while0b_cst_25 : Ref sig .tc := ⟨.hbm, 235, rfl⟩
abbrev main_while0b_v183 : Ref sig .tc := ⟨.hbm, 236, rfl⟩
abbrev main_while0b_v184 : Ref sig .tc := ⟨.hbm, 237, rfl⟩
abbrev main_while0b_call11_v0 : Ref sig .tc := ⟨.hbm, 238, rfl⟩
abbrev main_while0b_call11_c : Ref sig .tc := ⟨.hbm, 239, rfl⟩
abbrev main_while0b_call11_c_0 : Ref sig .tc := ⟨.hbm, 240, rfl⟩
abbrev main_while0b_call11_c_1 : Ref sig .tc := ⟨.hbm, 241, rfl⟩
abbrev main_while0b_call11_c_2 : Ref sig .tc := ⟨.hbm, 242, rfl⟩
abbrev main_while0b_v185 : Ref sig .tc := ⟨.hbm, 243, rfl⟩
abbrev main_while0b_c_26 : Ref sig .tc := ⟨.hbm, 244, rfl⟩
abbrev main_while0b_v186 : Ref sig .tc := ⟨.hbm, 245, rfl⟩
abbrev main_v71 : Ref sig .tc := ⟨.hbm, 246, rfl⟩
abbrev main_v72 : Ref sig .tc := ⟨.hbm, 247, rfl⟩
abbrev main_v73 : Ref sig .tc := ⟨.hbm, 248, rfl⟩
abbrev main_v74 : Ref sig .tc := ⟨.hbm, 249, rfl⟩
abbrev main_v75 : Ref sig .tc := ⟨.hbm, 250, rfl⟩
abbrev main_v76 : Ref sig .tc := ⟨.hbm, 251, rfl⟩
abbrev main_v77 : Ref sig .tc := ⟨.hbm, 252, rfl⟩
abbrev main_v78 : Ref sig .tc := ⟨.hbm, 253, rfl⟩
abbrev main_v79 : Ref sig .tc := ⟨.hbm, 254, rfl⟩
abbrev main_cst_6 : Ref sig .tc := ⟨.hbm, 255, rfl⟩
abbrev main_v80 : Ref sig .tc := ⟨.hbm, 256, rfl⟩
abbrev main_v81 : Ref sig .tc := ⟨.hbm, 257, rfl⟩
abbrev main_cst_7 : Ref sig .tc := ⟨.hbm, 258, rfl⟩
abbrev main_v82 : Ref sig .tc := ⟨.hbm, 259, rfl⟩
abbrev main_v83 : Ref sig .tc := ⟨.hbm, 260, rfl⟩
abbrev main_v84 : Ref sig .tc := ⟨.hbm, 261, rfl⟩
abbrev main_v85 : Ref sig .tc := ⟨.hbm, 262, rfl⟩
abbrev main_v86 : Ref sig .tc := ⟨.hbm, 263, rfl⟩
abbrev main_cst_8 : Ref sig .tc := ⟨.hbm, 264, rfl⟩
abbrev main_v87 : Ref sig .tc := ⟨.hbm, 265, rfl⟩
abbrev main_v88 : Ref sig .tc := ⟨.hbm, 266, rfl⟩
abbrev main_cst_9 : Ref sig .tc := ⟨.hbm, 267, rfl⟩
abbrev main_v89 : Ref sig .tc := ⟨.hbm, 268, rfl⟩
abbrev main_v90 : Ref sig .tc := ⟨.hbm, 269, rfl⟩
abbrev main_cst_10 : Ref sig .tc := ⟨.hbm, 270, rfl⟩
abbrev main_v91 : Ref sig .tc := ⟨.hbm, 271, rfl⟩
abbrev main_v92 : Ref sig .tc := ⟨.hbm, 272, rfl⟩
abbrev main_v93 : Ref sig .tc := ⟨.hbm, 273, rfl⟩
abbrev main_v94 : Ref sig .tc := ⟨.hbm, 274, rfl⟩
abbrev main_v95 : Ref sig .tc := ⟨.hbm, 275, rfl⟩
abbrev main_v96 : Ref sig .tc := ⟨.hbm, 276, rfl⟩
abbrev main_v97 : Ref sig .tc := ⟨.hbm, 277, rfl⟩
abbrev main_v98 : Ref sig .tc := ⟨.hbm, 278, rfl⟩
abbrev main_v99 : Ref sig .tc := ⟨.hbm, 279, rfl⟩
abbrev main_v100 : Ref sig .tc := ⟨.hbm, 280, rfl⟩
abbrev main_v101 : Ref sig .tc := ⟨.hbm, 281, rfl⟩
abbrev main_v102 : Ref sig .tc := ⟨.hbm, 282, rfl⟩
abbrev main_v103 : Ref sig .tc := ⟨.hbm, 283, rfl⟩
abbrev main_call12_v0 : Ref sig .tc := ⟨.hbm, 284, rfl⟩
abbrev main_call12_v1 : Ref sig .tc := ⟨.hbm, 285, rfl⟩
abbrev main_call12_cst : Ref sig .tc := ⟨.hbm, 286, rfl⟩
abbrev main_call12_v2 : Ref sig .tc := ⟨.hbm, 287, rfl⟩
abbrev main_call12_v3 : Ref sig .tc := ⟨.hbm, 288, rfl⟩
abbrev main_call12_cst_0 : Ref sig .tc := ⟨.hbm, 289, rfl⟩
abbrev main_call12_v4 : Ref sig .tc := ⟨.hbm, 290, rfl⟩
abbrev main_call12_v5 : Ref sig .tc := ⟨.hbm, 291, rfl⟩
abbrev main_v104 : Ref sig .tc := ⟨.hbm, 292, rfl⟩
abbrev main_v105 : Ref sig .tc := ⟨.hbm, 293, rfl⟩
abbrev main_v106 : Ref sig .tc := ⟨.hbm, 294, rfl⟩
abbrev main_v107 : Ref sig .tc := ⟨.hbm, 295, rfl⟩

abbrev nD : Nat := 1
abbrev τ : Topo := Topo.v7x

variable {F : FTy → Type} [FloatOps F]

abbrev main_while0_count : Scf.Loop 32 := ⟨0#32, 64#32, 1#32⟩
-- ==== Kernel2.lean ====
abbrev S8x4096x1024 : Shape := ⟨3, ![8, 4096, 1024]⟩
abbrev S8x3072 : Shape := ⟨2, ![8, 3072]⟩
abbrev S1024 : Shape := ⟨1, ![1024]⟩
abbrev S1024x11272 : Shape := ⟨2, ![1024, 11272]⟩
abbrev S128 : Shape := ⟨1, ![128]⟩
abbrev S4 : Shape := ⟨1, ![4]⟩
abbrev S32768x1024 : Shape := ⟨2, ![32768, 1024]⟩
abbrev S8x3x1024 : Shape := ⟨3, ![8, 3, 1024]⟩
abbrev S1024x9216 : Shape := ⟨2, ![1024, 9216]⟩
abbrev S_ : Shape := ⟨0, ![]⟩
abbrev S1024x10240 : Shape := ⟨2, ![1024, 10240]⟩
abbrev S1024x2048 : Shape := ⟨2, ![1024, 2048]⟩
abbrev S1024x8 : Shape := ⟨2, ![1024, 8]⟩
abbrev S1024x128 : Shape := ⟨2, ![1024, 128]⟩
abbrev S8 : Shape := ⟨1, ![8]⟩
abbrev S1x128 : Shape := ⟨2, ![1, 128]⟩
abbrev S8x128 : Shape := ⟨2, ![8, 128]⟩
abbrev S1x1024 : Shape := ⟨2, ![1, 1024]⟩
abbrev S2x1024 : Shape := ⟨2, ![2, 1024]⟩
abbrev S32768x12288 : Shape := ⟨2, ![32768, 12288]⟩
abbrev S32768x128 : Shape := ⟨2, ![32768, 128]⟩
abbrev S8x32768 : Shape := ⟨2, ![8, 32768]⟩
abbrev S1x3x1024 : Shape := ⟨3, ![1, 3, 1024]⟩
abbrev S8x1024 : Shape := ⟨2, ![8, 1024]⟩
abbrev S1024x1024 : Shape := ⟨2, ![1024, 1024]⟩
abbrev S3x1024x2048 : Shape := ⟨3, ![3, 1024, 2048]⟩
abbrev S3 : Shape := ⟨1, ![3]⟩
abbrev S2x1024x1024 : Shape := ⟨3, ![2, 1024, 1024]⟩
abbrev S2 : Shape := ⟨1, ![2]⟩
abbrev S1 : Shape := ⟨1, ![1]⟩
abbrev S1x1024x2048 : Shape := ⟨3, ![1, 1024, 2048]⟩
abbrev S1x1024x1024 : Shape := ⟨3, ![1, 1024, 1024]⟩
abbrev S3x1024 : Shape := ⟨2, ![3, 1024]⟩
abbrev S1024x1 : Shape := ⟨2, ![1024, 1]⟩
abbrev S128x1024 : Shape := ⟨2, ![128, 1024]⟩
abbrev S1024x256 : Shape := ⟨2, ![1024, 256]⟩

abbrev nBuf : Space → Nat
  | .hbm => 43
  | .vmem => 16
  | .smem => 0
  | _ => 0

abbrev bufTy : (tb : Table) → Fin (tcTables nBuf tb) → BufTy
  | .hbm, ⟨0, _⟩ => ⟨S8x4096x1024, .f32⟩
  | .hbm, ⟨1, _⟩ => ⟨S8x3072, .f32⟩
  | .hbm, ⟨2, _⟩ => ⟨S1024, .f32⟩
  | .hbm, ⟨3, _⟩ => ⟨S1024x11272, .f32⟩
  | .hbm, ⟨4, _⟩ => ⟨S128, .f32⟩
  | .hbm, ⟨5, _⟩ => ⟨S128, .f32⟩
  | .hbm, ⟨6, _⟩ => ⟨S4, .f32⟩
  | .hbm, ⟨7, _⟩ => ⟨S4, .f32⟩
  | .hbm, ⟨8, _⟩ => ⟨S32768x1024, .f32⟩
  | .hbm, ⟨9, _⟩ => ⟨S8x3x1024, .f32⟩
  | .hbm, ⟨10, _⟩ => ⟨S1024x9216, .f32⟩
  | .hbm, ⟨11, _⟩ => ⟨S1024x9216, .bf16⟩
  | .hbm, ⟨12, _⟩ => ⟨S_, .i32⟩
  | .hbm, ⟨13, _⟩ => ⟨S_, .bf16⟩
  | .hbm, ⟨14, _⟩ => ⟨S1024x10240, .bf16⟩
  | .hbm, ⟨15, _⟩ => ⟨S1024x2048, .f32⟩
  | .hbm, ⟨16, _⟩ => ⟨S1024x2048, .bf16⟩
  | .hbm, ⟨17, _⟩ => ⟨S1024x8, .f32⟩
  | .hbm, ⟨18, _⟩ => ⟨S_, .i32⟩
  | .hbm, ⟨19, _⟩ => ⟨S_, .f32⟩
  | .hbm, ⟨20, _⟩ => ⟨S1024x128, .f32⟩
  | .hbm, ⟨21, _⟩ => ⟨S1024x128, .bf16⟩
  | .hbm, ⟨22, _⟩ => ⟨S8, .f32⟩
  | .hbm, ⟨23, _⟩ => ⟨S_, .i32⟩
  | .hbm, ⟨24, _⟩ => ⟨S_, .f32⟩
  | .hbm, ⟨25, _⟩ => ⟨S128, .f32⟩
  | .hbm, ⟨26, _⟩ => ⟨S1x128, .f32⟩
  | .hbm, ⟨27, _⟩ => ⟨S1x128, .f32⟩
  | .hbm, ⟨28, _⟩ => ⟨S8x128, .f32⟩
  | .hbm, ⟨29, _⟩ => ⟨S1024, .f32⟩
  | .hbm, ⟨30, _⟩ => ⟨S_, .f32⟩
  | .hbm, ⟨31, _⟩ => ⟨S1024, .f32⟩
  | .hbm, ⟨32, _⟩ => ⟨S1024, .f32⟩
  | .hbm, ⟨33, _⟩ => ⟨S1x128, .f32⟩
  | .hbm, ⟨34, _⟩ => ⟨S8x128, .f32⟩
  | .hbm, ⟨35, _⟩ => ⟨S1024, .f32⟩
  | .hbm, ⟨36, _⟩ => ⟨S1x1024, .f32⟩
  | .hbm, ⟨37, _⟩ => ⟨S1x1024, .f32⟩
  | .hbm, ⟨38, _⟩ => ⟨S2x1024, .f32⟩
  | .hbm, ⟨39, _⟩ => ⟨S1x1024, .f32⟩
  | .hbm, ⟨40, _⟩ => ⟨S32768x12288, .bf16⟩
  | .hbm, ⟨41, _⟩ => ⟨S32768x128, .f32⟩
  | .hbm, ⟨42, _⟩ => ⟨S8x32768, .f32⟩
  | .local _ .vmem, ⟨0, _⟩ => ⟨S1x3x1024, .f32⟩
  | .local _ .vmem, ⟨1, _⟩ => ⟨S1x3x1024, .f32⟩
  | .local _ .vmem, ⟨2, _⟩ => ⟨S1x1024, .f32⟩
  | .local _ .vmem, ⟨3, _⟩ => ⟨S1024x2048, .bf16⟩
  | .local _ .vmem, ⟨4, _⟩ => ⟨S1024x128, .bf16⟩
  | .local _ .vmem, ⟨5, _⟩ => ⟨S1x128, .f32⟩
  | .local _ .vmem, ⟨6, _⟩ => ⟨S2x1024, .f32⟩
  | .local _ .vmem, ⟨7, _⟩ => ⟨S1024x2048, .bf16⟩
  | .local _ .vmem, ⟨8, _⟩ => ⟨S1024x2048, .bf16⟩
  | .local _ .vmem, ⟨9, _⟩ => ⟨S1024x128, .f32⟩
  | .local _ .vmem, ⟨10, _⟩ => ⟨S1024x128, .f32⟩
  | .local _ .vmem, ⟨11, _⟩ => ⟨S8x1024, .f32⟩
  | .local _ .vmem, ⟨12, _⟩ => ⟨S8x1024, .f32⟩
  | .local _ .vmem, ⟨13, _⟩ => ⟨S1024x1024, .bf16⟩
  | .local _ .vmem, ⟨14, _⟩ => ⟨S3x1024x2048, .bf16⟩
  | .local _ .vmem, ⟨15, _⟩ => ⟨S2x1024x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_call0_v0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_c_0 : Ref sig .tc := ⟨.hbm, 18, rfl⟩
abbrev main_call1_v0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_c_1 : Ref sig .tc := ⟨.hbm, 23, rfl⟩
abbrev main_call2_v0 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25_0 : Ref sig .tc := ⟨.hbm, 40, rfl⟩
abbrev main_v25_1 : Ref sig .tc := ⟨.hbm, 41, rfl⟩
abbrev main_v25_2 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch3 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨2, ![32, 6], ![false, false]⟩

def k0_cond1 (i : grid0.Coords) : BitVec 1 :=
  let arg0 : BitVec 32 := BitVec.ofNat 32 (i 0).val
  let c6_i32 : BitVec 32 := 6#32
  let v0 : BitVec 32 := Scalar.muli arg0 c6_i32
  let arg1 : BitVec 32 := BitVec.ofNat 32 (i 1).val
  let v1 : BitVec 32 := Scalar.addi v0 arg1
  let c0_i32 : BitVec 32 := 0#32
  let v2 : BitVec 1 := Scalar.cmpi .eq v1 c0_i32
  let v3 : BitVec 32 := Scalar.extui v2
  let c0_i32_0 : BitVec 32 := 0#32
  let v4 : BitVec 1 := Scalar.cmpi .ne v3 c0_i32_0
  v4

def k0_mult1 : BitVec 32 :=
  let c0_i32_40 : BitVec 32 := 0#32
  c0_i32_40
def k0_mult2 : BitVec 32 :=
  let c2048_i32 : BitVec 32 := 2048#32
  c2048_i32
def k0_cond2 (i : grid0.Coords) : BitVec 1 :=
  let arg0 : BitVec 32 := BitVec.ofNat 32 (i 0).val
  let c6_i32 : BitVec 32 := 6#32
  let v0 : BitVec 32 := Scalar.muli arg0 c6_i32
  let arg1 : BitVec 32 := BitVec.ofNat 32 (i 1).val
  let v1 : BitVec 32 := Scalar.addi v0 arg1
  let c3_i32 : BitVec 32 := 3#32
  let v5 : BitVec 32 := Scalar.addi v1 c3_i32
  let c1_i32 : BitVec 32 := 1#32
  let v6 : BitVec 32 := Scalar.subi v5 c1_i32
  let c6_i32_8 : BitVec 32 := 6#32
  let c0_i32_9 : BitVec 32 := 0#32
  let v24 : BitVec 1 := Scalar.cmpi .eq c6_i32_8 c0_i32_9
  let c1_i32_10 : BitVec 32 := 1#32
  let v25 : BitVec 32 := Scalar.select v24 c1_i32_10 c6_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c5_i32 : BitVec 32 := 5#32
  let v34 : BitVec 1 := Scalar.cmpi .slt v33 c5_i32
  let c0_i32_2 : BitVec 32 := 0#32
  let v8 : BitVec 1 := Scalar.cmpi .sgt v6 c0_i32_2
  let v9 : BitVec 32 := Scalar.extui v8
  let c0_i32_3 : BitVec 32 := 0#32
  let v10 : BitVec 1 := Scalar.cmpi .slt v6 c0_i32_3
  let v11 : BitVec 32 := Scalar.extui v10
  let v12 : BitVec 32 := Scalar.subi v9 v11
  let c6_i32_1 : BitVec 32 := 6#32
  let c0_i32_4 : BitVec 32 := 0#32
  let v13 : BitVec 1 := Scalar.cmpi .sgt c6_i32_1 c0_i32_4
  let v14 : BitVec 32 := Scalar.extui v13
  let c0_i32_5 : BitVec 32 := 0#32
  let v15 : BitVec 1 := Scalar.cmpi .slt c6_i32_1 c0_i32_5
  let v16 : BitVec 32 := Scalar.extui v15
  let v17 : BitVec 32 := Scalar.subi v14 v16
  let v18 : BitVec 1 := Scalar.cmpi .ne v12 v17
  let v19 : BitVec 32 := Scalar.remsi v6 c6_i32_1
  let c0_i32_6 : BitVec 32 := 0#32
  let v20 : BitVec 1 := Scalar.cmpi .ne v19 c0_i32_6
  let v21 : BitVec 1 := Scalar.andi v18 v20
  let v7 : BitVec 32 := Scalar.divsi v6 c6_i32_1
  let c1_i32_7 : BitVec 32 := 1#32
  let v22 : BitVec 32 := Scalar.subi v7 c1_i32_7
  let v23 : BitVec 32 := Scalar.select v21 v22 v7
  let c32_i32 : BitVec 32 := 32#32
  let v35 : BitVec 1 := Scalar.cmpi .slt v23 c32_i32
  let v36 : BitVec 1 := Scalar.andi v34 v35
  let v37 : BitVec 32 := Scalar.extui v36
  let c0_i32_14 : BitVec 32 := 0#32
  let v38 : BitVec 1 := Scalar.cmpi .ne v37 c0_i32_14
  v38

def k0_mult3 (i : grid0.Coords) : BitVec 32 :=
  let arg0 : BitVec 32 := BitVec.ofNat 32 (i 0).val
  let c6_i32 : BitVec 32 := 6#32
  let v0 : BitVec 32 := Scalar.muli arg0 c6_i32
  let arg1 : BitVec 32 := BitVec.ofNat 32 (i 1).val
  let v1 : BitVec 32 := Scalar.addi v0 arg1
  let c3_i32 : BitVec 32 := 3#32
  let v5 : BitVec 32 := Scalar.addi v1 c3_i32
  let c1_i32 : BitVec 32 := 1#32
  let v6 : BitVec 32 := Scalar.subi v5 c1_i32
  let c6_i32_8 : BitVec 32 := 6#32
  let c0_i32_9 : BitVec 32 := 0#32
  let v24 : BitVec 1 := Scalar.cmpi .eq c6_i32_8 c0_i32_9
  let c1_i32_10 : BitVec 32 := 1#32
  let v25 : BitVec 32 := Scalar.select v24 c1_i32_10 c6_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c2048_i32 : BitVec 32 := 2048#32
  let v92 : BitVec 32 := Scalar.muli v33 c2048_i32
  v92
def k0_off1 (i : grid0.Coords) : Fin 1 → Nat :=
  let arg0 : BitVec 32 := BitVec.ofNat 32 (i 0).val
  let c6_i32 : BitVec 32 := 6#32
  let v0 : BitVec 32 := Scalar.muli arg0 c6_i32
  let arg1 : BitVec 32 := BitVec.ofNat 32 (i 1).val
  let v1 : BitVec 32 := Scalar.addi v0 arg1
  let c3_i32 : BitVec 32 := 3#32
  let v5 : BitVec 32 := Scalar.addi v1 c3_i32
  let c1_i32 : BitVec 32 := 1#32
  let v6 : BitVec 32 := Scalar.subi v5 c1_i32
  let c0_i32_2 : BitVec 32 := 0#32
  let v8 : BitVec 1 := Scalar.cmpi .sgt v6 c0_i32_2
  let v9 : BitVec 32 := Scalar.extui v8
  let c0_i32_3 : BitVec 32 := 0#32
  let v10 : BitVec 1 := Scalar.cmpi .slt v6 c0_i32_3
  let v11 : BitVec 32 := Scalar.extui v10
  let v12 : BitVec 32 := Scalar.subi v9 v11
  let c6_i32_1 : BitVec 32 := 6#32
  let c0_i32_4 : BitVec 32 := 0#32
  let v13 : BitVec 1 := Scalar.cmpi .sgt c6_i32_1 c0_i32_4
  let v14 : BitVec 32 := Scalar.extui v13
  let c0_i32_5 : BitVec 32 := 0#32
  let v15 : BitVec 1 := Scalar.cmpi .slt c6_i32_1 c0_i32_5
  let v16 : BitVec 32 := Scalar.extui v15
  let v17 : BitVec 32 := Scalar.subi v14 v16
  let v18 : BitVec 1 := Scalar.cmpi .ne v12 v17
  let v19 : BitVec 32 := Scalar.remsi v6 c6_i32_1
  let c0_i32_6 : BitVec 32 := 0#32
  let v20 : BitVec 1 := Scalar.cmpi .ne v19 c0_i32_6
  let v21 : BitVec 1 := Scalar.andi v18 v20
  let v7 : BitVec 32 := Scalar.divsi v6 c6_i32_1
  let c1_i32_7 : BitVec 32 := 1#32
  let v22 : BitVec 32 := Scalar.subi v7 c1_i32_7
  let v23 : BitVec 32 := Scalar.select v21 v22 v7
  let c5_i32_40 : BitVec 32 := 5#32
  let v80 : BitVec 32 := Scalar.muli v23 c5_i32_40
  let c6_i32_8 : BitVec 32 := 6#32
  let c0_i32_9 : BitVec 32 := 0#32
  let v24 : BitVec 1 := Scalar.cmpi .eq c6_i32_8 c0_i32_9
  let c1_i32_10 : BitVec 32 := 1#32
  let v25 : BitVec 32 := Scalar.select v24 c1_i32_10 c6_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let v81 : BitVec 32 := Scalar.addi v80 v33
  let c3_i32_41 : BitVec 32 := 3#32
  let c0_i32_42 : BitVec 32 := 0#32
  let v82 : BitVec 1 := Scalar.cmpi .eq c3_i32_41 c0_i32_42
  let c1_i32_43 : BitVec 32 := 1#32
  let v83 : BitVec 32 := Scalar.select v82 c1_i32_43 c3_i32_41
  let v84 : BitVec 32 := Scalar.remsi v81 v83
  let c0_i32_45 : BitVec 32 := 0#32
  let v86 : BitVec 1 := Scalar.cmpi .slt v84 c0_i32_45
  let c0_i32_46 : BitVec 32 := 0#32
  let v87 : BitVec 1 := Scalar.cmpi .slt v83 c0_i32_46
  let v88 : BitVec 1 := Scalar.xori v86 v87
  let c0_i32_44 : BitVec 32 := 0#32
  let v85 : BitVec 1 := Scalar.cmpi .ne v84 c0_i32_44
  let v89 : BitVec 1 := Scalar.andi v88 v85
  let v90 : BitVec 32 := Scalar.addi v84 v83
  let v91 : BitVec 32 := Scalar.select v89 v90 v84
  ![v91.toNat]
def k0_off2 (i : grid0.Coords) : Fin 3 → Nat :=
  let arg0 : BitVec 32 := BitVec.ofNat 32 (i 0).val
  let c6_i32 : BitVec 32 := 6#32
  let v0 : BitVec 32 := Scalar.muli arg0 c6_i32
  let arg1 : BitVec 32 := BitVec.ofNat 32 (i 1).val
  let v1 : BitVec 32 := Scalar.addi v0 arg1
  let c3_i32 : BitVec 32 := 3#32
  let v5 : BitVec 32 := Scalar.addi v1 c3_i32
  let c1_i32 : BitVec 32 := 1#32
  let v6 : BitVec 32 := Scalar.subi v5 c1_i32
  let c0_i32_2 : BitVec 32 := 0#32
  let v8 : BitVec 1 := Scalar.cmpi .sgt v6 c0_i32_2
  let v9 : BitVec 32 := Scalar.extui v8
  let c0_i32_3 : BitVec 32 := 0#32
  let v10 : BitVec 1 := Scalar.cmpi .slt v6 c0_i32_3
  let v11 : BitVec 32 := Scalar.extui v10
  let v12 : BitVec 32 := Scalar.subi v9 v11
  let c6_i32_1 : BitVec 32 := 6#32
  let c0_i32_4 : BitVec 32 := 0#32
  let v13 : BitVec 1 := Scalar.cmpi .sgt c6_i32_1 c0_i32_4
  let v14 : BitVec 32 := Scalar.extui v13
  let c0_i32_5 : BitVec 32 := 0#32
  let v15 : BitVec 1 := Scalar.cmpi .slt c6_i32_1 c0_i32_5
  let v16 : BitVec 32 := Scalar.extui v15
  let v17 : BitVec 32 := Scalar.subi v14 v16
  let v18 : BitVec 1 := Scalar.cmpi .ne v12 v17
  let v19 : BitVec 32 := Scalar.remsi v6 c6_i32_1
  let c0_i32_6 : BitVec 32 := 0#32
  let v20 : BitVec 1 := Scalar.cmpi .ne v19 c0_i32_6
  let v21 : BitVec 1 := Scalar.andi v18 v20
  let v7 : BitVec 32 := Scalar.divsi v6 c6_i32_1
  let c1_i32_7 : BitVec 32 := 1#32
  let v22 : BitVec 32 := Scalar.subi v7 c1_i32_7
  let v23 : BitVec 32 := Scalar.select v21 v22 v7
  let c5_i32_40 : BitVec 32 := 5#32
  let v80 : BitVec 32 := Scalar.muli v23 c5_i32_40
  let c6_i32_8 : BitVec 32 := 6#32
  let c0_i32_9 : BitVec 32 := 0#32
  let v24 : BitVec 1 := Scalar.cmpi .eq c6_i32_8 c0_i32_9
  let c1_i32_10 : BitVec 32 := 1#32
  let v25 : BitVec 32 := Scalar.select v24 c1_i32_10 c6_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let v81 : BitVec 32 := Scalar.addi v80 v33
  let c3_i32_41 : BitVec 32 := 3#32
  let c0_i32_42 : BitVec 32 := 0#32
  let v82 : BitVec 1 := Scalar.cmpi .eq c3_i32_41 c0_i32_42
  let c1_i32_43 : BitVec 32 := 1#32
  let v83 : BitVec 32 := Scalar.select v82 c1_i32_43 c3_i32_41
  let v84 : BitVec 32 := Scalar.remsi v81 v83
  let c0_i32_45 : BitVec 32 := 0#32
  let v86 : BitVec 1 := Scalar.cmpi .slt v84 c0_i32_45
  let c0_i32_46 : BitVec 32 := 0#32
  let v87 : BitVec 1 := Scalar.cmpi .slt v83 c0_i32_46
  let v88 : BitVec 1 := Scalar.xori v86 v87
  let c0_i32_44 : BitVec 32 := 0#32
  let v85 : BitVec 1 := Scalar.cmpi .ne v84 c0_i32_44
  let v89 : BitVec 1 := Scalar.andi v88 v85
  let v90 : BitVec 32 := Scalar.addi v84 v83
  let v91 : BitVec 32 := Scalar.select v89 v90 v84
  let c0_i32_47 : BitVec 32 := 0#32
  let c0_i32_48 : BitVec 32 := 0#32
  ![v91.toNat, 0, 0]
def k0_off3 (i : grid0.Coords) : Fin 2 → Nat :=
  let c0_i32_49 : BitVec 32 := 0#32
  let arg0 : BitVec 32 := BitVec.ofNat 32 (i 0).val
  let c6_i32 : BitVec 32 := 6#32
  let v0 : BitVec 32 := Scalar.muli arg0 c6_i32
  let arg1 : BitVec 32 := BitVec.ofNat 32 (i 1).val
  let v1 : BitVec 32 := Scalar.addi v0 arg1
  let c3_i32 : BitVec 32 := 3#32
  let v5 : BitVec 32 := Scalar.addi v1 c3_i32
  let c1_i32 : BitVec 32 := 1#32
  let v6 : BitVec 32 := Scalar.subi v5 c1_i32
  let c6_i32_8 : BitVec 32 := 6#32
  let c0_i32_9 : BitVec 32 := 0#32
  let v24 : BitVec 1 := Scalar.cmpi .eq c6_i32_8 c0_i32_9
  let c1_i32_10 : BitVec 32 := 1#32
  let v25 : BitVec 32 := Scalar.select v24 c1_i32_10 c6_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c2048_i32 : BitVec 32 := 2048#32
  let v92 : BitVec 32 := Scalar.muli v33 c2048_i32
  let v93 : BitVec 32 := v92
  ![0, v93.toNat]
def k0_cond3 (i : grid0.Coords) : BitVec 1 :=
  let arg1 : BitVec 32 := BitVec.ofNat 32 (i 1).val
  let c5_i32_15 : BitVec 32 := 5#32
  let v39 : BitVec 1 := Scalar.cmpi .slt arg1 c5_i32_15
  let v40 : BitVec 32 := Scalar.extui v39
  let c0_i32_16 : BitVec 32 := 0#32
  let v41 : BitVec 1 := Scalar.cmpi .ne v40 c0_i32_16
  v41

def k0_mult4 (i : grid0.Coords) : BitVec 32 :=
  let arg1 : BitVec 32 := BitVec.ofNat 32 (i 1).val
  let c2048_i32 : BitVec 32 := 2048#32
  let v92 : BitVec 32 := Scalar.muli arg1 c2048_i32
  v92
def k0_off4 (i : grid0.Coords) : Fin 1 → Nat :=
  let arg0 : BitVec 32 := BitVec.ofNat 32 (i 0).val
  let c5_i32_40 : BitVec 32 := 5#32
  let v80 : BitVec 32 := Scalar.muli arg0 c5_i32_40
  let arg1 : BitVec 32 := BitVec.ofNat 32 (i 1).val
  let v81 : BitVec 32 := Scalar.addi v80 arg1
  let c3_i32_41 : BitVec 32 := 3#32
  let c0_i32_42 : BitVec 32 := 0#32
  let v82 : BitVec 1 := Scalar.cmpi .eq c3_i32_41 c0_i32_42
  let c1_i32_43 : BitVec 32 := 1#32
  let v83 : BitVec 32 := Scalar.select v82 c1_i32_43 c3_i32_41
  let v84 : BitVec 32 := Scalar.remsi v81 v83
  let c0_i32_45 : BitVec 32 := 0#32
  let v86 : BitVec 1 := Scalar.cmpi .slt v84 c0_i32_45
  let c0_i32_46 : BitVec 32 := 0#32
  let v87 : BitVec 1 := Scalar.cmpi .slt v83 c0_i32_46
  let v88 : BitVec 1 := Scalar.xori v86 v87
  let c0_i32_44 : BitVec 32 := 0#32
  let v85 : BitVec 1 := Scalar.cmpi .ne v84 c0_i32_44
  let v89 : BitVec 1 := Scalar.andi v88 v85
  let v90 : BitVec 32 := Scalar.addi v84 v83
  let v91 : BitVec 32 := Scalar.select v89 v90 v84
  ![v91.toNat]
def k0_off5 (i : grid0.Coords) : Fin 3 → Nat :=
  let arg0 : BitVec 32 := BitVec.ofNat 32 (i 0).val
  let c5_i32_40 : BitVec 32 := 5#32
  let v80 : BitVec 32 := Scalar.muli arg0 c5_i32_40
  let arg1 : BitVec 32 := BitVec.ofNat 32 (i 1).val
  let v81 : BitVec 32 := Scalar.addi v80 arg1
  let c3_i32_41 : BitVec 32 := 3#32
  let c0_i32_42 : BitVec 32 := 0#32
  let v82 : BitVec 1 := Scalar.cmpi .eq c3_i32_41 c0_i32_42
  let c1_i32_43 : BitVec 32 := 1#32
  let v83 : BitVec 32 := Scalar.select v82 c1_i32_43 c3_i32_41
  let v84 : BitVec 32 := Scalar.remsi v81 v83
  let c0_i32_45 : BitVec 32 := 0#32
  let v86 : BitVec 1 := Scalar.cmpi .slt v84 c0_i32_45
  let c0_i32_46 : BitVec 32 := 0#32
  let v87 : BitVec 1 := Scalar.cmpi .slt v83 c0_i32_46
  let v88 : BitVec 1 := Scalar.xori v86 v87
  let c0_i32_44 : BitVec 32 := 0#32
  let v85 : BitVec 1 := Scalar.cmpi .ne v84 c0_i32_44
  let v89 : BitVec 1 := Scalar.andi v88 v85
  let v90 : BitVec 32 := Scalar.addi v84 v83
  let v91 : BitVec 32 := Scalar.select v89 v90 v84
  let c0_i32_47 : BitVec 32 := 0#32
  let c0_i32_48 : BitVec 32 := 0#32
  ![v91.toNat, 0, 0]
def k0_off6 (i : grid0.Coords) : Fin 2 → Nat :=
  let c0_i32_49 : BitVec 32 := 0#32
  let arg1 : BitVec 32 := BitVec.ofNat 32 (i 1).val
  let c2048_i32 : BitVec 32 := 2048#32
  let v92 : BitVec 32 := Scalar.muli arg1 c2048_i32
  let v93 : BitVec 32 := v92
  ![0, v93.toNat]
def k0_cond4 (i : grid0.Coords) : BitVec 1 :=
  let arg0 : BitVec 32 := BitVec.ofNat 32 (i 0).val
  let c6_i32 : BitVec 32 := 6#32
  let v0 : BitVec 32 := Scalar.muli arg0 c6_i32
  let arg1 : BitVec 32 := BitVec.ofNat 32 (i 1).val
  let v1 : BitVec 32 := Scalar.addi v0 arg1
  let c0_i32_24 : BitVec 32 := 0#32
  let v54 : BitVec 1 := Scalar.cmpi .eq v1 c0_i32_24
  let v55 : BitVec 32 := Scalar.extui v54
  let c0_i32_25 : BitVec 32 := 0#32
  let v56 : BitVec 1 := Scalar.cmpi .ne v55 c0_i32_25
  v56

def k0_mult5 : BitVec 32 :=
  let c0_i32_40 : BitVec 32 := 0#32
  c0_i32_40
def k0_cond5 (i : grid0.Coords) : BitVec 1 :=
  let arg1 : BitVec 32 := BitVec.ofNat 32 (i 1).val
  let c1_i32_26 : BitVec 32 := 1#32
  let v57 : BitVec 1 := Scalar.cmpi .eq arg1 c1_i32_26
  let arg0 : BitVec 32 := BitVec.ofNat 32 (i 0).val
  let c1_i32_27 : BitVec 32 := 1#32
  let v58 : BitVec 32 := Scalar.addi arg0 c1_i32_27
  let c32_i32_28 : BitVec 32 := 32#32
  let v59 : BitVec 1 := Scalar.cmpi .slt v58 c32_i32_28
  let v60 : BitVec 1 := Scalar.andi v57 v59
  let v61 : BitVec 32 := Scalar.extui v60
  let c0_i32_29 : BitVec 32 := 0#32
  let v62 : BitVec 1 := Scalar.cmpi .ne v61 c0_i32_29
  v62

def k0_mult6 (i : grid0.Coords) : BitVec 32 :=
  let arg0 : BitVec 32 := BitVec.ofNat 32 (i 0).val
  let c1_i32_40 : BitVec 32 := 1#32
  let v80 : BitVec 32 := Scalar.addi arg0 c1_i32_40
  let c1024_i32 : BitVec 32 := 1024#32
  let v91 : BitVec 32 := Scalar.muli v80 c1024_i32
  v91
def k0_off7 (i : grid0.Coords) : Fin 1 → Nat :=
  let arg0 : BitVec 32 := BitVec.ofNat 32 (i 0).val
  let c1_i32_40 : BitVec 32 := 1#32
  let v80 : BitVec 32 := Scalar.addi arg0 c1_i32_40
  let c2_i32 : BitVec 32 := 2#32
  let c0_i32_41 : BitVec 32 := 0#32
  let v81 : BitVec 1 := Scalar.cmpi .eq c2_i32 c0_i32_41
  let c1_i32_42 : BitVec 32 := 1#32
  let v82 : BitVec 32 := Scalar.select v81 c1_i32_42 c2_i32
  let v83 : BitVec 32 := Scalar.remsi v80 v82
  let c0_i32_44 : BitVec 32 := 0#32
  let v85 : BitVec 1 := Scalar.cmpi .slt v83 c0_i32_44
  let c0_i32_45 : BitVec 32 := 0#32
  let v86 : BitVec 1 := Scalar.cmpi .slt v82 c0_i32_45
  let v87 : BitVec 1 := Scalar.xori v85 v86
  let c0_i32_43 : BitVec 32 := 0#32
  let v84 : BitVec 1 := Scalar.cmpi .ne v83 c0_i32_43
  let v88 : BitVec 1 := Scalar.andi v87 v84
  let v89 : BitVec 32 := Scalar.addi v83 v82
  let v90 : BitVec 32 := Scalar.select v88 v89 v83
  ![v90.toNat]
def k0_off8 (i : grid0.Coords) : Fin 3 → Nat :=
  let arg0 : BitVec 32 := BitVec.ofNat 32 (i 0).val
  let c1_i32_40 : BitVec 32 := 1#32
  let v80 : BitVec 32 := Scalar.addi arg0 c1_i32_40
  let c2_i32 : BitVec 32 := 2#32
  let c0_i32_41 : BitVec 32 := 0#32
  let v81 : BitVec 1 := Scalar.cmpi .eq c2_i32 c0_i32_41
  let c1_i32_42 : BitVec 32 := 1#32
  let v82 : BitVec 32 := Scalar.select v81 c1_i32_42 c2_i32
  let v83 : BitVec 32 := Scalar.remsi v80 v82
  let c0_i32_44 : BitVec 32 := 0#32
  let v85 : BitVec 1 := Scalar.cmpi .slt v83 c0_i32_44
  let c0_i32_45 : BitVec 32 := 0#32
  let v86 : BitVec 1 := Scalar.cmpi .slt v82 c0_i32_45
  let v87 : BitVec 1 := Scalar.xori v85 v86
  let c0_i32_43 : BitVec 32 := 0#32
  let v84 : BitVec 1 := Scalar.cmpi .ne v83 c0_i32_43
  let v88 : BitVec 1 := Scalar.andi v87 v84
  let v89 : BitVec 32 := Scalar.addi v83 v82
  let v90 : BitVec 32 := Scalar.select v88 v89 v83
  let c0_i32_46 : BitVec 32 := 0#32
  let c0_i32_47 : BitVec 32 := 0#32
  ![v90.toNat, 0, 0]
def k0_off9 (i : grid0.Coords) : Fin 2 → Nat :=
  let arg0 : BitVec 32 := BitVec.ofNat 32 (i 0).val
  let c1_i32_40 : BitVec 32 := 1#32
  let v80 : BitVec 32 := Scalar.addi arg0 c1_i32_40
  let c1024_i32 : BitVec 32 := 1024#32
  let v91 : BitVec 32 := Scalar.muli v80 c1024_i32
  let v92 : BitVec 32 := v91
  let c0_i32_48 : BitVec 32 := 0#32
  ![v92.toNat, 0]
def k0_cond6 (i : grid0.Coords) : BitVec 1 :=
  let arg1 : BitVec 32 := BitVec.ofNat 32 (i 1).val
  let c0_i32_30 : BitVec 32 := 0#32
  let v63 : BitVec 1 := Scalar.cmpi .eq arg1 c0_i32_30
  let v64 : BitVec 32 := Scalar.extui v63
  let c0_i32_31 : BitVec 32 := 0#32
  let v65 : BitVec 1 := Scalar.cmpi .ne v64 c0_i32_31
  v65

def k0_mult7 (i : grid0.Coords) : BitVec 32 :=
  let arg0 : BitVec 32 := BitVec.ofNat 32 (i 0).val
  let c1024_i32 : BitVec 32 := 1024#32
  let v90 : BitVec 32 := Scalar.muli arg0 c1024_i32
  v90
def k0_off10 (i : grid0.Coords) : Fin 1 → Nat :=
  let arg0 : BitVec 32 := BitVec.ofNat 32 (i 0).val
  let c2_i32 : BitVec 32 := 2#32
  let c0_i32_40 : BitVec 32 := 0#32
  let v80 : BitVec 1 := Scalar.cmpi .eq c2_i32 c0_i32_40
  let c1_i32_41 : BitVec 32 := 1#32
  let v81 : BitVec 32 := Scalar.select v80 c1_i32_41 c2_i32
  let v82 : BitVec 32 := Scalar.remsi arg0 v81
  let c0_i32_43 : BitVec 32 := 0#32
  let v84 : BitVec 1 := Scalar.cmpi .slt v82 c0_i32_43
  let c0_i32_44 : BitVec 32 := 0#32
  let v85 : BitVec 1 := Scalar.cmpi .slt v81 c0_i32_44
  let v86 : BitVec 1 := Scalar.xori v84 v85
  let c0_i32_42 : BitVec 32 := 0#32
  let v83 : BitVec 1 := Scalar.cmpi .ne v82 c0_i32_42
  let v87 : BitVec 1 := Scalar.andi v86 v83
  let v88 : BitVec 32 := Scalar.addi v82 v81
  let v89 : BitVec 32 := Scalar.select v87 v88 v82
  ![v89.toNat]
def k0_off11 (i : grid0.Coords) : Fin 3 → Nat :=
  let arg0 : BitVec 32 := BitVec.ofNat 32 (i 0).val
  let c2_i32 : BitVec 32 := 2#32
  let c0_i32_40 : BitVec 32 := 0#32
  let v80 : BitVec 1 := Scalar.cmpi .eq c2_i32 c0_i32_40
  let c1_i32_41 : BitVec 32 := 1#32
  let v81 : BitVec 32 := Scalar.select v80 c1_i32_41 c2_i32
  let v82 : BitVec 32 := Scalar.remsi arg0 v81
  let c0_i32_43 : BitVec 32 := 0#32
  let v84 : BitVec 1 := Scalar.cmpi .slt v82 c0_i32_43
  let c0_i32_44 : BitVec 32 := 0#32
  let v85 : BitVec 1 := Scalar.cmpi .slt v81 c0_i32_44
  let v86 : BitVec 1 := Scalar.xori v84 v85
  let c0_i32_42 : BitVec 32 := 0#32
  let v83 : BitVec 1 := Scalar.cmpi .ne v82 c0_i32_42
  let v87 : BitVec 1 := Scalar.andi v86 v83
  let v88 : BitVec 32 := Scalar.addi v82 v81
  let v89 : BitVec 32 := Scalar.select v87 v88 v82
  let c0_i32_45 : BitVec 32 := 0#32
  let c0_i32_46 : BitVec 32 := 0#32
  ![v89.toNat, 0, 0]
def k0_off12 (i : grid0.Coords) : Fin 2 → Nat :=
  let arg0 : BitVec 32 := BitVec.ofNat 32 (i 0).val
  let c1024_i32 : BitVec 32 := 1024#32
  let v90 : BitVec 32 := Scalar.muli arg0 c1024_i32
  let v91 : BitVec 32 := v90
  let c0_i32_47 : BitVec 32 := 0#32
  ![v91.toNat, 0]
def k0_off13 (i : grid0.Coords) : Fin 3 → Nat :=
  let arg0 : BitVec 32 := BitVec.ofNat 32 (i 0).val
  let c2_i32_48 : BitVec 32 := 2#32
  let c0_i32_49 : BitVec 32 := 0#32
  let v97 : BitVec 1 := Scalar.cmpi .eq c2_i32_48 c0_i32_49
  let c1_i32_50 : BitVec 32 := 1#32
  let v98 : BitVec 32 := Scalar.select v97 c1_i32_50 c2_i32_48
  let v99 : BitVec 32 := Scalar.remsi arg0 v98
  let c0_i32_52 : BitVec 32 := 0#32
  let v101 : BitVec 1 := Scalar.cmpi .slt v99 c0_i32_52
  let c0_i32_53 : BitVec 32 := 0#32
  let v102 : BitVec 1 := Scalar.cmpi .slt v98 c0_i32_53
  let v103 : BitVec 1 := Scalar.xori v101 v102
  let c0_i32_51 : BitVec 32 := 0#32
  let v100 : BitVec 1 := Scalar.cmpi .ne v99 c0_i32_51
  let v104 : BitVec 1 := Scalar.andi v103 v100
  let v105 : BitVec 32 := Scalar.addi v99 v98
  let v106 : BitVec 32 := Scalar.select v104 v105 v99
  let v107 : Index := Scalar.indexCast v106
  let c0 : Index := 0#32
  let c0_54 : Index := 0#32
  ![v107.toNat, 0, 0]
def k0_cond7 (i : grid0.Coords) : BitVec 1 :=
  let arg1 : BitVec 32 := BitVec.ofNat 32 (i 1).val
  let c0_i32_32 : BitVec 32 := 0#32
  let v66 : BitVec 1 := Scalar.cmpi .eq arg1 c0_i32_32
  let v67 : BitVec 32 := Scalar.extui v66
  let c0_i32_33 : BitVec 32 := 0#32
  let v68 : BitVec 1 := Scalar.cmpi .ne v67 c0_i32_33
  v68

def k0_off14 (i : grid0.Coords) : Fin 3 → Nat :=
  let arg0 : BitVec 32 := BitVec.ofNat 32 (i 0).val
  let c5_i32_17 : BitVec 32 := 5#32
  let v42 : BitVec 32 := Scalar.muli arg0 c5_i32_17
  let arg1 : BitVec 32 := BitVec.ofNat 32 (i 1).val
  let v43 : BitVec 32 := Scalar.addi v42 arg1
  let c3_i32_18 : BitVec 32 := 3#32
  let c0_i32_19 : BitVec 32 := 0#32
  let v44 : BitVec 1 := Scalar.cmpi .eq c3_i32_18 c0_i32_19
  let c1_i32_20 : BitVec 32 := 1#32
  let v45 : BitVec 32 := Scalar.select v44 c1_i32_20 c3_i32_18
  let v46 : BitVec 32 := Scalar.remsi v43 v45
  let c0_i32_22 : BitVec 32 := 0#32
  let v48 : BitVec 1 := Scalar.cmpi .slt v46 c0_i32_22
  let c0_i32_23 : BitVec 32 := 0#32
  let v49 : BitVec 1 := Scalar.cmpi .slt v45 c0_i32_23
  let v50 : BitVec 1 := Scalar.xori v48 v49
  let c0_i32_21 : BitVec 32 := 0#32
  let v47 : BitVec 1 := Scalar.cmpi .ne v46 c0_i32_21
  let v51 : BitVec 1 := Scalar.andi v50 v47
  let v52 : BitVec 32 := Scalar.addi v46 v45
  let v53 : BitVec 32 := Scalar.select v51 v52 v46
  let c0_i32_43 : BitVec 32 := 0#32
  let c0_i32_44 : BitVec 32 := 0#32
  ![v53.toNat, 0, 0]
def k0_cond8 (i : grid0.Coords) : BitVec 1 :=
  let arg1 : BitVec 32 := BitVec.ofNat 32 (i 1).val
  let c0_i32_34 : BitVec 32 := 0#32
  let v69 : BitVec 1 := Scalar.cmpi .sgt arg1 c0_i32_34
  let c4_i32 : BitVec 32 := 4#32
  let v70 : BitVec 1 := Scalar.cmpi .slt arg1 c4_i32
  let v71 : BitVec 1 := Scalar.andi v69 v70
  let v72 : BitVec 32 := Scalar.extui v71
  let c0_i32_35 : BitVec 32 := 0#32
  let v73 : BitVec 1 := Scalar.cmpi .ne v72 c0_i32_35
  v73

def k0_off15 (i : grid0.Coords) : Fin 3 → Nat :=
  let arg0 : BitVec 32 := BitVec.ofNat 32 (i 0).val
  let c5_i32_17 : BitVec 32 := 5#32
  let v42 : BitVec 32 := Scalar.muli arg0 c5_i32_17
  let arg1 : BitVec 32 := BitVec.ofNat 32 (i 1).val
  let v43 : BitVec 32 := Scalar.addi v42 arg1
  let c3_i32_18 : BitVec 32 := 3#32
  let c0_i32_19 : BitVec 32 := 0#32
  let v44 : BitVec 1 := Scalar.cmpi .eq c3_i32_18 c0_i32_19
  let c1_i32_20 : BitVec 32 := 1#32
  let v45 : BitVec 32 := Scalar.select v44 c1_i32_20 c3_i32_18
  let v46 : BitVec 32 := Scalar.remsi v43 v45
  let c0_i32_22 : BitVec 32 := 0#32
  let v48 : BitVec 1 := Scalar.cmpi .slt v46 c0_i32_22
  let c0_i32_23 : BitVec 32 := 0#32
  let v49 : BitVec 1 := Scalar.cmpi .slt v45 c0_i32_23
  let v50 : BitVec 1 := Scalar.xori v48 v49
  let c0_i32_21 : BitVec 32 := 0#32
  let v47 : BitVec 1 := Scalar.cmpi .ne v46 c0_i32_21
  let v51 : BitVec 1 := Scalar.andi v50 v47
  let v52 : BitVec 32 := Scalar.addi v46 v45
  let v53 : BitVec 32 := Scalar.select v51 v52 v46
  let v80 : Index := Scalar.indexCast v53
  let c0 : Index := 0#32
  let c0_40 : Index := 0#32
  ![v80.toNat, 0, 0]
def k0_cond9 (i : grid0.Coords) : BitVec 1 :=
  let arg1 : BitVec 32 := BitVec.ofNat 32 (i 1).val
  let c4_i32_36 : BitVec 32 := 4#32
  let v74 : BitVec 1 := Scalar.cmpi .eq arg1 c4_i32_36
  let v75 : BitVec 32 := Scalar.extui v74
  let c0_i32_37 : BitVec 32 := 0#32
  let v76 : BitVec 1 := Scalar.cmpi .ne v75 c0_i32_37
  v76

def k0_off16 (i : grid0.Coords) : Fin 3 → Nat :=
  let arg0 : BitVec 32 := BitVec.ofNat 32 (i 0).val
  let c5_i32_17 : BitVec 32 := 5#32
  let v42 : BitVec 32 := Scalar.muli arg0 c5_i32_17
  let arg1 : BitVec 32 := BitVec.ofNat 32 (i 1).val
  let v43 : BitVec 32 := Scalar.addi v42 arg1
  let c3_i32_18 : BitVec 32 := 3#32
  let c0_i32_19 : BitVec 32 := 0#32
  let v44 : BitVec 1 := Scalar.cmpi .eq c3_i32_18 c0_i32_19
  let c1_i32_20 : BitVec 32 := 1#32
  let v45 : BitVec 32 := Scalar.select v44 c1_i32_20 c3_i32_18
  let v46 : BitVec 32 := Scalar.remsi v43 v45
  let c0_i32_22 : BitVec 32 := 0#32
  let v48 : BitVec 1 := Scalar.cmpi .slt v46 c0_i32_22
  let c0_i32_23 : BitVec 32 := 0#32
  let v49 : BitVec 1 := Scalar.cmpi .slt v45 c0_i32_23
  let v50 : BitVec 1 := Scalar.xori v48 v49
  let c0_i32_21 : BitVec 32 := 0#32
  let v47 : BitVec 1 := Scalar.cmpi .ne v46 c0_i32_21
  let v51 : BitVec 1 := Scalar.andi v50 v47
  let v52 : BitVec 32 := Scalar.addi v46 v45
  let v53 : BitVec 32 := Scalar.select v51 v52 v46
  let c0_i32_40 : BitVec 32 := 0#32
  let c0_i32_41 : BitVec 32 := 0#32
  ![v53.toNat, 0, 0]
def k0_cond10 (i : grid0.Coords) : BitVec 1 :=
  let arg1 : BitVec 32 := BitVec.ofNat 32 (i 1).val
  let c5_i32_38 : BitVec 32 := 5#32
  let v77 : BitVec 1 := Scalar.cmpi .eq arg1 c5_i32_38
  let v78 : BitVec 32 := Scalar.extui v77
  let c0_i32_39 : BitVec 32 := 0#32
  let v79 : BitVec 1 := Scalar.cmpi .ne v78 c0_i32_39
  v79

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1x3x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S8x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== Reference2Ideal.lean ====
abbrev S8x4096x1024 : Shape := ⟨3, ![8, 4096, 1024]⟩
abbrev S8x3072 : Shape := ⟨2, ![8, 3072]⟩
abbrev S1024 : Shape := ⟨1, ![1024]⟩
abbrev S1024x11272 : Shape := ⟨2, ![1024, 11272]⟩
abbrev S128 : Shape := ⟨1, ![128]⟩
abbrev S4 : Shape := ⟨1, ![4]⟩
abbrev S8x1x3072 : Shape := ⟨3, ![8, 1, 3072]⟩
abbrev S8x1x1024 : Shape := ⟨3, ![8, 1, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x11272 : Shape := ⟨3, ![8, 4096, 11272]⟩
abbrev S8x4096x8x128 : Shape := ⟨4, ![8, 4096, 8, 128]⟩
abbrev S8x4096x8 : Shape := ⟨3, ![8, 4096, 8]⟩
abbrev S8x4096x8x1 : Shape := ⟨4, ![8, 4096, 8, 1]⟩
abbrev S1x1x1x128 : Shape := ⟨4, ![1, 1, 1, 128]⟩
abbrev S8 : Shape := ⟨1, ![8]⟩
abbrev S1x1x8 : Shape := ⟨3, ![1, 1, 8]⟩
abbrev S8x4096x7168 : Shape := ⟨3, ![8, 4096, 7168]⟩
abbrev S8x4096x2048 : Shape := ⟨3, ![8, 4096, 2048]⟩
abbrev S8x4096x12288 : Shape := ⟨3, ![8, 4096, 12288]⟩
abbrev S8x4096x128 : Shape := ⟨3, ![8, 4096, 128]⟩
abbrev S32768x12288 : Shape := ⟨2, ![32768, 12288]⟩
abbrev S32768x128 : Shape := ⟨2, ![32768, 128]⟩
abbrev S32768x8 : Shape := ⟨2, ![32768, 8]⟩
abbrev S8x32768 : Shape := ⟨2, ![8, 32768]⟩

abbrev nBuf : Space → Nat
  | .hbm => 95
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x3072, .f32⟩
  | .hbm, ⟨2, _⟩ => ⟨S1024, .f32⟩
  | .hbm, ⟨3, _⟩ => ⟨S1024x11272, .f32⟩
  | .hbm, ⟨4, _⟩ => ⟨S128, .f32⟩
  | .hbm, ⟨5, _⟩ => ⟨S128, .f32⟩
  | .hbm, ⟨6, _⟩ => ⟨S4, .f32⟩
  | .hbm, ⟨7, _⟩ => ⟨S4, .f32⟩
  | .hbm, ⟨8, _⟩ => ⟨S8x1x3072, .f32⟩
  | .hbm, ⟨9, _⟩ => ⟨S8x1x1024, .f32⟩
  | .hbm, ⟨10, _⟩ => ⟨S8x1x1024, .f32⟩
  | .hbm, ⟨11, _⟩ => ⟨S8x1x1024, .f32⟩
  | .hbm, ⟨12, _⟩ => ⟨S8x4096x1024, .f32⟩
  | .hbm, ⟨13, _⟩ => ⟨S_, .f32⟩
  | .hbm, ⟨14, _⟩ => ⟨S8x4096, .f32⟩
  | .hbm, ⟨15, _⟩ => ⟨S8x4096x1, .f32⟩
  | .hbm, ⟨16, _⟩ => ⟨S_, .f32⟩
  | .hbm, ⟨17, _⟩ => ⟨S8x4096x1, .f32⟩
  | .hbm, ⟨18, _⟩ => ⟨S8x4096x1, .f32⟩
  | .hbm, ⟨19, _⟩ => ⟨S_, .f32⟩
  | .hbm, ⟨20, _⟩ => ⟨S8x4096x1, .f32⟩
  | .hbm, ⟨21, _⟩ => ⟨S8x4096x1, .f32⟩
  | .hbm, ⟨22, _⟩ => ⟨S8x4096x1, .f32⟩
  | .hbm, ⟨23, _⟩ => ⟨S8x4096x1024, .f32⟩
  | .hbm, ⟨24, _⟩ => ⟨S8x4096x1024, .f32⟩
  | .hbm, ⟨25, _⟩ => ⟨S1x1x1024, .f32⟩
  | .hbm, ⟨26, _⟩ => ⟨S8x4096x1024, .f32⟩
  | .hbm, ⟨27, _⟩ => ⟨S8x4096x1024, .f32⟩
  | .hbm, ⟨28, _⟩ => ⟨S_, .f32⟩
  | .hbm, ⟨29, _⟩ => ⟨S8x1x1024, .f32⟩
  | .hbm, ⟨30, _⟩ => ⟨S8x1x1024, .f32⟩
  | .hbm, ⟨31, _⟩ => ⟨S8x4096x1024, .f32⟩
  | .hbm, ⟨32, _⟩ => ⟨S8x4096x1024, .f32⟩
  | .hbm, ⟨33, _⟩ => ⟨S8x4096x1024, .f32⟩
  | .hbm, ⟨34, _⟩ => ⟨S8x4096x1024, .f32⟩
  | .hbm, ⟨35, _⟩ => ⟨S8x4096x11272, .f32⟩
  | .hbm, ⟨36, _⟩ => ⟨S8x4096x1024, .f32⟩
  | .hbm, ⟨37, _⟩ => ⟨S8x4096x8x128, .f32⟩
  | .hbm, ⟨38, _⟩ => ⟨S8x4096x8x128, .f32⟩
  | .hbm, ⟨39, _⟩ => ⟨S_, .f32⟩
  | .hbm, ⟨40, _⟩ => ⟨S8x4096x8, .f32⟩
  | .hbm, ⟨41, _⟩ => ⟨S8x4096x8x1, .f32⟩
  | .hbm, ⟨42, _⟩ => ⟨S_, .f32⟩
  | .hbm, ⟨43, _⟩ => ⟨S8x4096x8x1, .f32⟩
  | .hbm, ⟨44, _⟩ => ⟨S8x4096x8x1, .f32⟩
  | .hbm, ⟨45, _⟩ => ⟨S_, .f32⟩
  | .hbm, ⟨46, _⟩ => ⟨S8x4096x8x1, .f32⟩
  | .hbm, ⟨47, _⟩ => ⟨S8x4096x8x1, .f32⟩
  | .hbm, ⟨48, _⟩ => ⟨S8x4096x8x1, .f32⟩
  | .hbm, ⟨49, _⟩ => ⟨S8x4096x8x128, .f32⟩
  | .hbm, ⟨50, _⟩ => ⟨S8x4096x8x128, .f32⟩
  | .hbm, ⟨51, _⟩ => ⟨S1x1x1x128, .f32⟩
  | .hbm, ⟨52, _⟩ => ⟨S8x4096x8x128, .f32⟩
  | .hbm, ⟨53, _⟩ => ⟨S8x4096x8x128, .f32⟩
  | .hbm, ⟨54, _⟩ => ⟨S_, .f32⟩
  | .hbm, ⟨55, _⟩ => ⟨S8x4096x8x128, .f32⟩
  | .hbm, ⟨56, _⟩ => ⟨S8x4096x8x128, .f32⟩
  | .hbm, ⟨57, _⟩ => ⟨S8x4096x1024, .f32⟩
  | .hbm, ⟨58, _⟩ => ⟨S8x4096x1024, .f32⟩
  | .hbm, ⟨59, _⟩ => ⟨S8x4096x8x128, .f32⟩
  | .hbm, ⟨60, _⟩ => ⟨S8x4096x8x128, .f32⟩
  | .hbm, ⟨61, _⟩ => ⟨S_, .f32⟩
  | .hbm, ⟨62, _⟩ => ⟨S8x4096x8, .f32⟩
  | .hbm, ⟨63, _⟩ => ⟨S8x4096x8x1, .f32⟩
  | .hbm, ⟨64, _⟩ => ⟨S_, .f32⟩
  | .hbm, ⟨65, _⟩ => ⟨S8x4096x8x1, .f32⟩
  | .hbm, ⟨66, _⟩ => ⟨S8x4096x8x1, .f32⟩
  | .hbm, ⟨67, _⟩ => ⟨S_, .f32⟩
  | .hbm, ⟨68, _⟩ => ⟨S8x4096x8x1, .f32⟩
  | .hbm, ⟨69, _⟩ => ⟨S8x4096x8x1, .f32⟩
  | .hbm, ⟨70, _⟩ => ⟨S8x4096x8x1, .f32⟩
  | .hbm, ⟨71, _⟩ => ⟨S8x4096x8x128, .f32⟩
  | .hbm, ⟨72, _⟩ => ⟨S8x4096x8x128, .f32⟩
  | .hbm, ⟨73, _⟩ => ⟨S1x1x1x128, .f32⟩
  | .hbm, ⟨74, _⟩ => ⟨S8x4096x8x128, .f32⟩
  | .hbm, ⟨75, _⟩ => ⟨S8x4096x8x128, .f32⟩
  | .hbm, ⟨76, _⟩ => ⟨S8x4096x1024, .f32⟩
  | .hbm, ⟨77, _⟩ => ⟨S8x4096x8, .f32⟩
  | .hbm, ⟨78, _⟩ => ⟨S8, .f32⟩
  | .hbm, ⟨79, _⟩ => ⟨S1x1x8, .f32⟩
  | .hbm, ⟨80, _⟩ => ⟨S8x4096x8, .f32⟩
  | .hbm, ⟨81, _⟩ => ⟨S8x4096x8, .f32⟩
  | .hbm, ⟨82, _⟩ => ⟨S8x4096x7168, .f32⟩
  | .hbm, ⟨83, _⟩ => ⟨S8x4096x2048, .f32⟩
  | .hbm, ⟨84, _⟩ => ⟨S_, .f32⟩
  | .hbm, ⟨85, _⟩ => ⟨S8x4096x1024, .f32⟩
  | .hbm, ⟨86, _⟩ => ⟨S8x4096x12288, .f32⟩
  | .hbm, ⟨87, _⟩ => ⟨S_, .i32⟩
  | .hbm, ⟨88, _⟩ => ⟨S_, .f32⟩
  | .hbm, ⟨89, _⟩ => ⟨S8x4096x128, .f32⟩
  | .hbm, ⟨90, _⟩ => ⟨S32768x12288, .f32⟩
  | .hbm, ⟨91, _⟩ => ⟨S32768x12288, .bf16⟩
  | .hbm, ⟨92, _⟩ => ⟨S32768x128, .f32⟩
  | .hbm, ⟨93, _⟩ => ⟨S32768x8, .f32⟩
  | .hbm, ⟨94, _⟩ => ⟨S8x32768, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_3 : Ref sig .tc := ⟨.hbm, 39, rfl⟩
abbrev main_v27 : Ref sig .tc := ⟨.hbm, 40, rfl⟩
abbrev main_v28 : Ref sig .tc := ⟨.hbm, 41, rfl⟩
abbrev main_cst_4 : Ref sig .tc := ⟨.hbm, 42, rfl⟩
abbrev main_v29 : Ref sig .tc := ⟨.hbm, 43, rfl⟩
abbrev main_v30 : Ref sig .tc := ⟨.hbm, 44, rfl⟩
abbrev main_cst_5 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_6 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_7 : Ref sig .tc := ⟨.hbm, 61, rfl⟩
abbrev main_v45 : Ref sig .tc := ⟨.hbm, 62, rfl⟩
abbrev main_v46 : Ref sig .tc := ⟨.hbm, 63, rfl⟩
abbrev main_cst_8 : Ref sig .tc := ⟨.hbm, 64, rfl⟩
abbrev main_v47 : Ref sig .tc := ⟨.hbm, 65, rfl⟩
abbrev main_v48 : Ref sig .tc := ⟨.hbm, 66, rfl⟩
abbrev main_cst_9 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_cst_10 : Ref sig .tc := ⟨.hbm, 84, rfl⟩
abbrev main_v65 : Ref sig .tc := ⟨.hbm, 85, rfl⟩
abbrev main_v66 : Ref sig .tc := ⟨.hbm, 86, rfl⟩
abbrev main_c : Ref sig .tc := ⟨.hbm, 87, rfl⟩
abbrev main_call0_v0 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩

abbrev nD : Nat := 1
abbrev τ : Topo := Topo.v7x

variable {F : FTy → Type} [FloatOps F]
-- ==== Proof.Recur.lean ====
/- The stabilised mLSTM recurrence over the reals, and the rule by which it advances over a chunk of any length. -/
module

public import Idealize.ShloMosaic.Lib.Pointwise

@[expose] public section

noncomputable section

namespace Recur

open Finset

/-- The running sum of the log forget gates before time `T`. -/
def F (lf : ℕ → ℝ) (T : ℕ) : ℝ := ∑ s ∈ range T, lf s

/-- The input gate of time `s` less the forget gates up to and including it. -/
def A (lf ig : ℕ → ℝ) (s : ℕ) : ℝ := ig s - F lf (s + 1)

/-- The running maximum of `A`, with zero at the start: the stabiliser. -/
def G (lf ig : ℕ → ℝ) : ℕ → ℝ
  | 0 => 0
  | t + 1 => max (G lf ig t) (A lf ig t)

/-- The sum over the times before `T` of the weights `w`, each scaled by its gate relative to `g`. -/
def W (lf ig : ℕ → ℝ) (T : ℕ) (g : ℝ) (w : ℕ → ℝ) : ℝ := ∑ s ∈ range T, Real.exp (A lf ig s - g) * w s

/-- The product of the query of time `t` with the key of time `s`. -/
def qk {n : ℕ} (q k : ℕ → Fin n → ℝ) (t s : ℕ) : ℝ := ∑ d, q t d * k s d

/-- The matrix memory before time `T`. -/
def C {n : ℕ} (lf ig : ℕ → ℝ) (k v : ℕ → Fin n → ℝ) (T : ℕ) (d e : Fin n) : ℝ :=
  W lf ig T (G lf ig T) fun s => k s d * v s e

/-- The normaliser before time `T`. -/
def N {n : ℕ} (lf ig : ℕ → ℝ) (k : ℕ → Fin n → ℝ) (T : ℕ) (d : Fin n) : ℝ :=
  W lf ig T (G lf ig T) fun s => k s d

/-- The numerator of the output of time `t`. -/
def num {n : ℕ} (lf ig : ℕ → ℝ) (q k v : ℕ → Fin n → ℝ) (t : ℕ) (e : Fin n) : ℝ :=
  W lf ig (t + 1) (G lf ig (t + 1)) fun s => qk q k t s * v s e

/-- The denominator of the output of time `t`, before it is bounded below. -/
def den {n : ℕ} (lf ig : ℕ → ℝ) (q k : ℕ → Fin n → ℝ) (t : ℕ) : ℝ :=
  W lf ig (t + 1) (G lf ig (t + 1)) fun s => qk q k t s

/-- The output of time `t`. -/
def H {n : ℕ} (lf ig : ℕ → ℝ) (q k v : ℕ → Fin n → ℝ) (t : ℕ) (e : Fin n) : ℝ :=
  num lf ig q k v t e * (1 / max |den lf ig q k t| (Real.exp (-(F lf (t + 1) + G lf ig (t + 1)))))

variable (lf ig : ℕ → ℝ)

/-- The running sum over a prefix of a chunk. -/
theorem F_chunk (T n : ℕ) : F lf (T + n) = F lf T + ∑ s ∈ range n, lf (T + s) := by
  simp only [F, sum_range_add]

/-- The stabiliser never falls. -/
theorem G_mono {s t : ℕ} (h : s ≤ t) : G lf ig s ≤ G lf ig t :=
  monotone_nat_of_le_succ (f := G lf ig) (fun n => le_max_left _ _) h

/-- The stabiliser bounds the gates before it. -/
theorem A_le_G {s t : ℕ} (h : s < t) : A lf ig s ≤ G lf ig t :=
  (le_max_right _ _).trans (G_mono lf ig (Nat.succ_le_of_lt h))

/-- Changing the reference of the scaling multiplies the sum. -/
theorem W_rescale (T : ℕ) (g g' : ℝ) (w : ℕ → ℝ) : Real.exp (g - g') * W lf ig T g w = W lf ig T g' w := by
  simp only [W, mul_sum, ← mul_assoc, ← Real.exp_add]
  refine sum_congr rfl fun s _ => ?_
  congr 2; ring

/-- The sum over a chunk's prefix after the sum before the chunk. -/
theorem W_add (T n : ℕ) (g : ℝ) (w : ℕ → ℝ) :
    W lf ig (T + n) g w = W lf ig T g w + ∑ s ∈ range n, Real.exp (A lf ig (T + s) - g) * w (T + s) := by
  simp only [W, sum_range_add]

/-- A sum over a chunk with the times after `j` masked is the sum over the prefix ending with `j`. -/
theorem sum_masked {L : ℕ} (j : Fin L) (f : ℕ → ℝ) :
    (∑ s : Fin L, if s ≤ j then f s else 0) = ∑ s ∈ range (j + 1), f s := by
  simp only [Fin.le_def]
  rw [Fin.sum_univ_eq_sum_range (fun s => if s ≤ (j : ℕ) then f s else 0) L, ← sum_filter]
  refine sum_congr ?_ fun _ _ => rfl
  ext s
  have := j.isLt
  simp only [mem_filter, mem_range]
  omega

/-- The numerator, from the memory at the chunk's start and the chunk's own times up to `j`. -/
theorem num_chunk {n L : ℕ} (q k v : ℕ → Fin n → ℝ) (T : ℕ) (j : Fin L) (e : Fin n) :
    Real.exp (G lf ig T - G lf ig (T + j + 1)) * (∑ d, q (T + j) d * C lf ig k v T d e)
      + ∑ s : Fin L, (qk q k (T + j) (T + s) * if s ≤ j then Real.exp (A lf ig (T + s) - G lf ig (T + j + 1)) else 0) * v (T + s) e
      = num lf ig q k v (T + j) e := by
  have h1 : (∑ d, q (T + j) d * C lf ig k v T d e) = W lf ig T (G lf ig T) fun s => qk q k (T + j) s * v s e := by
    simp only [C, W, qk, mul_sum, sum_mul]
    rw [sum_comm]
    refine sum_congr rfl fun s _ => sum_congr rfl fun d _ => ?_
    ring
  have h2 : (∑ s : Fin L, (qk q k (T + j) (T + s) * if s ≤ j then Real.exp (A lf ig (T + s) - G lf ig (T + j + 1)) else 0) * v (T + s) e)
      = ∑ s ∈ range (j + 1), Real.exp (A lf ig (T + s) - G lf ig (T + j + 1)) * (qk q k (T + j) (T + s) * v (T + s) e) := by
    rw [← sum_masked j fun s => Real.exp (A lf ig (T + s) - G lf ig (T + j + 1)) * (qk q k (T + j) (T + s) * v (T + s) e)]
    refine sum_congr rfl fun s _ => ?_
    split <;> ring
  rw [h1, h2, W_rescale, num, add_assoc T, W_add]

/-- The denominator, from the normaliser at the chunk's start and the chunk's own times up to `j`. -/
theorem den_chunk {n L : ℕ} (q k : ℕ → Fin n → ℝ) (T : ℕ) (j : Fin L) :
    Real.exp (G lf ig T - G lf ig (T + j + 1)) * (∑ d, q (T + j) d * N lf ig k T d)
      + ∑ s : Fin L, (qk q k (T + j) (T + s) * if s ≤ j then Real.exp (A lf ig (T + s) - G lf ig (T + j + 1)) else 0)
      = den lf ig q k (T + j) := by
  have h1 : (∑ d, q (T + j) d * N lf ig k T d) = W lf ig T (G lf ig T) fun s => qk q k (T + j) s := by
    simp only [N, W, qk, mul_sum]
    rw [sum_comm]
    refine sum_congr rfl fun s _ => sum_congr rfl fun d _ => ?_
    ring
  have h2 : (∑ s : Fin L, (qk q k (T + j) (T + s) * if s ≤ j then Real.exp (A lf ig (T + s) - G lf ig (T + j + 1)) else 0))
      = ∑ s ∈ range (j + 1), Real.exp (A lf ig (T + s) - G lf ig (T + j + 1)) * qk q k (T + j) (T + s) := by
    rw [← sum_masked j fun s => Real.exp (A lf ig (T + s) - G lf ig (T + j + 1)) * qk q k (T + j) (T + s)]
    refine sum_congr rfl fun s _ => ?_
    split <;> ring
  rw [h1, h2, W_rescale, den, add_assoc T, W_add]

/-- Any scaled sum carried over a whole chunk. -/
theorem W_chunk (L T : ℕ) (w : ℕ → ℝ) :
    Real.exp (G lf ig T - G lf ig (T + L)) * W lf ig T (G lf ig T) w
      + ∑ s : Fin L, Real.exp (A lf ig (T + s) - G lf ig (T + L)) * w (T + s)
      = W lf ig (T + L) (G lf ig (T + L)) w := by
  rw [W_rescale, W_add, Fin.sum_univ_eq_sum_range (fun s => Real.exp (A lf ig (T + s) - G lf ig (T + L)) * w (T + s))]

/-- The memory carried over a whole chunk. -/
theorem C_chunk {n : ℕ} (L T : ℕ) (k v : ℕ → Fin n → ℝ) (d e : Fin n) :
    Real.exp (G lf ig T - G lf ig (T + L)) * C lf ig k v T d e
      + ∑ s : Fin L, (k (T + s) d * Real.exp (A lf ig (T + s) - G lf ig (T + L))) * v (T + s) e
      = C lf ig k v (T + L) d e := by
  rw [C, C, ← W_chunk]
  refine congrArg _ (sum_congr rfl fun s _ => ?_)
  ring

/-- The normaliser carried over a whole chunk. -/
theorem N_chunk {n : ℕ} (L T : ℕ) (k : ℕ → Fin n → ℝ) (d : Fin n) :
    Real.exp (G lf ig T - G lf ig (T + L)) * N lf ig k T d
      + ∑ s : Fin L, k (T + s) d * Real.exp (A lf ig (T + s) - G lf ig (T + L))
      = N lf ig k (T + L) d := by
  rw [N, N, ← W_chunk]
  refine congrArg _ (sum_congr rfl fun s _ => ?_)
  ring

/-- The maximum of the stabiliser at the chunk's start with the gates up to `j`, all moved by `c`: the masked gates are `⊥`. -/
theorem max_masked {L : ℕ} (c : ℝ) (T : ℕ) (j : Fin L) :
    max ((c + G lf ig T : ℝ) : EReal)
        (univ.fold max ⊥ fun s : Fin L => if s ≤ j then ((c + A lf ig (T + s) : ℝ) : EReal) else ⊥)
      = ((c + G lf ig (T + j + 1) : ℝ) : EReal) := by
  apply le_antisymm
  · refine max_le ?_ ((fold_max_le _).2 ⟨bot_le, fun s _ => ?_⟩)
    · exact EReal.coe_le_coe_iff.2 (by linarith [G_mono lf ig (show T ≤ T + j + 1 by omega)])
    · split
      · next h =>
        have h' : (s : ℕ) ≤ j := h
        exact EReal.coe_le_coe_iff.2 (by linarith [A_le_G lf ig (show T + s < T + j + 1 by omega)])
      · exact bot_le
  · have key : ∀ n : ℕ, n ≤ (j : ℕ) + 1 → ((c + G lf ig (T + n) : ℝ) : EReal) ≤ max ((c + G lf ig T : ℝ) : EReal)
        (univ.fold max ⊥ fun s : Fin L => if s ≤ j then ((c + A lf ig (T + s) : ℝ) : EReal) else ⊥) := by
      intro n
      induction n with
      | zero => intro _; exact le_max_left _ _
      | succ n ih =>
        intro hn
        have hg : G lf ig (T + (n + 1)) = max (G lf ig (T + n)) (A lf ig (T + n)) := rfl
        rw [hg]
        rcases max_cases (G lf ig (T + n)) (A lf ig (T + n)) with ⟨h, _⟩ | ⟨h, _⟩
        · rw [h]; exact ih (by omega)
        · rw [h]
          refine le_max_of_le_right ((le_fold_max _).2 (.inr ⟨⟨n, by omega⟩, mem_univ _, ?_⟩))
          rw [if_pos (show (⟨n, _⟩ : Fin L) ≤ j from by show n ≤ (j : ℕ); omega)]
    exact key (j + 1) le_rfl

/-- The maximum over all the chunk's gates. -/
theorem max_all (L : ℕ) (c : ℝ) (T : ℕ) :
    max ((c + G lf ig T : ℝ) : EReal) (univ.fold max ⊥ fun s : Fin (L + 1) => ((c + A lf ig (T + s) : ℝ) : EReal))
      = ((c + G lf ig (T + (L + 1)) : ℝ) : EReal) := by
  have h := max_masked lf ig (L := L + 1) c T (Fin.last L)
  simp only [Fin.le_last, if_true, Fin.val_last] at h
  exact h

/-- The greatest of the chunk's stabilisers is the last. -/
theorem max_last (L : ℕ) (c : ℝ) (T : ℕ) :
    (univ.fold max ⊥ fun j : Fin (L + 1) => ((c + G lf ig (T + j + 1) : ℝ) : EReal)) = ((c + G lf ig (T + (L + 1)) : ℝ) : EReal) := by
  apply le_antisymm
  · refine (fold_max_le _).2 ⟨bot_le, fun s _ => ?_⟩
    exact EReal.coe_le_coe_iff.2 (by linarith [G_mono lf ig (show T + s + 1 ≤ T + (L + 1) by omega)])
  · exact (le_fold_max _).2 (.inr ⟨Fin.last L, mem_univ _, le_rfl⟩)

end Recur

end

end
-- ==== Proof.Lift.lean ====
/- Real values of the extended-real operations that the two programs share: sums, the sigmoid in its three spellings, the log sigmoid. -/
module

public import Idealize.ShloMosaic.Lib.Pointwise

@[expose] public section

noncomputable section

namespace Lift

open Idealize.ShloMosaic

/-- The sigmoid. -/
def sg (x : ℝ) : ℝ := (1 + Real.exp (-x))⁻¹

/-- The log sigmoid, in the form that does not overflow. -/
def lsg (x : ℝ) : ℝ := min x 0 - Real.log (1 + Real.exp (-|x|))

/-- The larger of two reals, read as an extended real. -/
theorem coe_max (x y : ℝ) : ((max x y : ℝ) : EReal) = max (x : EReal) y := EReal.coe_strictMono.monotone.map_max

/-- The smaller of two reals, read as an extended real. -/
theorem coe_min (x y : ℝ) : ((min x y : ℝ) : EReal) = min (x : EReal) y := EReal.coe_strictMono.monotone.map_min

/-- A finite sum of reals, read as an extended real, is the sum of the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

/-- An extended real that is neither infinity is a real. -/
theorem coe_toReal_of_abs_lt {x : EReal} (h : max x (-x) < ⊤) : ((x.toReal : ℝ) : EReal) = x := by
  induction x with
  | bot => simp at h
  | top => simp at h
  | coe r => rfl

theorem one_add_exp_pos (x : ℝ) : 0 < 1 + Real.exp x := by positivity

/-- Dividing one by a positive real. -/
theorem div_one_coe {y : ℝ} (h : y ≠ 0) : Ideal.div 1 (y : EReal) = ((y⁻¹ : ℝ) : EReal) := by
  rw [Ideal.div_coe h, one_mul, one_div]

/-- The sigmoid through the natural exponential. -/
theorem sigmoid_exp (x : ℝ) : Ideal.div 1 (1 + Ideal.exp (-(x : EReal))) = (sg x : EReal) := by
  rw [← EReal.coe_neg, Ideal.exp_coe, ← EReal.coe_one, ← EReal.coe_add, EReal.coe_one, div_one_coe (one_add_exp_pos _).ne']
  rfl

/-- The sigmoid through the power of two, the exponent scaled by `-1 / log 2`. -/
theorem sigmoid_exp2 (x : ℝ) :
    Ideal.div 1 (1 + Ideal.exp2 ((x : EReal) * ((-((Real.log 2)⁻¹) : ℝ) : EReal))) = (sg x : EReal) := by
  have h : Real.rpow 2 (x * -((Real.log 2)⁻¹)) = Real.exp (-x) := by
    have h2 : Real.log 2 ≠ 0 := (Real.log_pos (by norm_num)).ne'
    show (2 : ℝ) ^ (x * -((Real.log 2)⁻¹)) = _
    rw [Real.rpow_def_of_pos (by norm_num)]
    congr 1
    field_simp
  rw [← EReal.coe_mul, Ideal.exp2_coe, h, ← EReal.coe_one, ← EReal.coe_add, EReal.coe_one, div_one_coe (one_add_exp_pos _).ne']
  rfl

/-- The logarithm of one plus an exponential. -/
theorem log1p_exp (x : ℝ) : Ideal.log1p (Ideal.exp (x : EReal)) = ((Real.log (1 + Real.exp x) : ℝ) : EReal) := by
  rw [Ideal.log1p, Ideal.exp_coe, ← EReal.coe_one, ← EReal.coe_add, Ideal.log_coe, if_neg (not_le.2 (one_add_exp_pos _))]

/-- The absolute value of a real. -/
theorem coe_abs (x : ℝ) : max (x : EReal) (-(x : EReal)) = ((|x| : ℝ) : EReal) := by
  rw [← EReal.coe_neg, ← coe_max]; rfl

/-- The log sigmoid as the kernel computes it. -/
theorem lsg_min (x : ℝ) : min (x : EReal) 0 - Ideal.log1p (Ideal.exp (0 - max (x : EReal) (-(x : EReal)))) = (lsg x : EReal) := by
  rw [coe_abs, zero_sub, ← EReal.coe_neg, log1p_exp, ← EReal.coe_zero, ← coe_min, ← EReal.coe_sub]
  rfl

/-- The log sigmoid as minus the soft plus of the negated argument. -/
theorem lsg_softplus (x : ℝ) :
    -(max (-(x : EReal)) 0 + Ideal.log1p (Ideal.exp (-(max (-(x : EReal) - 0) (-(-(x : EReal) - 0)))))) = (lsg x : EReal) := by
  rw [sub_zero, ← EReal.coe_neg, coe_abs, ← EReal.coe_neg, log1p_exp, ← EReal.coe_zero, ← coe_max, ← EReal.coe_add, ← EReal.coe_neg]
  congr 1
  rw [lsg, abs_neg]
  rcases le_total x 0 with h | h
  · rw [min_eq_left h, max_eq_left (by linarith)]; ring
  · rw [min_eq_right h, max_eq_right (by linarith)]; ring

end Lift

end

end
-- ==== Proof.KHead.lean ====
/- One head's chunk in the kernel: over real gates, queries, keys and values and the recurrence's state before the chunk,
   the chunk's outputs and the state after it are the recurrence's. Stated for the fourth head's payloads. -/
module

public import Idealize.ShloMosaic.Lib.Pointwise
public import proofs.«01_k».proof.Proof.Gen.KernelIdeal.Skeleton
public import proofs.«01_k».proof.Proof.Recur
public import proofs.«01_k».proof.Proof.Lift

@[expose] public section

set_option maxRecDepth 16384

noncomputable section

namespace KHead

open Idealize.ShloMosaic Idealize.ShloMosaic.TcCoe Idealize.SL.Sem Cert.KernelIdeal Cert.KernelIdeal.Gen Recur

/-- The constant of the masked gates is minus infinity. -/
theorem ofBits_neg_inf : Ideal.ofBits FTy.f32 0xFF800000#32 = (⊥ : EReal) := by
  simp [Ideal.ofBits, Ideal.ieee]

variable (lf ig : ℕ → ℝ) (q k v : ℕ → Fin 256 → ℝ) (T : ℕ)
variable (mask : IVec S256x256 1) (hmask : ∀ j s : Fin 256, mask (ix2 j s) = if s ≤ j then 1#1 else 0#1)
variable (qs ks : FVec Ideal S256x256 .f32) (vs : Vec Ideal S256x256 .bf16) (bc ac : FVec Ideal S256x1 .f32)
variable (ar : FVec Ideal S1x256 .f32) (m : Vec Ideal S1x8x128 .f32) (cs : Vec Ideal S1x256x256 .f32) (ns : Vec Ideal S1x1x256 .f32)
variable (hq : ∀ j d : Fin 256, qs (ix2 j d) = (q (T + j) d : EReal)) (hk : ∀ j d : Fin 256, ks (ix2 j d) = (k (T + j) d : EReal))
variable (hv : ∀ j d : Fin 256, vs (ix2 j d) = (v (T + j) d : EReal))
variable (hb : ∀ j : Fin 256, bc (ix2 j 0) = ((F lf (T + j + 1) - F lf T : ℝ) : EReal))
variable (ha : ∀ s : Fin 256, ac (ix2 s 0) = ((F lf T + A lf ig (T + s) : ℝ) : EReal))
variable (hr : ∀ s : Fin 256, ar (ix2 0 s) = ((F lf T + A lf ig (T + s) : ℝ) : EReal))
variable (hm : m (ix3 0 0 0) = ((F lf T + G lf ig T : ℝ) : EReal))
variable (hc : ∀ d e : Fin 256, cs (ix3 0 d e) = (C lf ig k v T d e : EReal))
variable (hn : ∀ d : Fin 256, ns (ix3 0 0 d) = (N lf ig k T d : EReal))

include hr hmask in
/-- The masked gates. -/
theorem mask_at (j s : Fin 256) :
    k0_pay107 mask ar (ix2 j s) = if s ≤ j then ((F lf T + A lf ig (T + s) : ℝ) : EReal) else ⊥ := by
  pointwise [k0_pay107]
  rw [hmask, hr, ofBits_neg_inf]
  split <;> rfl

include hm in
/-- The stabiliser before the chunk. -/
theorem m_at : k0_pay106 m (ix2 0 0) = ((F lf T + G lf ig T : ℝ) : EReal) := by
  pointwise [k0_pay106]
  exact hm

include hr hmask hm in
/-- The stabiliser inside the chunk. -/
theorem g_at (j : Fin 256) : k0_pay108 mask ar m (ix2 j 0) = ((F lf T + G lf ig (T + j + 1) : ℝ) : EReal) := by
  pointwise [k0_pay108]
  rw [m_at lf ig T m hm, ofBits_neg_inf]
  simp only [mask_at lf ig T mask hmask ar hr]
  exact max_masked lf ig (F lf T) T j

include hr hmask hm in
/-- The factor of the state before the chunk. -/
theorem inter_at (j : Fin 256) :
    k0_pay109 mask ar m (ix2 j 0) = ((Real.exp (G lf ig T - G lf ig (T + j + 1)) : ℝ) : EReal) := by
  pointwise [k0_pay109]
  rw [m_at lf ig T m hm, g_at lf ig T mask hmask ar m hr hm, ← EReal.coe_sub, Ideal.exp_coe, add_sub_add_left_eq_sub]

include hr hmask hm in
/-- The stabiliser after the chunk. -/
theorem glast_at : k0_pay110 mask ar m (ix2 0 0) = ((F lf T + G lf ig (T + 256) : ℝ) : EReal) := by
  pointwise [k0_pay110]
  rw [ofBits_neg_inf]
  simp only [g_at lf ig T mask hmask ar m hr hm]
  exact max_last lf ig 255 (F lf T) T

include hr hmask hm hq hk in
/-- The weights inside the chunk. -/
theorem s_at (j s : Fin 256) :
    k0_pay112 mask qs ks ar m (ix2 j s)
      = ((qk q k (T + j) (T + s) * if s ≤ j then Real.exp (A lf ig (T + s) - G lf ig (T + j + 1)) else 0 : ℝ) : EReal) := by
  pointwise [k0_pay112, k0_pay111]
  rw [mask_at lf ig T mask hmask ar hr, g_at lf ig T mask hmask ar m hr hm]
  simp only [hq, hk]
  have h1 : (∑ x : Fin 256, (q (T + j) x : EReal) * (k (T + s) x : EReal)) = (qk q k (T + j) (T + s) : EReal) := by
    simp only [← EReal.coe_mul, ← Lift.coe_sum]; rfl
  rw [h1, EReal.coe_mul]
  congr 1
  split
  · rw [← EReal.coe_sub, Ideal.exp_coe, add_sub_add_left_eq_sub]
  · rw [sub_eq_add_neg, EReal.bot_add, Ideal.exp_bot]; rfl

include hr hmask hm hq hk hv hc in
/-- The numerator. -/
theorem num_at (j e : Fin 256) :
    k0_pay115 mask qs ks vs ar m cs (ix2 j e) = (num lf ig q k v (T + j) e : EReal) := by
  pointwise [k0_pay115, k0_pay111, k0_pay113]
  rw [inter_at lf ig T mask hmask ar m hr hm]
  simp only [hq, hv, hc, s_at lf ig q k T mask hmask qs ks ar m hq hk hr hm]
  rw [← num_chunk]
  simp only [← EReal.coe_mul, ← Lift.coe_sum, ← EReal.coe_add]

include hr hmask hm hq hk hn in
/-- The denominator before its lower bound. -/
theorem den_at (j : Fin 256) :
    k0_pay116 mask qs ks ar m ns (ix2 j 0) = ((|den lf ig q k (T + j)| : ℝ) : EReal) := by
  pointwise [k0_pay116, k0_pay114]
  rw [inter_at lf ig T mask hmask ar m hr hm]
  simp only [hq, hn, s_at lf ig q k T mask hmask qs ks ar m hq hk hr hm]
  rw [← den_chunk]
  simp only [← EReal.coe_mul, ← Lift.coe_sum, ← EReal.coe_add]
  exact Lift.coe_abs _

include hr hmask hm hq hk hn hv hc hb in
/-- The output of the chunk's times. -/
theorem h_at (j e : Fin 256) :
    k0_pay117 bc (k0_pay108 mask ar m) (k0_pay115 mask qs ks vs ar m cs) (k0_pay116 mask qs ks ar m ns) (ix2 j e)
      = (H lf ig q k v (T + j) e : EReal) := by
  pointwise [k0_pay117]
  rw [num_at lf ig q k v T mask hmask qs ks vs ar m cs hq hk hv hr hm hc, den_at lf ig q k T mask hmask qs ks ar m ns hq hk hr hm hn,
    g_at lf ig T mask hmask ar m hr hm, hb, ← EReal.coe_add, zero_sub, ← EReal.coe_neg, Ideal.exp_coe, ← Lift.coe_max,
    Ideal.div_coe (lt_max_of_lt_right (Real.exp_pos _)).ne', ← EReal.coe_mul]
  congr 1
  rw [H, show F lf (T + j + 1) - F lf T + (F lf T + G lf ig (T + j + 1)) = F lf (T + j + 1) + G lf ig (T + j + 1) by ring]

include hr hmask hm hk hv hc ha in
/-- The matrix memory after the chunk. -/
theorem c_at (d e : Fin 256) :
    k0_pay120 ks vs ac (k0_pay106 m) (k0_pay110 mask ar m) (k0_pay113 cs) (ix3 0 d e) = (C lf ig k v (T + 256) d e : EReal) := by
  pointwise [k0_pay120, k0_pay118, k0_pay119, k0_pay113]
  rw [glast_at lf ig T mask hmask ar m hr hm, m_at lf ig T m hm]
  simp only [hk, hv, hc, ha]
  simp only [← EReal.coe_sub, Ideal.exp_coe, add_sub_add_left_eq_sub, ← EReal.coe_mul, ← Lift.coe_sum, ← EReal.coe_add]
  rw [← C_chunk]

include hr hmask hm hk hn ha in
/-- The normaliser after the chunk. -/
theorem n_at (d : Fin 256) :
    k0_pay121 ks ac (k0_pay106 m) (k0_pay110 mask ar m) (k0_pay114 ns) (ix3 0 0 d) = (N lf ig k (T + 256) d : EReal) := by
  pointwise [k0_pay121, k0_pay118, k0_pay119, k0_pay114]
  rw [glast_at lf ig T mask hmask ar m hr hm, m_at lf ig T m hm]
  simp only [hk, hn, ha]
  simp only [← EReal.coe_sub, Ideal.exp_coe, add_sub_add_left_eq_sub, ← EReal.coe_mul, ← Lift.coe_sum, ← EReal.coe_add]
  rw [← N_chunk]

include hr hmask hm hb in
/-- The stabiliser's state after the chunk. -/
theorem mnew_at (a : Fin 8) (b : Fin 128) :
    k0_pay122 bc (k0_pay110 mask ar m) (ix3 0 a b) = ((F lf (T + 256) + G lf ig (T + 256) : ℝ) : EReal) := by
  pointwise [k0_pay122]
  rw [glast_at lf ig T mask hmask ar m hr hm, hb, ← EReal.coe_add]
  congr 1
  show F lf (T + 255 + 1) - F lf T + (F lf T + G lf ig (T + 256)) = _
  ring

end KHead

end

end
-- ==== Proof.KConv.lean ====
/- The causal convolution of a chunk in the kernel, its sigmoid-weighted unit, and the running sums of the log forget gates,
   over real inputs. -/
module

public import Idealize.ShloMosaic.Lib.Pointwise
public import Idealize.ShloMosaic.Lib.WordCmp
public import proofs.«01_k».proof.Proof.Gen.KernelIdeal.Skeleton
public import proofs.«01_k».proof.Proof.Recur
public import proofs.«01_k».proof.Proof.Lift

@[expose] public section

set_option maxRecDepth 16384

noncomputable section

/-- A signal delayed by `k` steps, zero before its start. -/
def Lift.delay (u : ℕ → ℝ) (k t : ℕ) : ℝ := if k ≤ t then u (t - k) else 0

/-- The convolution of a signal with four taps, the last at the present time, and a bias. -/
def Lift.conv (u : ℕ → ℝ) (w : Fin 4 → ℝ) (b : ℝ) (t : ℕ) : ℝ :=
  b + w 0 * Lift.delay u 3 t + w 1 * Lift.delay u 2 t + w 2 * Lift.delay u 1 t + w 3 * u t

/-- A real times its sigmoid. -/
def Lift.silu (x : ℝ) : ℝ := x * Lift.sg x

namespace KConv

open Idealize.ShloMosaic Idealize.ShloMosaic.TcCoe Idealize.SL.Sem Cert.KernelIdeal Cert.KernelIdeal.Gen Lift

/-- The named constant is minus the reciprocal of the logarithm of two. -/
theorem named_eq : (Named.named (F := Ideal) κ "neg_log2e" (φ := FTy.f32) 0xBFB8AA3B#32) = ((-((Real.log 2)⁻¹) : ℝ) : EReal) := by
  rfl

variable (u : Fin 1024 → ℕ → ℝ) (w : Fin 4 → Fin 1024 → ℝ) (b : Fin 1024 → ℝ) (T : ℕ)
variable (x : Vec Ideal S256x1024 .bf16) (tl : Vec Ideal S8x1024 .f32) (bs w0 w1 w2 w3 : Vec Ideal S1x1024 .f32)
variable (s0 s1 s2 s3 : Vec Ideal S1x256x256 .bf16) (io : IVec S8x1024 32)
variable (hx : ∀ (a : Fin 256) (c : Fin 1024), x (ix2 a c) = (u c (T + a) : EReal))
variable (htl : ∀ (a : Fin 8) (c : Fin 1024), tl (ix2 a c) = (delay (u c) 8 (T + a) : EReal))
variable (hb : ∀ c : Fin 1024, bs (ix2 0 c) = (b c : EReal))
variable (hw0 : ∀ c : Fin 1024, w0 (ix2 0 c) = (w 0 c : EReal)) (hw1 : ∀ c : Fin 1024, w1 (ix2 0 c) = (w 1 c : EReal))
variable (hw2 : ∀ c : Fin 1024, w2 (ix2 0 c) = (w 2 c : EReal)) (hw3 : ∀ c : Fin 1024, w3 (ix2 0 c) = (w 3 c : EReal))
variable (hs0 : ∀ a y : Fin 256, s0 (ix3 0 a y) = if (y : ℕ) + 0 = a then (1 : EReal) else 0)
variable (hs1 : ∀ a y : Fin 256, s1 (ix3 0 a y) = if (y : ℕ) + 1 = a then (1 : EReal) else 0)
variable (hs2 : ∀ a y : Fin 256, s2 (ix3 0 a y) = if (y : ℕ) + 2 = a then (1 : EReal) else 0)
variable (hs3 : ∀ a y : Fin 256, s3 (ix3 0 a y) = if (y : ℕ) + 3 = a then (1 : EReal) else 0)
variable (hio : ∀ (a : Fin 8) (c : Fin 1024), io (ix2 a c) = BitVec.ofNat 32 a)

include hx in
/-- The product with a shift matrix moves the chunk's signal down. -/
theorem shift_at (k : ℕ) (s : Vec Ideal S1x256x256 .bf16)
    (hs : ∀ a y : Fin 256, s (ix3 0 a y) = if (y : ℕ) + k = a then (1 : EReal) else 0) (a : Fin 256) (c : Fin 1024) :
    (∑ y : Fin 256, s (ix3 0 a y) * x (ix2 y c)) = ((if k ≤ a then u c (T + a - k) else 0 : ℝ) : EReal) := by
  simp only [hs, hx, ite_mul, one_mul, zero_mul]
  by_cases h : k ≤ (a : ℕ)
  · rw [if_pos h, Finset.sum_eq_single (⟨(a : ℕ) - k, by omega⟩ : Fin 256)]
    · rw [if_pos (by simp only []; omega)]
      congr 2
      simp only []
      omega
    · intro y _ hy
      rw [if_neg]
      intro hh
      exact hy (Fin.ext (by simp only []; omega))
    · intro hh; exact absurd (Finset.mem_univ _) hh
  · rw [if_neg h]
    refine Finset.sum_eq_zero fun y _ => ?_
    rw [if_neg (by omega)]

/-- The convolution of the chunk's rows alone, the rows before it taken as zero. -/
def inner (a : Fin 256) (c : Fin 1024) : ℝ :=
  b c + w 0 c * (if 3 ≤ (a : ℕ) then u c (T + a - 3) else 0) + w 1 c * (if 2 ≤ (a : ℕ) then u c (T + a - 2) else 0)
    + w 2 c * (if 1 ≤ (a : ℕ) then u c (T + a - 1) else 0) + w 3 c * u c (T + a)

/-- What the first eight rows take from the rows before the chunk. -/
def outer (a : Fin 8) (c : Fin 1024) : ℝ :=
  w 0 c * (if (a : ℕ) < 3 then delay (u c) 3 (T + a) else 0) + w 1 c * (if (a : ℕ) < 2 then delay (u c) 2 (T + a) else 0)
    + w 2 c * (if (a : ℕ) < 1 then delay (u c) 1 (T + a) else 0)

include hx hb hw0 hw1 hw2 hw3 hs0 hs1 hs2 hs3 in
/-- The chunk's rows alone. -/
theorem inner_at (a : Fin 256) (c : Fin 1024) :
    k0_pay14 x (k0_pay11 x bs w0 s3) (k0_pay13 x w1 s2) w2 s1 w3 s0 (ix2 a c) = (inner u w b T a c : EReal) := by
  pointwise [k0_pay14, k0_pay11, k0_pay13]
  rw [shift_at u T x hx 0 s0 hs0, shift_at u T x hx 1 s1 hs1, shift_at u T x hx 2 s2 hs2, shift_at u T x hx 3 s3 hs3,
    hb, hw0, hw1, hw2, hw3]
  simp only [← EReal.coe_mul, ← EReal.coe_add, inner, Nat.zero_le, if_true, Nat.sub_zero]

/-- A select on a row's number below a bound. -/
theorem select_row {α : Type} (a : Fin 8) (k : ℕ) (hk : k < 8) (y z : α) :
    Scalar.select (IntOp.cmpi CmpIPredicate.slt (BitVec.ofNat 32 ↑a) (BitVec.ofNat 32 k)) y z = if (a : ℕ) < k then y else z := by
  rw [WordCmp.cmpi_slt_ofNat (by omega) (by omega), WordCmp.select_ofBool]
  simp

include htl in
/-- The rows before the chunk at the rotated row. -/
theorem tail_at (k : ℕ) (hk : k ≤ 8) (a : Fin 8) (ha : (a : ℕ) < k) (c : Fin 1024) (r : Fin 8) (hr : (r : ℕ) = (a + 8 - k) % 8) :
    tl (ix2 r c) = (delay (u c) k (T + a) : EReal) := by
  rw [htl, delay, delay, hr, Nat.mod_eq_of_lt (by omega)]
  congr 1
  by_cases h : k ≤ T + a
  · rw [if_pos h, if_pos (by omega)]
    congr 1
    omega
  · rw [if_neg h, if_neg (by omega)]

include htl hw0 hw1 hw2 hio in
/-- What the first rows take from the rows before the chunk. -/
theorem outer_at (a : Fin 8) (c : Fin 1024) :
    k0_pay21 io tl (k0_pay19 io tl w0) w1 w2 (ix2 a c) = (outer u w T a c : EReal) := by
  pointwise [k0_pay21, k0_pay19]
  rw [hio]
  have e1 := select_row (α := EReal) a 1 (by omega)
  have e2 := select_row (α := EReal) a 2 (by omega)
  have e3 := select_row (α := EReal) a 3 (by omega)
  simp only [e1, e2, e3, hw0, hw1, hw2]
  have h (k : ℕ) (hk : k ≤ 8) (wr : ℝ) (p) : (if (a : ℕ) < k then (wr : EReal) * tl (ix2 ⟨(a + 8 - k) % 8, p⟩ c) else 0)
      = ((wr * (if (a : ℕ) < k then delay (u c) k (T + a) else 0) : ℝ) : EReal) := by
    split
    · rw [tail_at u T tl htl k hk a ‹_› c _ rfl, EReal.coe_mul]
    · simp
  rw [h 1 (by omega), h 2 (by omega), h 3 (by omega)]
  simp only [← EReal.coe_add, outer]

/-- The two parts make the convolution. -/
theorem inner_outer (a : Fin 8) (c : Fin 1024) :
    inner u w b T ⟨a, by omega⟩ c + outer u w T a c = conv (u c) (fun i => w i c) (b c) (T + a) := by
  have h (k : ℕ) : (if k ≤ (a : ℕ) then u c (T + a - k) else 0) + (if (a : ℕ) < k then delay (u c) k (T + a) else 0)
      = delay (u c) k (T + a) := by
    by_cases hk : k ≤ (a : ℕ)
    · rw [if_pos hk, if_neg (by omega), delay, if_pos (by omega), add_zero]
    · rw [if_neg hk, if_pos (by omega), zero_add]
  simp only [inner, outer, conv]
  linear_combination w 0 c * h 3 + w 1 c * h 2 + w 2 c * h 1

/-- From the ninth row the chunk's rows suffice. -/
theorem inner_late (a : Fin 256) (ha : 8 ≤ (a : ℕ)) (c : Fin 1024) :
    inner u w b T a c = conv (u c) (fun i => w i c) (b c) (T + a) := by
  simp only [inner, conv, delay]
  rw [if_pos (by omega), if_pos (by omega), if_pos (by omega), if_pos (by omega), if_pos (by omega), if_pos (by omega)]

/-- The first rows of the queries are the sum of the two parts. -/
theorem pay16_eq : k0_pay16 (iota .tc S8x1024 32 [0] iota_S8x1024_d0_w32) x tl (k0_pay11 x bs w0 s3) (k0_pay12 tl w0) w1 (k0_pay13 x w1 s2) w2 s1 w3 s0
    = addf (extractStridedSlice S8x1024 ![0, 0] (k0_pay14 x (k0_pay11 x bs w0 s3) (k0_pay13 x w1 s2) w2 s1 w3 s0) slices_S256x1024_o0_0_S8x1024)
        (k0_pay21 (iota .tc S8x1024 32 [0] iota_S8x1024_d0_w32) tl (k0_pay19 (iota .tc S8x1024 32 [0] iota_S8x1024_d0_w32) tl w0) w1 w2) := rfl

/-- The chunk's rows alone of the keys, in the spelling of the queries. -/
theorem pay22_eq : k0_pay22 x (k0_pay18 x bs w0 s3) w1 (k0_pay20 x s2) w2 s1 w3 s0
    = k0_pay14 x (k0_pay11 x bs w0 s3) (k0_pay13 x w1 s2) w2 s1 w3 s0 := rfl

/-- The sigmoid-weighted unit of a real. -/
theorem silu_eq (y : ℝ) : (y : EReal) * Ideal.div 1 (1 + FloatOps.exp2 (F := Ideal) (φ := FTy.f32) ((y : EReal) * Named.named (F := Ideal) κ "neg_log2e" (φ := FTy.f32) 0xBFB8AA3B#32))
    = (silu y : EReal) := by
  rw [named_eq]
  exact (congrArg _ (sigmoid_exp2 y)).trans (EReal.coe_mul _ _).symm

include hx htl hb hw0 hw1 hw2 hw3 hs0 hs1 hs2 hs3 in
/-- The queries' rows: the unit of the convolution. -/
theorem q_at (a : Fin 256) (c : Fin 1024) :
    k0_pay17 (k0_pay14 x (k0_pay11 x bs w0 s3) (k0_pay13 x w1 s2) w2 s1 w3 s0)
        (k0_pay16 (iota .tc S8x1024 32 [0] iota_S8x1024_d0_w32) x tl (k0_pay11 x bs w0 s3) (k0_pay12 tl w0) w1 (k0_pay13 x w1 s2) w2 s1 w3 s0) (ix2 a c)
      = (silu (conv (u c) (fun i => w i c) (b c) (T + a)) : EReal) := by
  have hio : ∀ (a : Fin 8) (c : Fin 1024), (iota .tc S8x1024 32 [0] iota_S8x1024_d0_w32) (ix2 a c) = BitVec.ofNat 32 a := by
    intro a c
    pointwise []
  rw [pay16_eq]
  pointwise [k0_pay17]
  by_cases h : (a : ℕ) < 8
  · simp only [dif_pos h]
    have e := inner_at u w b T x bs w0 w1 w2 w3 s0 s1 s2 s3 hx hb hw0 hw1 hw2 hw3 hs0 hs1 hs2 hs3 a c
    have e' := outer_at u w T tl w0 w1 w2 _ htl hw0 hw1 hw2 hio ⟨a, h⟩ c
    rw [e, e', ← EReal.coe_add, inner_outer u w b T ⟨a, h⟩ c]
    exact silu_eq _
  · simp only [dif_neg h]
    have e := inner_at u w b T x bs w0 w1 w2 w3 s0 s1 s2 s3 hx hb hw0 hw1 hw2 hw3 hs0 hs1 hs2 hs3 ⟨8 + (a - 8), by omega⟩ c
    rw [e, inner_late u w b T _ (by simp) c]
    simp only [show 8 + ((a : ℕ) - 8) = a by omega]
    exact silu_eq _

include hx htl hb hw0 hw1 hw2 hw3 hs0 hs1 hs2 hs3 hio in
/-- The keys' rows: a sixteenth of the unit of the convolution. -/
theorem k_at (a : Fin 256) (c : Fin 1024) :
    k0_pay24 (k0_pay21 io tl (k0_pay19 io tl w0) w1 w2) (k0_pay22 x (k0_pay18 x bs w0 s3) w1 (k0_pay20 x s2) w2 s1 w3 s0) (ix2 a c)
      = ((silu (conv (u c) (fun i => w i c) (b c) (T + a)) * (1 / 16) : ℝ) : EReal) := by
  rw [pay22_eq]
  pointwise [k0_pay24]
  have h16 : Ideal.ofBits FTy.f32 0x3D800000#32 = ((1 / 16 : ℝ) : EReal) := by
    simp [Ideal.ofBits, Ideal.ieee]
    rw [← EReal.coe_mul]
    norm_num
  rw [h16, EReal.coe_mul]
  congr 1
  by_cases h : (a : ℕ) < 8
  · simp only [dif_pos h]
    have e := inner_at u w b T x bs w0 w1 w2 w3 s0 s1 s2 s3 hx hb hw0 hw1 hw2 hw3 hs0 hs1 hs2 hs3 a c
    have e' := outer_at u w T tl w0 w1 w2 _ htl hw0 hw1 hw2 hio ⟨a, h⟩ c
    rw [e, e', ← EReal.coe_add, inner_outer u w b T ⟨a, h⟩ c]
    exact silu_eq _
  · simp only [dif_neg h]
    have e := inner_at u w b T x bs w0 w1 w2 w3 s0 s1 s2 s3 hx hb hw0 hw1 hw2 hw3 hs0 hs1 hs2 hs3 ⟨8 + (a - 8), by omega⟩ c
    rw [e, inner_late u w b T _ (by simp) c]
    simp only [show 8 + ((a : ℕ) - 8) = a by omega]
    exact silu_eq _

include hx in
/-- The rows the next chunk takes. -/
theorem tail_next (a : Fin 8) (c : Fin 1024) : k0_pay15 x (ix2 a c) = (delay (u c) 8 (T + 256 + a) : EReal) := by
  pointwise [k0_pay15]
  rw [hx, delay, if_pos (by omega)]
  congr 2
  simp only []
  omega

/-- A bit read as a float. -/
theorem bit_at (p : Prop) [Decidable p] : FloatOps.sitofp (F := Ideal) FTy.f32 (BitVec.setWidth 32 (BitVec.ofBool (decide p))) = if p then (1 : EReal) else 0 := by
  have h1 : FloatOps.sitofp (F := Ideal) FTy.f32 1#32 = (1 : EReal) := by
    show (((1#32).toInt : ℝ) : EReal) = 1
    simp
  have h0 : FloatOps.sitofp (F := Ideal) FTy.f32 0#32 = (0 : EReal) := by
    show (((0#32).toInt : ℝ) : EReal) = 0
    simp
  by_cases h : p
  · simpa [h] using h1
  · simpa [h] using h0

/-- An entry of a shift matrix. -/
theorem shift_bit (k : ℕ) (hk : k < 256) (a y : Fin 256) :
    FloatOps.sitofp (F := Ideal) FTy.f32 (BitVec.setWidth 32 (IntOp.cmpi CmpIPredicate.eq (BitVec.ofNat 32 ↑y) (IntOp.subi (BitVec.ofNat 32 ↑a) (BitVec.ofNat 32 k))))
      = if (y : ℕ) + k = a then (1 : EReal) else 0 := by
  rw [WordCmp.cmpi_eq_eq_toNat, bit_at]
  refine if_congr ?_ rfl rfl
  show (BitVec.ofNat 32 ↑y).toNat = (BitVec.ofNat 32 ↑a - BitVec.ofNat 32 k).toNat ↔ _
  rw [BitVec.toNat_sub, BitVec.toNat_ofNat, BitVec.toNat_ofNat, BitVec.toNat_ofNat]
  omega

/-- The shift matrix of no step. -/
theorem s0_at (a y : Fin 256) : k0_pay6 (F := Ideal) (iota .tc S256x256 32 [0] iota_S256x256_d0_w32) (iota .tc S256x256 32 [1] iota_S256x256_d1_w32) (ix3 0 a y)
    = if (y : ℕ) + 0 = a then (1 : EReal) else 0 := by
  pointwise [k0_pay6]
  exact shift_bit 0 (by omega) a y

/-- The shift matrix of one step. -/
theorem s1_at (a y : Fin 256) : k0_pay8 (F := Ideal) (k0_pay7 (iota .tc S256x256 32 [0] iota_S256x256_d0_w32)) (ix3 0 a y)
    = if (y : ℕ) + 1 = a then (1 : EReal) else 0 := by
  pointwise [k0_pay8, k0_pay7]
  exact shift_bit 1 (by omega) a y

/-- The shift matrix of two steps. -/
theorem s2_at (a y : Fin 256) : k0_pay9 (F := Ideal) (ix3 0 a y) = if (y : ℕ) + 2 = a then (1 : EReal) else 0 := by
  pointwise [k0_pay9]
  exact shift_bit 2 (by omega) a y

/-- The shift matrix of three steps. -/
theorem s3_at (a y : Fin 256) : k0_pay10 (F := Ideal) (ix3 0 a y) = if (y : ℕ) + 3 = a then (1 : EReal) else 0 := by
  pointwise [k0_pay10]
  exact shift_bit 3 (by omega) a y

/-- The causal mask. -/
theorem mask_at (j s : Fin 256) : k0_pay25 (iota .tc S256x256 32 [0] iota_S256x256_d0_w32) (iota .tc S256x256 32 [1] iota_S256x256_d1_w32) (ix2 j s)
    = if s ≤ j then 1#1 else 0#1 := by
  pointwise [k0_pay25]
  rw [WordCmp.cmpi_sle_ofNat (by omega) (by omega)]
  by_cases h : s ≤ j
  · rw [if_pos h, decide_eq_true (Fin.le_def.1 h)]; rfl
  · rw [if_neg h, decide_eq_false (fun hh => h (Fin.le_def.2 hh))]; rfl

/-- The running sum inside a chunk, as a masked sum. -/
theorem sum_gates (lf : ℕ → ℝ) (j : Fin 256) :
    (∑ s : Fin 256, if s ≤ j then (lf (T + s) : EReal) else 0) = ((Recur.F lf (T + j + 1) - Recur.F lf T : ℝ) : EReal) := by
  have h : Recur.F lf (T + j + 1) - Recur.F lf T = ∑ s : Fin 256, if s ≤ j then lf (T + s) else 0 := by
    rw [Recur.sum_masked j fun s => lf (T + s), add_assoc, Recur.F_chunk, add_sub_cancel_left]
  rw [h, coe_sum]
  refine Finset.sum_congr rfl fun s _ => ?_
  split <;> rfl

/-- The running sums of the log forget gates, times down. -/
theorem bcol_at (g : Vec Ideal S256x128 .f32) (f : ℕ → ℝ) (l : Fin 128) (hg : ∀ j : Fin 256, g (ix2 j l) = (f (T + j) : EReal)) (j : Fin 256) :
    k0_pay27 (iota .tc S256x256 32 [0] iota_S256x256_d0_w32) (iota .tc S256x256 32 [1] iota_S256x256_d1_w32) g (ix2 j l)
      = ((Recur.F (fun t => lsg (f t)) (T + j + 1) - Recur.F (fun t => lsg (f t)) T : ℝ) : EReal) := by
  pointwise [k0_pay27]
  rw [← sum_gates T (fun t => lsg (f t)) j]
  refine Finset.sum_congr rfl fun s _ => ?_
  have hm : k0_pay25 (iota .tc S256x256 32 [0] iota_S256x256_d0_w32) (iota .tc S256x256 32 [1] iota_S256x256_d1_w32) (ix2 j s)
      = BitVec.ofBool (decide (s ≤ j)) := by
    rw [mask_at]; by_cases h : s ≤ j <;> simp [h]
  have e := lsg_min (f (T + s))
  simp only [Ideal.absf_def] at e ⊢
  rw [hg, hm, bit_at, e]
  split <;> simp

/-- The running sums of the log forget gates, times across. -/
theorem brow_at (g : Vec Ideal S8x256 .f32) (f : ℕ → ℝ) (l : Fin 8) (hg : ∀ j : Fin 256, g (ix2 l j) = (f (T + j) : EReal)) (j : Fin 256) :
    k0_pay28 (iota .tc S256x256 32 [0] iota_S256x256_d0_w32) (iota .tc S256x256 32 [1] iota_S256x256_d1_w32) g (ix2 l j)
      = ((Recur.F (fun t => lsg (f t)) (T + j + 1) - Recur.F (fun t => lsg (f t)) T : ℝ) : EReal) := by
  pointwise [k0_pay28, k0_pay26]
  rw [← sum_gates T (fun t => lsg (f t)) j]
  refine Finset.sum_congr rfl fun s _ => ?_
  have e := lsg_min (f (T + s))
  simp only [Ideal.absf_def] at e ⊢
  rw [hg, WordCmp.cmpi_sle_ofNat (by omega) (by omega), bit_at, e]
  simp only [Fin.le_def]
  split <;> simp

end KConv

end

end
-- ==== Proof.KChunk.lean ====
/- A chunk of one batch in the kernel, over the blocks it reads: queries, keys and gates from the blocks, then each head's
   state and output. -/
module

public import Idealize.ShloMosaic.Lib.Pointwise
public import Idealize.ShloMosaic.Lib.Pipeline.ValueKit
public import proofs.«01_k».proof.Proof.KHead
public import proofs.«01_k».proof.Proof.KConv

@[expose] public section

set_option maxRecDepth 16384

noncomputable section

namespace Lift

open Idealize.ShloMosaic

/-- Column `d` of head `h` among the heads' 1024 columns. -/
def col (h : Fin 4) (d : Fin 256) : Fin 1024 := ⟨256 * h + d, by omega⟩

/-- The inputs of one batch as reals: the two convolved projections, the values, the two gates, the taps and their biases. -/
structure Batch where
  uq : Fin 1024 → ℕ → ℝ
  uk : Fin 1024 → ℕ → ℝ
  uv : Fin 1024 → ℕ → ℝ
  gi : Fin 4 → ℕ → ℝ
  gf : Fin 4 → ℕ → ℝ
  cw : Fin 4 → Fin 2048 → ℝ
  cb : Fin 2048 → ℝ

variable (B : Batch) (h : Fin 4)

/-- Channel `c` of the queries' half of the convolution. -/
def lo (c : Fin 1024) : Fin 2048 := ⟨c, by omega⟩

/-- Channel `c` of the keys' half of the convolution. -/
def hi (c : Fin 1024) : Fin 2048 := ⟨1024 + c, by omega⟩

/-- All the queries. -/
def Batch.qa (t : ℕ) (c : Fin 1024) : ℝ := silu (conv (B.uq c) (fun i => B.cw i (lo c)) (B.cb (lo c)) t)

/-- All the keys. -/
def Batch.ka (t : ℕ) (c : Fin 1024) : ℝ := silu (conv (B.uk c) (fun i => B.cw i (hi c)) (B.cb (hi c)) t) * (1 / 16)

/-- A head's queries. -/
def Batch.q (t : ℕ) (d : Fin 256) : ℝ := B.qa t (col h d)

/-- A head's keys. -/
def Batch.k (t : ℕ) (d : Fin 256) : ℝ := B.ka t (col h d)

/-- A head's values. -/
def Batch.v (t : ℕ) (d : Fin 256) : ℝ := B.uv (col h d) t

/-- A head's log forget gates. -/
def Batch.lf (t : ℕ) : ℝ := lsg (B.gf h t)

/-- A head's input gates. -/
def Batch.ig (t : ℕ) : ℝ := B.gi h t

/-- A head's output row, normalised, weighted and gated: `o` the output gate's row, `H` the head's output, `w` the weight and `z` the
    gate at the column. -/
def post (o H : Fin 256 → ℝ) (w : EReal) (z : ℝ) (e : Fin 256) : EReal :=
  ((sg (o e) * H e : ℝ) : EReal)
      * Ideal.rsqrt (Ideal.div (∑ x, ((sg (o x) * H x : ℝ) : EReal) * ((sg (o x) * H x : ℝ) : EReal)) (Ideal.ofBits FTy.f32 0x43800000#32)
          + Ideal.ofBits FTy.f32 0x358637BD#32)
      * w * (silu z : EReal)

end Lift

namespace KChunk

open Idealize.ShloMosaic Idealize.ShloMosaic.TcCoe Idealize.SL.Sem Cert.KernelIdeal Cert.KernelIdeal.Gen Lift Recur

/-- The chunk's queries from its blocks. -/
abbrev QV (x : Vec Ideal S256x1024 .bf16) (tl : Vec Ideal S8x1024 .f32) (X7 : Vec Ideal S4x2048 .f32) (X8 : Vec Ideal S1x2048 .f32)
    (s0 s1 s2 s3 : Vec Ideal S1x256x256 .bf16) : FVec Ideal S256x1024 .f32 :=
  k0_pay17 (k0_pay14 x (k0_pay11 x (View.ld X8 (Rect.unit (s := S1x2048) ![0, 0] S1x1024.size inb_S1x2048_S1x1024_0_0))
      (View.ld X7 (Rect.unit (s := S4x2048) ![0, 0] S1x1024.size inb_S4x2048_S1x1024_0_0)) s3)
      (k0_pay13 x (View.ld X7 (Rect.unit (s := S4x2048) ![1, 0] S1x1024.size inb_S4x2048_S1x1024_1_0)) s2)
      (View.ld X7 (Rect.unit (s := S4x2048) ![2, 0] S1x1024.size inb_S4x2048_S1x1024_2_0)) s1
      (View.ld X7 (Rect.unit (s := S4x2048) ![3, 0] S1x1024.size inb_S4x2048_S1x1024_3_0)) s0)
    (k0_pay16 (iota .tc S8x1024 32 [0] iota_S8x1024_d0_w32) x tl
      (k0_pay11 x (View.ld X8 (Rect.unit (s := S1x2048) ![0, 0] S1x1024.size inb_S1x2048_S1x1024_0_0))
        (View.ld X7 (Rect.unit (s := S4x2048) ![0, 0] S1x1024.size inb_S4x2048_S1x1024_0_0)) s3)
      (k0_pay12 tl (View.ld X7 (Rect.unit (s := S4x2048) ![0, 0] S1x1024.size inb_S4x2048_S1x1024_0_0)))
      (View.ld X7 (Rect.unit (s := S4x2048) ![1, 0] S1x1024.size inb_S4x2048_S1x1024_1_0))
      (k0_pay13 x (View.ld X7 (Rect.unit (s := S4x2048) ![1, 0] S1x1024.size inb_S4x2048_S1x1024_1_0)) s2)
      (View.ld X7 (Rect.unit (s := S4x2048) ![2, 0] S1x1024.size inb_S4x2048_S1x1024_2_0)) s1
      (View.ld X7 (Rect.unit (s := S4x2048) ![3, 0] S1x1024.size inb_S4x2048_S1x1024_3_0)) s0)

/-- The chunk's keys from its blocks. -/
abbrev KV (x : Vec Ideal S256x1024 .bf16) (tl : Vec Ideal S8x1024 .f32) (X7 : Vec Ideal S4x2048 .f32) (X8 : Vec Ideal S1x2048 .f32)
    (s0 s1 s2 s3 : Vec Ideal S1x256x256 .bf16) : FVec Ideal S256x1024 .f32 :=
  k0_pay24 (k0_pay21 (iota .tc S8x1024 32 [0] iota_S8x1024_d0_w32) tl
      (k0_pay19 (iota .tc S8x1024 32 [0] iota_S8x1024_d0_w32) tl (View.ld X7 (Rect.unit (s := S4x2048) ![0, 1024] S1x1024.size inb_S4x2048_S1x1024_0_1024)))
      (View.ld X7 (Rect.unit (s := S4x2048) ![1, 1024] S1x1024.size inb_S4x2048_S1x1024_1_1024))
      (View.ld X7 (Rect.unit (s := S4x2048) ![2, 1024] S1x1024.size inb_S4x2048_S1x1024_2_1024)))
    (k0_pay22 x (k0_pay18 x (View.ld X8 (Rect.unit (s := S1x2048) ![0, 1024] S1x1024.size inb_S1x2048_S1x1024_0_1024))
        (View.ld X7 (Rect.unit (s := S4x2048) ![0, 1024] S1x1024.size inb_S4x2048_S1x1024_0_1024)) s3)
      (View.ld X7 (Rect.unit (s := S4x2048) ![1, 1024] S1x1024.size inb_S4x2048_S1x1024_1_1024)) (k0_pay20 x s2)
      (View.ld X7 (Rect.unit (s := S4x2048) ![2, 1024] S1x1024.size inb_S4x2048_S1x1024_2_1024)) s1
      (View.ld X7 (Rect.unit (s := S4x2048) ![3, 1024] S1x1024.size inb_S4x2048_S1x1024_3_1024)) s0)

/-- The causal mask. -/
abbrev MK : IVec S256x256 1 := k0_pay25 (iota .tc S256x256 32 [0] iota_S256x256_d0_w32) (iota .tc S256x256 32 [1] iota_S256x256_d1_w32)

/-- The running sums of the log forget gates, times down. -/
abbrev BC (X5 : Vec Ideal S256x128 .f32) : FVec Ideal S256x128 .f32 :=
  k0_pay27 (iota .tc S256x256 32 [0] iota_S256x256_d0_w32) (iota .tc S256x256 32 [1] iota_S256x256_d1_w32) X5

/-- The running sums of the log forget gates, times across. -/
abbrev BR (X6 : Vec Ideal S8x256 .f32) : FVec Ideal S8x256 .f32 :=
  k0_pay28 (iota .tc S256x256 32 [0] iota_S256x256_d0_w32) (iota .tc S256x256 32 [1] iota_S256x256_d1_w32) X6

/-- The blocks of the chunk that starts at time `T` hold the batch's inputs, the rows before the chunk and the shift matrices. -/
structure Ok (B : Batch) (T : ℕ) (X0 X1 X2 : Vec Ideal S256x1024 .bf16) (X5 : Vec Ideal S256x128 .f32) (X6 : Vec Ideal S8x256 .f32)
    (X7 : Vec Ideal S4x2048 .f32) (X8 : Vec Ideal S1x2048 .f32) (tq tk : Vec Ideal S8x1024 .f32) (s0 s1 s2 s3 : Vec Ideal S1x256x256 .bf16) : Prop where
  x0 : ∀ (a : Fin 256) (c : Fin 1024), X0 (ix2 a c) = (B.uq c (T + a) : EReal)
  x1 : ∀ (a : Fin 256) (c : Fin 1024), X1 (ix2 a c) = (B.uk c (T + a) : EReal)
  x2 : ∀ (a : Fin 256) (c : Fin 1024), X2 (ix2 a c) = (B.uv c (T + a) : EReal)
  x5i : ∀ (a : Fin 256) (h : Fin 4), X5 (ix2 a ⟨h, by omega⟩) = (B.gi h (T + a) : EReal)
  x5f : ∀ (a : Fin 256) (h : Fin 4), X5 (ix2 a ⟨4 + h, by omega⟩) = (B.gf h (T + a) : EReal)
  x6i : ∀ (a : Fin 256) (h : Fin 4), X6 (ix2 ⟨h, by omega⟩ a) = (B.gi h (T + a) : EReal)
  x6f : ∀ (a : Fin 256) (h : Fin 4), X6 (ix2 ⟨4 + h, by omega⟩ a) = (B.gf h (T + a) : EReal)
  x7 : ∀ (i : Fin 4) (c : Fin 2048), X7 (ix2 i c) = (B.cw i c : EReal)
  x8 : ∀ c : Fin 2048, X8 (ix2 0 c) = (B.cb c : EReal)
  tq : ∀ (a : Fin 8) (c : Fin 1024), tq (ix2 a c) = (delay (B.uq c) 8 (T + a) : EReal)
  tk : ∀ (a : Fin 8) (c : Fin 1024), tk (ix2 a c) = (delay (B.uk c) 8 (T + a) : EReal)
  s0 : ∀ a y : Fin 256, s0 (ix3 0 a y) = if (y : ℕ) + 0 = a then (1 : EReal) else 0
  s1 : ∀ a y : Fin 256, s1 (ix3 0 a y) = if (y : ℕ) + 1 = a then (1 : EReal) else 0
  s2 : ∀ a y : Fin 256, s2 (ix3 0 a y) = if (y : ℕ) + 2 = a then (1 : EReal) else 0
  s3 : ∀ a y : Fin 256, s3 (ix3 0 a y) = if (y : ℕ) + 3 = a then (1 : EReal) else 0

variable {B : Batch} {T : ℕ} {X0 X1 X2 : Vec Ideal S256x1024 .bf16} {X5 : Vec Ideal S256x128 .f32} {X6 : Vec Ideal S8x256 .f32}
variable {X7 : Vec Ideal S4x2048 .f32} {X8 : Vec Ideal S1x2048 .f32} {tq tk : Vec Ideal S8x1024 .f32} {s0 s1 s2 s3 : Vec Ideal S1x256x256 .bf16}
variable (O : Ok B T X0 X1 X2 X5 X6 X7 X8 tq tk s0 s1 s2 s3)

include O in
/-- The chunk's queries. -/
theorem q_at (a : Fin 256) (c : Fin 1024) : QV X0 tq X7 X8 s0 s1 s2 s3 (ix2 a c) = (B.qa (T + a) c : EReal) := by
  refine KConv.q_at B.uq (fun i c => B.cw i (lo c)) (fun c => B.cb (lo c)) T X0 tq _ _ _ _ _ s0 s1 s2 s3 O.x0 O.tq
    ?_ ?_ ?_ ?_ ?_ O.s0 O.s1 O.s2 O.s3 a c
  · intro c; rw [← O.x8 (lo c)]; pointwise []; rfl
  · intro c; rw [← O.x7 0 (lo c)]; pointwise []; rfl
  · intro c; rw [← O.x7 1 (lo c)]; pointwise []; rfl
  · intro c; rw [← O.x7 2 (lo c)]; pointwise []; rfl
  · intro c; rw [← O.x7 3 (lo c)]; pointwise []; rfl

include O in
/-- The chunk's keys. -/
theorem k_at (a : Fin 256) (c : Fin 1024) : KV X1 tk X7 X8 s0 s1 s2 s3 (ix2 a c) = (B.ka (T + a) c : EReal) := by
  refine KConv.k_at B.uk (fun i c => B.cw i (hi c)) (fun c => B.cb (hi c)) T X1 tk _ _ _ _ _ s0 s1 s2 s3 _ O.x1 O.tk
    ?_ ?_ ?_ ?_ ?_ O.s0 O.s1 O.s2 O.s3 ?_ a c
  · intro c; rw [← O.x8 (hi c)]; pointwise []; rfl
  · intro c; rw [← O.x7 0 (hi c)]; pointwise []; rfl
  · intro c; rw [← O.x7 1 (hi c)]; pointwise []; rfl
  · intro c; rw [← O.x7 2 (hi c)]; pointwise []; rfl
  · intro c; rw [← O.x7 3 (hi c)]; pointwise []; rfl
  · intro a c; pointwise []

include O in
/-- The running sums of head `h`, times down. -/
theorem bc_at (h : Fin 4) (j : Fin 256) :
    BC X5 (ix2 j ⟨4 + h, by omega⟩) = ((F (B.lf h) (T + j + 1) - F (B.lf h) T : ℝ) : EReal) :=
  KConv.bcol_at T X5 (B.gf h) _ (fun j => O.x5f j h) j

include O in
/-- The running sums of head `h`, times across. -/
theorem br_at (h : Fin 4) (j : Fin 256) :
    BR X6 (ix2 ⟨4 + h, by omega⟩ j) = ((F (B.lf h) (T + j + 1) - F (B.lf h) T : ℝ) : EReal) :=
  KConv.brow_at T X6 (B.gf h) _ (fun j => O.x6f j h) j

/-- A head's slices of the chunk hold the head's inputs. -/
structure Hd (B : Batch) (h : Fin 4) (T : ℕ) (qs ks : FVec Ideal S256x256 .f32) (vs : Vec Ideal S256x256 .bf16) (bc ac : FVec Ideal S256x1 .f32)
    (ar : FVec Ideal S1x256 .f32) : Prop where
  hq : ∀ j d : Fin 256, qs (ix2 j d) = (B.q h (T + j) d : EReal)
  hk : ∀ j d : Fin 256, ks (ix2 j d) = (B.k h (T + j) d : EReal)
  hv : ∀ j d : Fin 256, vs (ix2 j d) = (B.v h (T + j) d : EReal)
  hb : ∀ j : Fin 256, bc (ix2 j 0) = ((F (B.lf h) (T + j + 1) - F (B.lf h) T : ℝ) : EReal)
  ha : ∀ s : Fin 256, ac (ix2 s 0) = ((F (B.lf h) T + A (B.lf h) (B.ig h) (T + s) : ℝ) : EReal)
  hr : ∀ s : Fin 256, ar (ix2 0 s) = ((F (B.lf h) T + A (B.lf h) (B.ig h) (T + s) : ℝ) : EReal)

/-- A head's state before time `T`. -/
structure St (B : Batch) (h : Fin 4) (T : ℕ) (m : Vec Ideal S1x8x128 .f32) (cs : Vec Ideal S1x256x256 .f32) (ns : Vec Ideal S1x1x256 .f32) : Prop where
  hm : m (ix3 0 0 0) = ((F (B.lf h) T + G (B.lf h) (B.ig h) T : ℝ) : EReal)
  hc : ∀ d e : Fin 256, cs (ix3 0 d e) = (C (B.lf h) (B.ig h) (B.k h) (B.v h) T d e : EReal)
  hn : ∀ d : Fin 256, ns (ix3 0 0 d) = (N (B.lf h) (B.ig h) (B.k h) T d : EReal)

/-- The gates less their running sums, as reals. -/
theorem gate_sub (lf ig : ℕ → ℝ) (T s : ℕ) :
    ((ig (T + s) : ℝ) : EReal) - ((F lf (T + s + 1) - F lf T : ℝ) : EReal) = ((F lf T + A lf ig (T + s) : ℝ) : EReal) := by
  rw [← EReal.coe_sub]; congr 1; rw [A]; ring

include O in
/-- Head 0's slices. -/
theorem hd0 : Hd B 0 T
    (extractStridedSlice S256x256 ![0, 0] (QV X0 tq X7 X8 s0 s1 s2 s3) slices_S256x1024_o0_0_S256x256)
    (extractStridedSlice S256x256 ![0, 0] (KV X1 tk X7 X8 s0 s1 s2 s3) slices_S256x1024_o0_0_S256x256)
    (View.ld X2 (Rect.unit (s := S256x1024) ![0, 0] S256x256.size inb_S256x1024_S256x256_0_0))
    (extractStridedSlice S256x1 ![0, 4] (BC X5) slices_S256x128_o0_4_S256x1)
    (subf (extractStridedSlice S256x1 ![0, 0] X5 slices_S256x128_o0_0_S256x1)
      (extractStridedSlice S256x1 ![0, 4] (BC X5) slices_S256x128_o0_4_S256x1))
    (subf (extractStridedSlice S1x256 ![0, 0] (k0_pay26 X6) slices_S8x256_o0_0_S1x256)
      (extractStridedSlice S1x256 ![4, 0] (BR X6) slices_S8x256_o4_0_S1x256)) where
  hq j d := (by pointwise []; exact congrArg (fun c => QV X0 tq X7 X8 s0 s1 s2 s3 (ix2 j c)) (Fin.ext (by simp [col])) : _ = QV X0 tq X7 X8 s0 s1 s2 s3 (ix2 j (col 0 d))).trans (q_at O j _)
  hk j d := (by pointwise []; exact congrArg (fun c => KV X1 tk X7 X8 s0 s1 s2 s3 (ix2 j c)) (Fin.ext (by simp [col])) : _ = KV X1 tk X7 X8 s0 s1 s2 s3 (ix2 j (col 0 d))).trans (k_at O j _)
  hv j d := (by pointwise []; exact congrArg (fun c => X2 (ix2 j c)) (Fin.ext (by simp [col])) : _ = X2 (ix2 j (col 0 d))).trans (O.x2 j _)
  hb j := (by pointwise [] : _ = BC X5 (ix2 j ⟨4 + (0 : Fin 4), by omega⟩)).trans (bc_at O 0 j)
  ha j := (by pointwise [] : _ = X5 (ix2 j ⟨(0 : Fin 4), by omega⟩) - BC X5 (ix2 j ⟨4 + (0 : Fin 4), by omega⟩)).trans
    (by rw [O.x5i j 0, bc_at O 0 j]; exact gate_sub (B.lf 0) (B.ig 0) T j)
  hr j := (by pointwise [k0_pay26] : _ = X6 (ix2 ⟨(0 : Fin 4), by omega⟩ j) - BR X6 (ix2 ⟨4 + (0 : Fin 4), by omega⟩ j)).trans
    (by rw [O.x6i j 0, br_at O 0 j]; exact gate_sub (B.lf 0) (B.ig 0) T j)

include O in
/-- Head 1's slices. -/
theorem hd1 : Hd B 1 T
    (extractStridedSlice S256x256 ![0, 256] (QV X0 tq X7 X8 s0 s1 s2 s3) slices_S256x1024_o0_256_S256x256)
    (extractStridedSlice S256x256 ![0, 256] (KV X1 tk X7 X8 s0 s1 s2 s3) slices_S256x1024_o0_256_S256x256)
    (View.ld X2 (Rect.unit (s := S256x1024) ![0, 256] S256x256.size inb_S256x1024_S256x256_0_256))
    (extractStridedSlice S256x1 ![0, 5] (BC X5) slices_S256x128_o0_5_S256x1)
    (subf (extractStridedSlice S256x1 ![0, 1] X5 slices_S256x128_o0_1_S256x1)
      (extractStridedSlice S256x1 ![0, 5] (BC X5) slices_S256x128_o0_5_S256x1))
    (subf (extractStridedSlice S1x256 ![1, 0] (k0_pay26 X6) slices_S8x256_o1_0_S1x256)
      (extractStridedSlice S1x256 ![5, 0] (BR X6) slices_S8x256_o5_0_S1x256)) where
  hq j d := (by pointwise []; rfl : _ = QV X0 tq X7 X8 s0 s1 s2 s3 (ix2 j (col 1 d))).trans (q_at O j _)
  hk j d := (by pointwise []; rfl : _ = KV X1 tk X7 X8 s0 s1 s2 s3 (ix2 j (col 1 d))).trans (k_at O j _)
  hv j d := (by pointwise []; rfl : _ = X2 (ix2 j (col 1 d))).trans (O.x2 j _)
  hb j := (by pointwise [] : _ = BC X5 (ix2 j ⟨4 + (1 : Fin 4), by omega⟩)).trans (bc_at O 1 j)
  ha j := (by pointwise [] : _ = X5 (ix2 j ⟨(1 : Fin 4), by omega⟩) - BC X5 (ix2 j ⟨4 + (1 : Fin 4), by omega⟩)).trans
    (by rw [O.x5i j 1, bc_at O 1 j]; exact gate_sub (B.lf 1) (B.ig 1) T j)
  hr j := (by pointwise [k0_pay26] : _ = X6 (ix2 ⟨(1 : Fin 4), by omega⟩ j) - BR X6 (ix2 ⟨4 + (1 : Fin 4), by omega⟩ j)).trans
    (by rw [O.x6i j 1, br_at O 1 j]; exact gate_sub (B.lf 1) (B.ig 1) T j)

include O in
/-- Head 2's slices. -/
theorem hd2 : Hd B 2 T
    (extractStridedSlice S256x256 ![0, 512] (QV X0 tq X7 X8 s0 s1 s2 s3) slices_S256x1024_o0_512_S256x256)
    (extractStridedSlice S256x256 ![0, 512] (KV X1 tk X7 X8 s0 s1 s2 s3) slices_S256x1024_o0_512_S256x256)
    (View.ld X2 (Rect.unit (s := S256x1024) ![0, 512] S256x256.size inb_S256x1024_S256x256_0_512))
    (extractStridedSlice S256x1 ![0, 6] (BC X5) slices_S256x128_o0_6_S256x1)
    (subf (extractStridedSlice S256x1 ![0, 2] X5 slices_S256x128_o0_2_S256x1)
      (extractStridedSlice S256x1 ![0, 6] (BC X5) slices_S256x128_o0_6_S256x1))
    (subf (extractStridedSlice S1x256 ![2, 0] (k0_pay26 X6) slices_S8x256_o2_0_S1x256)
      (extractStridedSlice S1x256 ![6, 0] (BR X6) slices_S8x256_o6_0_S1x256)) where
  hq j d := (by pointwise []; rfl : _ = QV X0 tq X7 X8 s0 s1 s2 s3 (ix2 j (col 2 d))).trans (q_at O j _)
  hk j d := (by pointwise []; rfl : _ = KV X1 tk X7 X8 s0 s1 s2 s3 (ix2 j (col 2 d))).trans (k_at O j _)
  hv j d := (by pointwise []; rfl : _ = X2 (ix2 j (col 2 d))).trans (O.x2 j _)
  hb j := (by pointwise [] : _ = BC X5 (ix2 j ⟨4 + (2 : Fin 4), by omega⟩)).trans (bc_at O 2 j)
  ha j := (by pointwise [] : _ = X5 (ix2 j ⟨(2 : Fin 4), by omega⟩) - BC X5 (ix2 j ⟨4 + (2 : Fin 4), by omega⟩)).trans
    (by rw [O.x5i j 2, bc_at O 2 j]; exact gate_sub (B.lf 2) (B.ig 2) T j)
  hr j := (by pointwise [k0_pay26] : _ = X6 (ix2 ⟨(2 : Fin 4), by omega⟩ j) - BR X6 (ix2 ⟨4 + (2 : Fin 4), by omega⟩ j)).trans
    (by rw [O.x6i j 2, br_at O 2 j]; exact gate_sub (B.lf 2) (B.ig 2) T j)

include O in
/-- Head 3's slices. -/
theorem hd3 : Hd B 3 T
    (extractStridedSlice S256x256 ![0, 768] (QV X0 tq X7 X8 s0 s1 s2 s3) slices_S256x1024_o0_768_S256x256)
    (extractStridedSlice S256x256 ![0, 768] (KV X1 tk X7 X8 s0 s1 s2 s3) slices_S256x1024_o0_768_S256x256)
    (View.ld X2 (Rect.unit (s := S256x1024) ![0, 768] S256x256.size inb_S256x1024_S256x256_0_768))
    (extractStridedSlice S256x1 ![0, 7] (BC X5) slices_S256x128_o0_7_S256x1)
    (subf (extractStridedSlice S256x1 ![0, 3] X5 slices_S256x128_o0_3_S256x1)
      (extractStridedSlice S256x1 ![0, 7] (BC X5) slices_S256x128_o0_7_S256x1))
    (subf (extractStridedSlice S1x256 ![3, 0] (k0_pay26 X6) slices_S8x256_o3_0_S1x256)
      (extractStridedSlice S1x256 ![7, 0] (BR X6) slices_S8x256_o7_0_S1x256)) where
  hq j d := (by pointwise []; rfl : _ = QV X0 tq X7 X8 s0 s1 s2 s3 (ix2 j (col 3 d))).trans (q_at O j _)
  hk j d := (by pointwise []; rfl : _ = KV X1 tk X7 X8 s0 s1 s2 s3 (ix2 j (col 3 d))).trans (k_at O j _)
  hv j d := (by pointwise []; rfl : _ = X2 (ix2 j (col 3 d))).trans (O.x2 j _)
  hb j := (by pointwise [] : _ = BC X5 (ix2 j ⟨4 + (3 : Fin 4), by omega⟩)).trans (bc_at O 3 j)
  ha j := (by pointwise [] : _ = X5 (ix2 j ⟨(3 : Fin 4), by omega⟩) - BC X5 (ix2 j ⟨4 + (3 : Fin 4), by omega⟩)).trans
    (by rw [O.x5i j 3, bc_at O 3 j]; exact gate_sub (B.lf 3) (B.ig 3) T j)
  hr j := (by pointwise [k0_pay26] : _ = X6 (ix2 ⟨(3 : Fin 4), by omega⟩ j) - BR X6 (ix2 ⟨4 + (3 : Fin 4), by omega⟩ j)).trans
    (by rw [O.x6i j 3, br_at O 3 j]; exact gate_sub (B.lf 3) (B.ig 3) T j)

variable {h : Fin 4} {qs ks : FVec Ideal S256x256 .f32} {vs : Vec Ideal S256x256 .bf16} {bc ac : FVec Ideal S256x1 .f32}
variable {ar : FVec Ideal S1x256 .f32} {m : Vec Ideal S1x8x128 .f32} {cs : Vec Ideal S1x256x256 .f32} {ns : Vec Ideal S1x1x256 .f32}
variable (D : Hd B h T qs ks vs bc ac ar) (S : St B h T m cs ns)

include D S in
/-- A head's next stabiliser. -/
theorem m_next (a : Fin 8) (b : Fin 128) :
    k0_pay122 bc (k0_pay110 MK ar m) (ix3 0 a b) = ((F (B.lf h) (T + 256) + G (B.lf h) (B.ig h) (T + 256) : ℝ) : EReal) :=
  KHead.mnew_at (lf := B.lf h) (ig := B.ig h) (T := T) (mask := MK) (hmask := KConv.mask_at) (bc := bc) (ar := ar) (m := m) (hb := D.hb) (hr := D.hr)
    (hm := S.hm) a b

include D S in
/-- A head's next matrix state. -/
theorem c_next (d e : Fin 256) :
    k0_pay120 ks vs ac (k0_pay106 m) (k0_pay110 MK ar m) (k0_pay113 cs) (ix3 0 d e)
      = (C (B.lf h) (B.ig h) (B.k h) (B.v h) (T + 256) d e : EReal) :=
  KHead.c_at (lf := B.lf h) (ig := B.ig h) (k := B.k h) (v := B.v h) (T := T) (mask := MK) (hmask := KConv.mask_at) (ks := ks) (vs := vs) (ac := ac)
    (ar := ar) (m := m) (cs := cs) (hk := D.hk) (hv := D.hv) (ha := D.ha) (hr := D.hr) (hm := S.hm) (hc := S.hc) d e

include D S in
/-- A head's next vector state. -/
theorem n_next (d : Fin 256) :
    k0_pay121 ks ac (k0_pay106 m) (k0_pay110 MK ar m) (k0_pay114 ns) (ix3 0 0 d)
      = (N (B.lf h) (B.ig h) (B.k h) (T + 256) d : EReal) :=
  KHead.n_at (lf := B.lf h) (ig := B.ig h) (k := B.k h) (T := T) (mask := MK) (hmask := KConv.mask_at) (ks := ks) (ac := ac)
    (ar := ar) (m := m) (ns := ns) (hk := D.hk) (ha := D.ha) (hr := D.hr) (hm := S.hm) (hn := S.hn) d

include D S in
/-- A head's output block: normalised, weighted and gated. -/
theorem out_at (om zm : Vec Ideal S256x256 .bf16) (w : Vec Ideal S1x256 .f32) (o z : Fin 256 → Fin 256 → ℝ)
    (ho : ∀ a x, om (ix2 a x) = (o a x : EReal)) (hz : ∀ a x, zm (ix2 a x) = (z a x : EReal)) (a e : Fin 256) :
    k0_pay124 (k0_pay117 bc (k0_pay108 MK ar m) (k0_pay115 MK qs ks vs ar m cs) (k0_pay116 MK qs ks ar m ns)) (k0_pay123 om) w zm (ix2 a e)
      = post (o a) (H (B.lf h) (B.ig h) (B.q h) (B.k h) (B.v h) (T + a)) (w (ix2 0 e)) (z a e) e := by
  have hh := fun x => KHead.h_at (lf := B.lf h) (ig := B.ig h) (q := B.q h) (k := B.k h) (v := B.v h) (T := T) (mask := MK) (hmask := KConv.mask_at)
    (qs := qs) (ks := ks) (vs := vs) (bc := bc) (ar := ar) (m := m) (cs := cs) (ns := ns) (hq := D.hq) (hk := D.hk) (hv := D.hv) (hb := D.hb)
    (hr := D.hr) (hm := S.hm) (hc := S.hc) (hn := S.hn) a x
  have hg : ∀ x : Fin 256, Ideal.div 1 (1 + FloatOps.exp2 (F := Ideal) (φ := FTy.f32) ((o a x : EReal) * Named.named (F := Ideal) κ "neg_log2e" (φ := FTy.f32) 0xBFB8AA3B#32))
      * (H (B.lf h) (B.ig h) (B.q h) (B.k h) (B.v h) (T + a) x : EReal)
      = ((sg (o a x) * H (B.lf h) (B.ig h) (B.q h) (B.k h) (B.v h) (T + a) x : ℝ) : EReal) := by
    intro x
    exact (congrArg (· * _) (sigmoid_exp2 (o a x))).trans (EReal.coe_mul _ _).symm
  pointwise [k0_pay124, k0_pay123]
  simp only [hh, ho, hz, hg]
  rw [KConv.silu_eq]
  rfl

include D S in
/-- A head's next stabiliser, at any index of its tile. -/
theorem m_next' (x : S1x8x128.Idx) :
    k0_pay122 bc (k0_pay110 MK ar m) x = ((F (B.lf h) (T + 256) + G (B.lf h) (B.ig h) (T + 256) : ℝ) : EReal) := by
  idx_vars x
  obtain rfl : x0 = 0 := Subsingleton.elim _ _
  exact m_next D S _ _

include D S in
/-- A head's next matrix state, at any index of its tile. -/
theorem c_next' (x : S1x256x256.Idx) (d e : Fin 256) (hd : (d : ℕ) = x 1) (he : (e : ℕ) = x 2) :
    k0_pay120 ks vs ac (k0_pay106 m) (k0_pay110 MK ar m) (k0_pay113 cs) x = (C (B.lf h) (B.ig h) (B.k h) (B.v h) (T + 256) d e : EReal) := by
  idx_vars x
  obtain rfl : x0 = 0 := Subsingleton.elim _ _
  obtain rfl : d = x1 := Fin.ext hd
  obtain rfl : e = x2 := Fin.ext he
  exact c_next D S _ _

include D S in
/-- A head's next vector state, at any index of its tile. -/
theorem n_next' (x : S1x1x256.Idx) (d : Fin 256) (hd : (d : ℕ) = x 2) :
    k0_pay121 ks ac (k0_pay106 m) (k0_pay110 MK ar m) (k0_pay114 ns) x = (N (B.lf h) (B.ig h) (B.k h) (T + 256) d : EReal) := by
  idx_vars x
  obtain rfl : x0 = 0 := Subsingleton.elim _ _
  obtain rfl : x1 = 0 := Subsingleton.elim _ _
  obtain rfl : d = x2 := Fin.ext hd
  exact n_next D S _

/-- What the kernel holds between two chunks, the next starting at time `T`: the heads' states, the last rows and the shift matrices. -/
structure Inv (B : Batch) (T : ℕ) (cv : Vec Ideal S4x256x256 .f32) (nv : Vec Ideal S4x1x256 .f32) (mv : Vec Ideal S4x8x128 .f32)
    (tq tk : Vec Ideal S8x1024 .f32) (sh : Vec Ideal S4x256x256 .bf16) : Prop where
  c : ∀ (h : Fin 4) (d e : Fin 256), cv (ix3 h d e) = (C (B.lf h) (B.ig h) (B.k h) (B.v h) T d e : EReal)
  n : ∀ (h : Fin 4) (d : Fin 256), nv (ix3 h 0 d) = (N (B.lf h) (B.ig h) (B.k h) T d : EReal)
  m : ∀ (h : Fin 4) (a : Fin 8) (b : Fin 128), mv (ix3 h a b) = ((F (B.lf h) T + G (B.lf h) (B.ig h) T : ℝ) : EReal)
  tq : ∀ (a : Fin 8) (c : Fin 1024), tq (ix2 a c) = (delay (B.uq c) 8 (T + a) : EReal)
  tk : ∀ (a : Fin 8) (c : Fin 1024), tk (ix2 a c) = (delay (B.uk c) 8 (T + a) : EReal)
  sh : ∀ (k : Fin 4) (a y : Fin 256), sh (ix3 k a y) = if (y : ℕ) + k = a then (1 : EReal) else 0

/-- The blocks of the chunk that starts at time `T` hold the batch's inputs. -/
structure Blk (B : Batch) (T : ℕ) (X0 X1 X2 : Vec Ideal S256x1024 .bf16) (X5 : Vec Ideal S256x128 .f32) (X6 : Vec Ideal S8x256 .f32)
    (X7 : Vec Ideal S4x2048 .f32) (X8 : Vec Ideal S1x2048 .f32) : Prop where
  x0 : ∀ (a : Fin 256) (c : Fin 1024), X0 (ix2 a c) = (B.uq c (T + a) : EReal)
  x1 : ∀ (a : Fin 256) (c : Fin 1024), X1 (ix2 a c) = (B.uk c (T + a) : EReal)
  x2 : ∀ (a : Fin 256) (c : Fin 1024), X2 (ix2 a c) = (B.uv c (T + a) : EReal)
  x5i : ∀ (a : Fin 256) (h : Fin 4), X5 (ix2 a ⟨h, by omega⟩) = (B.gi h (T + a) : EReal)
  x5f : ∀ (a : Fin 256) (h : Fin 4), X5 (ix2 a ⟨4 + h, by omega⟩) = (B.gf h (T + a) : EReal)
  x6i : ∀ (a : Fin 256) (h : Fin 4), X6 (ix2 ⟨h, by omega⟩ a) = (B.gi h (T + a) : EReal)
  x6f : ∀ (a : Fin 256) (h : Fin 4), X6 (ix2 ⟨4 + h, by omega⟩ a) = (B.gf h (T + a) : EReal)
  x7 : ∀ (i : Fin 4) (c : Fin 2048), X7 (ix2 i c) = (B.cw i c : EReal)
  x8 : ∀ c : Fin 2048, X8 (ix2 0 c) = (B.cb c : EReal)

variable {cv : Vec Ideal S4x256x256 .f32} {nv : Vec Ideal S4x1x256 .f32} {mv : Vec Ideal S4x8x128 .f32} {sh : Vec Ideal S4x256x256 .bf16}

/-- A chunk after another: the blocks, and what the chunk before left. -/
theorem ok_of_inv (K : Blk B T X0 X1 X2 X5 X6 X7 X8) (I : Inv B T cv nv mv tq tk sh) : Ok B T X0 X1 X2 X5 X6 X7 X8 tq tk
    (View.ld sh (Rect.unit (s := S4x256x256) ![0, 0, 0] S1x256x256.size inb_S4x256x256_S1x256x256_0_0_0))
    (View.ld sh (Rect.unit (s := S4x256x256) ![1, 0, 0] S1x256x256.size inb_S4x256x256_S1x256x256_1_0_0))
    (View.ld sh (Rect.unit (s := S4x256x256) ![2, 0, 0] S1x256x256.size inb_S4x256x256_S1x256x256_2_0_0))
    (View.ld sh (Rect.unit (s := S4x256x256) ![3, 0, 0] S1x256x256.size inb_S4x256x256_S1x256x256_3_0_0)) where
  x0 := K.x0
  x1 := K.x1
  x2 := K.x2
  x5i := K.x5i
  x5f := K.x5f
  x6i := K.x6i
  x6f := K.x6f
  x7 := K.x7
  x8 := K.x8
  tq := I.tq
  tk := I.tk
  s0 a y := (by pointwise [] : _ = sh (ix3 0 a y)).trans (I.sh 0 a y)
  s1 a y := (by pointwise [] : _ = sh (ix3 1 a y)).trans (I.sh 1 a y)
  s2 a y := (by pointwise [] : _ = sh (ix3 2 a y)).trans (I.sh 2 a y)
  s3 a y := (by pointwise [] : _ = sh (ix3 3 a y)).trans (I.sh 3 a y)

/-- The first chunk of a batch: the blocks, no rows before, and the shift matrices just made. -/
theorem ok_first (K : Blk B 0 X0 X1 X2 X5 X6 X7 X8) : Ok B 0 X0 X1 X2 X5 X6 X7 X8
    (broadcast S8x1024 (Scalar.ofBits (F := Ideal) .f32 0x00000000#32)) (broadcast S8x1024 (Scalar.ofBits (F := Ideal) .f32 0x00000000#32))
    (k0_pay6 (F := Ideal) (iota .tc S256x256 32 [0] iota_S256x256_d0_w32) (iota .tc S256x256 32 [1] iota_S256x256_d1_w32))
    (k0_pay8 (F := Ideal) (k0_pay7 (iota .tc S256x256 32 [0] iota_S256x256_d0_w32)))
    (k0_pay9 (F := Ideal))
    (k0_pay10 (F := Ideal)) where
  x0 := K.x0
  x1 := K.x1
  x2 := K.x2
  x5i := K.x5i
  x5f := K.x5f
  x6i := K.x6i
  x6f := K.x6f
  x7 := K.x7
  x8 := K.x8
  tq a c := by pointwise []; rw [delay, if_neg (by omega)]; simp
  tk a c := by pointwise []; rw [delay, if_neg (by omega)]; simp
  s0 := KConv.s0_at
  s1 := KConv.s1_at
  s2 := KConv.s2_at
  s3 := KConv.s3_at

/-- A batch's first state. -/
theorem st_first (h : Fin 4) (hm : m (ix3 0 0 0) = 0) (hc : ∀ d e, cs (ix3 0 d e) = 0) (hn : ∀ d, ns (ix3 0 0 d) = 0) : St B h 0 m cs ns where
  hm := by rw [hm]; simp [F, G]
  hc d e := by rw [hc]; simp [C, W]
  hn d := by rw [hn]; simp [N, W]

/-- Head 0's state before a chunk. -/
theorem st0 (I : Inv B T cv nv mv tq tk sh) : St B 0 T
    (View.ld mv (Rect.unit (s := S4x8x128) ![0, 0, 0] S1x8x128.size inb_S4x8x128_S1x8x128_0_0_0))
    (View.ld cv (Rect.unit (s := S4x256x256) ![0, 0, 0] S1x256x256.size inb_S4x256x256_S1x256x256_0_0_0))
    (View.ld nv (Rect.unit (s := S4x1x256) ![0, 0, 0] S1x1x256.size inb_S4x1x256_S1x1x256_0_0_0)) where
  hm := by rw [← I.m 0 0 0]; pointwise []
  hc d e := by rw [← I.c 0 d e]; pointwise []
  hn d := by rw [← I.n 0 d]; pointwise []

/-- Head 1's state before a chunk. -/
theorem st1 (I : Inv B T cv nv mv tq tk sh) : St B 1 T
    (View.ld mv (Rect.unit (s := S4x8x128) ![1, 0, 0] S1x8x128.size inb_S4x8x128_S1x8x128_1_0_0))
    (View.ld cv (Rect.unit (s := S4x256x256) ![1, 0, 0] S1x256x256.size inb_S4x256x256_S1x256x256_1_0_0))
    (View.ld nv (Rect.unit (s := S4x1x256) ![1, 0, 0] S1x1x256.size inb_S4x1x256_S1x1x256_1_0_0)) where
  hm := by rw [← I.m 1 0 0]; pointwise []
  hc d e := by rw [← I.c 1 d e]; pointwise []
  hn d := by rw [← I.n 1 d]; pointwise []

/-- Head 2's state before a chunk. -/
theorem st2 (I : Inv B T cv nv mv tq tk sh) : St B 2 T
    (View.ld mv (Rect.unit (s := S4x8x128) ![2, 0, 0] S1x8x128.size inb_S4x8x128_S1x8x128_2_0_0))
    (View.ld cv (Rect.unit (s := S4x256x256) ![2, 0, 0] S1x256x256.size inb_S4x256x256_S1x256x256_2_0_0))
    (View.ld nv (Rect.unit (s := S4x1x256) ![2, 0, 0] S1x1x256.size inb_S4x1x256_S1x1x256_2_0_0)) where
  hm := by rw [← I.m 2 0 0]; pointwise []
  hc d e := by rw [← I.c 2 d e]; pointwise []
  hn d := by rw [← I.n 2 d]; pointwise []

/-- Head 3's state before a chunk. -/
theorem st3 (I : Inv B T cv nv mv tq tk sh) : St B 3 T
    (View.ld mv (Rect.unit (s := S4x8x128) ![3, 0, 0] S1x8x128.size inb_S4x8x128_S1x8x128_3_0_0))
    (View.ld cv (Rect.unit (s := S4x256x256) ![3, 0, 0] S1x256x256.size inb_S4x256x256_S1x256x256_3_0_0))
    (View.ld nv (Rect.unit (s := S4x1x256) ![3, 0, 0] S1x1x256.size inb_S4x1x256_S1x1x256_3_0_0)) where
  hm := by rw [← I.m 3 0 0]; pointwise []
  hc d e := by rw [← I.c 3 d e]; pointwise []
  hn d := by rw [← I.n 3 d]; pointwise []

include O in
/-- Head 0's output block, at any index of its tile. -/
theorem out0 (S : St B 0 T m cs ns) (X3 X4 : Vec Ideal S256x1024 .bf16) (X9 : Vec Ideal S1x1024 .f32) (o z : ℕ → Fin 1024 → ℝ) (w : Fin 1024 → EReal)
    (h4 : ∀ (a : Fin 256) (c : Fin 1024), X4 (ix2 a c) = (o (T + a) c : EReal)) (h3 : ∀ (a : Fin 256) (c : Fin 1024), X3 (ix2 a c) = (z (T + a) c : EReal))
    (h9 : ∀ c, X9 (ix2 0 c) = w c) (x : S256x256.Idx) (a e : Fin 256) (ha : (a : ℕ) = x 0) (he : (e : ℕ) = x 1) :
    k0_pay124 (k0_pay117 (extractStridedSlice S256x1 ![0, 4] (BC X5) slices_S256x128_o0_4_S256x1)
        (k0_pay108 MK (subf (extractStridedSlice S1x256 ![0, 0] (k0_pay26 X6) slices_S8x256_o0_0_S1x256)
          (extractStridedSlice S1x256 ![4, 0] (BR X6) slices_S8x256_o4_0_S1x256)) m)
        (k0_pay115 MK (extractStridedSlice S256x256 ![0, 0] (QV X0 tq X7 X8 s0 s1 s2 s3) slices_S256x1024_o0_0_S256x256)
          (extractStridedSlice S256x256 ![0, 0] (KV X1 tk X7 X8 s0 s1 s2 s3) slices_S256x1024_o0_0_S256x256)
          (View.ld X2 (Rect.unit (s := S256x1024) ![0, 0] S256x256.size inb_S256x1024_S256x256_0_0))
          (subf (extractStridedSlice S1x256 ![0, 0] (k0_pay26 X6) slices_S8x256_o0_0_S1x256)
            (extractStridedSlice S1x256 ![4, 0] (BR X6) slices_S8x256_o4_0_S1x256)) m cs)
        (k0_pay116 MK (extractStridedSlice S256x256 ![0, 0] (QV X0 tq X7 X8 s0 s1 s2 s3) slices_S256x1024_o0_0_S256x256)
          (extractStridedSlice S256x256 ![0, 0] (KV X1 tk X7 X8 s0 s1 s2 s3) slices_S256x1024_o0_0_S256x256)
          (subf (extractStridedSlice S1x256 ![0, 0] (k0_pay26 X6) slices_S8x256_o0_0_S1x256)
            (extractStridedSlice S1x256 ![4, 0] (BR X6) slices_S8x256_o4_0_S1x256)) m ns))
      (k0_pay123 (View.ld X4 (Rect.unit (s := S256x1024) ![0, 0] S256x256.size inb_S256x1024_S256x256_0_0)))
      (View.ld X9 (Rect.unit (s := S1x1024) ![0, 0] S1x256.size inb_S1x1024_S1x256_0_0))
      (View.ld X3 (Rect.unit (s := S256x1024) ![0, 0] S256x256.size inb_S256x1024_S256x256_0_0)) x
      = post (fun y => o (T + a) (col 0 y)) (H (B.lf 0) (B.ig 0) (B.q 0) (B.k 0) (B.v 0) (T + a)) (w (col 0 e)) (z (T + a) (col 0 e)) e := by
  idx_vars x
  obtain rfl : a = x0 := Fin.ext ha
  obtain rfl : e = x1 := Fin.ext he
  have e9 : (View.ld X9 (Rect.unit (s := S1x1024) ![0, 0] S1x256.size inb_S1x1024_S1x256_0_0)) (ix2 0 e) = w (col 0 e) :=
    (by pointwise []; exact congrArg (fun c => X9 (ix2 0 c)) (Fin.ext (by simp [col])) : _ = X9 (ix2 0 (col 0 e))).trans (h9 _)
  rw [← e9]
  exact out_at (hd0 O) S _ _ _ (fun a y => o (T + a) (col 0 y)) (fun a y => z (T + a) (col 0 y))
    (fun a y => (by pointwise []; exact congrArg (fun c => X4 (ix2 a c)) (Fin.ext (by simp [col])) : _ = X4 (ix2 a (col 0 y))).trans (h4 a _))
    (fun a y => (by pointwise []; exact congrArg (fun c => X3 (ix2 a c)) (Fin.ext (by simp [col])) : _ = X3 (ix2 a (col 0 y))).trans (h3 a _)) a e

include O in
/-- Head 1's output block, at any index of its tile. -/
theorem out1 (S : St B 1 T m cs ns) (X3 X4 : Vec Ideal S256x1024 .bf16) (X9 : Vec Ideal S1x1024 .f32) (o z : ℕ → Fin 1024 → ℝ) (w : Fin 1024 → EReal)
    (h4 : ∀ (a : Fin 256) (c : Fin 1024), X4 (ix2 a c) = (o (T + a) c : EReal)) (h3 : ∀ (a : Fin 256) (c : Fin 1024), X3 (ix2 a c) = (z (T + a) c : EReal))
    (h9 : ∀ c, X9 (ix2 0 c) = w c) (x : S256x256.Idx) (a e : Fin 256) (ha : (a : ℕ) = x 0) (he : (e : ℕ) = x 1) :
    k0_pay124 (k0_pay117 (extractStridedSlice S256x1 ![0, 5] (BC X5) slices_S256x128_o0_5_S256x1)
        (k0_pay108 MK (subf (extractStridedSlice S1x256 ![1, 0] (k0_pay26 X6) slices_S8x256_o1_0_S1x256)
          (extractStridedSlice S1x256 ![5, 0] (BR X6) slices_S8x256_o5_0_S1x256)) m)
        (k0_pay115 MK (extractStridedSlice S256x256 ![0, 256] (QV X0 tq X7 X8 s0 s1 s2 s3) slices_S256x1024_o0_256_S256x256)
          (extractStridedSlice S256x256 ![0, 256] (KV X1 tk X7 X8 s0 s1 s2 s3) slices_S256x1024_o0_256_S256x256)
          (View.ld X2 (Rect.unit (s := S256x1024) ![0, 256] S256x256.size inb_S256x1024_S256x256_0_256))
          (subf (extractStridedSlice S1x256 ![1, 0] (k0_pay26 X6) slices_S8x256_o1_0_S1x256)
            (extractStridedSlice S1x256 ![5, 0] (BR X6) slices_S8x256_o5_0_S1x256)) m cs)
        (k0_pay116 MK (extractStridedSlice S256x256 ![0, 256] (QV X0 tq X7 X8 s0 s1 s2 s3) slices_S256x1024_o0_256_S256x256)
          (extractStridedSlice S256x256 ![0, 256] (KV X1 tk X7 X8 s0 s1 s2 s3) slices_S256x1024_o0_256_S256x256)
          (subf (extractStridedSlice S1x256 ![1, 0] (k0_pay26 X6) slices_S8x256_o1_0_S1x256)
            (extractStridedSlice S1x256 ![5, 0] (BR X6) slices_S8x256_o5_0_S1x256)) m ns))
      (k0_pay123 (View.ld X4 (Rect.unit (s := S256x1024) ![0, 256] S256x256.size inb_S256x1024_S256x256_0_256)))
      (View.ld X9 (Rect.unit (s := S1x1024) ![0, 256] S1x256.size inb_S1x1024_S1x256_0_256))
      (View.ld X3 (Rect.unit (s := S256x1024) ![0, 256] S256x256.size inb_S256x1024_S256x256_0_256)) x
      = post (fun y => o (T + a) (col 1 y)) (H (B.lf 1) (B.ig 1) (B.q 1) (B.k 1) (B.v 1) (T + a)) (w (col 1 e)) (z (T + a) (col 1 e)) e := by
  idx_vars x
  obtain rfl : a = x0 := Fin.ext ha
  obtain rfl : e = x1 := Fin.ext he
  have e9 : (View.ld X9 (Rect.unit (s := S1x1024) ![0, 256] S1x256.size inb_S1x1024_S1x256_0_256)) (ix2 0 e) = w (col 1 e) :=
    (by pointwise []; rfl : _ = X9 (ix2 0 (col 1 e))).trans (h9 _)
  rw [← e9]
  exact out_at (hd1 O) S _ _ _ (fun a y => o (T + a) (col 1 y)) (fun a y => z (T + a) (col 1 y))
    (fun a y => (by pointwise []; rfl : _ = X4 (ix2 a (col 1 y))).trans (h4 a _))
    (fun a y => (by pointwise []; rfl : _ = X3 (ix2 a (col 1 y))).trans (h3 a _)) a e

include O in
/-- Head 2's output block, at any index of its tile. -/
theorem out2 (S : St B 2 T m cs ns) (X3 X4 : Vec Ideal S256x1024 .bf16) (X9 : Vec Ideal S1x1024 .f32) (o z : ℕ → Fin 1024 → ℝ) (w : Fin 1024 → EReal)
    (h4 : ∀ (a : Fin 256) (c : Fin 1024), X4 (ix2 a c) = (o (T + a) c : EReal)) (h3 : ∀ (a : Fin 256) (c : Fin 1024), X3 (ix2 a c) = (z (T + a) c : EReal))
    (h9 : ∀ c, X9 (ix2 0 c) = w c) (x : S256x256.Idx) (a e : Fin 256) (ha : (a : ℕ) = x 0) (he : (e : ℕ) = x 1) :
    k0_pay124 (k0_pay117 (extractStridedSlice S256x1 ![0, 6] (BC X5) slices_S256x128_o0_6_S256x1)
        (k0_pay108 MK (subf (extractStridedSlice S1x256 ![2, 0] (k0_pay26 X6) slices_S8x256_o2_0_S1x256)
          (extractStridedSlice S1x256 ![6, 0] (BR X6) slices_S8x256_o6_0_S1x256)) m)
        (k0_pay115 MK (extractStridedSlice S256x256 ![0, 512] (QV X0 tq X7 X8 s0 s1 s2 s3) slices_S256x1024_o0_512_S256x256)
          (extractStridedSlice S256x256 ![0, 512] (KV X1 tk X7 X8 s0 s1 s2 s3) slices_S256x1024_o0_512_S256x256)
          (View.ld X2 (Rect.unit (s := S256x1024) ![0, 512] S256x256.size inb_S256x1024_S256x256_0_512))
          (subf (extractStridedSlice S1x256 ![2, 0] (k0_pay26 X6) slices_S8x256_o2_0_S1x256)
            (extractStridedSlice S1x256 ![6, 0] (BR X6) slices_S8x256_o6_0_S1x256)) m cs)
        (k0_pay116 MK (extractStridedSlice S256x256 ![0, 512] (QV X0 tq X7 X8 s0 s1 s2 s3) slices_S256x1024_o0_512_S256x256)
          (extractStridedSlice S256x256 ![0, 512] (KV X1 tk X7 X8 s0 s1 s2 s3) slices_S256x1024_o0_512_S256x256)
          (subf (extractStridedSlice S1x256 ![2, 0] (k0_pay26 X6) slices_S8x256_o2_0_S1x256)
            (extractStridedSlice S1x256 ![6, 0] (BR X6) slices_S8x256_o6_0_S1x256)) m ns))
      (k0_pay123 (View.ld X4 (Rect.unit (s := S256x1024) ![0, 512] S256x256.size inb_S256x1024_S256x256_0_512)))
      (View.ld X9 (Rect.unit (s := S1x1024) ![0, 512] S1x256.size inb_S1x1024_S1x256_0_512))
      (View.ld X3 (Rect.unit (s := S256x1024) ![0, 512] S256x256.size inb_S256x1024_S256x256_0_512)) x
      = post (fun y => o (T + a) (col 2 y)) (H (B.lf 2) (B.ig 2) (B.q 2) (B.k 2) (B.v 2) (T + a)) (w (col 2 e)) (z (T + a) (col 2 e)) e := by
  idx_vars x
  obtain rfl : a = x0 := Fin.ext ha
  obtain rfl : e = x1 := Fin.ext he
  have e9 : (View.ld X9 (Rect.unit (s := S1x1024) ![0, 512] S1x256.size inb_S1x1024_S1x256_0_512)) (ix2 0 e) = w (col 2 e) :=
    (by pointwise []; rfl : _ = X9 (ix2 0 (col 2 e))).trans (h9 _)
  rw [← e9]
  exact out_at (hd2 O) S _ _ _ (fun a y => o (T + a) (col 2 y)) (fun a y => z (T + a) (col 2 y))
    (fun a y => (by pointwise []; rfl : _ = X4 (ix2 a (col 2 y))).trans (h4 a _))
    (fun a y => (by pointwise []; rfl : _ = X3 (ix2 a (col 2 y))).trans (h3 a _)) a e

include O in
/-- Head 3's output block, at any index of its tile. -/
theorem out3 (S : St B 3 T m cs ns) (X3 X4 : Vec Ideal S256x1024 .bf16) (X9 : Vec Ideal S1x1024 .f32) (o z : ℕ → Fin 1024 → ℝ) (w : Fin 1024 → EReal)
    (h4 : ∀ (a : Fin 256) (c : Fin 1024), X4 (ix2 a c) = (o (T + a) c : EReal)) (h3 : ∀ (a : Fin 256) (c : Fin 1024), X3 (ix2 a c) = (z (T + a) c : EReal))
    (h9 : ∀ c, X9 (ix2 0 c) = w c) (x : S256x256.Idx) (a e : Fin 256) (ha : (a : ℕ) = x 0) (he : (e : ℕ) = x 1) :
    k0_pay124 (k0_pay117 (extractStridedSlice S256x1 ![0, 7] (BC X5) slices_S256x128_o0_7_S256x1)
        (k0_pay108 MK (subf (extractStridedSlice S1x256 ![3, 0] (k0_pay26 X6) slices_S8x256_o3_0_S1x256)
          (extractStridedSlice S1x256 ![7, 0] (BR X6) slices_S8x256_o7_0_S1x256)) m)
        (k0_pay115 MK (extractStridedSlice S256x256 ![0, 768] (QV X0 tq X7 X8 s0 s1 s2 s3) slices_S256x1024_o0_768_S256x256)
          (extractStridedSlice S256x256 ![0, 768] (KV X1 tk X7 X8 s0 s1 s2 s3) slices_S256x1024_o0_768_S256x256)
          (View.ld X2 (Rect.unit (s := S256x1024) ![0, 768] S256x256.size inb_S256x1024_S256x256_0_768))
          (subf (extractStridedSlice S1x256 ![3, 0] (k0_pay26 X6) slices_S8x256_o3_0_S1x256)
            (extractStridedSlice S1x256 ![7, 0] (BR X6) slices_S8x256_o7_0_S1x256)) m cs)
        (k0_pay116 MK (extractStridedSlice S256x256 ![0, 768] (QV X0 tq X7 X8 s0 s1 s2 s3) slices_S256x1024_o0_768_S256x256)
          (extractStridedSlice S256x256 ![0, 768] (KV X1 tk X7 X8 s0 s1 s2 s3) slices_S256x1024_o0_768_S256x256)
          (subf (extractStridedSlice S1x256 ![3, 0] (k0_pay26 X6) slices_S8x256_o3_0_S1x256)
            (extractStridedSlice S1x256 ![7, 0] (BR X6) slices_S8x256_o7_0_S1x256)) m ns))
      (k0_pay123 (View.ld X4 (Rect.unit (s := S256x1024) ![0, 768] S256x256.size inb_S256x1024_S256x256_0_768)))
      (View.ld X9 (Rect.unit (s := S1x1024) ![0, 768] S1x256.size inb_S1x1024_S1x256_0_768))
      (View.ld X3 (Rect.unit (s := S256x1024) ![0, 768] S256x256.size inb_S256x1024_S256x256_0_768)) x
      = post (fun y => o (T + a) (col 3 y)) (H (B.lf 3) (B.ig 3) (B.q 3) (B.k 3) (B.v 3) (T + a)) (w (col 3 e)) (z (T + a) (col 3 e)) e := by
  idx_vars x
  obtain rfl : a = x0 := Fin.ext ha
  obtain rfl : e = x1 := Fin.ext he
  have e9 : (View.ld X9 (Rect.unit (s := S1x1024) ![0, 768] S1x256.size inb_S1x1024_S1x256_0_768)) (ix2 0 e) = w (col 3 e) :=
    (by pointwise []; rfl : _ = X9 (ix2 0 (col 3 e))).trans (h9 _)
  rw [← e9]
  exact out_at (hd3 O) S _ _ _ (fun a y => o (T + a) (col 3 y)) (fun a y => z (T + a) (col 3 y))
    (fun a y => (by pointwise []; rfl : _ = X4 (ix2 a (col 3 y))).trans (h4 a _))
    (fun a y => (by pointwise []; rfl : _ = X3 (ix2 a (col 3 y))).trans (h3 a _)) a e

end KChunk

end

end
-- ==== Proof.KRun.lean ====
/- A grid point of the kernel: what a chunk leaves in the scratch buffers and in the output block. -/
module

public import Idealize.ShloMosaic.Lib.Pointwise
public import Idealize.ShloMosaic.Lib.Pipeline.ValueKit
public import Idealize.ShloMosaic.Lib.Pipeline.ReadBack
public import proofs.«01_k».proof.Proof.Gen.KernelIdeal.Value
public import proofs.«01_k».proof.Proof.KChunk

@[expose] public section

set_option maxRecDepth 16384

noncomputable section

namespace KRun

open Idealize.ShloMosaic Idealize.ShloMosaic.TcCoe Idealize.SL.Sem Cert.KernelIdeal Cert.KernelIdeal.Gen Lift Recur KChunk

variable (m : (ℓ : Loc nD τ sig) → Buf (Elt Ideal) ℓ) (c : Dev nD) (t : Fin cfg0.N) (B : Batch)

/-- The blocks the chunk's state is computed from, at a grid point. -/
abbrev BlkAt (T : ℕ) : Prop :=
  Blk B T (iblk m c 0 t) (iblk m c 1 t) (iblk m c 2 t) (iblk m c 5 t) (iblk m c 6 t) (iblk m c 7 t) (iblk m c 8 t)

/-- What a grid point leaves in the scratch buffers. -/
abbrev InvAt (T : ℕ) (p : Vec Ideal S256x1024 .bf16 × Vec Ideal S4x256x256 .f32 × Vec Ideal S4x1x256 .f32 × Vec Ideal S4x8x128 .f32
    × Vec Ideal S8x1024 .f32 × Vec Ideal S8x1024 .f32 × Vec Ideal S4x256x256 .bf16) : Prop :=
  Inv B T p.2.1 p.2.2.1 p.2.2.2.1 p.2.2.2.2.1 p.2.2.2.2.2.1 p.2.2.2.2.2.2

/-- The four heads' tiles start at head 0's. -/
theorem head_eq (h : Fin 4) (k n : ℕ) (x : Fin 1) (hk : (h : ℕ) = k + x) (hn : k = n) : (h : ℕ) = n := by omega

/-- Four stores, one a head, leave nothing of what stood before them. -/
theorem drop_fill {S : Shape} {e : EltTy} (p3 p2 p1 p0 q : View.Piece (Elt Ideal) S e) (y : S.Idx) (h : Fin 4)
    (c3 : (h : ℕ) = 3 → y ∈ p3.1.set) (c2 : (h : ℕ) = 2 → y ∈ p2.1.set) (c1 : (h : ℕ) = 1 → y ∈ p1.1.set)
    (c0 : (h : ℕ) = 0 → y ∈ p0.1.set) :
    View.canon [p3, p2, p1, p0, q] y = View.canon [p3, p2, p1, p0] y := by
  by_cases h3 : y ∈ p3.1.set
  · obtain ⟨x, rfl⟩ := p3.1.exists_idx_of_mem h3
    exact (View.canon_cons_emb p3.1 p3.2 _ x).trans (View.canon_cons_emb p3.1 p3.2 _ x).symm
  rw [View.canon_cons_of_not_mem _ _ h3, View.canon_cons_of_not_mem _ _ h3]
  by_cases h2 : y ∈ p2.1.set
  · obtain ⟨x, rfl⟩ := p2.1.exists_idx_of_mem h2
    exact (View.canon_cons_emb p2.1 p2.2 _ x).trans (View.canon_cons_emb p2.1 p2.2 _ x).symm
  rw [View.canon_cons_of_not_mem _ _ h2, View.canon_cons_of_not_mem _ _ h2]
  by_cases h1 : y ∈ p1.1.set
  · obtain ⟨x, rfl⟩ := p1.1.exists_idx_of_mem h1
    exact (View.canon_cons_emb p1.1 p1.2 _ x).trans (View.canon_cons_emb p1.1 p1.2 _ x).symm
  rw [View.canon_cons_of_not_mem _ _ h1, View.canon_cons_of_not_mem _ _ h1]
  have h0 : y ∈ p0.1.set := c0 (by
    have a3 : ¬(h : ℕ) = 3 := fun e => h3 (c3 e)
    have a2 : ¬(h : ℕ) = 2 := fun e => h2 (c2 e)
    have a1 : ¬(h : ℕ) = 1 := fun e => h1 (c1 e)
    omega)
  obtain ⟨x, rfl⟩ := p0.1.exists_idx_of_mem h0
  exact (View.canon_cons_emb p0.1 p0.2 _ x).trans (View.canon_cons_emb p0.1 p0.2 _ x).symm

/-- A head's rows of a scratch buffer lie in the head's tile. -/
theorem mem_head {A D : ℕ} (k : ℕ) (inb : ∀ a, (![k, 0, 0] : Fin 3 → ℕ) a + (![1, A, D] : Fin 3 → ℕ) a ≤ (⟨3, ![4, A, D]⟩ : Shape).size a)
    (h : Fin 4) (d : Fin A) (e : Fin D) (hk : (h : ℕ) = k) :
    (ix3 h d e : (⟨3, ![4, A, D]⟩ : Shape).Idx) ∈ (Rect.unit (s := ⟨3, ![4, A, D]⟩) ![k, 0, 0] ![1, A, D] inb).set := by
  rw [Rect.mem_set_unit]
  intro a
  match a with
  | 0 => exact ⟨hk.ge, show (h : ℕ) < k + 1 by omega⟩
  | 1 => exact ⟨Nat.zero_le _, show (d : ℕ) < 0 + A by have := d.isLt; omega⟩
  | 2 => exact ⟨Nat.zero_le _, show (e : ℕ) < 0 + D by have := e.isLt; omega⟩

/-- Zeros are the state of a head before its first chunk. -/
theorem zero_st (h : Fin 4) (k : ℕ) (i1 : ∀ a, (![k, 0, 0] : Fin 3 → ℕ) a + S1x8x128.size a ≤ S4x8x128.size a)
    (i2 : ∀ a, (![k, 0, 0] : Fin 3 → ℕ) a + S1x256x256.size a ≤ S4x256x256.size a)
    (i3 : ∀ a, (![k, 0, 0] : Fin 3 → ℕ) a + S1x1x256.size a ≤ S4x1x256.size a) (p1 p2 p3) :
    St B h 0 (View.ld (shapeCast S4x8x128 (broadcast S4x8x128 (FloatOps.ofBits (F := Ideal) FTy.f32 0#32)) p1 : Vec Ideal S4x8x128 .f32) (Rect.unit ![k, 0, 0] S1x8x128.size i1))
      (View.ld (shapeCast S4x256x256 (broadcast S4x256x256 (FloatOps.ofBits (F := Ideal) FTy.f32 0#32)) p2 : Vec Ideal S4x256x256 .f32) (Rect.unit ![k, 0, 0] S1x256x256.size i2))
      (View.ld (shapeCast S4x1x256 (broadcast S4x1x256 (FloatOps.ofBits (F := Ideal) FTy.f32 0#32)) p3 : Vec Ideal S4x1x256 .f32) (Rect.unit ![k, 0, 0] S1x1x256.size i3)) := by
  refine st_first h ?_ (fun d e => ?_) (fun d => ?_) <;> pointwise []

/-- The stabilisers after the first chunk of a batch. -/
theorem m_first (h0 : t.val % 16 = 0) (K : BlkAt m c t B 0) (h : Fin 4) (a : Fin 8) (b : Fin 128) :
    (outsAt0 m c t.val t.isLt).2.2.2.1 (ix3 h a b) = ((F (B.lf h) (0 + 256) + G (B.lf h) (B.ig h) (0 + 256) : ℝ) : EReal) := by
  rw [outsAt0_A m c t h0]
  frame_open
  simp (disch := decide) only [↓ View.readCov_skip, ↓ View.readCov_cons_toLoadRect, ↓ View.readCov_fill]
  frame_out
  refine Eq.trans (drop_fill _ _ _ _ _ _ h ?_ ?_ ?_ ?_) ?_
  · exact fun e => mem_head 3 (by decide) _ _ _ e
  · exact fun e => mem_head 2 (by decide) _ _ _ e
  · exact fun e => mem_head 1 (by decide) _ _ _ e
  · exact fun e => mem_head 0 (by decide) _ _ _ e
  canon_tiles x hx
  · obtain rfl : h = 3 := Fin.ext (head_eq h 3 3 (x 0) (hx0) rfl)
    exact m_next' (hd3 (ok_first K)) (zero_st B 3 3 (by decide) (by decide) (by decide) (by decide) (by decide) (by decide)) x
  · obtain rfl : h = 2 := Fin.ext (head_eq h 2 2 (x 0) (hx0) rfl)
    exact m_next' (hd2 (ok_first K)) (zero_st B 2 2 (by decide) (by decide) (by decide) (by decide) (by decide) (by decide)) x
  · obtain rfl : h = 1 := Fin.ext (head_eq h 1 1 (x 0) (hx0) rfl)
    exact m_next' (hd1 (ok_first K)) (zero_st B 1 1 (by decide) (by decide) (by decide) (by decide) (by decide) (by decide)) x
  · obtain rfl : h = 0 := Fin.ext (head_eq h 0 0 (x 0) (hx0.trans (Nat.zero_add _).symm) rfl)
    exact m_next' (hd0 (ok_first K)) (zero_st B 0 0 (by decide) (by decide) (by decide) (by decide) (by decide) (by decide)) x

/-- The matrix states after the first chunk of a batch. -/
theorem c_first (h0 : t.val % 16 = 0) (K : BlkAt m c t B 0) (h : Fin 4) (d e : Fin 256) :
    (outsAt0 m c t.val t.isLt).2.1 (ix3 h d e) = (C (B.lf h) (B.ig h) (B.k h) (B.v h) (0 + 256) d e : EReal) := by
  rw [outsAt0_A m c t h0]
  frame_open
  simp (disch := decide) only [↓ View.readCov_skip, ↓ View.readCov_cons_toLoadRect, ↓ View.readCov_fill]
  frame_out
  refine Eq.trans (drop_fill _ _ _ _ _ _ h ?_ ?_ ?_ ?_) ?_
  · exact fun e => mem_head 3 (by decide) _ _ _ e
  · exact fun e => mem_head 2 (by decide) _ _ _ e
  · exact fun e => mem_head 1 (by decide) _ _ _ e
  · exact fun e => mem_head 0 (by decide) _ _ _ e
  canon_tiles x hx
  · obtain rfl : h = 3 := Fin.ext (head_eq h 3 3 (x 0) (hx0) rfl)
    exact c_next' (hd3 (ok_first K)) (zero_st B 3 3 (by decide) (by decide) (by decide) (by decide) (by decide) (by decide)) x d e hx1 hx2
  · obtain rfl : h = 2 := Fin.ext (head_eq h 2 2 (x 0) (hx0) rfl)
    exact c_next' (hd2 (ok_first K)) (zero_st B 2 2 (by decide) (by decide) (by decide) (by decide) (by decide) (by decide)) x d e hx1 hx2
  · obtain rfl : h = 1 := Fin.ext (head_eq h 1 1 (x 0) (hx0) rfl)
    exact c_next' (hd1 (ok_first K)) (zero_st B 1 1 (by decide) (by decide) (by decide) (by decide) (by decide) (by decide)) x d e hx1 hx2
  · obtain rfl : h = 0 := Fin.ext (head_eq h 0 0 (x 0) (hx0.trans (Nat.zero_add _).symm) rfl)
    exact c_next' (hd0 (ok_first K)) (zero_st B 0 0 (by decide) (by decide) (by decide) (by decide) (by decide) (by decide)) x d e hx1 hx2

/-- The vector states after the first chunk of a batch. -/
theorem n_first (h0 : t.val % 16 = 0) (K : BlkAt m c t B 0) (h : Fin 4) (d : Fin 256) :
    (outsAt0 m c t.val t.isLt).2.2.1 (ix3 h 0 d) = (N (B.lf h) (B.ig h) (B.k h) (0 + 256) d : EReal) := by
  rw [outsAt0_A m c t h0]
  frame_open
  simp (disch := decide) only [↓ View.readCov_skip, ↓ View.readCov_cons_toLoadRect, ↓ View.readCov_fill]
  frame_out
  refine Eq.trans (drop_fill _ _ _ _ _ _ h ?_ ?_ ?_ ?_) ?_
  · exact fun e => mem_head 3 (by decide) _ _ _ e
  · exact fun e => mem_head 2 (by decide) _ _ _ e
  · exact fun e => mem_head 1 (by decide) _ _ _ e
  · exact fun e => mem_head 0 (by decide) _ _ _ e
  canon_tiles x hx
  · obtain rfl : h = 3 := Fin.ext (head_eq h 3 3 (x 0) (hx0) rfl)
    exact n_next' (hd3 (ok_first K)) (zero_st B 3 3 (by decide) (by decide) (by decide) (by decide) (by decide) (by decide)) x d hx2
  · obtain rfl : h = 2 := Fin.ext (head_eq h 2 2 (x 0) (hx0) rfl)
    exact n_next' (hd2 (ok_first K)) (zero_st B 2 2 (by decide) (by decide) (by decide) (by decide) (by decide) (by decide)) x d hx2
  · obtain rfl : h = 1 := Fin.ext (head_eq h 1 1 (x 0) (hx0) rfl)
    exact n_next' (hd1 (ok_first K)) (zero_st B 1 1 (by decide) (by decide) (by decide) (by decide) (by decide) (by decide)) x d hx2
  · obtain rfl : h = 0 := Fin.ext (head_eq h 0 0 (x 0) (hx0.trans (Nat.zero_add _).symm) rfl)
    exact n_next' (hd0 (ok_first K)) (zero_st B 0 0 (by decide) (by decide) (by decide) (by decide) (by decide) (by decide)) x d hx2

/-- The queries' rows kept after the first chunk of a batch. -/
theorem tq_first (h0 : t.val % 16 = 0) (K : BlkAt m c t B 0) (a : Fin 8) (j : Fin 1024) :
    (outsAt0 m c t.val t.isLt).2.2.2.2.1 (ix2 a j) = (delay (B.uq j) 8 (0 + 256 + a) : EReal) := by
  rw [outsAt0_A m c t h0]
  frame_open
  simp (disch := decide) only [↓ View.readCov_skip, ↓ View.readCov_cons_toLoadRect, ↓ View.readCov_fill]
  frame_out
  exact KConv.tail_next B.uq 0 _ K.x0 a j

/-- The keys' rows kept after the first chunk of a batch. -/
theorem tk_first (h0 : t.val % 16 = 0) (K : BlkAt m c t B 0) (a : Fin 8) (j : Fin 1024) :
    (outsAt0 m c t.val t.isLt).2.2.2.2.2.1 (ix2 a j) = (delay (B.uk j) 8 (0 + 256 + a) : EReal) := by
  rw [outsAt0_A m c t h0]
  frame_open
  simp (disch := decide) only [↓ View.readCov_skip, ↓ View.readCov_cons_toLoadRect, ↓ View.readCov_fill]
  frame_out
  exact KConv.tail_next B.uk 0 _ K.x1 a j

/-- The shift matrices after the first chunk of a batch. -/
theorem sh_first (h0 : t.val % 16 = 0) (K : BlkAt m c t B 0) (h : Fin 4) (a y : Fin 256) :
    (outsAt0 m c t.val t.isLt).2.2.2.2.2.2 (ix3 h a y) = if (y : ℕ) + h = a then (1 : EReal) else 0 := by
  rw [outsAt0_A m c t h0]
  frame_open
  simp (disch := decide) only [↓ View.readCov_skip, ↓ View.readCov_cons_toLoadRect, ↓ View.readCov_fill]
  frame_out
  canon_tiles x hx
  · obtain rfl : h = 3 := Fin.ext (head_eq h 3 3 (x 0) (hx0) rfl)
    idx_vars x
    obtain rfl : x0 = 0 := Subsingleton.elim _ _
    obtain rfl : a = x1 := Fin.ext hx1
    obtain rfl : y = x2 := Fin.ext hx2
    exact KConv.s3_at a y
  · obtain rfl : h = 2 := Fin.ext (head_eq h 2 2 (x 0) (hx0) rfl)
    idx_vars x
    obtain rfl : x0 = 0 := Subsingleton.elim _ _
    obtain rfl : a = x1 := Fin.ext hx1
    obtain rfl : y = x2 := Fin.ext hx2
    exact KConv.s2_at a y
  · obtain rfl : h = 1 := Fin.ext (head_eq h 1 1 (x 0) (hx0) rfl)
    idx_vars x
    obtain rfl : x0 = 0 := Subsingleton.elim _ _
    obtain rfl : a = x1 := Fin.ext hx1
    obtain rfl : y = x2 := Fin.ext hx2
    exact KConv.s1_at a y
  · obtain rfl : h = 0 := Fin.ext (head_eq h 0 0 (x 0) (hx0.trans (Nat.zero_add _).symm) rfl)
    idx_vars x
    obtain rfl : x0 = 0 := Subsingleton.elim _ _
    obtain rfl : a = x1 := Fin.ext hx1
    obtain rfl : y = x2 := Fin.ext hx2
    exact KConv.s0_at a y

/-- What the first chunk of a batch leaves in the scratch buffers. -/
theorem inv_first (h0 : t.val % 16 = 0) (K : BlkAt m c t B 0) : InvAt B (0 + 256) (outsAt0 m c t.val t.isLt) where
  c := c_first m c t B h0 K
  n := n_first m c t B h0 K
  m := m_first m c t B h0 K
  tq := tq_first m c t B h0 K
  tk := tk_first m c t B h0 K
  sh := sh_first m c t B h0 K

/-- The output block of the first chunk of a batch. -/
theorem out_first (h0 : t.val % 16 = 0) (K : BlkAt m c t B 0) (o z : ℕ → Fin 1024 → ℝ) (w : Fin 1024 → EReal)
    (h4 : ∀ (a : Fin 256) (j : Fin 1024), iblk m c 4 t (ix2 a j) = (o (0 + a) j : EReal))
    (h3 : ∀ (a : Fin 256) (j : Fin 1024), iblk m c 3 t (ix2 a j) = (z (0 + a) j : EReal))
    (h9 : ∀ j, iblk m c 9 t (ix2 0 j) = w j) (a : Fin 256) (h : Fin 4) (e : Fin 256) :
    (outsAt0 m c t.val t.isLt).1 (ix2 a (col h e))
      = post (fun y => o (0 + a) (col h y)) (H (B.lf h) (B.ig h) (B.q h) (B.k h) (B.v h) (0 + a)) (w (col h e)) (z (0 + a) (col h e)) e := by
  rw [outsAt0_A m c t h0]
  frame_open
  simp (disch := decide) only [↓ View.readCov_skip, ↓ View.readCov_cons_toLoadRect, ↓ View.readCov_fill]
  frame_out
  canon_tiles x hx
  · have e1 : 256 * (h : ℕ) + e = 768 + ((x 1 : Fin 256) : ℕ) := hx1
    have e2 := (x 1 : Fin 256).isLt
    obtain rfl : h = 3 := Fin.ext (show (h : ℕ) = 3 by omega)
    exact out3 (ok_first K) (zero_st B 3 3 (by decide) (by decide) (by decide) (by decide) (by decide) (by decide)) _ _ _ o z w h4 h3 h9 x a e hx0 (show (e : ℕ) = ((x 1 : Fin 256) : ℕ) by have : ((3 : Fin 4) : ℕ) = 3 := rfl; omega)
  · have e1 : 256 * (h : ℕ) + e = 512 + ((x 1 : Fin 256) : ℕ) := hx1
    have e2 := (x 1 : Fin 256).isLt
    obtain rfl : h = 2 := Fin.ext (show (h : ℕ) = 2 by omega)
    exact out2 (ok_first K) (zero_st B 2 2 (by decide) (by decide) (by decide) (by decide) (by decide) (by decide)) _ _ _ o z w h4 h3 h9 x a e hx0 (show (e : ℕ) = ((x 1 : Fin 256) : ℕ) by have : ((2 : Fin 4) : ℕ) = 2 := rfl; omega)
  · have e1 : 256 * (h : ℕ) + e = 256 + ((x 1 : Fin 256) : ℕ) := hx1
    have e2 := (x 1 : Fin 256).isLt
    obtain rfl : h = 1 := Fin.ext (show (h : ℕ) = 1 by omega)
    exact out1 (ok_first K) (zero_st B 1 1 (by decide) (by decide) (by decide) (by decide) (by decide) (by decide)) _ _ _ o z w h4 h3 h9 x a e hx0 (show (e : ℕ) = ((x 1 : Fin 256) : ℕ) by have : ((1 : Fin 4) : ℕ) = 1 := rfl; omega)
  · have e1 : 256 * (h : ℕ) + e = 0 + ((x 1 : Fin 256) : ℕ) := hx1.trans (Nat.zero_add _).symm
    have e2 := (x 1 : Fin 256).isLt
    obtain rfl : h = 0 := Fin.ext (show (h : ℕ) = 0 by omega)
    exact out0 (ok_first K) (zero_st B 0 0 (by decide) (by decide) (by decide) (by decide) (by decide) (by decide)) _ _ _ o z w h4 h3 h9 x a e hx0 (show (e : ℕ) = ((x 1 : Fin 256) : ℕ) by have : ((0 : Fin 4) : ℕ) = 0 := rfl; omega)

/-- The stabilisers after a later chunk. -/
theorem m_later (h0 : ¬t.val % 16 = 0) (T : ℕ) (K : BlkAt m c t B T) (I : InvAt B T (outsAt0 m c (t.val - 1) (by omega))) (h : Fin 4) (a : Fin 8) (b : Fin 128) :
    (outsAt0 m c t.val t.isLt).2.2.2.1 (ix3 h a b) = ((F (B.lf h) (T + 256) + G (B.lf h) (B.ig h) (T + 256) : ℝ) : EReal) := by
  rw [outsAt0_B m c t h0]
  frame_open
  simp (disch := decide) only [↓ View.readCov_skip, ↓ View.readCov_cons_toLoadRect, ↓ View.readCov_fill]
  frame_out
  simp only [read_unread_whole]
  canon_tiles x hx
  · obtain rfl : h = 3 := Fin.ext (head_eq h 3 3 (x 0) (hx0) rfl)
    exact m_next' (hd3 (ok_of_inv K I)) (st3 I) x
  · obtain rfl : h = 2 := Fin.ext (head_eq h 2 2 (x 0) (hx0) rfl)
    exact m_next' (hd2 (ok_of_inv K I)) (st2 I) x
  · obtain rfl : h = 1 := Fin.ext (head_eq h 1 1 (x 0) (hx0) rfl)
    exact m_next' (hd1 (ok_of_inv K I)) (st1 I) x
  · obtain rfl : h = 0 := Fin.ext (head_eq h 0 0 (x 0) (hx0.trans (Nat.zero_add _).symm) rfl)
    exact m_next' (hd0 (ok_of_inv K I)) (st0 I) x

/-- The matrix states after a later chunk. -/
theorem c_later (h0 : ¬t.val % 16 = 0) (T : ℕ) (K : BlkAt m c t B T) (I : InvAt B T (outsAt0 m c (t.val - 1) (by omega))) (h : Fin 4) (d e : Fin 256) :
    (outsAt0 m c t.val t.isLt).2.1 (ix3 h d e) = (C (B.lf h) (B.ig h) (B.k h) (B.v h) (T + 256) d e : EReal) := by
  rw [outsAt0_B m c t h0]
  frame_open
  simp (disch := decide) only [↓ View.readCov_skip, ↓ View.readCov_cons_toLoadRect, ↓ View.readCov_fill]
  frame_out
  simp only [read_unread_whole]
  canon_tiles x hx
  · obtain rfl : h = 3 := Fin.ext (head_eq h 3 3 (x 0) (hx0) rfl)
    exact c_next' (hd3 (ok_of_inv K I)) (st3 I) x d e hx1 hx2
  · obtain rfl : h = 2 := Fin.ext (head_eq h 2 2 (x 0) (hx0) rfl)
    exact c_next' (hd2 (ok_of_inv K I)) (st2 I) x d e hx1 hx2
  · obtain rfl : h = 1 := Fin.ext (head_eq h 1 1 (x 0) (hx0) rfl)
    exact c_next' (hd1 (ok_of_inv K I)) (st1 I) x d e hx1 hx2
  · obtain rfl : h = 0 := Fin.ext (head_eq h 0 0 (x 0) (hx0.trans (Nat.zero_add _).symm) rfl)
    exact c_next' (hd0 (ok_of_inv K I)) (st0 I) x d e hx1 hx2

/-- The vector states after a later chunk. -/
theorem n_later (h0 : ¬t.val % 16 = 0) (T : ℕ) (K : BlkAt m c t B T) (I : InvAt B T (outsAt0 m c (t.val - 1) (by omega))) (h : Fin 4) (d : Fin 256) :
    (outsAt0 m c t.val t.isLt).2.2.1 (ix3 h 0 d) = (N (B.lf h) (B.ig h) (B.k h) (T + 256) d : EReal) := by
  rw [outsAt0_B m c t h0]
  frame_open
  simp (disch := decide) only [↓ View.readCov_skip, ↓ View.readCov_cons_toLoadRect, ↓ View.readCov_fill]
  frame_out
  simp only [read_unread_whole]
  canon_tiles x hx
  · obtain rfl : h = 3 := Fin.ext (head_eq h 3 3 (x 0) (hx0) rfl)
    exact n_next' (hd3 (ok_of_inv K I)) (st3 I) x d hx2
  · obtain rfl : h = 2 := Fin.ext (head_eq h 2 2 (x 0) (hx0) rfl)
    exact n_next' (hd2 (ok_of_inv K I)) (st2 I) x d hx2
  · obtain rfl : h = 1 := Fin.ext (head_eq h 1 1 (x 0) (hx0) rfl)
    exact n_next' (hd1 (ok_of_inv K I)) (st1 I) x d hx2
  · obtain rfl : h = 0 := Fin.ext (head_eq h 0 0 (x 0) (hx0.trans (Nat.zero_add _).symm) rfl)
    exact n_next' (hd0 (ok_of_inv K I)) (st0 I) x d hx2

/-- The queries' rows kept after a later chunk. -/
theorem tq_later (h0 : ¬t.val % 16 = 0) (T : ℕ) (K : BlkAt m c t B T) (I : InvAt B T (outsAt0 m c (t.val - 1) (by omega))) (a : Fin 8) (j : Fin 1024) :
    (outsAt0 m c t.val t.isLt).2.2.2.2.1 (ix2 a j) = (delay (B.uq j) 8 (T + 256 + a) : EReal) := by
  rw [outsAt0_B m c t h0]
  frame_open
  simp (disch := decide) only [↓ View.readCov_skip, ↓ View.readCov_cons_toLoadRect, ↓ View.readCov_fill]
  frame_out
  exact KConv.tail_next B.uq T _ K.x0 a j

/-- The keys' rows kept after a later chunk. -/
theorem tk_later (h0 : ¬t.val % 16 = 0) (T : ℕ) (K : BlkAt m c t B T) (I : InvAt B T (outsAt0 m c (t.val - 1) (by omega))) (a : Fin 8) (j : Fin 1024) :
    (outsAt0 m c t.val t.isLt).2.2.2.2.2.1 (ix2 a j) = (delay (B.uk j) 8 (T + 256 + a) : EReal) := by
  rw [outsAt0_B m c t h0]
  frame_open
  simp (disch := decide) only [↓ View.readCov_skip, ↓ View.readCov_cons_toLoadRect, ↓ View.readCov_fill]
  frame_out
  exact KConv.tail_next B.uk T _ K.x1 a j

/-- The shift matrices after a later chunk. -/
theorem sh_later (h0 : ¬t.val % 16 = 0) (T : ℕ) (K : BlkAt m c t B T) (I : InvAt B T (outsAt0 m c (t.val - 1) (by omega))) (k : Fin 4) (a y : Fin 256) :
    (outsAt0 m c t.val t.isLt).2.2.2.2.2.2 (ix3 k a y) = if (y : ℕ) + k = a then (1 : EReal) else 0 := by
  rw [outsAt0_B m c t h0]
  exact I.sh k a y

/-- What a later chunk leaves in the scratch buffers. -/
theorem inv_later (h0 : ¬t.val % 16 = 0) (T : ℕ) (K : BlkAt m c t B T) (I : InvAt B T (outsAt0 m c (t.val - 1) (by omega))) : InvAt B (T + 256) (outsAt0 m c t.val t.isLt) where
  c := c_later m c t B h0 T K I
  n := n_later m c t B h0 T K I
  m := m_later m c t B h0 T K I
  tq := tq_later m c t B h0 T K I
  tk := tk_later m c t B h0 T K I
  sh := sh_later m c t B h0 T K I

/-- The output block of a later chunk. -/
theorem out_later (h0 : ¬t.val % 16 = 0) (T : ℕ) (K : BlkAt m c t B T) (I : InvAt B T (outsAt0 m c (t.val - 1) (by omega))) (o z : ℕ → Fin 1024 → ℝ) (w : Fin 1024 → EReal)
    (h4 : ∀ (a : Fin 256) (j : Fin 1024), iblk m c 4 t (ix2 a j) = (o (T + a) j : EReal))
    (h3 : ∀ (a : Fin 256) (j : Fin 1024), iblk m c 3 t (ix2 a j) = (z (T + a) j : EReal))
    (h9 : ∀ j, iblk m c 9 t (ix2 0 j) = w j) (a : Fin 256) (h : Fin 4) (e : Fin 256) :
    (outsAt0 m c t.val t.isLt).1 (ix2 a (col h e))
      = post (fun y => o (T + a) (col h y)) (H (B.lf h) (B.ig h) (B.q h) (B.k h) (B.v h) (T + a)) (w (col h e)) (z (T + a) (col h e)) e := by
  rw [outsAt0_B m c t h0]
  frame_open
  simp (disch := decide) only [↓ View.readCov_skip, ↓ View.readCov_cons_toLoadRect, ↓ View.readCov_fill]
  frame_out
  simp only [read_unread_whole]
  canon_tiles x hx
  · have e1 : 256 * (h : ℕ) + e = 768 + ((x 1 : Fin 256) : ℕ) := hx1
    have e2 := (x 1 : Fin 256).isLt
    obtain rfl : h = 3 := Fin.ext (show (h : ℕ) = 3 by omega)
    exact out3 (ok_of_inv K I) (st3 I) _ _ _ o z w h4 h3 h9 x a e hx0 (show (e : ℕ) = ((x 1 : Fin 256) : ℕ) by have : ((3 : Fin 4) : ℕ) = 3 := rfl; omega)
  · have e1 : 256 * (h : ℕ) + e = 512 + ((x 1 : Fin 256) : ℕ) := hx1
    have e2 := (x 1 : Fin 256).isLt
    obtain rfl : h = 2 := Fin.ext (show (h : ℕ) = 2 by omega)
    exact out2 (ok_of_inv K I) (st2 I) _ _ _ o z w h4 h3 h9 x a e hx0 (show (e : ℕ) = ((x 1 : Fin 256) : ℕ) by have : ((2 : Fin 4) : ℕ) = 2 := rfl; omega)
  · have e1 : 256 * (h : ℕ) + e = 256 + ((x 1 : Fin 256) : ℕ) := hx1
    have e2 := (x 1 : Fin 256).isLt
    obtain rfl : h = 1 := Fin.ext (show (h : ℕ) = 1 by omega)
    exact out1 (ok_of_inv K I) (st1 I) _ _ _ o z w h4 h3 h9 x a e hx0 (show (e : ℕ) = ((x 1 : Fin 256) : ℕ) by have : ((1 : Fin 4) : ℕ) = 1 := rfl; omega)
  · have e1 : 256 * (h : ℕ) + e = 0 + ((x 1 : Fin 256) : ℕ) := hx1.trans (Nat.zero_add _).symm
    have e2 := (x 1 : Fin 256).isLt
    obtain rfl : h = 0 := Fin.ext (show (h : ℕ) = 0 by omega)
    exact out0 (ok_of_inv K I) (st0 I) _ _ _ o z w h4 h3 h9 x a e hx0 (show (e : ℕ) = ((x 1 : Fin 256) : ℕ) by have : ((0 : Fin 4) : ℕ) = 0 := rfl; omega)

end KRun

end

end
-- ==== Proof.Inputs.lean ====
/- The two programs' inputs as the eight batches of real signals. -/
module

public import Idealize.ShloMosaic.Lib.Pointwise
public import proofs.«01_k».proof.Proof.KChunk

@[expose] public section

noncomputable section

namespace Lift

open Idealize.ShloMosaic

/-- The row of time `t` of batch `b`. -/
def row (b : Fin 8) (t : ℕ) : Fin 32768 := ⟨(4096 * b + t) % 32768, Nat.mod_lt _ (by norm_num)⟩

theorem row_val (b : Fin 8) (t : ℕ) (h : t < 4096) : (row b t : ℕ) = 4096 * b + t :=
  Nat.mod_eq_of_lt (by have := b.isLt; omega)

/-- Column `j` of the column tile that starts at `o`. -/
def tile (o : ℕ) (j : Fin 1024) : Fin 12288 := ⟨(o + j) % 12288, Nat.mod_lt _ (by norm_num)⟩

theorem tile_val (o : ℕ) (j : Fin 1024) (h : o ≤ 11264) : (tile o j : ℕ) = o + j :=
  Nat.mod_eq_of_lt (by have := j.isLt; omega)

/-- Gate column `k` of the 128. -/
def gcol (o : ℕ) (h : Fin 4) : Fin 128 := ⟨(o + h) % 128, Nat.mod_lt _ (by norm_num)⟩

theorem gcol_val (o : ℕ) (h : Fin 4) (ho : o ≤ 4) : (gcol o h : ℕ) = o + h :=
  Nat.mod_eq_of_lt (by have := h.isLt; omega)

variable (P : (⟨2, ![32768, 12288]⟩ : Shape).Idx → EReal) (G : (⟨2, ![32768, 128]⟩ : Shape).Idx → EReal)
variable (W : (⟨2, ![4, 2048]⟩ : Shape).Idx → EReal) (b0 : (⟨1, ![2048]⟩ : Shape).Idx → EReal)

/-- A column of the projections of one batch, as a real signal. -/
def sig (o : ℕ) (b : Fin 8) (j : Fin 1024) (t : ℕ) : ℝ := (P (ix2 (row b t) (tile o j))).toReal

/-- The inputs of batch `b`. -/
def bat (b : Fin 8) : Batch where
  uq := sig P 4096 b
  uk := sig P 5120 b
  uv := sig P 6144 b
  gi h t := (G (ix2 (row b t) (gcol 0 h))).toReal
  gf h t := (G (ix2 (row b t) (gcol 4 h))).toReal
  cw i j := (W (ix2 i j)).toReal
  cb j := (b0 (ix1 j)).toReal

/-- Every input the recurrence reads is a real. -/
structure Reals : Prop where
  p : ∀ i, ((P i).toReal : EReal) = P i
  g : ∀ i, ((G i).toReal : EReal) = G i
  w : ∀ i, ((W i).toReal : EReal) = W i
  b : ∀ i, ((b0 i).toReal : EReal) = b0 i

end Lift

end

end
-- ==== Proof.KFinal.lean ====
/- What the kernel's result array ends holding, at an entry. -/
module

public import Idealize.ShloMosaic.Lib.Claim
public import proofs.«01_k».proof.Proof.KRun
public import proofs.«01_k».proof.Proof.Inputs
public import proofs.«01_k».proof.Proof.Gen.KernelIdeal.Value

@[expose] public section

set_option maxRecDepth 16384

noncomputable section

namespace KFinal

open Idealize.ShloMosaic Idealize.ShloMosaic.TcCoe Idealize.SL.Sem Cert.KernelIdeal Cert.KernelIdeal.Gen Cert.KernelIdeal.Value Lift Recur KChunk KRun

variable (m : (ℓ : Loc nD τ sig) → Buf (Elt Ideal) ℓ) (c : Dev nD)

/-- The blocks' places: the projections' column tiles, the gates' rows and columns. -/
theorem places : ∀ t : Fin cfg0.N,
    (win0_0.index t (0 : Fin 2) = t.val ∧ win0_0.index t (1 : Fin 2) = 4) ∧ (win0_1.index t (0 : Fin 2) = t.val ∧ win0_1.index t (1 : Fin 2) = 5)
    ∧ (win0_2.index t (0 : Fin 2) = t.val ∧ win0_2.index t (1 : Fin 2) = 6) ∧ (win0_3.index t (0 : Fin 2) = t.val ∧ win0_3.index t (1 : Fin 2) = 7)
    ∧ (win0_4.index t (0 : Fin 2) = t.val ∧ win0_4.index t (1 : Fin 2) = 8) ∧ (win0_5.index t (0 : Fin 2) = t.val ∧ win0_5.index t (1 : Fin 2) = 0)
    ∧ (win0_6.index t (0 : Fin 2) = 0 ∧ win0_6.index t (1 : Fin 2) = t.val) ∧ (win0_7.index t (0 : Fin 2) = 0 ∧ win0_7.index t (1 : Fin 2) = 0)
    ∧ (win0_8.index t (0 : Fin 2) = 0 ∧ win0_8.index t (1 : Fin 2) = 0) ∧ (win0_9.index t (0 : Fin 2) = 0 ∧ win0_9.index t (1 : Fin 2) = 0) :=
  (by decide +kernel : ∀ t : Fin grid0.N, _)

theorem lt128 (t : Fin cfg0.N) : t.val < 128 := lt_of_lt_of_eq t.isLt N_0

/-- The batch of a grid point. -/
abbrev bOf (n : ℕ) (h : n < 128) : Fin 8 := ⟨n / 16, by omega⟩

/-- The row a grid point's block has at `a`. -/
theorem row_of (t : Fin cfg0.N) (a : Fin 256) : (row (bOf t.val (lt128 t)) (256 * (t.val % 16) + a) : ℕ) = 256 * t.val + a := by
  have := lt128 t
  rw [row_val _ _ (by omega)]
  show 4096 * (t.val / 16) + _ = _
  omega

/-- The eight batches of a memory. -/
abbrev B (b : Fin 8) : Batch :=
  bat (m ((c.tc : Thread nD τ).loc main_arg0)) (m ((c.tc : Thread nD τ).loc main_arg1)) (m ((c.tc : Thread nD τ).loc main_arg2))
    (m ((c.tc : Thread nD τ).loc main_arg3)) b

theorem b0 (t : Fin cfg0.N) (a : Fin 256) (j : Fin 1024) :
    iblk m c 0 t (ix2 a j) = m ((c.tc : Thread nD τ).loc main_arg0) (ix2 (row (bOf t.val (lt128 t)) (256 * (t.val % 16) + a)) (tile 4096 j)) := by
  have p := (places t).1
  show V m c main_arg0 (((cfg0.win 0).blk t).view.emb (ix2 a j)) = _
  rw [V_main_arg0]
  congr 1
  funext x
  match x with
  | ⟨0, _⟩ => exact Fin.ext ((show win0_0.index t (0 : Fin 2) * 256 + 1 * (a : ℕ) = 256 * t.val + a by omega).trans (row_of t a).symm)
  | ⟨1, _⟩ => exact Fin.ext ((show win0_0.index t (1 : Fin 2) * 1024 + 1 * (j : ℕ) = 4096 + j by omega).trans (tile_val _ _ (by norm_num)).symm)

theorem b1 (t : Fin cfg0.N) (a : Fin 256) (j : Fin 1024) :
    iblk m c 1 t (ix2 a j) = m ((c.tc : Thread nD τ).loc main_arg0) (ix2 (row (bOf t.val (lt128 t)) (256 * (t.val % 16) + a)) (tile 5120 j)) := by
  have p := (places t).2.1
  show V m c main_arg0 (((cfg0.win 1).blk t).view.emb (ix2 a j)) = _
  rw [V_main_arg0]
  congr 1
  funext x
  match x with
  | ⟨0, _⟩ => exact Fin.ext ((show win0_1.index t (0 : Fin 2) * 256 + 1 * (a : ℕ) = 256 * t.val + a by omega).trans (row_of t a).symm)
  | ⟨1, _⟩ => exact Fin.ext ((show win0_1.index t (1 : Fin 2) * 1024 + 1 * (j : ℕ) = 5120 + j by omega).trans (tile_val _ _ (by norm_num)).symm)

theorem b2 (t : Fin cfg0.N) (a : Fin 256) (j : Fin 1024) :
    iblk m c 2 t (ix2 a j) = m ((c.tc : Thread nD τ).loc main_arg0) (ix2 (row (bOf t.val (lt128 t)) (256 * (t.val % 16) + a)) (tile 6144 j)) := by
  have p := (places t).2.2.1
  show V m c main_arg0 (((cfg0.win 2).blk t).view.emb (ix2 a j)) = _
  rw [V_main_arg0]
  congr 1
  funext x
  match x with
  | ⟨0, _⟩ => exact Fin.ext ((show win0_2.index t (0 : Fin 2) * 256 + 1 * (a : ℕ) = 256 * t.val + a by omega).trans (row_of t a).symm)
  | ⟨1, _⟩ => exact Fin.ext ((show win0_2.index t (1 : Fin 2) * 1024 + 1 * (j : ℕ) = 6144 + j by omega).trans (tile_val _ _ (by norm_num)).symm)

theorem b3 (t : Fin cfg0.N) (a : Fin 256) (j : Fin 1024) :
    iblk m c 3 t (ix2 a j) = m ((c.tc : Thread nD τ).loc main_arg0) (ix2 (row (bOf t.val (lt128 t)) (256 * (t.val % 16) + a)) (tile 7168 j)) := by
  have p := (places t).2.2.2.1
  show V m c main_arg0 (((cfg0.win 3).blk t).view.emb (ix2 a j)) = _
  rw [V_main_arg0]
  congr 1
  funext x
  match x with
  | ⟨0, _⟩ => exact Fin.ext ((show win0_3.index t (0 : Fin 2) * 256 + 1 * (a : ℕ) = 256 * t.val + a by omega).trans (row_of t a).symm)
  | ⟨1, _⟩ => exact Fin.ext ((show win0_3.index t (1 : Fin 2) * 1024 + 1 * (j : ℕ) = 7168 + j by omega).trans (tile_val _ _ (by norm_num)).symm)

theorem b4 (t : Fin cfg0.N) (a : Fin 256) (j : Fin 1024) :
    iblk m c 4 t (ix2 a j) = m ((c.tc : Thread nD τ).loc main_arg0) (ix2 (row (bOf t.val (lt128 t)) (256 * (t.val % 16) + a)) (tile 8192 j)) := by
  have p := (places t).2.2.2.2.1
  show V m c main_arg0 (((cfg0.win 4).blk t).view.emb (ix2 a j)) = _
  rw [V_main_arg0]
  congr 1
  funext x
  match x with
  | ⟨0, _⟩ => exact Fin.ext ((show win0_4.index t (0 : Fin 2) * 256 + 1 * (a : ℕ) = 256 * t.val + a by omega).trans (row_of t a).symm)
  | ⟨1, _⟩ => exact Fin.ext ((show win0_4.index t (1 : Fin 2) * 1024 + 1 * (j : ℕ) = 8192 + j by omega).trans (tile_val _ _ (by norm_num)).symm)

theorem b5 (t : Fin cfg0.N) (a : Fin 256) (o : ℕ) (ho : o ≤ 4) (h : Fin 4) (hh : o + (h : ℕ) < 128) :
    iblk m c 5 t (ix2 a ⟨o + h, hh⟩) = m ((c.tc : Thread nD τ).loc main_arg1) (ix2 (row (bOf t.val (lt128 t)) (256 * (t.val % 16) + a)) (gcol o h)) := by
  have p := (places t).2.2.2.2.2.1
  show V m c main_arg1 (((cfg0.win 5).blk t).view.emb (ix2 a ⟨o + h, hh⟩)) = _
  rw [V_main_arg1]
  congr 1
  funext x
  match x with
  | ⟨0, _⟩ => exact Fin.ext ((show win0_5.index t (0 : Fin 2) * 256 + 1 * (a : ℕ) = 256 * t.val + a by omega).trans (row_of t a).symm)
  | ⟨1, _⟩ => exact Fin.ext ((show win0_5.index t (1 : Fin 2) * 128 + 1 * (o + h : ℕ) = o + h by omega).trans (gcol_val _ _ ho).symm)

theorem b6 (t : Fin cfg0.N) (a : Fin 256) (o : ℕ) (ho : o ≤ 4) (h : Fin 4) (hh : o + (h : ℕ) < 8) :
    iblk m c 6 t (ix2 ⟨o + h, hh⟩ a) = m ((c.tc : Thread nD τ).loc main_arg1) (ix2 (row (bOf t.val (lt128 t)) (256 * (t.val % 16) + a)) (gcol o h)) := by
  have p := (places t).2.2.2.2.2.2.1
  have q := lt128 t
  show V m c main_v1 (((cfg0.win 6).blk t).view.emb (ix2 ⟨o + h, hh⟩ a)) = _
  have e : ((cfg0.win 6).blk t).view.emb (ix2 ⟨o + h, hh⟩ a) = (ix2 ⟨o + h, hh⟩ ⟨256 * t.val + a, by omega⟩ : S8x32768.Idx) := by
    funext x
    match x with
    | ⟨0, _⟩ => exact Fin.ext (show win0_6.index t (0 : Fin 2) * 8 + 1 * (o + h : ℕ) = o + h by omega)
    | ⟨1, _⟩ => exact Fin.ext (show win0_6.index t (1 : Fin 2) * 256 + 1 * (a : ℕ) = 256 * t.val + a by omega)
  rw [e]
  entry_read
  pointwise []
  congr 2
  · exact Fin.ext (row_of t a).symm
  · exact Fin.ext (gcol_val _ _ ho).symm

theorem b7 (t : Fin cfg0.N) (i : Fin 4) (j : Fin 2048) : iblk m c 7 t (ix2 i j) = m ((c.tc : Thread nD τ).loc main_arg2) (ix2 i j) := by
  have p := (places t).2.2.2.2.2.2.2.1
  show V m c main_arg2 (((cfg0.win 7).blk t).view.emb (ix2 i j)) = _
  rw [V_main_arg2]
  congr 1
  funext x
  match x with
  | ⟨0, _⟩ => exact Fin.ext (show win0_7.index t (0 : Fin 2) * 4 + 1 * (i : ℕ) = i by omega)
  | ⟨1, _⟩ => exact Fin.ext (show win0_7.index t (1 : Fin 2) * 2048 + 1 * (j : ℕ) = j by omega)

theorem b8 (t : Fin cfg0.N) (j : Fin 2048) : iblk m c 8 t (ix2 0 j) = m ((c.tc : Thread nD τ).loc main_arg3) (ix1 j) := by
  have p := (places t).2.2.2.2.2.2.2.2.1
  show V m c main_v2 (((cfg0.win 8).blk t).view.emb (ix2 0 j)) = _
  have e : ((cfg0.win 8).blk t).view.emb (ix2 0 j) = (ix2 0 j : S1x2048.Idx) := by
    funext x
    match x with
    | ⟨0, _⟩ => exact Fin.ext (show win0_8.index t (0 : Fin 2) * 1 + 1 * 0 = 0 by omega)
    | ⟨1, _⟩ => exact Fin.ext (show win0_8.index t (1 : Fin 2) * 2048 + 1 * (j : ℕ) = j by omega)
  rw [e]
  entry_read
  pointwise []

theorem b9 (t : Fin cfg0.N) (j : Fin 1024) : iblk m c 9 t (ix2 0 j) = m ((c.tc : Thread nD τ).loc main_arg4) (ix1 j) := by
  have p := (places t).2.2.2.2.2.2.2.2.2
  show V m c main_v3 (((cfg0.win 9).blk t).view.emb (ix2 0 j)) = _
  have e : ((cfg0.win 9).blk t).view.emb (ix2 0 j) = (ix2 0 j : S1x1024.Idx) := by
    funext x
    match x with
    | ⟨0, _⟩ => exact Fin.ext (show win0_9.index t (0 : Fin 2) * 1 + 1 * 0 = 0 by omega)
    | ⟨1, _⟩ => exact Fin.ext (show win0_9.index t (1 : Fin 2) * 1024 + 1 * (j : ℕ) = j by omega)
  rw [e]
  entry_read
  pointwise []

variable (R : Reals (m ((c.tc : Thread nD τ).loc main_arg0)) (m ((c.tc : Thread nD τ).loc main_arg1))
  (m ((c.tc : Thread nD τ).loc main_arg2)) (m ((c.tc : Thread nD τ).loc main_arg3)))

include R in
/-- A grid point's blocks are its batch's inputs at its chunk. -/
theorem blk (t : Fin cfg0.N) : BlkAt m c t (B m c (bOf t.val (lt128 t))) (256 * (t.val % 16)) where
  x0 a j := (b0 m c t a j).trans (R.p _).symm
  x1 a j := (b1 m c t a j).trans (R.p _).symm
  x2 a j := (b2 m c t a j).trans (R.p _).symm
  x5i a h := by
    refine Eq.trans ?_ ((b5 m c t a 0 (by norm_num) h (by omega)).trans (R.g _).symm)
    exact congrArg (fun y => iblk m c 5 t (ix2 a y)) (Fin.ext (Nat.zero_add _).symm)
  x5f a h := (b5 m c t a 4 (by norm_num) h (by omega)).trans (R.g _).symm
  x6i a h := by
    refine Eq.trans ?_ ((b6 m c t a 0 (by norm_num) h (by omega)).trans (R.g _).symm)
    exact congrArg (fun y => iblk m c 6 t (ix2 y a)) (Fin.ext (Nat.zero_add _).symm)
  x6f a h := (b6 m c t a 4 (by norm_num) h (by omega)).trans (R.g _).symm
  x7 i j := (b7 m c t i j).trans (R.w _).symm
  x8 j := (b8 m c t j).trans (R.b _).symm

include R in
/-- What each grid point leaves in the scratch buffers is its batch's state after its chunk. -/
theorem inv : ∀ (n : ℕ) (hn : n < cfg0.N),
    InvAt (B m c (bOf n (lt128 ⟨n, hn⟩))) (256 * (n % 16) + 256) (outsAt0 m c n hn) := by
  intro n
  induction n with
  | zero => exact fun hn => inv_first m c ⟨0, hn⟩ _ (Nat.zero_mod 16) (blk m c R ⟨0, hn⟩)
  | succ n ih =>
    intro hn
    have h128 := lt128 ⟨n + 1, hn⟩
    have K := blk m c R ⟨n + 1, hn⟩
    by_cases h0 : (n + 1) % 16 = 0
    · have e : 256 * ((n + 1) % 16) = 0 := by rw [h0]
      dsimp only at K ⊢
      rw [e] at K ⊢
      exact inv_first m c ⟨n + 1, hn⟩ _ h0 K
    · have I := ih (Nat.lt_of_succ_lt hn)
      have e1 : 256 * (n % 16) + 256 = 256 * ((n + 1) % 16) := by omega
      have e2 : bOf n (lt128 ⟨n, Nat.lt_of_succ_lt hn⟩) = bOf (n + 1) (lt128 ⟨n + 1, hn⟩) := Fin.ext (show n / 16 = (n + 1) / 16 by omega)
      rw [e1, e2] at I
      exact inv_later m c ⟨n + 1, hn⟩ _ h0 _ K I

include R in
/-- What a grid point leaves in the output block. -/
theorem out_at (t : Fin cfg0.N) (a : Fin 256) (h : Fin 4) (e : Fin 256) (b : Fin 8) (T : ℕ) (hb : b = bOf t.val (lt128 t)) (hT : T = 256 * (t.val % 16)) :
    (outsAt0 m c t.val t.isLt).1 (ix2 a (col h e))
      = Lift.post (fun y => Lift.sig (m ((c.tc : Thread nD τ).loc main_arg0)) 8192 b (col h y) (T + a))
          (H ((B m c b).lf h) ((B m c b).ig h) ((B m c b).q h) ((B m c b).k h) ((B m c b).v h) (T + a))
          (m ((c.tc : Thread nD τ).loc main_arg4) (ix1 (col h e))) (Lift.sig (m ((c.tc : Thread nD τ).loc main_arg0)) 7168 b (col h e) (T + a)) e := by
  subst hb
  have K := blk m c R t
  have h4 : ∀ (a : Fin 256) (j : Fin 1024), iblk m c 4 t (ix2 a j) = (Lift.sig (m ((c.tc : Thread nD τ).loc main_arg0)) 8192 (bOf t.val (lt128 t)) j (T + a) : EReal) :=
    fun a j => by subst hT; exact (b4 m c t a j).trans (R.p _).symm
  have h3 : ∀ (a : Fin 256) (j : Fin 1024), iblk m c 3 t (ix2 a j) = (Lift.sig (m ((c.tc : Thread nD τ).loc main_arg0)) 7168 (bOf t.val (lt128 t)) j (T + a) : EReal) :=
    fun a j => by subst hT; exact (b3 m c t a j).trans (R.p _).symm
  rw [← hT] at K
  by_cases h0 : t.val % 16 = 0
  · have e0 : T = 0 := by rw [hT, h0]
    subst e0
    exact out_first m c t _ h0 K (fun s j => Lift.sig (m ((c.tc : Thread nD τ).loc main_arg0)) 8192 (bOf t.val (lt128 t)) j s)
      (fun s j => Lift.sig (m ((c.tc : Thread nD τ).loc main_arg0)) 7168 (bOf t.val (lt128 t)) j s)
      (fun j => m ((c.tc : Thread nD τ).loc main_arg4) (ix1 j)) h4 h3 (b9 m c t) a h e
  · have I := inv m c R (t.val - 1) (by omega)
    have h128 := lt128 t
    have e1 : 256 * ((t.val - 1) % 16) + 256 = T := by omega
    have e2 : bOf (t.val - 1) (by omega) = bOf t.val (lt128 t) := Fin.ext (show (t.val - 1) / 16 = t.val / 16 by omega)
    rw [e1, e2] at I
    exact out_later m c t _ h0 T K I (fun s j => Lift.sig (m ((c.tc : Thread nD τ).loc main_arg0)) 8192 (bOf t.val (lt128 t)) j s)
      (fun s j => Lift.sig (m ((c.tc : Thread nD τ).loc main_arg0)) 7168 (bOf t.val (lt128 t)) j s)
      (fun j => m ((c.tc : Thread nD τ).loc main_arg4) (ix1 j)) h4 h3 (b9 m c t) a h e

include R in
/-- What the kernel returns at time `t` of batch `b`, column `e` of head `h`. -/
theorem res_at (b : Fin 8) (t : Fin 4096) (h : Fin 4) (e : Fin 256) :
    G10 m c (ix2 (row b t) (col h e))
      = Lift.post (fun y => Lift.sig (m ((c.tc : Thread nD τ).loc main_arg0)) 8192 b (col h y) t)
          (H ((B m c b).lf h) ((B m c b).ig h) ((B m c b).q h) ((B m c b).k h) ((B m c b).v h) t)
          (m ((c.tc : Thread nD τ).loc main_arg4) (ix1 (col h e))) (Lift.sig (m ((c.tc : Thread nD τ).loc main_arg0)) 7168 b (col h e) t) e := by
  have hr := row_val b t t.isLt
  have hN : cfg0.N = 128 := N_0
  have hp : pt10Of (ix2 (row b t) (col h e)) = 16 * b + t / 256 := by
    show 1 * ((row b t : ℕ) / 256 - 0) + 1 * ((col h e : ℕ) / 1024 - 0) = _
    have := (col h e).isLt
    omega
  have hlt : 16 * (b : ℕ) + t / 256 < cfg0.N := by omega
  have hl : loc10Of (ix2 (row b t) (col h e)) = ix2 ⟨t % 256, Nat.mod_lt _ (by norm_num)⟩ (col h e) := by
    funext x
    match x with
    | ⟨0, _⟩ => exact Fin.ext (show (row b t : ℕ) % 256 = t % 256 by omega)
    | ⟨1, _⟩ => exact Fin.ext (show (col h e : ℕ) % 1024 = col h e by have := (col h e).isLt; omega)
  unfold G10
  rw [dif_pos (by rw [hp]; exact hlt), hl, fold0_congr m c _ _ _ (by omega) hp, ← outsAt0_sweep m c _ hlt]
  have ht : (t : ℕ) = 256 * ((16 * (b : ℕ) + t / 256) % 16) + t % 256 := by omega
  refine (out_at m c R ⟨_, hlt⟩ _ h e b _ (Fin.ext (show (b : ℕ) = (16 * b + t / 256) / 16 by omega)) rfl).trans ?_
  dsimp only
  rw [← ht]

end KFinal

end

end
-- ==== Proof.RStep.lean ====
/- One trip of the reference's loop: the carried arrays after a chunk of 64 times are the recurrence's. -/
module

public import Idealize.ShloMosaic.Lib.Pointwise
public import Idealize.ShloMosaic.Lib.DynamicIndex
public import Idealize.ShloMosaic.Lib.Tactic.CleanTypes
public import Idealize.ShloMosaic.Lib.Pipeline.Value
public import proofs.«01_k».proof.Proof.Gen.ReferenceIdeal.Run
public import proofs.«01_k».proof.Proof.Recur
public import proofs.«01_k».proof.Proof.Lift
public import proofs.«01_k».proof.Proof.KHead
public import proofs.«01_k».proof.Proof.KChunk

@[expose] public section

set_option maxRecDepth 16384

noncomputable section

namespace RStep

open Idealize.ShloMosaic Idealize.ShloMosaic.TcCoe Idealize.SL.Sem Cert.ReferenceIdeal Cert.ReferenceIdeal.Gen Cert.ReferenceIdeal.Value Lift Recur

/-- A sum over the numbers below `n` written as a fold is the sum. -/
theorem foldl_add {n : ℕ} (f : Fin n → EReal) (v : EReal) (l : List (Fin n)) :
    l.foldl (fun r i => r + f i) v = v + (l.map f).sum := by
  induction l generalizing v with
  | nil => simp
  | cons a l ih => simp [ih, add_assoc]

/-- The trailing part of a window that starts before the array. -/
theorem sum_tail (f : ℕ → ℝ) {L : ℕ} (j : Fin L) :
    (∑ c : Fin L, if L - 1 ≤ (j : ℕ) + c then f (j + c - (L - 1)) else 0) = ∑ s ∈ Finset.range (j + 1), f s := by
  obtain ⟨i, hi⟩ := j
  obtain ⟨r, rfl⟩ : ∃ r, L = r + (i + 1) := ⟨L - (i + 1), by omega⟩
  rw [Fin.sum_univ_eq_sum_range (fun c => if r + (i + 1) - 1 ≤ i + c then f (i + c - (r + (i + 1) - 1)) else 0) (r + (i + 1)),
    Finset.sum_range_add, Finset.sum_eq_zero, zero_add]
  · refine Finset.sum_congr rfl fun s hs => ?_
    rw [if_pos (by omega)]
    congr 1; omega
  · intro s hs
    have := Finset.mem_range.1 hs
    rw [if_neg (by omega)]

/-- What a position of the window that ends with time `j` contributes. -/
def win (x : FVec Ideal S8x4x64 .f32) (i : S8x4x64.Idx) (w : (⟨3, ![1, 1, 64]⟩ : Shape).Idx) : EReal :=
  if hin : ∀ a : Fin 3, (![0, 0, 63] : Fin 3 → ℕ) a ≤ (i a).val * (![1, 1, 1] : Fin 3 → ℕ) a + (w a).val
      ∧ (i a).val * (![1, 1, 1] : Fin 3 → ℕ) a + (w a).val - (![0, 0, 63] : Fin 3 → ℕ) a < S8x4x64.size a then
    x fun a => ⟨(i a).val * (![1, 1, 1] : Fin 3 → ℕ) a + (w a).val - (![0, 0, 63] : Fin 3 → ℕ) a, (hin a).2⟩
  else 0

/-- A window's position contributes the entry it lies on, or nothing before the array. -/
theorem win_at (x : FVec Ideal S8x4x64 .f32) (b : Fin 8) (hd : Fin 4) (j : Fin 64) (f : ℕ → ℝ)
    (hx : ∀ s : Fin 64, x (ix3 b hd s) = (f s : EReal)) (p q : Fin 1) (c : Fin 64) :
    win x (ix3 b hd j) (ix3 p q c) = ((if 64 - 1 ≤ (j : ℕ) + c then f (j + c - (64 - 1)) else 0 : ℝ) : EReal) := by
  have hj := j.isLt
  have hb := b.isLt
  have hh := hd.isLt
  have hc := c.isLt
  unfold win
  by_cases h : 63 ≤ (j : ℕ) + c
  · rw [if_pos h, dif_pos (fun a => by
      fin_cases a
      · exact ⟨Nat.zero_le _, by show b.val * 1 + p.val - 0 < 8; omega⟩
      · exact ⟨Nat.zero_le _, by show hd.val * 1 + q.val - 0 < 4; omega⟩
      · exact ⟨by show 63 ≤ j.val * 1 + c.val; omega, by show j.val * 1 + c.val - 63 < 64; omega⟩)]
    refine Eq.trans (congrArg x (funext fun a => ?_)) (hx ⟨j + c - 63, by omega⟩)
    fin_cases a
    · exact Fin.ext (show b.val * 1 + p.val - 0 = b.val by omega)
    · exact Fin.ext (show hd.val * 1 + q.val - 0 = hd.val by omega)
    · exact Fin.ext (show j.val * 1 + c.val - 63 = j.val + c.val - 63 by omega)
  · rw [if_neg h, dif_neg (fun hin => h (by have : 63 ≤ j.val * 1 + c.val := (hin 2).1; omega))]
    rfl

/-- The running sum along the last axis. -/
theorem cumsum_at (x : FVec Ideal S8x4x64 .f32) (v : FVec Ideal S_ .f32) (h) (hu) (b : Fin 8) (hd : Fin 4) (j : Fin 64) (f : ℕ → ℝ)
    (hv : v = fun _ => 0) (hx : ∀ s : Fin 64, x (ix3 b hd s) = (f s : EReal)) :
    Host.reduceWindowAdd ![1, 1, 64] ![1, 1, 1] ![0, 0, 63] ![0, 0, 0] x v h hu (ix3 b hd j)
      = ((∑ s ∈ Finset.range (j + 1), f s : ℝ) : EReal) := by
  subst hv
  unfold Host.reduceWindowAdd
  rw [Ideal.hostReduceWindowAdd_def]
  unfold Ideal.hostReduceWindowAdd Host.reduceWindow
  refine (foldl_add (fun n => _) _ _).trans ?_
  rw [zero_add]
  refine (Fin.sum_univ_def _).symm.trans (Eq.trans (Finset.sum_congr rfl fun i _ => (?_ : _ = win x (ix3 b hd j)
    ((⟨3, ![1, 1, 64]⟩ : Shape).rowMajor.symm i))) ((Equiv.sum_comp (⟨3, ![1, 1, 64]⟩ : Shape).rowMajor.symm (win x (ix3 b hd j))).trans ?_))
  · unfold win
    split <;> rename_i hin <;> split <;> rename_i hin'
    · rfl
    · exact absurd hin hin'
    · exact absurd hin' hin
    · rfl
  rw [sum_idx3]
  simp only [win_at x b hd j f hx, ← Lift.coe_sum]
  rw [Fin.sum_univ_one, Fin.sum_univ_one, sum_tail]

/-- The arrays the loop reads and, after `n` trips, those it carries. -/
structure In (B : Fin 8 → Batch) (n : ℕ) (V : Valuation τ sig (Elt Ideal)) : Prop where
  q : ∀ (i : Fin 64) (b : Fin 8) (h : Fin 4) (j : Fin 64) (d : Fin 256),
    (V (Proc.devRef .tc main_v70_0) : FVec Ideal S64x8x4x64x256 .f32) (ix5 i b h j d) = ((B b).q h (64 * i + j) d : EReal)
  k : ∀ (i : Fin 64) (b : Fin 8) (h : Fin 4) (j : Fin 64) (d : Fin 256),
    (V (Proc.devRef .tc main_v70_1) : FVec Ideal S64x8x4x64x256 .f32) (ix5 i b h j d) = ((B b).k h (64 * i + j) d : EReal)
  v : ∀ (i : Fin 64) (b : Fin 8) (h : Fin 4) (j : Fin 64) (d : Fin 256),
    (V (Proc.devRef .tc main_v70_2) : FVec Ideal S64x8x4x64x256 .f32) (ix5 i b h j d) = ((B b).v h (64 * i + j) d : EReal)
  ig : ∀ (i : Fin 64) (b : Fin 8) (h : Fin 4) (j : Fin 64),
    (V (Proc.devRef .tc main_v70_3) : FVec Ideal S64x8x4x64 .f32) (ix4 i b h j) = ((B b).ig h (64 * i + j) : EReal)
  lf : ∀ (i : Fin 64) (b : Fin 8) (h : Fin 4) (j : Fin 64),
    (V (Proc.devRef .tc main_v70_4) : FVec Ideal S64x8x4x64 .f32) (ix4 i b h j) = ((B b).lf h (64 * i + j) : EReal)
  mask : ∀ j s : Fin 64, (V (Proc.devRef .tc main_v70_5) : IVec S64x64 1) (ix2 j s) = if s ≤ j then 1#1 else 0#1
  ctr : (V (Proc.devRef .tc main_v70_6) : IVec S_ 32) = fun _ => BitVec.ofNat 32 n
  c : ∀ (b : Fin 8) (h : Fin 4) (d e : Fin 256), (V (Proc.devRef .tc main_v70_7) : FVec Ideal S8x4x256x256 .f32) (ix4 b h d e)
    = (C ((B b).lf h) ((B b).ig h) ((B b).k h) ((B b).v h) (64 * n) d e : EReal)
  nrm : ∀ (b : Fin 8) (h : Fin 4) (d : Fin 256), (V (Proc.devRef .tc main_v70_8) : FVec Ideal S8x4x256 .f32) (ix3 b h d)
    = (N ((B b).lf h) ((B b).ig h) ((B b).k h) (64 * n) d : EReal)
  m : ∀ (b : Fin 8) (h : Fin 4), (V (Proc.devRef .tc main_v70_9) : FVec Ideal S8x4 .f32) (ix2 b h)
    = ((F ((B b).lf h) (64 * n) + G ((B b).lf h) ((B b).ig h) (64 * n) : ℝ) : EReal)
  hs : ∀ (i : Fin 64) (b : Fin 8) (h : Fin 4) (j : Fin 64) (e : Fin 256), (i : ℕ) < n →
    (V (Proc.devRef .tc main_v70_10) : FVec Ideal S64x8x4x64x256 .f32) (ix5 i b h j e)
      = (H ((B b).lf h) ((B b).ig h) ((B b).q h) ((B b).k h) ((B b).v h) (64 * i + j) e : EReal)

/-- The slice of a five-axis array at the trip's number. -/
theorem slice5 {α : Type} (x : S64x8x4x64x256.Idx → α) (start : Fin 5 → ℤ) (n : ℕ) (hn : n < 64) (hs : ∀ a, start a = ((![n, 0, 0, 0, 0] : Fin 5 → ℕ) a : ℤ))
    (h) (hc) (b : Fin 8) (hd : Fin 4) (j : Fin 64) (d : Fin 256) :
    shapeCast S8x4x64x256 (Host.dynamicSlice S1x8x4x64x256 x start h) hc (ix4 b hd j d) = x (ix5 ⟨n, hn⟩ b hd j d) := by
  refine (congrArg (fun z => shapeCast S8x4x64x256 z hc _) (Host.dynamicSlice_eq_extractStridedSlice (s := S64x8x4x64x256) S1x8x4x64x256 x start
    (![n, 0, 0, 0, 0] : Fin 5 → ℕ) h ⟨rfl, fun a => by fin_cases a <;> simp <;> omega⟩ hs)).trans ?_
  pointwise []

/-- The slice of a four-axis array at the trip's number. -/
theorem slice4 {α : Type} (x : S64x8x4x64.Idx → α) (start : Fin 4 → ℤ) (n : ℕ) (hn : n < 64) (hs : ∀ a, start a = ((![n, 0, 0, 0] : Fin 4 → ℕ) a : ℤ))
    (h) (hc) (b : Fin 8) (hd : Fin 4) (j : Fin 64) :
    shapeCast S8x4x64 (Host.dynamicSlice S1x8x4x64 x start h) hc (ix3 b hd j) = x (ix4 ⟨n, hn⟩ b hd j) := by
  refine (congrArg (fun z => shapeCast S8x4x64 z hc _) (Host.dynamicSlice_eq_extractStridedSlice (s := S64x8x4x64) S1x8x4x64 x start
    (![n, 0, 0, 0] : Fin 4 → ℕ) h ⟨rfl, fun a => by fin_cases a <;> simp <;> omega⟩ hs)).trans ?_
  pointwise []

/-- The block of a five-axis array replaced at the trip's number. -/
theorem update5 {α : Type} (x : S64x8x4x64x256.Idx → α) (u : S1x8x4x64x256.Idx → α) (start : Fin 5 → ℤ) (n : ℕ) (hn : n < 64)
    (hs : ∀ a, start a = ((![n, 0, 0, 0, 0] : Fin 5 → ℕ) a : ℤ)) (h) (i : Fin 64) (b : Fin 8) (hd : Fin 4) (j : Fin 64) (d : Fin 256) :
    Host.dynamicUpdateSlice x u start h (ix5 i b hd j d) = if (i : ℕ) = n then u (ix5 0 b hd j d) else x (ix5 i b hd j d) := by
  rw [Host.dynamicUpdateSlice_eq_updateSlice x u start h (![n, 0, 0, 0, 0] : Fin 5 → ℕ)
    (fun a => by rw [hs a]; fin_cases a <;> simp <;> omega) ⟨rfl, fun a => by fin_cases a <;> simp <;> omega⟩]
  pointwise []
  by_cases hin : (i : ℕ) = n
  · rw [dif_pos ⟨by omega, by omega⟩, if_pos hin]
    exact congrArg (fun z => u (ix5 z b hd j d)) (Fin.ext (by show (i : ℕ) - n = 0; omega))
  · rw [dif_neg (by omega), if_neg hin]

/-- The host's absolute value of a real. -/
theorem abs_coe (x : ℝ) : (FloatOps.absf ((x : EReal) : Ideal .f32) : Ideal .f32) = ((|x| : ℝ) : EReal) := Lift.coe_abs x

variable {B : Fin 8 → Batch} {n : ℕ} {V : Valuation τ sig (Elt Ideal)} (I : In B n V) (hn : n < 64)
variable (b : Fin 8) (h : Fin 4)

include I hn in
theorem start5 (a : Fin 5) : (((![V (Proc.devRef .tc main_v70_6), constantI S_ 32 0#32, constantI S_ 32 0#32, constantI S_ 32 0#32, constantI S_ 32 0#32] : Fin 5 → (⟨S_, .i32⟩ : BufTy).Contents (Elt Ideal))) a (Shape.Idx.first h_S_)).toInt
    = ((![n, 0, 0, 0, 0] : Fin 5 → ℕ) a : ℤ) := by
  have e : (V (Proc.devRef .tc main_v70_6) : IVec S_ 32) (Shape.Idx.first h_S_) = BitVec.ofNat 32 n := congrFun I.ctr _
  fin_cases a
  · exact (congrArg BitVec.toInt e).trans (toInt_ofNat_of_lt (by omega))
  all_goals rfl

include I hn in
theorem start4 (a : Fin 4) : (((![V (Proc.devRef .tc main_v70_6), constantI S_ 32 0#32, constantI S_ 32 0#32, constantI S_ 32 0#32] : Fin 4 → (⟨S_, .i32⟩ : BufTy).Contents (Elt Ideal))) a (Shape.Idx.first h_S_)).toInt
    = ((![n, 0, 0, 0] : Fin 4 → ℕ) a : ℤ) := by
  have e : (V (Proc.devRef .tc main_v70_6) : IVec S_ 32) (Shape.Idx.first h_S_) = BitVec.ofNat 32 n := congrFun I.ctr _
  fin_cases a
  · exact (congrArg BitVec.toInt e).trans (toInt_ofNat_of_lt (by omega))
  all_goals rfl

include I hn in
/-- The chunk's queries. -/
theorem q_at (j : Fin 64) (d : Fin 256) : res_main_while0b_v108 V (ix4 b h j d) = ((B b).q h (64 * n + j) d : EReal) :=
  (slice5 _ _ n hn (start5 I hn) _ _ b h j d).trans (I.q ⟨n, hn⟩ b h j d)

include I hn in
/-- The chunk's keys. -/
theorem k_at (j : Fin 64) (d : Fin 256) : res_main_while0b_v109 V (ix4 b h j d) = ((B b).k h (64 * n + j) d : EReal) :=
  (slice5 _ _ n hn (start5 I hn) _ _ b h j d).trans (I.k ⟨n, hn⟩ b h j d)

include I hn in
/-- The chunk's values. -/
theorem v_at (j : Fin 64) (d : Fin 256) : res_main_while0b_v110 V (ix4 b h j d) = ((B b).v h (64 * n + j) d : EReal) :=
  (slice5 _ _ n hn (start5 I hn) _ _ b h j d).trans (I.v ⟨n, hn⟩ b h j d)

include I hn in
/-- The chunk's input gates. -/
theorem ig_at (j : Fin 64) : res_main_while0b_v111 V (ix3 b h j) = ((B b).ig h (64 * n + j) : EReal) :=
  (slice4 _ _ n hn (start4 I hn) _ _ b h j).trans (I.ig ⟨n, hn⟩ b h j)

include I hn in
/-- The running sums of the chunk's forget gates. -/
theorem b_at (j : Fin 64) :
    res_main_while0b_v113 V (ix3 b h j) = ((F ((B b).lf h) (64 * n + j + 1) - F ((B b).lf h) (64 * n) : ℝ) : EReal) := by
  refine (cumsum_at _ _ _ _ b h j (fun s => (B b).lf h (64 * n + s)) (by funext i; pointwise []) fun s =>
    (slice4 _ _ n hn (start4 I hn) _ _ b h s).trans (I.lf ⟨n, hn⟩ b h s)).trans ?_
  rw [show 64 * n + (j : ℕ) + 1 = 64 * n + (j + 1) by omega, F_chunk, add_sub_cancel_left]

include I hn in
/-- The masked gates. -/
theorem logd_at (j s : Fin 64) :
    res_main_while0b_v122 V (ix4 b h j s)
      = if s ≤ j then ((F ((B b).lf h) (64 * n + j + 1) + A ((B b).lf h) ((B b).ig h) (64 * n + s) : ℝ) : EReal) else ⊥ := by
  unfold res_main_while0b_v122
  clean_types
  pointwise [id]
  rw [b_at I hn, b_at I hn, ig_at I hn, I.mask, KHead.ofBits_neg_inf]
  split
  · simp only [← EReal.coe_sub, ← EReal.coe_add]
    refine (if_pos rfl).trans ?_
    congr 1; rw [A]; ring
  · rfl

include I hn in
/-- The stabiliser inside the chunk. -/
theorem m_at (j : Fin 64) :
    res_main_while0b_v127 V (ix3 b h j)
      = ((F ((B b).lf h) (64 * n + j + 1) + G ((B b).lf h) ((B b).ig h) (64 * n + j + 1) : ℝ) : EReal) := by
  unfold res_main_while0b_v127
  clean_types
  pointwise [id]
  rw [b_at I hn, I.m, KHead.ofBits_neg_inf, ← EReal.coe_add]
  simp only [logd_at I hn]
  rw [show F ((B b).lf h) (64 * n + j + 1) - F ((B b).lf h) (64 * n) + (F ((B b).lf h) (64 * n) + G ((B b).lf h) ((B b).ig h) (64 * n))
    = F ((B b).lf h) (64 * n + j + 1) + G ((B b).lf h) ((B b).ig h) (64 * n) by ring]
  exact max_masked _ _ _ _ j

include I hn in
/-- The factor of the state before the chunk. -/
theorem inter_at (j : Fin 64) :
    res_main_while0b_v136 V (ix3 b h j)
      = ((Real.exp (G ((B b).lf h) ((B b).ig h) (64 * n) - G ((B b).lf h) ((B b).ig h) (64 * n + j + 1)) : ℝ) : EReal) := by
  unfold res_main_while0b_v136
  clean_types
  pointwise [id]
  rw [b_at I hn, I.m, m_at I hn, ← EReal.coe_add, ← EReal.coe_sub, Ideal.exp_coe]
  congr 2; ring

include I hn in
/-- The weights inside the chunk. -/
theorem s_at (j s : Fin 64) :
    res_main_while0b_v138 V (ix4 b h j s)
      = ((qk ((B b).q h) ((B b).k h) (64 * n + j) (64 * n + s) * if s ≤ j then
          Real.exp (A ((B b).lf h) ((B b).ig h) (64 * n + s) - G ((B b).lf h) ((B b).ig h) (64 * n + j + 1)) else 0 : ℝ) : EReal) := by
  unfold res_main_while0b_v138
  clean_types
  pointwise [id]
  rw [logd_at I hn, m_at I hn]
  simp only [q_at I hn, k_at I hn]
  have h1 : (∑ x : Fin 256, ((B b).q h (64 * n + j) x : EReal) * ((B b).k h (64 * n + s) x : EReal))
      = (qk ((B b).q h) ((B b).k h) (64 * n + j) (64 * n + s) : EReal) := by
    simp only [← EReal.coe_mul, ← Lift.coe_sum]; rfl
  rw [h1, EReal.coe_mul]
  congr 1
  split
  · rw [← EReal.coe_sub, Ideal.exp_coe, add_sub_add_left_eq_sub]
  · rw [sub_eq_add_neg, EReal.bot_add, Ideal.exp_bot]; rfl

include I hn in
/-- The sum of the chunk's forget gates. -/
theorem blast_at : res_main_while0b_v157 V (ix2 b h) = ((F ((B b).lf h) (64 * n + 64) - F ((B b).lf h) (64 * n) : ℝ) : EReal) := by
  unfold res_main_while0b_v157
  clean_types
  pointwise [id]
  exact b_at I hn b h 63

include I hn in
/-- The gates of the chunk's times relative to its end. -/
theorem wlog_at (s : Fin 64) :
    res_main_while0b_v161 V (ix3 b h s) = ((F ((B b).lf h) (64 * n + 64) + A ((B b).lf h) ((B b).ig h) (64 * n + s) : ℝ) : EReal) := by
  unfold res_main_while0b_v161
  clean_types
  pointwise [id]
  rw [b_at I hn, blast_at I hn, ig_at I hn, ← EReal.coe_sub, ← EReal.coe_add]
  congr 1; rw [A]; ring

include I hn in
/-- The stabiliser after the chunk. -/
theorem mnew_at :
    res_main_while0b_v164 V (ix2 b h) = ((F ((B b).lf h) (64 * n + 64) + G ((B b).lf h) ((B b).ig h) (64 * n + 64) : ℝ) : EReal) := by
  unfold res_main_while0b_v164
  clean_types
  pointwise [id]
  rw [blast_at I hn, I.m, KHead.ofBits_neg_inf, ← EReal.coe_add]
  simp only [wlog_at I hn]
  rw [show F ((B b).lf h) (64 * n + 64) - F ((B b).lf h) (64 * n) + (F ((B b).lf h) (64 * n) + G ((B b).lf h) ((B b).ig h) (64 * n))
    = F ((B b).lf h) (64 * n + 64) + G ((B b).lf h) ((B b).ig h) (64 * n) by ring]
  exact max_all _ _ 63 _ _

include I hn in
/-- The factor of the state over the chunk. -/
theorem decay_at :
    res_main_while0b_v167 V (ix2 b h)
      = ((Real.exp (G ((B b).lf h) ((B b).ig h) (64 * n) - G ((B b).lf h) ((B b).ig h) (64 * n + 64)) : ℝ) : EReal) := by
  unfold res_main_while0b_v167
  clean_types
  pointwise [id]
  rw [blast_at I hn, I.m, mnew_at I hn, ← EReal.coe_add, ← EReal.coe_sub, Ideal.exp_coe]
  congr 2; ring

include I hn in
/-- The weighted keys. -/
theorem kw_at (s : Fin 64) (d : Fin 256) :
    res_main_while0b_v174 V (ix4 b h s d)
      = (((B b).k h (64 * n + s) d * Real.exp (A ((B b).lf h) ((B b).ig h) (64 * n + s) - G ((B b).lf h) ((B b).ig h) (64 * n + 64)) : ℝ) : EReal) := by
  unfold res_main_while0b_v174
  clean_types
  pointwise [id]
  rw [wlog_at I hn, mnew_at I hn, k_at I hn, ← EReal.coe_sub, Ideal.exp_coe, add_sub_add_left_eq_sub, ← EReal.coe_mul, mul_comm]

include I hn in
/-- The matrix memory after the chunk. -/
theorem c_next (d e : Fin 256) :
    step_main_v70_7 V (ix4 b h d e) = (C ((B b).lf h) ((B b).ig h) ((B b).k h) ((B b).v h) (64 * n + 64) d e : EReal) := by
  unfold step_main_v70_7
  clean_types
  pointwise [id]
  rw [decay_at I hn, I.c]
  simp only [kw_at I hn, v_at I hn, ← EReal.coe_mul, ← Lift.coe_sum, ← EReal.coe_add]
  rw [← C_chunk]

include I hn in
/-- The normaliser after the chunk. -/
theorem n_next (d : Fin 256) :
    step_main_v70_8 V (ix3 b h d) = (N ((B b).lf h) ((B b).ig h) ((B b).k h) (64 * n + 64) d : EReal) := by
  unfold step_main_v70_8
  clean_types
  pointwise [id]
  rw [decay_at I hn, I.nrm]
  simp only [kw_at I hn, ← EReal.coe_mul, ← Lift.coe_sum, ← EReal.coe_add]
  rw [← N_chunk]

include I hn in
/-- The outputs after the chunk. -/
theorem hs_next (i : Fin 64) (j : Fin 64) (e : Fin 256) (hi : (i : ℕ) < n + 1) :
    step_main_v70_10 V (ix5 i b h j e)
      = (H ((B b).lf h) ((B b).ig h) ((B b).q h) ((B b).k h) ((B b).v h) (64 * i + j) e : EReal) := by
  unfold step_main_v70_10
  clean_types
  refine (update5 _ _ _ n hn (start5 I hn) _ i b h j e).trans ?_
  split
  · rename_i hin
    rw [hin]
    pointwise [id]
    rw [inter_at I hn, m_at I hn]
    simp only [q_at I hn, v_at I hn, s_at I hn, I.c, I.nrm, ← EReal.coe_mul, ← Lift.coe_sum, ← EReal.coe_add]
    rw [num_chunk, den_chunk, abs_coe, ← EReal.coe_neg, Ideal.exp_coe, ← Lift.coe_max,
      Ideal.div_coe (lt_max_of_lt_right (Real.exp_pos _)).ne', ← EReal.coe_mul]
    rfl
  · exact I.hs i b h j e (by omega)

include I hn in
/-- One trip: the loop's arrays after it are the recurrence's after one more chunk. -/
theorem step : In B (n + 1) (STEP V) where
  q i b h j d := by rw [STEP_main_v70_0]; exact I.q i b h j d
  k i b h j d := by rw [STEP_main_v70_1]; exact I.k i b h j d
  v i b h j d := by rw [STEP_main_v70_2]; exact I.v i b h j d
  ig i b h j := by rw [STEP_main_v70_3]; exact I.ig i b h j
  lf i b h j := by rw [STEP_main_v70_4]; exact I.lf i b h j
  mask j s := by rw [STEP_main_v70_5]; exact I.mask j s
  ctr := by
    rw [STEP_main_v70_6]
    funext i
    exact (congrArg (fun x : BitVec 32 => x + 1#32) (congrFun I.ctr i)).trans (BitVec.ofNat_add n 1).symm
  c b h d e := by rw [STEP_main_v70_7]; exact c_next I hn b h d e
  nrm b h d := by rw [STEP_main_v70_8]; exact n_next I hn b h d
  m b h := by rw [STEP_main_v70_9]; exact mnew_at I hn b h
  hs i b h j e hi := by rw [STEP_main_v70_10]; exact hs_next I hn b h i j e hi

/-- All the trips. -/
theorem loop (I0 : In B 0 V) : ∀ k ≤ 64, In B k (STEP^[k] V)
  | 0, _ => I0
  | k + 1, hk => by
    rw [Function.iterate_succ_apply']
    exact step (loop I0 k (by omega)) (by omega)

end RStep
-- ==== Proof.RPre.lean ====
/- What the reference's loop starts from: the heads' queries, keys, values and gates in chunks, the mask and the zero state. -/
module

public import Idealize.ShloMosaic.Lib.Pointwise
public import Idealize.ShloMosaic.Lib.KernelVsHost
public import Idealize.ShloMosaic.Lib.WordCmp
public import Idealize.ShloMosaic.Lib.Tactic.CleanTypes
public import proofs.«01_k».proof.Proof.RStep
public import proofs.«01_k».proof.Proof.Inputs

@[expose] public section

set_option maxRecDepth 16384

noncomputable section

namespace RPre

open Idealize.ShloMosaic Idealize.ShloMosaic.TcCoe Idealize.SL.Sem Idealize.ShloMosaic.StableHlo
open Cert.ReferenceIdeal Cert.ReferenceIdeal.Gen Cert.ReferenceIdeal.Value Lift Recur

variable (P : FVec Ideal S32768x12288 .bf16) (Q : FVec Ideal S32768x128 .f32) (Y : FVec Ideal S4x2048 .f32) (Z : FVec Ideal S2048 .f32)

/-- The projections by batch and time. -/
def p3 : FVec Ideal S8x4096x12288 .f32 :=
  shapeCast S8x4096x12288 (extf FTy.f32 P bitsLt_bf16_f32) shapeCasts_S32768x12288_S8x4096x12288

/-- The convolved columns with three rows of zeros before them. -/
def up : FVec Ideal S8x4099x2048 .f32 :=
  pad S8x4099x2048 ![0, 3, 0] ![0, 0, 0] ![0, 0, 0]
    (extractStridedSlice S8x4096x2048 ![0, 0, 4096] (p3 P) slices_S8x4096x12288_S8x4096x2048_0_0_4096)
    (sitofp (F := Ideal) FTy.f32 (constantI S_ 32 0#32)) pads_S8x4096x2048_S8x4099x2048_000_300_000 h_S_

/-- A tap's weights along the batches and times. -/
def tap (o : Fin 2 → ℕ) (h : S4x2048.Slices o S1x2048) : FVec Ideal S8x4096x2048 .f32 :=
  broadcastInDim S8x4096x2048 ![0, 1, 2] bcast_S1x1x2048_S8x4096x2048_0_1_2
    (broadcastInDim S1x1x2048 ![2] bcast_S2048_S1x1x2048_2
      (shapeCast S2048 (extractStridedSlice S1x2048 o Y h) shapeCasts_S1x2048_S2048))

/-- The convolution. -/
def cv : FVec Ideal S8x4096x2048 .f32 :=
  addf (addf (addf (addf
      (mulf (tap Y ![0, 0] slices_S4x2048_S1x2048_0_0) (extractStridedSlice S8x4096x2048 ![0, 0, 0] (up P) slices_S8x4099x2048_S8x4096x2048_0_0_0))
      (mulf (tap Y ![1, 0] slices_S4x2048_S1x2048_1_0) (extractStridedSlice S8x4096x2048 ![0, 1, 0] (up P) slices_S8x4099x2048_S8x4096x2048_0_1_0)))
      (mulf (tap Y ![2, 0] slices_S4x2048_S1x2048_2_0) (extractStridedSlice S8x4096x2048 ![0, 2, 0] (up P) slices_S8x4099x2048_S8x4096x2048_0_2_0)))
      (mulf (tap Y ![3, 0] slices_S4x2048_S1x2048_3_0) (extractStridedSlice S8x4096x2048 ![0, 3, 0] (up P) slices_S8x4099x2048_S8x4096x2048_0_3_0)))
    (broadcastInDim S8x4096x2048 ![0, 1, 2] bcast_S1x1x2048_S8x4096x2048_0_1_2 (broadcastInDim S1x1x2048 ![2] bcast_S2048_S1x1x2048_2 Z))

/-- One along the batches and times. -/
def ones : FVec Ideal S8x4096x2048 .f32 := broadcastInDim S8x4096x2048 ![] bcast_S_S8x4096x2048 (constant (F := Ideal) S_ FTy.f32 1065353216#32)

/-- The queries and keys, before the keys' factor. -/
def qk0 : FVec Ideal S8x4096x2048 .f32 :=
  mulf (cv P Y Z) (Host.divf ones (addf ones (Host.exp (Host.negf (cv P Y Z)))))

/-- Columns by head. -/
def heads (x : FVec Ideal S8x4096x1024 .f32) : FVec Ideal S8x4x4096x256 .f32 :=
  transpose S8x4x4096x256 [0, 2, 1, 3] (shapeCast S8x4096x4x256 x shapeCasts_S8x4096x1024_S8x4096x4x256)
    transposes_S8x4096x4x256_S8x4x4096x256_0_2_1_3

/-- Times by chunk. -/
def chunks (x : FVec Ideal S8x4x4096x256 .f32) : FVec Ideal S64x8x4x64x256 .f32 :=
  transpose S64x8x4x64x256 [2, 0, 1, 3, 4] (shapeCast S8x4x64x64x256 x shapeCasts_S8x4x4096x256_S8x4x64x64x256)
    transposes_S8x4x64x64x256_S64x8x4x64x256_2_0_1_3_4

/-- Gates by chunk. -/
def gchunks (x : FVec Ideal S8x4x4096 .f32) : FVec Ideal S64x8x4x64 .f32 :=
  transpose S64x8x4x64 [2, 0, 1, 3] (shapeCast S8x4x64x64 x shapeCasts_S8x4x4096_S8x4x64x64) transposes_S8x4x64x64_S64x8x4x64_2_0_1_3

/-- A gate's columns by head. -/
def gate (o : Fin 3 → ℕ) (h : S8x4096x128.Slices o S8x4096x4) : FVec Ideal S8x4x4096 .f32 :=
  transpose S8x4x4096 [0, 2, 1] (extractStridedSlice S8x4096x4 o (shapeCast S8x4096x128 Q shapeCasts_S32768x128_S8x4096x128) h)
    transposes_S8x4096x4_S8x4x4096_0_2_1

/-- Zero along the gates. -/
def zs : FVec Ideal S8x4x4096 .f32 := broadcastInDim S8x4x4096 ![] bcast_S_S8x4x4096 (constant (F := Ideal) S_ FTy.f32 0#32)

/-- The log sigmoid. -/
def ls (x : FVec Ideal S8x4x4096 .f32) : FVec Ideal S8x4x4096 .f32 :=
  Host.negf (select (cmpf .une (subf (Host.negf x) zs) (subf (Host.negf x) zs)) (addf (Host.negf x) zs)
    (addf (maximumf (Host.negf x) zs) (Host.log1p (Host.exp (Host.negf (Host.absf (subf (Host.negf x) zs)))))))

/-- Twice a batch's 1024 columns: the convolved ones. -/
def u2 (b : Fin 8) (c : Fin 2048) (t : ℕ) : ℝ := (P (ix2 (row b t) ⟨4096 + c, by omega⟩)).toReal

/-- The first half of the convolved columns are the queries' inputs. -/
theorem u2_lo (b : Fin 8) (x : Fin 1024) : u2 P b (lo x) = Lift.sig P 4096 b x := by
  funext t
  simp only [u2, Lift.sig]
  congr 3
  exact Fin.ext (by rw [tile_val _ _ (by norm_num)]; rfl)

/-- The second half are the keys'. -/
theorem u2_hi (b : Fin 8) (x : Fin 1024) : u2 P b (hi x) = Lift.sig P 5120 b x := by
  funext t
  simp only [u2, Lift.sig]
  congr 3
  exact Fin.ext (by rw [tile_val _ _ (by norm_num)]; simp only [hi]; omega)

variable {P Q Y Z} (R : Reals P Q Y Z)

theorem p3_at (b : Fin 8) (t : Fin 4096) (c : Fin 12288) : p3 P (ix3 b t c) = P (ix2 (row b t) c) := by
  unfold p3
  pointwise []
  congr 2
  exact Fin.ext (by rw [row_val b t t.isLt]; simp only []; omega)

theorem sitofp_zero : (FloatOps.sitofp (F := Ideal) FTy.f32 (0#32) : EReal) = ((0 : ℝ) : EReal) := by
  show (((0#32 : BitVec 32).toInt : ℝ) : EReal) = _
  simp

include R in
theorem up_at (b : Fin 8) (t : ℕ) (ht : t < 4099) (c : Fin 2048) :
    up P (ix3 b ⟨t, ht⟩ c) = ((if 3 ≤ t then u2 P b c (t - 3) else 0 : ℝ) : EReal) := by
  unfold up
  by_cases h : 3 ≤ t
  · rw [if_pos h]
    refine (pad_apply_of_inside _ _ _ _ _ _ _ _ (ix3 b ⟨t - 3, by omega⟩ c) (fun a => ?_)).trans ?_
    · fin_cases a
      · exact show (b : ℕ) = 0 + b * (0 + 1) by omega
      · exact show t = 3 + (t - 3) * (0 + 1) by omega
      · exact show (c : ℕ) = 0 + c * (0 + 1) by omega
    · rw [u2, R.p]
      refine Eq.trans ?_ (p3_at (P := P) b ⟨t - 3, by omega⟩ ⟨4096 + c, by omega⟩)
      pointwise []
  · rw [if_neg h]
    refine (pad_apply_of_not_inside _ _ _ _ _ _ _ _ 1 (fun hh => h hh.1)).trans ?_
    exact sitofp_zero

include R in
/-- The convolution, over the reals. -/
theorem cv_at (b : Fin 8) (t : Fin 4096) (c : Fin 2048) :
    cv P Y Z (ix3 b t c) = (conv (u2 P b c) (fun i => (Y (ix2 i c)).toReal) (Z (ix1 c)).toReal t : EReal) := by
  unfold cv tap
  pointwise []
  have ht := t.isLt
  rw [up_at R, up_at R, up_at R, up_at R, ← R.w (ix2 0 c), ← R.w (ix2 1 c), ← R.w (ix2 2 c), ← R.w (ix2 3 c), ← R.b (ix1 c)]
  simp only [← EReal.coe_mul, ← EReal.coe_add, EReal.toReal_coe]
  congr 1
  simp only [conv, delay]
  have e0 : (if 3 ≤ 3 + (t : ℕ) then u2 P b c (3 + t - 3) else 0) = u2 P b c t := by
    rw [if_pos (by omega), Nat.add_sub_cancel_left]
  have e1 : (if 3 ≤ 2 + (t : ℕ) then u2 P b c (2 + t - 3) else 0) = if 1 ≤ (t : ℕ) then u2 P b c (t - 1) else 0 := by
    by_cases h : 1 ≤ (t : ℕ)
    · rw [if_pos h, if_pos (by omega)]; congr 1; omega
    · rw [if_neg h, if_neg (by omega)]
  have e2 : (if 3 ≤ 1 + (t : ℕ) then u2 P b c (1 + t - 3) else 0) = if 2 ≤ (t : ℕ) then u2 P b c (t - 2) else 0 := by
    by_cases h : 2 ≤ (t : ℕ)
    · rw [if_pos h, if_pos (by omega)]; congr 1; omega
    · rw [if_neg h, if_neg (by omega)]
  rw [e0, e1, e2]
  ring

include R in
/-- The queries and keys, over the reals. -/
theorem qk0_at (b : Fin 8) (t : Fin 4096) (c : Fin 2048) :
    qk0 P Y Z (ix3 b t c) = (silu (conv (u2 P b c) (fun i => (Y (ix2 i c)).toReal) (Z (ix1 c)).toReal t) : EReal) := by
  unfold qk0 ones
  pointwise []
  rw [cv_at R, sigmoid_exp, ← EReal.coe_mul]
  rfl

theorem heads_at (x : FVec Ideal S8x4096x1024 .f32) (b : Fin 8) (h : Fin 4) (t : Fin 4096) (d : Fin 256) :
    heads x (ix4 b h t d) = x (ix3 b t (col h d)) := by
  unfold heads
  pointwise []
  congr 2
  exact Fin.ext (show (h : ℕ) * 256 + d = 256 * h + d by omega)

theorem chunks_at (x : FVec Ideal S8x4x4096x256 .f32) (i : Fin 64) (b : Fin 8) (h : Fin 4) (j : Fin 64) (d : Fin 256) :
    chunks x (ix5 i b h j d) = x (ix4 b h ⟨64 * i + j, by omega⟩ d) := by
  unfold chunks
  pointwise []
  congr 2
  exact Fin.ext (show (i : ℕ) * 64 + j = 64 * i + j by omega)

theorem gchunks_at (x : FVec Ideal S8x4x4096 .f32) (i : Fin 64) (b : Fin 8) (h : Fin 4) (j : Fin 64) :
    gchunks x (ix4 i b h j) = x (ix3 b h ⟨64 * i + j, by omega⟩) := by
  unfold gchunks
  pointwise []
  congr 2
  exact Fin.ext (show (i : ℕ) * 64 + j = 64 * i + j by omega)

theorem gate_at0 (b : Fin 8) (h : Fin 4) (t : Fin 4096) :
    gate Q ![0, 0, 0] slices_S8x4096x128_S8x4096x4_0_0_0 (ix3 b h t) = Q (ix2 (row b t) (gcol 0 h)) := by
  unfold gate
  pointwise []
  congr 2
  · exact Fin.ext (by rw [row_val b t t.isLt]; simp only []; omega)
  · exact Fin.ext (by rw [gcol_val 0 h (by norm_num)]; simp only []; omega)

theorem gate_at4 (b : Fin 8) (h : Fin 4) (t : Fin 4096) :
    gate Q ![0, 0, 4] slices_S8x4096x128_S8x4096x4_0_0_4 (ix3 b h t) = Q (ix2 (row b t) (gcol 4 h)) := by
  unfold gate
  pointwise []
  congr 2
  · exact Fin.ext (by rw [row_val b t t.isLt]; simp only []; omega)
  · exact Fin.ext (by rw [gcol_val 4 h (by norm_num)])

theorem ls_at (x : FVec Ideal S8x4x4096 .f32) (i : S8x4x4096.Idx) (r : ℝ) (hx : x i = (r : EReal)) : ls x i = (lsg r : EReal) := by
  unfold ls zs
  pointwise []
  have e := lsg_softplus r
  rw [sub_zero] at e
  rw [if_neg (fun hh => hh rfl), hx]
  exact e

/-- The keys' factor. -/
theorem sixteenth : Ideal.ofBits FTy.f32 0x3D800000#32 = ((1 / 16 : ℝ) : EReal) := by
  simp [Ideal.ofBits, Ideal.ieee]
  rw [← EReal.coe_mul]
  norm_num

section Entry

variable (m : (ℓ : Loc nD τ sig) → Buf (Elt Ideal) ℓ) (c : Dev nD)

theorem main_v6_to (h1 h2 h3) (v : (⟨S8x4099x2048, .f32⟩ : BufTy).Contents (Elt Ideal)) :
    (TRef.of main_v6 h1 h2 h3 : TRef sig ⟨S8x4099x2048, .f32⟩).toBuf v = v := rfl
theorem main_v37_to (h1 h2 h3) (v : (⟨S8x4096x2048, .f32⟩ : BufTy).Contents (Elt Ideal)) :
    (TRef.of main_v37 h1 h2 h3 : TRef sig ⟨S8x4096x2048, .f32⟩).toBuf v = v := rfl
theorem main_v53_to (h1 h2 h3) (v : (⟨S8x4x4096, .f32⟩ : BufTy).Contents (Elt Ideal)) :
    (TRef.of main_v53 h1 h2 h3 : TRef sig ⟨S8x4x4096, .f32⟩).toBuf v = v := rfl
theorem main_c_of (h1 h2 h3) (v : main_c.ty.Contents (Elt Ideal)) :
    (TRef.of main_c h1 h2 h3 : TRef sig ⟨S_, .i32⟩).ofBuf v = v := rfl
theorem main_v5_of (h1 h2 h3) (v : main_v5.ty.Contents (Elt Ideal)) :
    (TRef.of main_v5 h1 h2 h3 : TRef sig ⟨S8x4096x2048, .f32⟩).ofBuf v = v := rfl
theorem main_v36_of (h1 h2 h3) (v : main_v36.ty.Contents (Elt Ideal)) :
    (TRef.of main_v36 h1 h2 h3 : TRef sig ⟨S8x4096x2048, .f32⟩).ofBuf v = v := rfl
theorem main_v52_of (h1 h2 h3) (v : main_v52.ty.Contents (Elt Ideal)) :
    (TRef.of main_v52 h1 h2 h3 : TRef sig ⟨S8x4x4096, .f32⟩).ofBuf v = v := rfl

/-- The queries the loop reads. -/
theorem entry0 : entryContents preI m c (Proc.devRef .tc main_v70_0) =
    chunks (heads (extractStridedSlice S8x4096x1024 ![0, 0, 0] (qk0 (m ((c.tc : Thread nD τ).loc main_arg0)) (m ((c.tc : Thread nD τ).loc main_arg2)) (m ((c.tc : Thread nD τ).loc main_arg3)))
      slices_S8x4096x2048_S8x4096x1024_0_0_0)) := by
  simp only [entryContents, afterL_cons, afterL_nil]
  after_reads_simp
  simp only [TRef.ofBuf_toBuf]
  clean_types
  simp only [main_v6_to, main_v37_to, main_v53_to, main_c_of, main_v5_of, main_v36_of, main_v52_of]
  rfl

/-- The keys the loop reads. -/
theorem entry1 : entryContents preI m c (Proc.devRef .tc main_v70_1) =
    chunks (mulf (heads (extractStridedSlice S8x4096x1024 ![0, 0, 1024] (qk0 (m ((c.tc : Thread nD τ).loc main_arg0)) (m ((c.tc : Thread nD τ).loc main_arg2)) (m ((c.tc : Thread nD τ).loc main_arg3)))
      slices_S8x4096x2048_S8x4096x1024_0_0_1024)) (broadcastInDim S8x4x4096x256 ![] bcast_S_S8x4x4096x256 (constant (F := Ideal) S_ .f32 0x3D800000#32))) := by
  simp only [entryContents, afterL_cons, afterL_nil]
  after_reads_simp
  simp only [TRef.ofBuf_toBuf]
  clean_types
  simp only [main_v6_to, main_v37_to, main_v53_to, main_c_of, main_v5_of, main_v36_of, main_v52_of]
  rfl

/-- The values the loop reads. -/
theorem entry2 : entryContents preI m c (Proc.devRef .tc main_v70_2) =
    chunks (heads (extractStridedSlice S8x4096x1024 ![0, 0, 6144] (p3 (m ((c.tc : Thread nD τ).loc main_arg0)))
      slices_S8x4096x12288_S8x4096x1024_0_0_6144)) := by
  simp only [entryContents, afterL_cons, afterL_nil]
  after_reads_simp
  rfl

/-- The input gates the loop reads. -/
theorem entry3 : entryContents preI m c (Proc.devRef .tc main_v70_3) =
    gchunks (gate (m ((c.tc : Thread nD τ).loc main_arg1)) ![0, 0, 0] slices_S8x4096x128_S8x4096x4_0_0_0) := by
  simp only [entryContents, afterL_cons, afterL_nil]
  after_reads_simp
  rfl

/-- The log forget gates the loop reads. -/
theorem entry4 : entryContents preI m c (Proc.devRef .tc main_v70_4) =
    gchunks (ls (gate (m ((c.tc : Thread nD τ).loc main_arg1)) ![0, 0, 4] slices_S8x4096x128_S8x4096x4_0_0_4)) := by
  simp only [entryContents, afterL_cons, afterL_nil]
  after_reads_simp
  simp only [TRef.ofBuf_toBuf]
  clean_types
  simp only [main_v6_to, main_v37_to, main_v53_to, main_c_of, main_v5_of, main_v36_of, main_v52_of]
  rfl

/-- The eight batches of a memory. -/
abbrev B (b : Fin 8) : Batch :=
  bat (m ((c.tc : Thread nD τ).loc main_arg0)) (m ((c.tc : Thread nD τ).loc main_arg1)) (m ((c.tc : Thread nD τ).loc main_arg2))
    (m ((c.tc : Thread nD τ).loc main_arg3)) b

/-- What the loop starts from holds the eight batches' inputs and the recurrence before its first chunk. -/
theorem entry_in (R : Reals (m ((c.tc : Thread nD τ).loc main_arg0)) (m ((c.tc : Thread nD τ).loc main_arg1))
      (m ((c.tc : Thread nD τ).loc main_arg2)) (m ((c.tc : Thread nD τ).loc main_arg3))) :
    RStep.In (B m c) 0 (entryContents preI m c) where
  q i b h j d := by
    rw [entry0, chunks_at, heads_at]
    pointwise []
    refine (qk0_at R b ⟨64 * i + j, by omega⟩ (lo (col h d))).trans ?_
    rw [u2_lo]
    rfl
  k i b h j d := by
    rw [entry1, chunks_at]
    pointwise []
    rw [heads_at]
    pointwise []
    refine (congrArg₂ (· * ·) (qk0_at R b ⟨64 * i + j, by omega⟩ (hi (col h d))) sixteenth).trans ?_
    rw [u2_hi, ← EReal.coe_mul]
    rfl
  v i b h j d := by
    rw [entry2, chunks_at, heads_at]
    pointwise []
    rw [p3_at, ← R.p]
    refine congrArg (fun x => ((EReal.toReal (m ((c.tc : Thread nD τ).loc main_arg0) (ix2 _ x)) : ℝ) : EReal)) (Fin.ext ?_)
    rw [tile_val _ _ (by norm_num)]
  ig i b h j := by
    rw [entry3, gchunks_at, gate_at0]
    exact (R.g _).symm
  lf i b h j := by
    rw [entry4, gchunks_at]
    exact ls_at _ _ _ ((gate_at4 _ _ _).trans (R.g _).symm)
  mask j s := by
    simp only [entryContents, afterL_cons, afterL_nil]
    after_reads_simp
    simp only [TRef.ofBuf_toBuf, TRef.ofBuf, TRef.toBuf]
    clean_types
    simp only [cast_eq]
    pointwise [id]
    rw [show IntOp.addi (BitVec.ofNat 32 (j : ℕ)) 0#32 = BitVec.ofNat 32 j from BitVec.add_zero _,
      WordCmp.cmpi_sge_ofNat (by omega) (by omega), WordCmp.select_ofBool]
    simp only [decide_eq_true_eq]
    rfl
  ctr := ctr_entry m c
  c b h d e := by
    simp only [entryContents, afterL_cons, afterL_nil]
    after_reads_simp
    pointwise [id]
    simp [C, W]
  nrm b h d := by
    simp only [entryContents, afterL_cons, afterL_nil]
    after_reads_simp
    pointwise [id]
    simp [N, W]
  m b h := by
    simp only [entryContents, afterL_cons, afterL_nil]
    after_reads_simp
    pointwise [id]
    simp [F, G]
  hs i b h j e hi := absurd hi (Nat.not_lt_zero _)

end Entry

end RPre

end

end
-- ==== Proof.RPost.lean ====
/- What the reference returns: the gated, normalised and scaled outputs of the loop, at an entry. -/
module

public import Idealize.ShloMosaic.Lib.Pointwise
public import Idealize.ShloMosaic.Lib.Tactic.CleanTypes
public import proofs.«01_k».proof.Proof.RPre

@[expose] public section

set_option maxRecDepth 16384

noncomputable section

namespace RPost

open Idealize.ShloMosaic Idealize.ShloMosaic.TcCoe Idealize.SL.Sem Idealize.ShloMosaic.StableHlo
open Cert.ReferenceIdeal Cert.ReferenceIdeal.Gen Cert.ReferenceIdeal.Value Lift Recur RPre

variable (P : FVec Ideal S32768x12288 .bf16) (U : FVec Ideal S64x8x4x64x256 .f32) (W : FVec Ideal S1024 .f32)

/-- One along the heads. -/
def one4 : FVec Ideal S8x4x4096x256 .f32 := broadcastInDim S8x4x4096x256 ![] bcast_S_S8x4x4096x256 (constant (F := Ideal) S_ .f32 0x3F800000#32)

/-- The output gates by head. -/
def ga : FVec Ideal S8x4x4096x256 .f32 :=
  Host.divf one4 (addf one4 (Host.exp (Host.negf (heads (extractStridedSlice S8x4096x1024 ![0, 0, 8192] (p3 P) slices_S8x4096x12288_S8x4096x1024_0_0_8192)))))

/-- The loop's outputs along time. -/
def hm : FVec Ideal S8x4x4096x256 .f32 :=
  shapeCast _ (transpose S8x4x64x64x256 [1, 2, 0, 3, 4] U transposes_S64x8x4x64x256_S8x4x64x64x256_1_2_0_3_4) shapeCasts_S8x4x64x64x256_S8x4x4096x256

/-- The gated outputs. -/
def gh : FVec Ideal S8x4x4096x256 .f32 := mulf (ga P) (hm U)

/-- The normalising factors. -/
def nf : FVec Ideal S8x4x4096x1 .f32 :=
  Host.rsqrt (addf (Host.divf (broadcastInDim S8x4x4096x1 ![0, 1, 2] bcast_S8x4x4096_S8x4x4096x1_0_1_2
      (Host.reduceAdd (mulf (gh P U) (gh P U)) (constant S_ .f32 0x00000000#32) reducesTo_S8x4x4096x256_S8x4x4096_d3 h_S_))
      (broadcastInDim S8x4x4096x1 ![] bcast_S_S8x4x4096x1 (constant S_ .f32 0x43800000#32)))
    (broadcastInDim S8x4x4096x1 ![] bcast_S_S8x4x4096x1 (constant S_ .f32 0x358637BD#32)))

/-- The normalised, scaled outputs. -/
def nh : FVec Ideal S8x4x4096x256 .f32 :=
  mulf (mulf (gh P U) (broadcastInDim S8x4x4096x256 ![0, 1, 2, 3] bcast_S8x4x4096x1_S8x4x4096x256_0_1_2_3 (nf P U)))
    (broadcastInDim S8x4x4096x256 ![0, 1, 2, 3] bcast_S1x4x1x256_S8x4x4096x256_0_1_2_3
      (broadcastInDim S1x4x1x256 ![1, 2, 3] bcast_S4x1x256_S1x4x1x256_1_2_3 (shapeCast _ W shapeCasts_S1024_S4x1x256)))

/-- The second gate's columns. -/
def zc : FVec Ideal S8x4096x1024 .f32 := extractStridedSlice S8x4096x1024 ![0, 0, 7168] (p3 P) slices_S8x4096x12288_S8x4096x1024_0_0_7168

/-- The second gate. -/
def zg : FVec Ideal S8x4096x1024 .f32 :=
  mulf (zc P) (Host.divf (broadcastInDim S8x4096x1024 ![] bcast_S_S8x4096x1024 (constant S_ .f32 0x3F800000#32))
    (addf (broadcastInDim S8x4096x1024 ![] bcast_S_S8x4096x1024 (constant S_ .f32 0x3F800000#32)) (Host.exp (Host.negf (zc P)))))

/-- What is returned. -/
def res : FVec Ideal S32768x1024 .bf16 :=
  truncf .bf16 (shapeCast _ (mulf (shapeCast _ (transpose S8x4096x4x256 [0, 2, 1, 3] (nh P U W) transposes_S8x4x4096x256_S8x4096x4x256_0_2_1_3)
    shapeCasts_S8x4096x4x256_S8x4096x1024) (zg P)) shapeCasts_S8x4096x1024_S32768x1024) bitsLt_bf16_f32

variable {P U W} (RP : ∀ i, ((P i).toReal : EReal) = P i)
variable (Hh : Fin 8 → Fin 4 → ℕ → Fin 256 → ℝ)
variable (HU : ∀ (i : Fin 64) (b : Fin 8) (h : Fin 4) (j : Fin 64) (e : Fin 256), U (ix5 i b h j e) = (Hh b h (64 * i + j) e : EReal))

include RP in
/-- A column of the projections. -/
theorem col_at (o : ℕ) (ho : o ≤ 11264) (b : Fin 8) (t : Fin 4096) (j : Fin 1024) (hs : o + (j : ℕ) < 12288) :
    p3 P (ix3 b t ⟨o + j, hs⟩) = (Lift.sig P o b j t : EReal) := by
  rw [p3_at, Lift.sig, RP]
  congr 2
  exact Fin.ext (tile_val o j ho).symm

include RP in
theorem ga_at (b : Fin 8) (h : Fin 4) (t : Fin 4096) (e : Fin 256) :
    ga P (ix4 b h t e) = (sg (Lift.sig P 8192 b (col h e) t) : EReal) := by
  unfold ga one4
  pointwise []
  rw [heads_at]
  pointwise []
  rw [col_at RP 8192 (by norm_num), sigmoid_exp]

include HU in
theorem hm_at (b : Fin 8) (h : Fin 4) (t : Fin 4096) (e : Fin 256) : hm U (ix4 b h t e) = (Hh b h t e : EReal) := by
  unfold hm
  pointwise []
  refine (HU _ _ _ _ _).trans ?_
  congr 2
  show 64 * ((t : ℕ) / 64) + (t : ℕ) % 64 = t
  omega

include RP HU in
theorem gh_at (b : Fin 8) (h : Fin 4) (t : Fin 4096) (e : Fin 256) :
    gh P U (ix4 b h t e) = ((sg (Lift.sig P 8192 b (col h e) t) * Hh b h t e : ℝ) : EReal) := by
  unfold gh
  pointwise []
  rw [ga_at RP, hm_at Hh HU, ← EReal.coe_mul]

include RP HU in
theorem nf_at (b : Fin 8) (h : Fin 4) (t : Fin 4096) (z : Fin 1) :
    nf P U (ix4 b h t z) = Ideal.rsqrt (Ideal.div (∑ x, ((sg (Lift.sig P 8192 b (col h x) t) * Hh b h t x : ℝ) : EReal) * ((sg (Lift.sig P 8192 b (col h x) t) * Hh b h t x : ℝ) : EReal))
      (Ideal.ofBits FTy.f32 0x43800000#32) + Ideal.ofBits FTy.f32 0x358637BD#32) := by
  unfold nf
  pointwise []
  simp only [gh_at RP Hh HU]

include RP HU in
theorem nh_at (b : Fin 8) (h : Fin 4) (t : Fin 4096) (e : Fin 256) :
    nh P U W (ix4 b h t e) = ((sg (Lift.sig P 8192 b (col h e) t) * Hh b h t e : ℝ) : EReal)
      * Ideal.rsqrt (Ideal.div (∑ x, ((sg (Lift.sig P 8192 b (col h x) t) * Hh b h t x : ℝ) : EReal) * ((sg (Lift.sig P 8192 b (col h x) t) * Hh b h t x : ℝ) : EReal))
        (Ideal.ofBits FTy.f32 0x43800000#32) + Ideal.ofBits FTy.f32 0x358637BD#32) * W (ix1 (col h e)) := by
  unfold nh
  pointwise []
  rw [gh_at RP Hh HU, nf_at RP Hh HU]
  congr 3
  exact Fin.ext (show (h : ℕ) * 256 + e = 256 * h + e by omega)

include RP in
theorem zg_at (b : Fin 8) (t : Fin 4096) (j : Fin 1024) : zg P (ix3 b t j) = (silu (Lift.sig P 7168 b j t) : EReal) := by
  unfold zg zc
  pointwise []
  rw [col_at RP 7168 (by norm_num), sigmoid_exp, ← EReal.coe_mul]
  rfl

include RP HU in
/-- What the reference returns at time `t` of batch `b`, column `e` of head `h`. -/
theorem res_at (b : Fin 8) (t : Fin 4096) (h : Fin 4) (e : Fin 256) :
    res P U W (ix2 (row b t) (col h e)) = Lift.post (fun y => Lift.sig P 8192 b (col h y) t) (Hh b h t) (W (ix1 (col h e))) (Lift.sig P 7168 b (col h e) t) e := by
  have hr := row_val b t t.isLt
  have e1 : (⟨(row b t : ℕ) / 4096, by omega⟩ : Fin 8) = b := Fin.ext (show (row b t : ℕ) / 4096 = b by omega)
  have e2 : (⟨(row b t : ℕ) % 4096, by omega⟩ : Fin 4096) = t := Fin.ext (show (row b t : ℕ) % 4096 = t by omega)
  have e3 : (⟨(col h e : ℕ) / 256, by omega⟩ : Fin 4) = h := Fin.ext (show (256 * (h : ℕ) + e) / 256 = h by omega)
  have e4 : (⟨(col h e : ℕ) % 256, by omega⟩ : Fin 256) = e := Fin.ext (show (256 * (h : ℕ) + e) % 256 = e by omega)
  unfold res
  pointwise []
  unfold Lift.post
  rw [← nh_at RP Hh HU, ← zg_at RP, e1, e2, e3, e4]

/-- The generated result is the one described here. -/
theorem out_eq (V : Valuation τ sig (Elt Ideal)) :
    out_main_v107 V = res (V (Proc.devRef .tc main_arg0)) (V (Proc.devRef .tc main_v70_10)) (V (Proc.devRef .tc main_arg4)) := by
  rfl

end RPost

end

end
-- ==== Proof.Final.lean ====
/- The two programs' results are one, from finite inputs. -/
module

public import Idealize.ShloMosaic.Lib.ReduceAll
public import Idealize.ShloMosaic.Lib.Quiescent
public import proofs.«01_k».proof.Defs
public import proofs.«01_k».proof.Proof.Gen.Kernel.Frame
public import proofs.«01_k».proof.Proof.Gen.KernelIdeal.Frame
public import proofs.«01_k».proof.Proof.Gen.Pre_finite
public import proofs.«01_k».proof.Proof.KFinal
public import proofs.«01_k».proof.Proof.RPost

@[expose] public section

set_option maxRecDepth 16384

noncomputable section

namespace Final

open Idealize.ShloMosaic Idealize.ShloMosaic.TcCoe Idealize.SL.Sem Lift

/-- The bound the inputs are compared with. -/
theorem ofBits_inf : Ideal.ofBits FTy.f32 0x7F800000#32 = (⊤ : EReal) := by
  simp [Ideal.ofBits, Ideal.ieee]

/-- An entry found below the bound is a real. -/
theorem real_of_olt {x : EReal} (h : FloatOps.cmpf (F := Ideal) (φ := FTy.f32) .olt (max x (-x) : EReal) (Ideal.ofBits FTy.f32 0x7F800000#32) = 1#1) :
    ((x.toReal : ℝ) : EReal) = x := by
  rw [ofBits_inf] at h
  apply coe_toReal_of_abs_lt
  by_contra hn
  simp [FloatOps.cmpf, Ideal.cmp, hn] at h

/-- Finite inputs are reals. -/
theorem reals (P : FVec Ideal Cert.Pre_finite.S32768x12288 .bf16) (Q : FVec Ideal Cert.Pre_finite.S32768x128 .f32)
    (Y : FVec Ideal Cert.Pre_finite.S4x2048 .f32) (Z : FVec Ideal Cert.Pre_finite.S2048 .f32) (W : FVec Ideal Cert.Pre_finite.S1024 .f32)
    (h : Cert.Pre_finite.fn P Q Y Z W = fun _ => 1#1) : Reals P Q Y Z := by
  have i0 : Cert.Pre_finite.S_.Idx := fun a => a.elim0
  have e := congrFun h i0
  obtain ⟨e, h3⟩ := IntOp.andi_eq_one.1 e
  obtain ⟨e, h2⟩ := IntOp.andi_eq_one.1 e
  obtain ⟨h0, h1⟩ := IntOp.andi_eq_one.1 e
  haveI : Subsingleton Cert.Pre_finite.S_.Idx := ⟨fun a b => funext fun x => x.elim0⟩
  exact ⟨fun i => real_of_olt (Host.reduce_andi_all _ _ _ _ _ h0 i), fun i => real_of_olt (Host.reduce_andi_all _ _ _ _ _ h1 i),
    fun i => real_of_olt (Host.reduce_andi_all _ _ _ _ _ h2 i), fun i => real_of_olt (Host.reduce_andi_all _ _ _ _ _ h3 i)⟩

/-- The reference runs and its arguments end as they were. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The constant the kernel scales its exponents by, named. -/
theorem preserves : Cert.preserves_Kernel_KernelIdeal := IdealRules.named_const.statement _ _ _ _ _ rfl

/-- Every row is a time of a batch, every column one of a head. -/
theorem ix_cases (i : Cert.ReferenceIdeal.S32768x1024.Idx) :
    ∃ (b : Fin 8) (t : Fin 4096) (h : Fin 4) (e : Fin 256), i = ix2 (row b t) (col h e) := by
  have h0 : (i 0).val < 32768 := (i 0).isLt
  have h1 : (i 1).val < 1024 := (i 1).isLt
  refine ⟨⟨(i 0).val / 4096, by omega⟩, ⟨(i 0).val % 4096, by omega⟩, ⟨(i 1).val / 256, by omega⟩, ⟨(i 1).val % 256, by omega⟩, ?_⟩
  funext x
  match x with
  | ⟨0, _⟩ =>
    exact Fin.ext ((show (i 0).val = 4096 * ((i 0).val / 4096) + (i 0).val % 4096 by omega).trans (row_val ⟨(i 0).val / 4096, by omega⟩ ((i 0).val % 4096) (by omega)).symm)
  | ⟨1, _⟩ => exact Fin.ext (show (i 1).val = 256 * ((i 1).val / 256) + (i 1).val % 256 by omega)

open Cert.ReferenceIdeal Cert.ReferenceIdeal.Value StableHlo in
/-- The kernel's result array is the reference's. -/
theorem result_eq (m : (ℓ : Loc Cert.KernelIdeal.nD Cert.KernelIdeal.τ Cert.KernelIdeal.sig) → Buf (Elt Ideal) ℓ)
    (m' : (ℓ : Loc nD τ sig) → Buf (Elt Ideal) ℓ) (c : Dev nD)
    (R : Reals (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3)))
    (a0 : m' ((c.tc : Thread nD τ).loc main_arg0) = m ((c.tc : Thread Cert.KernelIdeal.nD Cert.KernelIdeal.τ).loc Cert.KernelIdeal.main_arg0))
    (a1 : m' ((c.tc : Thread nD τ).loc main_arg1) = m ((c.tc : Thread Cert.KernelIdeal.nD Cert.KernelIdeal.τ).loc Cert.KernelIdeal.main_arg1))
    (a2 : m' ((c.tc : Thread nD τ).loc main_arg2) = m ((c.tc : Thread Cert.KernelIdeal.nD Cert.KernelIdeal.τ).loc Cert.KernelIdeal.main_arg2))
    (a3 : m' ((c.tc : Thread nD τ).loc main_arg3) = m ((c.tc : Thread Cert.KernelIdeal.nD Cert.KernelIdeal.τ).loc Cert.KernelIdeal.main_arg3))
    (a4 : m' ((c.tc : Thread nD τ).loc main_arg4) = m ((c.tc : Thread Cert.KernelIdeal.nD Cert.KernelIdeal.τ).loc Cert.KernelIdeal.main_arg4)) :
    out_main_v107 (STEP^[64] (entryContents preI m' c)) = Cert.KernelIdeal.Value.G10 m c := by
  have R' : Reals (m' ((c.tc : Thread nD τ).loc main_arg0)) (m' ((c.tc : Thread nD τ).loc main_arg1))
      (m' ((c.tc : Thread nD τ).loc main_arg2)) (m' ((c.tc : Thread nD τ).loc main_arg3)) := by rw [a0, a1, a2, a3]; exact R
  have I := RStep.loop (RPre.entry_in m' c R') 64 le_rfl
  have eB : RPre.B m' c = KFinal.B m c := by
    funext b
    unfold RPre.B KFinal.B
    rw [a0, a1, a2, a3]
  rw [RPost.out_eq, iter_main_arg0, iter_main_arg4]
  funext i
  obtain ⟨b, t, h, e, rfl⟩ := ix_cases i
  refine (RPost.res_at R'.p (fun b h t e => Recur.H ((RPre.B m' c b).lf h) ((RPre.B m' c b).ig h) ((RPre.B m' c b).q h) ((RPre.B m' c b).k h) ((RPre.B m' c b).v h) t e)
    (fun i b h j e => I.hs i b h j e i.isLt) b t h e).trans ?_
  rw [eB, a0, a4]
  exact (KFinal.res_at m c R b t h e).symm

/-- The kernel and the reference end with equal results. -/
theorem algebraic : Cert.algebraic_KernelIdeal_ReferenceIdeal_pre_finite := by
  intro m g m' g' hpre hag
  refine ⟨fun c => Cert.KernelIdeal.Value.G10 m c, Cert.KernelIdeal.Value.run (F := Ideal) m g, ?_⟩
  refine (θ_run _ _ _).mono (fun _ h c => ⟨(h c).1.trans ?_, (h c).2⟩) (Cert.ReferenceIdeal.Value.run (F := Ideal) m' g')
  obtain ⟨a0, a1, a2, a3, a4⟩ := hag c
  exact result_eq m m' c (reals _ _ _ _ _ (hpre c)) a0 a1 a2 a3 a4

end Final

end

end
-- ==== Proof.ISet.lean ====
module

public import proofs.«01_k».proof.Proof.Gen.Kernel2Ideal.Launch
public import proofs.«01_k».proof.Proof.Gen.Kernel2Ideal.Skeleton
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
/-! ## @main up to the region -/

/-- Core `c`'s TensorCore buffers when the region is entered: after the host operations `hostOps0`, `hostOps0_1`, `hostOps0_2`, `hostOps0_3`, `hostOps0_4`, `hostOps0_5`, `hostOps0_6`. -/
abbrev V (c : Dev nD) (b : Ref sig .tc) : Buf (Elt F) ((c : Thread nD τ).loc b) :=
  StableHlo.after (List.flatten [hostOps0, hostOps0_1, hostOps0_2, hostOps0_3, hostOps0_4, hostOps0_5, hostOps0_6]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor

set_option maxHeartbeats 800000 in
/-- @main up to the region, at the certificate's variants `𝒱₀`: the lines of host operations then the region
    (`Pipeline.hmain_prefixes`, off `main_chain`). -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4, hostOps0_5, hostOps0_6] (by simp only [List.Forall]; exact ⟨hostOps0_sub, hostOps0_1_sub, hostOps0_2_sub, hostOps0_3_sub, hostOps0_4_sub, hostOps0_5_sub, hostOps0_6_sub⟩)
    (by simp only [List.Forall]; exact ⟨hostOps0_fresh, hostOps0_1_fresh, hostOps0_2_fresh, hostOps0_3_fresh, hostOps0_4_fresh, hostOps0_5_fresh, hostOps0_6_fresh⟩) main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): by
    `Dat.before_in_eq_fetched` (unfetched, the index has not moved), the window uncut and never idle. -/
theorem before0_0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): by
    `Dat.before_in_eq_fetched` (unfetched, the index has not moved), the window uncut and never idle. -/
theorem before0_1_of {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): by
    `Dat.before_in_eq_fetched` (unfetched, the index has not moved), the window uncut and never idle. -/
theorem before0_2_of {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): by
    `Dat.before_in_eq_fetched` (unfetched, the index has not moved), the window uncut and never idle. -/
theorem before0_3_of {c : Dev nD} (dat : Dat τ (Elt F) Unit ℕ (Pipeline.UD sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): by
    `Dat.before_in_eq_fetched` (unfetched, the index has not moved), the window uncut and never idle. -/
theorem before0_4_of {c : Dev nD} (dat : Dat τ (Elt F) Unit ℕ (Pipeline.UD sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): by
    `Dat.before_in_eq_fetched` (unfetched, the index has not moved), the window uncut and never idle. -/
theorem before0_5_of {c : Dev nD} (dat : Dat τ (Elt F) Unit ℕ (Pipeline.UD sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    `FramePost` read at the argument arrays — a staged input by
    `Dat.arrAt_in`, an array no window stages by the post's second clause, each then by `V_…` — is the frame
    claim's post at any `F`. -/
theorem frame_of (dats : (p : Fin 1) → (c : Dev nD) → Dat τ (Elt F) Unit ℕ (Pipeline.UD sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c)⟩) h

/-! ## The ten conditions of the body, over the points -/

abbrev cond0_0 (i : grid0.Coords) : Prop := k0_cond1 i = 1#1
abbrev cond0_1 (i : grid0.Coords) : Prop := k0_cond2 i = 1#1
abbrev cond0_2 (i : grid0.Coords) : Prop := k0_cond3 i = 1#1
abbrev cond0_3 (i : grid0.Coords) : Prop := k0_cond4 i = 1#1
abbrev cond0_4 (i : grid0.Coords) : Prop := k0_cond5 i = 1#1
abbrev cond0_5 (i : grid0.Coords) : Prop := k0_cond6 i = 1#1
abbrev cond0_6 (i : grid0.Coords) : Prop := k0_cond7 i = 1#1
abbrev cond0_7 (i : grid0.Coords) : Prop := k0_cond8 i = 1#1
abbrev cond0_8 (i : grid0.Coords) : Prop := k0_cond9 i = 1#1
abbrev cond0_9 (i : grid0.Coords) : Prop := k0_cond10 i = 1#1

/-- The first point starts the first two weight chunks; -/
theorem hcond0_0 : ∀ t : Fin grid0.N, cond0_0 (grid0.coords t) ↔ t.val = 0 := by decide +kernel
/-- a point starts the chunk needed two points on, if that point needs one; -/
theorem hcond0_1 : ∀ t : Fin grid0.N, cond0_1 (grid0.coords t) ↔ (t.val % 6 ≠ 3 ∧ t.val < 190) := by decide +kernel
/-- all points of a row but the last wait for one; -/
theorem hcond0_2 : ∀ t : Fin grid0.N, cond0_2 (grid0.coords t) ↔ t.val % 6 ≠ 5 := by decide +kernel
theorem hcond0_3 : ∀ t : Fin grid0.N, cond0_3 (grid0.coords t) ↔ t.val = 0 := by decide +kernel
theorem hcond0_4 : ∀ t : Fin grid0.N, cond0_4 (grid0.coords t) ↔ (t.val % 6 = 1 ∧ t.val < 186) := by decide +kernel
theorem hcond0_5 : ∀ t : Fin grid0.N, cond0_5 (grid0.coords t) ↔ t.val % 6 = 0 := by decide +kernel
theorem hcond0_6 : ∀ t : Fin grid0.N, cond0_6 (grid0.coords t) ↔ t.val % 6 = 0 := by decide +kernel
theorem hcond0_7 : ∀ t : Fin grid0.N, cond0_7 (grid0.coords t) ↔ (t.val % 6 = 1 ∨ t.val % 6 = 2 ∨ t.val % 6 = 3) := by decide +kernel
theorem hcond0_8 : ∀ t : Fin grid0.N, cond0_8 (grid0.coords t) ↔ t.val % 6 = 4 := by decide +kernel
theorem hcond0_9 : ∀ t : Fin grid0.N, cond0_9 (grid0.coords t) ↔ t.val % 6 = 5 := by decide +kernel
/-- The gate windows are idle away from a row's first point; the wide output never is. -/
theorem idle0_6 : ∀ t : Fin grid0.N, cfg0.idle 6 (grid0.coords t) = false := by decide +kernel
theorem idle0_7 : ∀ t : Fin grid0.N, cfg0.idle 7 (grid0.coords t) = decide (t.val % 6 ≠ 0) := by decide +kernel
theorem idle0_8 : ∀ t : Fin grid0.N, cfg0.idle 8 (grid0.coords t) = decide (t.val % 6 ≠ 0) := by decide +kernel
/-- They are written back at a row's last point. -/
theorem flush0_7 : ∀ t : Fin cfg0.N, (cfg0.win 7).flush t = decide (t.val % 6 = 5) := by decide +kernel
theorem flush0_8 : ∀ t : Fin cfg0.N, (cfg0.win 8).flush t = decide (t.val % 6 = 5) := by decide +kernel

end Cert.Kernel2Ideal.Gen

end
-- ==== Proof.IRing.lean ====
module

public import proofs.«01_k».proof.Proof.ISet
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
/-! ## The kernel body on any staging memrefs: a subtype the run finds -/

/-- One staging buffer of output window 6, through which its contents are stated (`View.read_writes_of_cover`: the
    choice does not matter). -/
abbrev VO0_6 : View sig .tc .vmem S1024x2048 .bf16 := (Memref.whole cc0_stg6_0 : Memref sig .tc .vmem S1024x2048 .bf16).view
/-- One staging buffer of output window 7, through which its contents are stated (`View.read_writes_of_cover`: the
    choice does not matter). -/
abbrev VO0_7 : View sig .tc .vmem S1024x128 .f32 := (Memref.whole cc0_stg7_0 : Memref sig .tc .vmem S1024x128 .f32).view
/-- One staging buffer of output window 8, through which its contents are stated (`View.read_writes_of_cover`: the
    choice does not matter). -/
abbrev VO0_8 : View sig .tc .vmem S8x1024 .f32 := (Memref.whole cc0_stg8_0 : Memref sig .tc .vmem S8x1024 .f32).view
/-- Each window's current staging memref at point `t`, spelled as the pipeline passes it (`bodyAt0`), and its wholeness. -/
abbrev ms0_0 (t : Fin cfg0.N) : Memref sig .tc .vmem S1x3x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x2048 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x128 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S2x1024 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x2048 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1024x128 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S8x1024 .f32 := win0_8.stage (cfg0.slots t 8)
abbrev hs0_8 (t : Fin cfg0.N) : (ms0_8 t).IsWhole := hstage0_8 ((cfg0.slots t 8).cast nbuf0_8)
/-- The scratch operands: whole scoped buffers of the kernel's own, passed beside the windows. -/
abbrev scM0_0 : Memref sig .tc .vmem S1024x1024 .bf16 := Memref.whole cc0_scratch0
abbrev scM0_1 : Memref sig .tc .vmem S3x1024x2048 .bf16 := Memref.whole cc0_scratch1
abbrev scM0_2 : Memref sig .tc .vmem S2x1024x1024 .f32 := Memref.whole cc0_scratch3
/-- The operands left in HBM that the body copies into scratch itself, whole. -/
abbrev hbM0_0 : Memref sig .tc .hbm S32768x1024 .f32 := Memref.whole main_v0
abbrev hbM0_1 : Memref sig .tc .hbm S1024x10240 .bf16 := Memref.whole main_v4
/-- Memref `M`'s buffer on core `c`: its contents type, and it held whole at `f` — behind this abbreviation, so that the
    run's rewriting of the goal leaves `Memref.view` intact (the form a held buffer is read in). -/
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

/-- The body's own DMA semaphores, cell by cell (their numbers in the pool): the kernel's own semaphores for the launch
    (`Pipeline.OwnSemFacts`: none is a window's). -/
abbrev osem0 : Fin 5 → SemLoc sig := fun j => (![SemLoc.dma 13, SemLoc.dma 14, SemLoc.dma 15, SemLoc.dma 16, SemLoc.dma 17] : Fin 5 → SemLoc sig) j
theorem ownSemFacts0 : Pipeline.OwnSemFacts spec0 osem0 := by decide
/-- The cells at zero, listed. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0) := by
  rw [Pipeline.ownSems0_eq_of_list c osem0 [0, 1, 2, 3, 4] (by decide) (by decide)]; rfl
/-- The HBM operands the body moves, as references: unscoped, no window's array (`Pipeline.restRefs`). -/
def H0 : Finset (Ref sig .tc) := {main_v0, main_v4}
theorem H0_sub : H0 ⊆ Pipeline.restRefs sig spec0 := by decide
/-- Their points-tos at the launch contents, listed. -/
theorem hbmPts0_eq (c : Dev nD) :
    (bigSep H0 (fun b => ((c : Thread nD τ).loc b) ↦{fullShare} V m c b) : sProp 𝕄) = iprop(hbPt0 c hbM0_0 (V m c main_v0) ∗ hbPt0 c hbM0_1 (V m c main_v4)) := by
  rw [BI.bigSep_eq_bigSepL_of_eq [main_v0, main_v4] (by decide) (by decide)]; rfl

/-- The invariant of a body with transfers of its own, `Pipeline.ΦD`, conjunct by conjunct: the scratch operands owned at
    some contents, the generator register at some state, the own cells at zero, the HBM operands at their launch
    contents — what the body obligation hands the run and takes back. -/
theorem PhiD0_eq (c : Dev nD) :
    (Pipeline.ΦD osem0 spec0 H0 (V m) c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r) ∗ iprop(semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0) ∗ iprop(hbPt0 c hbM0_0 (V m c main_v0) ∗ hbPt0 c hbM0_1 (V m c main_v4))) := by
  rw [Pipeline.ΦD_eq, scopedRest0_eq, ownSems00_eq, hbmPts0_eq]; simp only [scM0_0, scM0_1, scM0_2, owns_whole]; try rfl

/-! ## The ring of row blocks: two slots -/

instance : NeZero grid0.N := ⟨by rw [N_0]; decide⟩
theorem inb_slot0_0 (s : Fin 2) : ∀ a, (![s.val, 0, 0] : Fin 3 → Nat) a + S1x1024x1024.size a ≤ S2x1024x1024.size a := by
  have := s.isLt; intro a; fin_cases a <;> simp <;> omega
theorem inb_src0_0 (b : Fin 32) : ∀ a, (![1024 * b.val, 0] : Fin 2 → Nat) a + S1024x1024.size a ≤ S32768x1024.size a := by
  have := b.isLt; intro a; fin_cases a <;> simp <;> omega
theorem inb_cell0_0 (s : Fin 2) : ∀ a, (![s.val] : Fin 1 → Nat) a + S1.size a ≤ S2.size a := by
  have := s.isLt; intro a; fin_cases a <;> simp <;> omega
/-- Slot `s` of the ring, spelt as the body's transfers spell their destination, at offsets in `s`. -/
def rslot0_0 (s : Fin 2) : Memref sig .tc .vmem S1024x1024 .f32 :=
  (scM0_2.slice (Rect.unit (s := S2x1024x1024) ![s.val, 0, 0] S1x1024x1024.size (inb_slot0_0 s)) (fun _ => rfl)).squeeze S1024x1024 squeezes_S1x1024x1024_S1024x1024
/-- Block `b` of the operand (the block step `b` waits), spelt as the transfers spell their source, at offsets in `b`. -/
def srcB0_0 (b : Fin 32) : Memref sig .tc .hbm S1024x1024 .f32 :=
  hbM0_0.slice (Rect.unit (s := S32768x1024) ![1024 * b.val, 0] S1024x1024.size (inb_src0_0 b)) (fun _ => rfl)
/-- Cell `s` of `cc0_scratch4`, spelt as the body spells a cell; its number in the pool. -/
def cellA0_0 (s : Fin 2) : DmaSems sig S_ := (cc0_scratch4.slice (Rect.unit (s := S2) ![s.val] S1.size (inb_cell0_0 s))).squeeze S_ squeezes_S1_S_
abbrev cellR0_0 (s : Fin 2) : SemLoc sig := SemLoc.dma (cellA0_0 s).sem
theorem cellR0_0_0 : cellR0_0 0 = SemLoc.dma 16 := by decide
theorem cellR0_0_1 : cellR0_0 1 = SemLoc.dma 17 := by decide

section Ring0_0
variable (c : Dev nD) (W : HbBuf0 (F := F) c hbM0_0)
/-- The operand is lent BY SHARE, one read-share copy of it per slot (the left and right halves of the full share): whatever
    blocks two transfers in flight stream — the same one twice, two that overlap —, each borrows from its own slot's copy. -/
abbrev qs0_0 (s : Fin 2) : PosShare TreeShare := if s.val = 0 then fullShare.left else fullShare.right
/-- The families the ring is stated over: slot `s` held at `f`; cell `s` at zero; block `b`'s elements of slot `s`'s copy of the
    operand (what a transfer into slot `s` lends), the REST of that copy, and the copy whole; slot `s`'s contents once block `b`
    landed in it whole over `f` (the listed write); the FLIGHT of block `b` into slot `s`, delivering the slot landed
    and the lent elements back. -/
abbrev slotP0_0 (s : Fin 2) (f : HbBuf0 (F := F) c (rslot0_0 s)) : sProp 𝕄 := (rslot0_0 s).view.loc (c : Thread nD τ) ↦[(rslot0_0 s).view.set]{fullShare} f
abbrev cellP0_0 (s : Fin 2) : sProp 𝕄 := semVal ((c : Thread nD τ), cellR0_0 s) 0
abbrev srcP0_0 (s : Fin 2) (b : Fin 32) : sProp 𝕄 := (srcB0_0 b).view.loc (c : Thread nD τ) ↦[(srcB0_0 b).view.set]{qs0_0 s} W
/-- What the operand holds besides block `b`. -/
def restP0_0 (s : Fin 2) (b : Fin 32) : sProp 𝕄 := ((c : Thread nD τ).loc main_v0) ↦[Finset.univ \ (srcB0_0 b).view.set]{qs0_0 s} W
abbrev wholeP0_0 (s : Fin 2) : sProp 𝕄 := ((c : Thread nD τ).loc main_v0) ↦[Finset.univ]{qs0_0 s} W
abbrev landed0_0 (s : Fin 2) (b : Fin 32) (f : HbBuf0 (F := F) c (rslot0_0 s)) : HbBuf0 (F := F) c (rslot0_0 s) :=
  (rslot0_0 s).view.writes (Elt F) f [⟨Rect.whole S1024x1024, ReadAs.same.apply ((srcB0_0 b).view.read (Elt F) W)⟩]
abbrev flightP0_0 (s : Fin 2) (b : Fin 32) (f : HbBuf0 (F := F) c (rslot0_0 s)) : sProp 𝕄 :=
  Transfers.Flight countersEmb (c : Thread nD τ) (cellR0_0 s) default ((rslot0_0 s).view.amount (cellR0_0 s))
    iprop(slotP0_0 c s (landed0_0 c W s b f) ∗ srcP0_0 c W s b)
/-- The ring's `slot` and `flight` families: a slot not in flight carries its copy of the operand whole; a flight, the
    rest of the copy it borrowed from. No block is held apart: the `home` family is `emp`. -/
abbrev slotW0_0 (s : Fin 2) (f : HbBuf0 (F := F) c (rslot0_0 s)) : sProp 𝕄 := iprop(slotP0_0 c s f ∗ wholeP0_0 c W s)
abbrev flightW0_0 (s : Fin 2) (b : Fin 32) (f : HbBuf0 (F := F) c (rslot0_0 s)) : sProp 𝕄 := iprop(flightP0_0 c W s b f ∗ restP0_0 c W s b)
abbrev noHome0_0 (b : Fin 32) : sProp 𝕄 := iprop(emp)
omit [FloatOps F] in
theorem cellP0_0_0 : cellP0_0 (F := F) c 0 = semVal ((c : Thread nD τ), SemLoc.dma 16) 0 := congrArg (fun x => (semVal ((c : Thread nD τ), x) 0 : sProp 𝕄)) cellR0_0_0
omit [FloatOps F] in
theorem cellP0_0_1 : cellP0_0 (F := F) c 1 = semVal ((c : Thread nD τ), SemLoc.dma 17) 0 := congrArg (fun x => (semVal ((c : Thread nD τ), x) 0 : sProp 𝕄)) cellR0_0_1
end Ring0_0

/-! ### The slots, disjoint and covering the scratch -/

abbrev slotSet0_0 (s : Fin 2) : Finset S2x1024x1024.Idx := (Rect.unit (s := S2x1024x1024) ![s.val, 0, 0] S1x1024x1024.size (inb_slot0_0 s)).set
theorem slotSet0_0_eq (s : Fin 2) : (rslot0_0 s).view.set = slotSet0_0 s := by
  simp only [rslot0_0, Memref.view_squeeze, View.set_reshape]; exact View.set_slice_whole _ _
theorem slots0_0_disjoint (s s' : Fin 2) (h : s ≠ s') : Disjoint (slotSet0_0 s) (slotSet0_0 s') :=
  Ring.lead_disjoint (s := S2x1024x1024) (0 : Fin 3) 1 (fun s : Fin 2 => (![s.val, 0, 0] : Fin 3 → Nat)) S1x1024x1024.size inb_slot0_0 (fun s => by simp) rfl s s' h
theorem slots0_0_cover : Finset.univ.biUnion slotSet0_0 = Finset.univ :=
  Ring.lead_cover (s := S2x1024x1024) (0 : Fin 3) 1 (fun s : Fin 2 => (![s.val, 0, 0] : Fin 3 → Nat)) S1x1024x1024.size inb_slot0_0 (fun s => by simp)
    (fun s a ha => by fin_cases a <;> first | exact absurd rfl ha | rfl) rfl (fun a ha => by fin_cases a <;> first | exact absurd rfl ha | rfl) rfl

/-! ### What the launch hands the ring, and takes back -/

section InOut0_0
variable (c : Dev nD) (W : HbBuf0 (F := F) c hbM0_0)
theorem slotP0_0_eq (s : Fin 2) (f) : slotP0_0 (F := F) c s f = (((c : Thread nD τ).loc cc0_scratch3) ↦[slotSet0_0 s]{fullShare} f : sProp 𝕄) := by
  unfold slotP0_0; rw [slotSet0_0_eq]; rfl
/-- A slot's copy of the operand, whole, is block `b`'s elements and the rest (any `b`: what a run splits off before its step
    starts block `b`, and joins back once the wait returned it); -/
theorem src0_0_split (s : Fin 2) (b : Fin 32) : wholeP0_0 (F := F) c W s ⊣⊢ iprop(srcP0_0 c W s b ∗ restP0_0 c W s b) := by
  unfold restP0_0; exact pointsTo_split_subset (Finset.subset_univ _)
/-- the operand whole at the full share is the two copies. -/
theorem whole0_0_split : (hbPt0 c hbM0_0 W : sProp 𝕄) ⊣⊢ iprop(wholeP0_0 c W 0 ∗ wholeP0_0 c W 1) :=
  pointsTo_share (PosShare.mem_left_op_right fullShare)
set_option maxHeartbeats 1000000 in
/-- the scratch whole at anything is its slots at something each, and back. -/
theorem slots0_0_in : iprop(∃ d, owns (c : Thread nD τ) scM0_2 fullShare d) ⊢ (iprop((∃ f, slotP0_0 (F := F) c 0 f) ∗ ∃ f, slotP0_0 (F := F) c 1 f) : sProp 𝕄) := by
  simp only [scM0_2, owns_whole]
  exact Ring.slots2_split (U := Pipeline.UD sig nD τ) (ℓ := (c : Thread nD τ).loc cc0_scratch3) (q := fullShare) slotSet0_0 slots0_0_disjoint slots0_0_cover
    (slotP0_0 c 0) (slotP0_0 c 1) (slotP0_0_eq c 0) (slotP0_0_eq c 1)
set_option maxHeartbeats 1000000 in
theorem slots0_0_out : (iprop((∃ f, slotP0_0 (F := F) c 0 f) ∗ ∃ f, slotP0_0 (F := F) c 1 f) : sProp 𝕄) ⊢ iprop(∃ d, owns (c : Thread nD τ) scM0_2 fullShare d) := by
  simp only [scM0_2, owns_whole]
  exact Ring.slots2_join (U := Pipeline.UD sig nD τ) (ℓ := (c : Thread nD τ).loc cc0_scratch3) (q := fullShare) slotSet0_0 slots0_0_disjoint slots0_0_cover
    (slotP0_0 c 0) (slotP0_0 c 1) (slotP0_0_eq c 0) (slotP0_0_eq c 1)
end InOut0_0

/-! ## The ring of weight chunks: three slots -/

theorem inb_slot0_1 (s : Fin 3) : ∀ a, (![s.val, 0, 0] : Fin 3 → Nat) a + S1x1024x2048.size a ≤ S3x1024x2048.size a := by
  have := s.isLt; intro a; fin_cases a <;> simp <;> omega
theorem inb_src0_1 (b : Fin 5) : ∀ a, (![0, 2048 * b.val] : Fin 2 → Nat) a + S1024x2048.size a ≤ S1024x10240.size a := by
  have := b.isLt; intro a; fin_cases a <;> simp <;> omega
theorem inb_cell0_1 (s : Fin 3) : ∀ a, (![s.val] : Fin 1 → Nat) a + S1.size a ≤ S3.size a := by
  have := s.isLt; intro a; fin_cases a <;> simp <;> omega
/-- Slot `s` of the ring, spelt as the body's transfers spell their destination, at offsets in `s`. -/
def rslot0_1 (s : Fin 3) : Memref sig .tc .vmem S1024x2048 .bf16 :=
  (scM0_1.slice (Rect.unit (s := S3x1024x2048) ![s.val, 0, 0] S1x1024x2048.size (inb_slot0_1 s)) (fun _ => rfl)).squeeze S1024x2048 squeezes_S1x1024x2048_S1024x2048
/-- Block `b` of the operand (the block step `b` waits), spelt as the transfers spell their source, at offsets in `b`. -/
def srcB0_1 (b : Fin 5) : Memref sig .tc .hbm S1024x2048 .bf16 :=
  hbM0_1.slice (Rect.unit (s := S1024x10240) ![0, 2048 * b.val] S1024x2048.size (inb_src0_1 b)) (fun _ => rfl)
/-- Cell `s` of `cc0_scratch2`, spelt as the body spells a cell; its number in the pool. -/
def cellA0_1 (s : Fin 3) : DmaSems sig S_ := (cc0_scratch2.slice (Rect.unit (s := S3) ![s.val] S1.size (inb_cell0_1 s))).squeeze S_ squeezes_S1_S_
abbrev cellR0_1 (s : Fin 3) : SemLoc sig := SemLoc.dma (cellA0_1 s).sem
theorem cellR0_1_0 : cellR0_1 0 = SemLoc.dma 13 := by decide
theorem cellR0_1_1 : cellR0_1 1 = SemLoc.dma 14 := by decide
theorem cellR0_1_2 : cellR0_1 2 = SemLoc.dma 15 := by decide

section Ring0_1
variable (c : Dev nD) (W : HbBuf0 (F := F) c hbM0_1)
/-- The operand is lent BY SHARE, one read-share copy of it per slot (the full share halved, the right half halved again):
    whatever blocks the transfers in flight stream — the same one twice, ones that overlap —, each borrows from its own slot's copy. -/
abbrev qs0_1 (s : Fin 3) : PosShare TreeShare := if s.val = 0 then fullShare.left else if s.val = 1 then fullShare.right.left else fullShare.right.right
/-- The families the ring is stated over: slot `s` held at `f`; cell `s` at zero; block `b`'s elements of slot `s`'s copy of the
    operand (what a transfer into slot `s` lends), the REST of that copy, and the copy whole; slot `s`'s contents once block `b`
    landed in it whole over `f` (the listed write); the FLIGHT of block `b` into slot `s`, delivering the slot landed
    and the lent elements back. -/
abbrev slotP0_1 (s : Fin 3) (f : HbBuf0 (F := F) c (rslot0_1 s)) : sProp 𝕄 := (rslot0_1 s).view.loc (c : Thread nD τ) ↦[(rslot0_1 s).view.set]{fullShare} f
abbrev cellP0_1 (s : Fin 3) : sProp 𝕄 := semVal ((c : Thread nD τ), cellR0_1 s) 0
abbrev srcP0_1 (s : Fin 3) (b : Fin 5) : sProp 𝕄 := (srcB0_1 b).view.loc (c : Thread nD τ) ↦[(srcB0_1 b).view.set]{qs0_1 s} W
/-- What the operand holds besides block `b`. -/
def restP0_1 (s : Fin 3) (b : Fin 5) : sProp 𝕄 := ((c : Thread nD τ).loc main_v4) ↦[Finset.univ \ (srcB0_1 b).view.set]{qs0_1 s} W
abbrev wholeP0_1 (s : Fin 3) : sProp 𝕄 := ((c : Thread nD τ).loc main_v4) ↦[Finset.univ]{qs0_1 s} W
abbrev landed0_1 (s : Fin 3) (b : Fin 5) (f : HbBuf0 (F := F) c (rslot0_1 s)) : HbBuf0 (F := F) c (rslot0_1 s) :=
  (rslot0_1 s).view.writes (Elt F) f [⟨Rect.whole S1024x2048, ReadAs.same.apply ((srcB0_1 b).view.read (Elt F) W)⟩]
abbrev flightP0_1 (s : Fin 3) (b : Fin 5) (f : HbBuf0 (F := F) c (rslot0_1 s)) : sProp 𝕄 :=
  Transfers.Flight countersEmb (c : Thread nD τ) (cellR0_1 s) default ((rslot0_1 s).view.amount (cellR0_1 s))
    iprop(slotP0_1 c s (landed0_1 c W s b f) ∗ srcP0_1 c W s b)
/-- The ring's `slot` and `flight` families: a slot not in flight carries its copy of the operand whole; a flight, the
    rest of the copy it borrowed from. No block is held apart: the `home` family is `emp`. -/
abbrev slotW0_1 (s : Fin 3) (f : HbBuf0 (F := F) c (rslot0_1 s)) : sProp 𝕄 := iprop(slotP0_1 c s f ∗ wholeP0_1 c W s)
abbrev flightW0_1 (s : Fin 3) (b : Fin 5) (f : HbBuf0 (F := F) c (rslot0_1 s)) : sProp 𝕄 := iprop(flightP0_1 c W s b f ∗ restP0_1 c W s b)
abbrev noHome0_1 (b : Fin 5) : sProp 𝕄 := iprop(emp)
omit [FloatOps F] in
theorem cellP0_1_0 : cellP0_1 (F := F) c 0 = semVal ((c : Thread nD τ), SemLoc.dma 13) 0 := congrArg (fun x => (semVal ((c : Thread nD τ), x) 0 : sProp 𝕄)) cellR0_1_0
omit [FloatOps F] in
theorem cellP0_1_1 : cellP0_1 (F := F) c 1 = semVal ((c : Thread nD τ), SemLoc.dma 14) 0 := congrArg (fun x => (semVal ((c : Thread nD τ), x) 0 : sProp 𝕄)) cellR0_1_1
omit [FloatOps F] in
theorem cellP0_1_2 : cellP0_1 (F := F) c 2 = semVal ((c : Thread nD τ), SemLoc.dma 15) 0 := congrArg (fun x => (semVal ((c : Thread nD τ), x) 0 : sProp 𝕄)) cellR0_1_2
end Ring0_1

/-! ### The slots, disjoint and covering the scratch -/

abbrev slotSet0_1 (s : Fin 3) : Finset S3x1024x2048.Idx := (Rect.unit (s := S3x1024x2048) ![s.val, 0, 0] S1x1024x2048.size (inb_slot0_1 s)).set
theorem slotSet0_1_eq (s : Fin 3) : (rslot0_1 s).view.set = slotSet0_1 s := by
  simp only [rslot0_1, Memref.view_squeeze, View.set_reshape]; exact View.set_slice_whole _ _
theorem slots0_1_disjoint (s s' : Fin 3) (h : s ≠ s') : Disjoint (slotSet0_1 s) (slotSet0_1 s') :=
  Ring.lead_disjoint (s := S3x1024x2048) (0 : Fin 3) 1 (fun s : Fin 3 => (![s.val, 0, 0] : Fin 3 → Nat)) S1x1024x2048.size inb_slot0_1 (fun s => by simp) rfl s s' h
theorem slots0_1_cover : Finset.univ.biUnion slotSet0_1 = Finset.univ :=
  Ring.lead_cover (s := S3x1024x2048) (0 : Fin 3) 1 (fun s : Fin 3 => (![s.val, 0, 0] : Fin 3 → Nat)) S1x1024x2048.size inb_slot0_1 (fun s => by simp)
    (fun s a ha => by fin_cases a <;> first | exact absurd rfl ha | rfl) rfl (fun a ha => by fin_cases a <;> first | exact absurd rfl ha | rfl) rfl

/-! ### What the launch hands the ring, and takes back -/

section InOut0_1
variable (c : Dev nD) (W : HbBuf0 (F := F) c hbM0_1)
theorem slotP0_1_eq (s : Fin 3) (f) : slotP0_1 (F := F) c s f = (((c : Thread nD τ).loc cc0_scratch1) ↦[slotSet0_1 s]{fullShare} f : sProp 𝕄) := by
  unfold slotP0_1; rw [slotSet0_1_eq]; rfl
/-- A slot's copy of the operand, whole, is block `b`'s elements and the rest (any `b`: what a run splits off before its step
    starts block `b`, and joins back once the wait returned it); -/
theorem src0_1_split (s : Fin 3) (b : Fin 5) : wholeP0_1 (F := F) c W s ⊣⊢ iprop(srcP0_1 c W s b ∗ restP0_1 c W s b) := by
  unfold restP0_1; exact pointsTo_split_subset (Finset.subset_univ _)
/-- the operand whole at the full share is the three copies (halves, the right one halved again). -/
theorem whole0_1_split : (hbPt0 c hbM0_1 W : sProp 𝕄) ⊣⊢ iprop(wholeP0_1 c W 0 ∗ wholeP0_1 c W 1 ∗ wholeP0_1 c W 2) := by
  refine ⟨?_, ?_⟩
  · iintro H
    ihave H' := (pointsTo_share (PosShare.mem_left_op_right fullShare)).1 $$ H
    icases H' with ⟨H0, H12⟩
    ihave H'' := (pointsTo_share (PosShare.mem_left_op_right fullShare.right)).1 $$ H12
    icases H'' with ⟨H1, H2⟩
    isplitl [H0]; · iexact H0
    isplitl [H1]; · iexact H1
    iexact H2
  · iintro ⟨H0, H1, H2⟩
    iapply (pointsTo_share (PosShare.mem_left_op_right fullShare)).2
    isplitl [H0]; · iexact H0
    iapply (pointsTo_share (PosShare.mem_left_op_right fullShare.right)).2
    isplitl [H1]; · iexact H1
    iexact H2
set_option maxHeartbeats 1000000 in
/-- the scratch whole at anything is its slots at something each, and back. -/
theorem slots0_1_in : iprop(∃ d, owns (c : Thread nD τ) scM0_1 fullShare d) ⊢ (iprop((∃ f, slotP0_1 (F := F) c 0 f) ∗ (∃ f, slotP0_1 (F := F) c 1 f) ∗ ∃ f, slotP0_1 (F := F) c 2 f) : sProp 𝕄) := by
  simp only [scM0_1, owns_whole]
  exact Ring.slots3_split (U := Pipeline.UD sig nD τ) (ℓ := (c : Thread nD τ).loc cc0_scratch1) (q := fullShare) slotSet0_1 slots0_1_disjoint slots0_1_cover
    (slotP0_1 c 0) (slotP0_1 c 1) (slotP0_1 c 2) (slotP0_1_eq c 0) (slotP0_1_eq c 1) (slotP0_1_eq c 2)
set_option maxHeartbeats 1000000 in
theorem slots0_1_out : (iprop((∃ f, slotP0_1 (F := F) c 0 f) ∗ (∃ f, slotP0_1 (F := F) c 1 f) ∗ ∃ f, slotP0_1 (F := F) c 2 f) : sProp 𝕄) ⊢ iprop(∃ d, owns (c : Thread nD τ) scM0_1 fullShare d) := by
  simp only [scM0_1, owns_whole]
  exact Ring.slots3_join (U := Pipeline.UD sig nD τ) (ℓ := (c : Thread nD τ).loc cc0_scratch1) (q := fullShare) slotSet0_1 slots0_1_disjoint slots0_1_cover
    (slotP0_1 c 0) (slotP0_1 c 1) (slotP0_1 c 2) (slotP0_1_eq c 0) (slotP0_1_eq c 1) (slotP0_1_eq c 2)
end InOut0_1

/-! ## Numbers: a point's row block, and the chunks waited for before it -/

/-- The weight chunks waited for before point `t`: five a row. -/
def chunk (t : ℕ) : ℕ := 5 * (t / 6) + min (t % 6) 5
/-- Point `t`'s row block. -/
def row (t : ℕ) : ℕ := t / 6

/-! ## The body's operands at point `t`, named by ring slot, block and cell -/

section Canon0
omit [FloatOps F]
theorem coff_w0 : ∀ t : Fin grid0.N, cond0_0 (grid0.coords t) → ![0, 0, 0] = ![(Ring.sl 3 (chunk t.val)).val, 0, 0] := by decide +kernel
@[sl_canon] theorem canon_w0 (t : Fin grid0.N) (h : cond0_0 (grid0.coords t)) :
    (scM0_1.slice (Rect.unit (s := S3x1024x2048) (![0, 0, 0]) S1x1024x2048.size inb_S3x1024x2048_S1x1024x2048_0_0_0) (fun _ => rfl)).squeeze S1024x2048 squeezes_S1x1024x2048_S1024x2048 = rslot0_1 (Ring.sl 3 (chunk t.val)) :=
  congrArg (fun M : Memref sig .tc .vmem S1x1024x2048 .bf16 => M.squeeze S1024x2048 squeezes_S1x1024x2048_S1024x2048) (Memref.slice_unit_congr _ (coff_w0 t h) _ _ (fun _ => rfl) (fun _ => rfl))

theorem coff_c0 : ∀ t : Fin grid0.N, cond0_0 (grid0.coords t) → ![0] = ![(Ring.sl 3 (chunk t.val)).val] := by decide +kernel
@[sl_canon] theorem canon_c0 (t : Fin grid0.N) (h : cond0_0 (grid0.coords t)) :
    (cc0_scratch2.slice (Rect.unit (s := S3) (![0]) S1.size inb_S3_S1_0)).squeeze S_ squeezes_S1_S_ = cellA0_1 (Ring.sl 3 (chunk t.val)) :=
  congrArg (fun A : DmaSems sig S1 => A.squeeze S_ squeezes_S1_S_) (SemArray.slice_unit_congr _ (coff_c0 t h) _ _)

theorem coff_s0 : ∀ t : Fin grid0.N, cond0_0 (grid0.coords t) → ![0, 0] = ![0, 2048 * (Ring.bk 5 (chunk t.val)).val] := by decide +kernel
@[sl_canon] theorem canon_s0 (t : Fin grid0.N) (h : cond0_0 (grid0.coords t)) :
    hbM0_1.slice (Rect.unit (s := S1024x10240) (![0, 0]) S1024x2048.size inb_S1024x10240_S1024x2048_0_0) (fun _ => rfl) = srcB0_1 (Ring.bk 5 (chunk t.val)) :=
  congrArg (fun M : Memref sig .tc .hbm S1024x2048 .bf16 => M) (Memref.slice_unit_congr _ (coff_s0 t h) _ _ (fun _ => rfl) (fun _ => rfl))

theorem coff_w1 : ∀ t : Fin grid0.N, cond0_0 (grid0.coords t) → ![1, 0, 0] = ![(Ring.sl 3 (chunk (t.val + 1))).val, 0, 0] := by decide +kernel
@[sl_canon] theorem canon_w1 (t : Fin grid0.N) (h : cond0_0 (grid0.coords t)) :
    (scM0_1.slice (Rect.unit (s := S3x1024x2048) (![1, 0, 0]) S1x1024x2048.size inb_S3x1024x2048_S1x1024x2048_1_0_0) (fun _ => rfl)).squeeze S1024x2048 squeezes_S1x1024x2048_S1024x2048 = rslot0_1 (Ring.sl 3 (chunk (t.val + 1))) :=
  congrArg (fun M : Memref sig .tc .vmem S1x1024x2048 .bf16 => M.squeeze S1024x2048 squeezes_S1x1024x2048_S1024x2048) (Memref.slice_unit_congr _ (coff_w1 t h) _ _ (fun _ => rfl) (fun _ => rfl))

theorem coff_c1 : ∀ t : Fin grid0.N, cond0_0 (grid0.coords t) → ![1] = ![(Ring.sl 3 (chunk (t.val + 1))).val] := by decide +kernel
@[sl_canon] theorem canon_c1 (t : Fin grid0.N) (h : cond0_0 (grid0.coords t)) :
    (cc0_scratch2.slice (Rect.unit (s := S3) (![1]) S1.size inb_S3_S1_1)).squeeze S_ squeezes_S1_S_ = cellA0_1 (Ring.sl 3 (chunk (t.val + 1))) :=
  congrArg (fun A : DmaSems sig S1 => A.squeeze S_ squeezes_S1_S_) (SemArray.slice_unit_congr _ (coff_c1 t h) _ _)

theorem coff_s1 : ∀ t : Fin grid0.N, cond0_0 (grid0.coords t) → ![0, 2048] = ![0, 2048 * (Ring.bk 5 (chunk (t.val + 1))).val] := by decide +kernel
@[sl_canon] theorem canon_s1 (t : Fin grid0.N) (h : cond0_0 (grid0.coords t)) :
    hbM0_1.slice (Rect.unit (s := S1024x10240) (![0, 2048]) S1024x2048.size inb_S1024x10240_S1024x2048_0_2048) (fun _ => rfl) = srcB0_1 (Ring.bk 5 (chunk (t.val + 1))) :=
  congrArg (fun M : Memref sig .tc .hbm S1024x2048 .bf16 => M) (Memref.slice_unit_congr _ (coff_s1 t h) _ _ (fun _ => rfl) (fun _ => rfl))

theorem coff_c2 : ∀ t : Fin grid0.N, cond0_1 (grid0.coords t) → k0_off1 (grid0.coords t) = ![(Ring.sl 3 (chunk (t.val + 2))).val] := by decide +kernel
@[sl_canon] theorem canon_c2 (t : Fin grid0.N) (h : cond0_1 (grid0.coords t)) :
    (cc0_scratch2.slice (Rect.unit (s := S3) (k0_off1 (grid0.coords t)) S1.size (k0_off1_inb (grid0.coords t) h))).squeeze S_ squeezes_S1_S_ = cellA0_1 (Ring.sl 3 (chunk (t.val + 2))) :=
  congrArg (fun A : DmaSems sig S1 => A.squeeze S_ squeezes_S1_S_) (SemArray.slice_unit_congr _ (coff_c2 t h) _ _)

theorem coff_w2 : ∀ t : Fin grid0.N, cond0_1 (grid0.coords t) → k0_off2 (grid0.coords t) = ![(Ring.sl 3 (chunk (t.val + 2))).val, 0, 0] := by decide +kernel
@[sl_canon] theorem canon_w2 (t : Fin grid0.N) (h : cond0_1 (grid0.coords t)) :
    (scM0_1.slice (Rect.unit (s := S3x1024x2048) (k0_off2 (grid0.coords t)) S1x1024x2048.size (k0_off2_inb (grid0.coords t) h)) (fun _ => rfl)).squeeze S1024x2048 squeezes_S1x1024x2048_S1024x2048 = rslot0_1 (Ring.sl 3 (chunk (t.val + 2))) :=
  congrArg (fun M : Memref sig .tc .vmem S1x1024x2048 .bf16 => M.squeeze S1024x2048 squeezes_S1x1024x2048_S1024x2048) (Memref.slice_unit_congr _ (coff_w2 t h) _ _ (fun _ => rfl) (fun _ => rfl))

theorem coff_s2 : ∀ t : Fin grid0.N, cond0_1 (grid0.coords t) → k0_off3 (grid0.coords t) = ![0, 2048 * (Ring.bk 5 (chunk (t.val + 2))).val] := by decide +kernel
@[sl_canon] theorem canon_s2 (t : Fin grid0.N) (h : cond0_1 (grid0.coords t)) :
    hbM0_1.slice (Rect.unit (s := S1024x10240) (k0_off3 (grid0.coords t)) S1024x2048.size (k0_off3_inb (grid0.coords t) h)) (fun _ => rfl) = srcB0_1 (Ring.bk 5 (chunk (t.val + 2))) :=
  congrArg (fun M : Memref sig .tc .hbm S1024x2048 .bf16 => M) (Memref.slice_unit_congr _ (coff_s2 t h) _ _ (fun _ => rfl) (fun _ => rfl))

theorem coff_c3 : ∀ t : Fin grid0.N, cond0_2 (grid0.coords t) → k0_off4 (grid0.coords t) = ![(Ring.sl 3 (chunk t.val)).val] := by decide +kernel
@[sl_canon] theorem canon_c3 (t : Fin grid0.N) (h : cond0_2 (grid0.coords t)) :
    (cc0_scratch2.slice (Rect.unit (s := S3) (k0_off4 (grid0.coords t)) S1.size (k0_off4_inb (grid0.coords t) h))).squeeze S_ squeezes_S1_S_ = cellA0_1 (Ring.sl 3 (chunk t.val)) :=
  congrArg (fun A : DmaSems sig S1 => A.squeeze S_ squeezes_S1_S_) (SemArray.slice_unit_congr _ (coff_c3 t h) _ _)

theorem coff_w3 : ∀ t : Fin grid0.N, cond0_2 (grid0.coords t) → k0_off5 (grid0.coords t) = ![(Ring.sl 3 (chunk t.val)).val, 0, 0] := by decide +kernel
@[sl_canon] theorem canon_w3 (t : Fin grid0.N) (h : cond0_2 (grid0.coords t)) :
    (scM0_1.slice (Rect.unit (s := S3x1024x2048) (k0_off5 (grid0.coords t)) S1x1024x2048.size (k0_off5_inb (grid0.coords t) h)) (fun _ => rfl)).squeeze S1024x2048 squeezes_S1x1024x2048_S1024x2048 = rslot0_1 (Ring.sl 3 (chunk t.val)) :=
  congrArg (fun M : Memref sig .tc .vmem S1x1024x2048 .bf16 => M.squeeze S1024x2048 squeezes_S1x1024x2048_S1024x2048) (Memref.slice_unit_congr _ (coff_w3 t h) _ _ (fun _ => rfl) (fun _ => rfl))

theorem coff_s3 : ∀ t : Fin grid0.N, cond0_2 (grid0.coords t) → k0_off6 (grid0.coords t) = ![0, 2048 * (Ring.bk 5 (chunk t.val)).val] := by decide +kernel
@[sl_canon] theorem canon_s3 (t : Fin grid0.N) (h : cond0_2 (grid0.coords t)) :
    hbM0_1.slice (Rect.unit (s := S1024x10240) (k0_off6 (grid0.coords t)) S1024x2048.size (k0_off6_inb (grid0.coords t) h)) (fun _ => rfl) = srcB0_1 (Ring.bk 5 (chunk t.val)) :=
  congrArg (fun M : Memref sig .tc .hbm S1024x2048 .bf16 => M) (Memref.slice_unit_congr _ (coff_s3 t h) _ _ (fun _ => rfl) (fun _ => rfl))

theorem coff_x0 : ∀ t : Fin grid0.N, cond0_3 (grid0.coords t) → ![0, 0, 0] = ![(Ring.sl 2 (row t.val)).val, 0, 0] := by decide +kernel
@[sl_canon] theorem canon_x0 (t : Fin grid0.N) (h : cond0_3 (grid0.coords t)) :
    (scM0_2.slice (Rect.unit (s := S2x1024x1024) (![0, 0, 0]) S1x1024x1024.size inb_S2x1024x1024_S1x1024x1024_0_0_0) (fun _ => rfl)).squeeze S1024x1024 squeezes_S1x1024x1024_S1024x1024 = rslot0_0 (Ring.sl 2 (row t.val)) :=
  congrArg (fun M : Memref sig .tc .vmem S1x1024x1024 .f32 => M.squeeze S1024x1024 squeezes_S1x1024x1024_S1024x1024) (Memref.slice_unit_congr _ (coff_x0 t h) _ _ (fun _ => rfl) (fun _ => rfl))

theorem coff_d0 : ∀ t : Fin grid0.N, cond0_3 (grid0.coords t) → ![0] = ![(Ring.sl 2 (row t.val)).val] := by decide +kernel
@[sl_canon] theorem canon_d0 (t : Fin grid0.N) (h : cond0_3 (grid0.coords t)) :
    (cc0_scratch4.slice (Rect.unit (s := S2) (![0]) S1.size inb_S2_S1_0)).squeeze S_ squeezes_S1_S_ = cellA0_0 (Ring.sl 2 (row t.val)) :=
  congrArg (fun A : DmaSems sig S1 => A.squeeze S_ squeezes_S1_S_) (SemArray.slice_unit_congr _ (coff_d0 t h) _ _)

theorem coff_y0 : ∀ t : Fin grid0.N, cond0_3 (grid0.coords t) → ![0, 0] = ![1024 * (Ring.bk 32 (row t.val)).val, 0] := by decide +kernel
@[sl_canon] theorem canon_y0 (t : Fin grid0.N) (h : cond0_3 (grid0.coords t)) :
    hbM0_0.slice (Rect.unit (s := S32768x1024) (![0, 0]) S1024x1024.size inb_S32768x1024_S1024x1024_0_0) (fun _ => rfl) = srcB0_0 (Ring.bk 32 (row t.val)) :=
  congrArg (fun M : Memref sig .tc .hbm S1024x1024 .f32 => M) (Memref.slice_unit_congr _ (coff_y0 t h) _ _ (fun _ => rfl) (fun _ => rfl))

theorem coff_d1 : ∀ t : Fin grid0.N, cond0_4 (grid0.coords t) → k0_off7 (grid0.coords t) = ![(Ring.sl 2 (row t.val + 1)).val] := by decide +kernel
@[sl_canon] theorem canon_d1 (t : Fin grid0.N) (h : cond0_4 (grid0.coords t)) :
    (cc0_scratch4.slice (Rect.unit (s := S2) (k0_off7 (grid0.coords t)) S1.size (k0_off7_inb (grid0.coords t) h))).squeeze S_ squeezes_S1_S_ = cellA0_0 (Ring.sl 2 (row t.val + 1)) :=
  congrArg (fun A : DmaSems sig S1 => A.squeeze S_ squeezes_S1_S_) (SemArray.slice_unit_congr _ (coff_d1 t h) _ _)

theorem coff_x1 : ∀ t : Fin grid0.N, cond0_4 (grid0.coords t) → k0_off8 (grid0.coords t) = ![(Ring.sl 2 (row t.val + 1)).val, 0, 0] := by decide +kernel
@[sl_canon] theorem canon_x1 (t : Fin grid0.N) (h : cond0_4 (grid0.coords t)) :
    (scM0_2.slice (Rect.unit (s := S2x1024x1024) (k0_off8 (grid0.coords t)) S1x1024x1024.size (k0_off8_inb (grid0.coords t) h)) (fun _ => rfl)).squeeze S1024x1024 squeezes_S1x1024x1024_S1024x1024 = rslot0_0 (Ring.sl 2 (row t.val + 1)) :=
  congrArg (fun M : Memref sig .tc .vmem S1x1024x1024 .f32 => M.squeeze S1024x1024 squeezes_S1x1024x1024_S1024x1024) (Memref.slice_unit_congr _ (coff_x1 t h) _ _ (fun _ => rfl) (fun _ => rfl))

theorem coff_y1 : ∀ t : Fin grid0.N, cond0_4 (grid0.coords t) → k0_off9 (grid0.coords t) = ![1024 * (Ring.bk 32 (row t.val + 1)).val, 0] := by decide +kernel
@[sl_canon] theorem canon_y1 (t : Fin grid0.N) (h : cond0_4 (grid0.coords t)) :
    hbM0_0.slice (Rect.unit (s := S32768x1024) (k0_off9 (grid0.coords t)) S1024x1024.size (k0_off9_inb (grid0.coords t) h)) (fun _ => rfl) = srcB0_0 (Ring.bk 32 (row t.val + 1)) :=
  congrArg (fun M : Memref sig .tc .hbm S1024x1024 .f32 => M) (Memref.slice_unit_congr _ (coff_y1 t h) _ _ (fun _ => rfl) (fun _ => rfl))

theorem coff_d2 : ∀ t : Fin grid0.N, cond0_5 (grid0.coords t) → k0_off10 (grid0.coords t) = ![(Ring.sl 2 (row t.val)).val] := by decide +kernel
@[sl_canon] theorem canon_d2 (t : Fin grid0.N) (h : cond0_5 (grid0.coords t)) :
    (cc0_scratch4.slice (Rect.unit (s := S2) (k0_off10 (grid0.coords t)) S1.size (k0_off10_inb (grid0.coords t) h))).squeeze S_ squeezes_S1_S_ = cellA0_0 (Ring.sl 2 (row t.val)) :=
  congrArg (fun A : DmaSems sig S1 => A.squeeze S_ squeezes_S1_S_) (SemArray.slice_unit_congr _ (coff_d2 t h) _ _)

theorem coff_x2 : ∀ t : Fin grid0.N, cond0_5 (grid0.coords t) → k0_off11 (grid0.coords t) = ![(Ring.sl 2 (row t.val)).val, 0, 0] := by decide +kernel
@[sl_canon] theorem canon_x2 (t : Fin grid0.N) (h : cond0_5 (grid0.coords t)) :
    (scM0_2.slice (Rect.unit (s := S2x1024x1024) (k0_off11 (grid0.coords t)) S1x1024x1024.size (k0_off11_inb (grid0.coords t) h)) (fun _ => rfl)).squeeze S1024x1024 squeezes_S1x1024x1024_S1024x1024 = rslot0_0 (Ring.sl 2 (row t.val)) :=
  congrArg (fun M : Memref sig .tc .vmem S1x1024x1024 .f32 => M.squeeze S1024x1024 squeezes_S1x1024x1024_S1024x1024) (Memref.slice_unit_congr _ (coff_x2 t h) _ _ (fun _ => rfl) (fun _ => rfl))

theorem coff_y2 : ∀ t : Fin grid0.N, cond0_5 (grid0.coords t) → k0_off12 (grid0.coords t) = ![1024 * (Ring.bk 32 (row t.val)).val, 0] := by decide +kernel
@[sl_canon] theorem canon_y2 (t : Fin grid0.N) (h : cond0_5 (grid0.coords t)) :
    hbM0_0.slice (Rect.unit (s := S32768x1024) (k0_off12 (grid0.coords t)) S1024x1024.size (k0_off12_inb (grid0.coords t) h)) (fun _ => rfl) = srcB0_0 (Ring.bk 32 (row t.val)) :=
  congrArg (fun M : Memref sig .tc .hbm S1024x1024 .f32 => M) (Memref.slice_unit_congr _ (coff_y2 t h) _ _ (fun _ => rfl) (fun _ => rfl))

theorem coff_w4 : ∀ t : Fin grid0.N, cond0_6 (grid0.coords t) → k0_off14 (grid0.coords t) = ![(Ring.sl 3 (chunk t.val)).val, 0, 0] := by decide +kernel
@[sl_canon] theorem canon_w4 (t : Fin grid0.N) (h : cond0_6 (grid0.coords t)) :
    (scM0_1.slice (Rect.unit (s := S3x1024x2048) (k0_off14 (grid0.coords t)) S1x1024x2048.size (k0_off14_inb (grid0.coords t) h)) (fun _ => rfl)).squeeze S1024x2048 squeezes_S1x1024x2048_S1024x2048 = rslot0_1 (Ring.sl 3 (chunk t.val)) :=
  congrArg (fun M : Memref sig .tc .vmem S1x1024x2048 .bf16 => M.squeeze S1024x2048 squeezes_S1x1024x2048_S1024x2048) (Memref.slice_unit_congr _ (coff_w4 t h) _ _ (fun _ => rfl) (fun _ => rfl))

theorem coff_w5 : ∀ t : Fin grid0.N, cond0_8 (grid0.coords t) → k0_off16 (grid0.coords t) = ![(Ring.sl 3 (chunk t.val)).val, 0, 0] := by decide +kernel
@[sl_canon] theorem canon_w5 (t : Fin grid0.N) (h : cond0_8 (grid0.coords t)) :
    (scM0_1.slice (Rect.unit (s := S3x1024x2048) (k0_off16 (grid0.coords t)) S1x1024x2048.size (k0_off16_inb (grid0.coords t) h)) (fun _ => rfl)).squeeze S1024x2048 squeezes_S1x1024x2048_S1024x2048 = rslot0_1 (Ring.sl 3 (chunk t.val)) :=
  congrArg (fun M : Memref sig .tc .vmem S1x1024x2048 .bf16 => M.squeeze S1024x2048 squeezes_S1x1024x2048_S1024x2048) (Memref.slice_unit_congr _ (coff_w5 t h) _ _ (fun _ => rfl) (fun _ => rfl))

theorem coff_x3 : ∀ t : Fin grid0.N, cond0_5 (grid0.coords t) → k0_off13 (grid0.coords t) = ![(Ring.sl 2 (row t.val)).val, 0, 0] := by decide +kernel
/-- A load's box in its slot's spelling. -/
instance (priority := high) closed_x3 (t : Fin grid0.N) [h : Fact (cond0_5 (grid0.coords t))] : ClosedOff (k0_off13 (grid0.coords t)) :=
  ⟨![(Ring.sl 2 (row t.val)).val, 0, 0], coff_x3 t h.out⟩
theorem coff_w6 : ∀ t : Fin grid0.N, cond0_7 (grid0.coords t) → k0_off15 (grid0.coords t) = ![(Ring.sl 3 (chunk t.val)).val, 0, 0] := by decide +kernel
instance (priority := high) closed_w6 (t : Fin grid0.N) [h : Fact (cond0_7 (grid0.coords t))] : ClosedOff (k0_off15 (grid0.coords t)) :=
  ⟨![(Ring.sl 3 (chunk t.val)).val, 0, 0], coff_w6 t h.out⟩
end Canon0

end Cert.Kernel2Ideal.Gen

end
-- ==== Proof.IRunA.lean ====
module

public import proofs.«01_k».proof.Proof.IRing
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
set_option maxHeartbeats 1600000 in
/-- The body at a row's third point, and the last row's second: what it leaves in the buffers it fills, and that it runs so. -/
noncomputable def runD (c : Dev nD) (t : Fin cfg0.N) (arg3 : Memref sig .tc .vmem S1x3x1024 .f32) (harg3 : arg3.IsWhole) (arg4 : Memref sig .tc .vmem S1x1024 .f32) (harg4 : arg4.IsWhole) (arg6 : Memref sig .tc .vmem S1024x2048 .bf16) (harg6 : arg6.IsWhole) (arg7 : Memref sig .tc .vmem S1024x128 .bf16) (harg7 : arg7.IsWhole) (arg8 : Memref sig .tc .vmem S1x128 .f32) (harg8 : arg8.IsWhole) (arg9 : Memref sig .tc .vmem S2x1024 .f32) (harg9 : arg9.IsWhole) (arg10 : Memref sig .tc .vmem S1024x2048 .bf16) (harg10 : arg10.IsWhole) (arg11 : Memref sig .tc .vmem S1024x128 .f32) (harg11 : arg11.IsWhole) (arg12 : Memref sig .tc .vmem S8x1024 .f32) (harg12 : arg12.IsWhole) (arg13 : Memref sig .tc .vmem S1024x1024 .bf16) (harg13 : arg13.IsWhole)
    (hc0 : ¬cond0_0 (grid0.coords t)) (hc1 : cond0_1 (grid0.coords t)) (hc2 : cond0_2 (grid0.coords t)) (hc3 : ¬cond0_3 (grid0.coords t)) (hc4 : ¬cond0_4 (grid0.coords t)) (hc5 : ¬cond0_5 (grid0.coords t)) (hc6 : ¬cond0_6 (grid0.coords t)) (hc7 : cond0_7 (grid0.coords t)) (hc8 : ¬cond0_8 (grid0.coords t)) (hc9 : ¬cond0_9 (grid0.coords t))
    (x13 : Vec F S1024x1024 .bf16) (fh0 : HbBuf0 (F := F) c hbM0_0) (fh1 : HbBuf0 (F := F) c hbM0_1) :
    { L10 : List (View.Piece (Elt F) S1024x2048 .bf16) //
      ∀ (W : Waits sig Unit) (K : PUnit → sProp 𝕄),
        iprop(owns (c : Thread nD τ) arg13 fullShare x13 ∗ (∃ d, owns (c : Thread nD τ) arg10 fullShare d) ∗ Ring.inflight (flightW0_1 c fh1) (Ring.sl 3 (chunk t.val)) (Ring.bk 5 (chunk t.val)) ∗ Ring.free (cellP0_1 c) (slotW0_1 c fh1) (Ring.sl 3 (chunk (t.val + 2))) ∗ owes (c : Thread nD τ) 0 W
            ∗ (iprop(owns (c : Thread nD τ) arg13 fullShare x13 ∗ (∃ f, arg10.view.loc (c : Thread nD τ) ↦[arg10.view.set]{fullShare} arg10.view.writes (Elt F) f L10) ∗ Ring.free (cellP0_1 c) (slotW0_1 c fh1) (Ring.sl 3 (chunk t.val)) ∗ Ring.inflight (flightW0_1 c fh1) (Ring.sl 3 (chunk (t.val + 2))) (Ring.bk 5 (chunk (t.val + 2))) ∗ (∃ W', owes (c : Thread nD τ) 0 W')) -∗ K ⟨⟩))
          ⊢ wp frame (wpE (defs₀ (F := F)) Variants.none c none) Set.univ (cc0_inproj (grid0.coords t) (Memref.whole main_v0) (Memref.isWhole_whole _) arg3 harg3 arg4 harg4 (Memref.whole main_v4) (Memref.isWhole_whole _) arg6 harg6 arg7 harg7 arg8 harg8 arg9 harg9 arg10 harg10 arg11 harg11 arg12 harg12 arg13 harg13 scM0_1 (Memref.isWhole_whole _) cc0_scratch2 scM0_2 (Memref.isWhole_whole _) cc0_scratch4) K } := by
  refine ⟨?_, fun W K => ?run⟩
  case run =>
    haveI : Fact (¬cond0_0 (grid0.coords t)) := ⟨hc0⟩
    haveI : Fact (cond0_1 (grid0.coords t)) := ⟨hc1⟩
    haveI : Fact (cond0_2 (grid0.coords t)) := ⟨hc2⟩
    haveI : Fact (¬cond0_3 (grid0.coords t)) := ⟨hc3⟩
    haveI : Fact (¬cond0_4 (grid0.coords t)) := ⟨hc4⟩
    haveI : Fact (¬cond0_5 (grid0.coords t)) := ⟨hc5⟩
    haveI : Fact (¬cond0_6 (grid0.coords t)) := ⟨hc6⟩
    haveI : Fact (cond0_7 (grid0.coords t)) := ⟨hc7⟩
    haveI : Fact (¬cond0_8 (grid0.coords t)) := ⟨hc8⟩
    haveI : Fact (¬cond0_9 (grid0.coords t)) := ⟨hc9⟩
    simp only [cc0_inproj_eq_skeleton]; unfold cc0_inproj_skel
    simp only [k0_part9_eq_skeleton, k0_part10_eq_skeleton, k0_part1_eq_skeleton, k0_part2_eq_skeleton, k0_part3_eq_skeleton, k0_part4_eq_skeleton, k0_part5_eq_skeleton, k0_part6_eq_skeleton, k0_part7_eq_skeleton, k0_part8_eq_skeleton]
    unfold owns Ring.free Ring.inflight
    iintro ⟨⟨%f13, %hf13, H13⟩, ⟨%d10, %f10, -, H10⟩, ⟨%fw, Hw, Hrw⟩, ⟨Hck2, ⟨%gk2, Hsk2, Hhk2⟩⟩, HW, Hk⟩
    ihave Hpk2 := (src0_1_split c fh1 (Ring.sl 3 (chunk (t.val + 2))) (Ring.bk 5 (chunk (t.val + 2)))).1 $$ Hhk2
    icases Hpk2 with ⟨Hbk2, Hrk2⟩
    obtain rfl := harg13.eq_unread hf13
    sl_exec (disch := first | sl_exact hc0 | sl_exact hc1 | sl_exact hc2 | sl_exact hc3 | sl_exact hc4 | sl_exact hc5 | sl_exact hc6 | sl_exact hc7 | sl_exact hc8 | sl_exact hc9)
    sl_step
    iapply Hk
    isplitl [H13]
    · iexists _; isplitr; · ipureintro; exact harg13.read_unread _
      iexact H13
    isplitl [H10]; · iexists _; iexact H10
    isplitl [Hw Hw_dst Hw_src Hrw]
    · isplitl [Hw]; · iexact Hw
      iexists _; isplitl [Hw_dst]; · iexact Hw_dst
      iapply (src0_1_split c fh1 (Ring.sl 3 (chunk t.val)) (Ring.bk 5 (chunk t.val))).2; isplitl [Hw_src]; · iexact Hw_src
      iexact Hrw
    isplitl [Hck2 Hrk2]
    · iexists _; isplitl [Hck2]; · iexact Hck2
      iexact Hrk2
    iexists _; iexact HW

set_option maxHeartbeats 1600000 in
/-- The body at a row's fourth point: what it leaves in the buffers it fills, and that it runs so. -/
noncomputable def runE (c : Dev nD) (t : Fin cfg0.N) (arg3 : Memref sig .tc .vmem S1x3x1024 .f32) (harg3 : arg3.IsWhole) (arg4 : Memref sig .tc .vmem S1x1024 .f32) (harg4 : arg4.IsWhole) (arg6 : Memref sig .tc .vmem S1024x2048 .bf16) (harg6 : arg6.IsWhole) (arg7 : Memref sig .tc .vmem S1024x128 .bf16) (harg7 : arg7.IsWhole) (arg8 : Memref sig .tc .vmem S1x128 .f32) (harg8 : arg8.IsWhole) (arg9 : Memref sig .tc .vmem S2x1024 .f32) (harg9 : arg9.IsWhole) (arg10 : Memref sig .tc .vmem S1024x2048 .bf16) (harg10 : arg10.IsWhole) (arg11 : Memref sig .tc .vmem S1024x128 .f32) (harg11 : arg11.IsWhole) (arg12 : Memref sig .tc .vmem S8x1024 .f32) (harg12 : arg12.IsWhole) (arg13 : Memref sig .tc .vmem S1024x1024 .bf16) (harg13 : arg13.IsWhole)
    (hc0 : ¬cond0_0 (grid0.coords t)) (hc1 : ¬cond0_1 (grid0.coords t)) (hc2 : cond0_2 (grid0.coords t)) (hc3 : ¬cond0_3 (grid0.coords t)) (hc4 : ¬cond0_4 (grid0.coords t)) (hc5 : ¬cond0_5 (grid0.coords t)) (hc6 : ¬cond0_6 (grid0.coords t)) (hc7 : cond0_7 (grid0.coords t)) (hc8 : ¬cond0_8 (grid0.coords t)) (hc9 : ¬cond0_9 (grid0.coords t))
    (x13 : Vec F S1024x1024 .bf16) (fh0 : HbBuf0 (F := F) c hbM0_0) (fh1 : HbBuf0 (F := F) c hbM0_1) :
    { L10 : List (View.Piece (Elt F) S1024x2048 .bf16) //
      ∀ (W : Waits sig Unit) (K : PUnit → sProp 𝕄),
        iprop(owns (c : Thread nD τ) arg13 fullShare x13 ∗ (∃ d, owns (c : Thread nD τ) arg10 fullShare d) ∗ Ring.inflight (flightW0_1 c fh1) (Ring.sl 3 (chunk t.val)) (Ring.bk 5 (chunk t.val)) ∗ owes (c : Thread nD τ) 0 W
            ∗ (iprop(owns (c : Thread nD τ) arg13 fullShare x13 ∗ (∃ f, arg10.view.loc (c : Thread nD τ) ↦[arg10.view.set]{fullShare} arg10.view.writes (Elt F) f L10) ∗ Ring.free (cellP0_1 c) (slotW0_1 c fh1) (Ring.sl 3 (chunk t.val)) ∗ (∃ W', owes (c : Thread nD τ) 0 W')) -∗ K ⟨⟩))
          ⊢ wp frame (wpE (defs₀ (F := F)) Variants.none c none) Set.univ (cc0_inproj (grid0.coords t) (Memref.whole main_v0) (Memref.isWhole_whole _) arg3 harg3 arg4 harg4 (Memref.whole main_v4) (Memref.isWhole_whole _) arg6 harg6 arg7 harg7 arg8 harg8 arg9 harg9 arg10 harg10 arg11 harg11 arg12 harg12 arg13 harg13 scM0_1 (Memref.isWhole_whole _) cc0_scratch2 scM0_2 (Memref.isWhole_whole _) cc0_scratch4) K } := by
  refine ⟨?_, fun W K => ?run⟩
  case run =>
    haveI : Fact (¬cond0_0 (grid0.coords t)) := ⟨hc0⟩
    haveI : Fact (¬cond0_1 (grid0.coords t)) := ⟨hc1⟩
    haveI : Fact (cond0_2 (grid0.coords t)) := ⟨hc2⟩
    haveI : Fact (¬cond0_3 (grid0.coords t)) := ⟨hc3⟩
    haveI : Fact (¬cond0_4 (grid0.coords t)) := ⟨hc4⟩
    haveI : Fact (¬cond0_5 (grid0.coords t)) := ⟨hc5⟩
    haveI : Fact (¬cond0_6 (grid0.coords t)) := ⟨hc6⟩
    haveI : Fact (cond0_7 (grid0.coords t)) := ⟨hc7⟩
    haveI : Fact (¬cond0_8 (grid0.coords t)) := ⟨hc8⟩
    haveI : Fact (¬cond0_9 (grid0.coords t)) := ⟨hc9⟩
    simp only [cc0_inproj_eq_skeleton]; unfold cc0_inproj_skel
    simp only [k0_part9_eq_skeleton, k0_part10_eq_skeleton, k0_part1_eq_skeleton, k0_part2_eq_skeleton, k0_part3_eq_skeleton, k0_part4_eq_skeleton, k0_part5_eq_skeleton, k0_part6_eq_skeleton, k0_part7_eq_skeleton, k0_part8_eq_skeleton]
    unfold owns Ring.free Ring.inflight
    iintro ⟨⟨%f13, %hf13, H13⟩, ⟨%d10, %f10, -, H10⟩, ⟨%fw, Hw, Hrw⟩, HW, Hk⟩
    obtain rfl := harg13.eq_unread hf13
    sl_exec (disch := first | sl_exact hc0 | sl_exact hc1 | sl_exact hc2 | sl_exact hc3 | sl_exact hc4 | sl_exact hc5 | sl_exact hc6 | sl_exact hc7 | sl_exact hc8 | sl_exact hc9)
    sl_step
    iapply Hk
    isplitl [H13]
    · iexists _; isplitr; · ipureintro; exact harg13.read_unread _
      iexact H13
    isplitl [H10]; · iexists _; iexact H10
    isplitl [Hw Hw_dst Hw_src Hrw]
    · isplitl [Hw]; · iexact Hw
      iexists _; isplitl [Hw_dst]; · iexact Hw_dst
      iapply (src0_1_split c fh1 (Ring.sl 3 (chunk t.val)) (Ring.bk 5 (chunk t.val))).2; isplitl [Hw_src]; · iexact Hw_src
      iexact Hrw
    iexists _; iexact HW

set_option maxHeartbeats 1600000 in
/-- The body at a row's second point, the next row block to start: what it leaves in the buffers it fills, and that it runs so. -/
noncomputable def runC (c : Dev nD) (t : Fin cfg0.N) (arg3 : Memref sig .tc .vmem S1x3x1024 .f32) (harg3 : arg3.IsWhole) (arg4 : Memref sig .tc .vmem S1x1024 .f32) (harg4 : arg4.IsWhole) (arg6 : Memref sig .tc .vmem S1024x2048 .bf16) (harg6 : arg6.IsWhole) (arg7 : Memref sig .tc .vmem S1024x128 .bf16) (harg7 : arg7.IsWhole) (arg8 : Memref sig .tc .vmem S1x128 .f32) (harg8 : arg8.IsWhole) (arg9 : Memref sig .tc .vmem S2x1024 .f32) (harg9 : arg9.IsWhole) (arg10 : Memref sig .tc .vmem S1024x2048 .bf16) (harg10 : arg10.IsWhole) (arg11 : Memref sig .tc .vmem S1024x128 .f32) (harg11 : arg11.IsWhole) (arg12 : Memref sig .tc .vmem S8x1024 .f32) (harg12 : arg12.IsWhole) (arg13 : Memref sig .tc .vmem S1024x1024 .bf16) (harg13 : arg13.IsWhole)
    (hc0 : ¬cond0_0 (grid0.coords t)) (hc1 : cond0_1 (grid0.coords t)) (hc2 : cond0_2 (grid0.coords t)) (hc3 : ¬cond0_3 (grid0.coords t)) (hc4 : cond0_4 (grid0.coords t)) (hc5 : ¬cond0_5 (grid0.coords t)) (hc6 : ¬cond0_6 (grid0.coords t)) (hc7 : cond0_7 (grid0.coords t)) (hc8 : ¬cond0_8 (grid0.coords t)) (hc9 : ¬cond0_9 (grid0.coords t))
    (x13 : Vec F S1024x1024 .bf16) (fh0 : HbBuf0 (F := F) c hbM0_0) (fh1 : HbBuf0 (F := F) c hbM0_1) :
    { L10 : List (View.Piece (Elt F) S1024x2048 .bf16) //
      ∀ (W : Waits sig Unit) (K : PUnit → sProp 𝕄),
        iprop(owns (c : Thread nD τ) arg13 fullShare x13 ∗ (∃ d, owns (c : Thread nD τ) arg10 fullShare d) ∗ Ring.inflight (flightW0_1 c fh1) (Ring.sl 3 (chunk t.val)) (Ring.bk 5 (chunk t.val)) ∗ Ring.free (cellP0_1 c) (slotW0_1 c fh1) (Ring.sl 3 (chunk (t.val + 2))) ∗ Ring.free (cellP0_0 c) (slotW0_0 c fh0) (Ring.sl 2 (row t.val + 1)) ∗ owes (c : Thread nD τ) 0 W
            ∗ (iprop(owns (c : Thread nD τ) arg13 fullShare x13 ∗ (∃ f, arg10.view.loc (c : Thread nD τ) ↦[arg10.view.set]{fullShare} arg10.view.writes (Elt F) f L10) ∗ Ring.free (cellP0_1 c) (slotW0_1 c fh1) (Ring.sl 3 (chunk t.val)) ∗ Ring.inflight (flightW0_1 c fh1) (Ring.sl 3 (chunk (t.val + 2))) (Ring.bk 5 (chunk (t.val + 2))) ∗ Ring.inflight (flightW0_0 c fh0) (Ring.sl 2 (row t.val + 1)) (Ring.bk 32 (row t.val + 1)) ∗ (∃ W', owes (c : Thread nD τ) 0 W')) -∗ K ⟨⟩))
          ⊢ wp frame (wpE (defs₀ (F := F)) Variants.none c none) Set.univ (cc0_inproj (grid0.coords t) (Memref.whole main_v0) (Memref.isWhole_whole _) arg3 harg3 arg4 harg4 (Memref.whole main_v4) (Memref.isWhole_whole _) arg6 harg6 arg7 harg7 arg8 harg8 arg9 harg9 arg10 harg10 arg11 harg11 arg12 harg12 arg13 harg13 scM0_1 (Memref.isWhole_whole _) cc0_scratch2 scM0_2 (Memref.isWhole_whole _) cc0_scratch4) K } := by
  refine ⟨?_, fun W K => ?run⟩
  case run =>
    haveI : Fact (¬cond0_0 (grid0.coords t)) := ⟨hc0⟩
    haveI : Fact (cond0_1 (grid0.coords t)) := ⟨hc1⟩
    haveI : Fact (cond0_2 (grid0.coords t)) := ⟨hc2⟩
    haveI : Fact (¬cond0_3 (grid0.coords t)) := ⟨hc3⟩
    haveI : Fact (cond0_4 (grid0.coords t)) := ⟨hc4⟩
    haveI : Fact (¬cond0_5 (grid0.coords t)) := ⟨hc5⟩
    haveI : Fact (¬cond0_6 (grid0.coords t)) := ⟨hc6⟩
    haveI : Fact (cond0_7 (grid0.coords t)) := ⟨hc7⟩
    haveI : Fact (¬cond0_8 (grid0.coords t)) := ⟨hc8⟩
    haveI : Fact (¬cond0_9 (grid0.coords t)) := ⟨hc9⟩
    simp only [cc0_inproj_eq_skeleton]; unfold cc0_inproj_skel
    simp only [k0_part9_eq_skeleton, k0_part10_eq_skeleton, k0_part1_eq_skeleton, k0_part2_eq_skeleton, k0_part3_eq_skeleton, k0_part4_eq_skeleton, k0_part5_eq_skeleton, k0_part6_eq_skeleton, k0_part7_eq_skeleton, k0_part8_eq_skeleton]
    unfold owns Ring.free Ring.inflight
    iintro ⟨⟨%f13, %hf13, H13⟩, ⟨%d10, %f10, -, H10⟩, ⟨%fw, Hw, Hrw⟩, ⟨Hck2, ⟨%gk2, Hsk2, Hhk2⟩⟩, ⟨Hcx, ⟨%gx, Hsx, Hhx⟩⟩, HW, Hk⟩
    ihave Hpk2 := (src0_1_split c fh1 (Ring.sl 3 (chunk (t.val + 2))) (Ring.bk 5 (chunk (t.val + 2)))).1 $$ Hhk2
    icases Hpk2 with ⟨Hbk2, Hrk2⟩
    ihave Hpx := (src0_0_split c fh0 (Ring.sl 2 (row t.val + 1)) (Ring.bk 32 (row t.val + 1))).1 $$ Hhx
    icases Hpx with ⟨Hbx, Hrx⟩
    obtain rfl := harg13.eq_unread hf13
    sl_exec (disch := first | sl_exact hc0 | sl_exact hc1 | sl_exact hc2 | sl_exact hc3 | sl_exact hc4 | sl_exact hc5 | sl_exact hc6 | sl_exact hc7 | sl_exact hc8 | sl_exact hc9)
    sl_step
    iapply Hk
    isplitl [H13]
    · iexists _; isplitr; · ipureintro; exact harg13.read_unread _
      iexact H13
    isplitl [H10]; · iexists _; iexact H10
    isplitl [Hw Hw_dst Hw_src Hrw]
    · isplitl [Hw]; · iexact Hw
      iexists _; isplitl [Hw_dst]; · iexact Hw_dst
      iapply (src0_1_split c fh1 (Ring.sl 3 (chunk t.val)) (Ring.bk 5 (chunk t.val))).2; isplitl [Hw_src]; · iexact Hw_src
      iexact Hrw
    isplitl [Hck2 Hrk2]
    · iexists _; isplitl [Hck2]; · iexact Hck2
      iexact Hrk2
    isplitl [Hcx Hrx]
    · iexists _; isplitl [Hcx]; · iexact Hcx
      iexact Hrx
    iexists _; iexact HW

end Cert.Kernel2Ideal.Gen

end
-- ==== Proof.IRunB.lean ====
module

public import proofs.«01_k».proof.Proof.IRunA
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
set_option maxHeartbeats 1600000 in
/-- The body at a row's fifth point: what it leaves in the buffers it fills, and that it runs so. -/
noncomputable def runF (c : Dev nD) (t : Fin cfg0.N) (arg3 : Memref sig .tc .vmem S1x3x1024 .f32) (harg3 : arg3.IsWhole) (arg4 : Memref sig .tc .vmem S1x1024 .f32) (harg4 : arg4.IsWhole) (arg6 : Memref sig .tc .vmem S1024x2048 .bf16) (harg6 : arg6.IsWhole) (arg7 : Memref sig .tc .vmem S1024x128 .bf16) (harg7 : arg7.IsWhole) (arg8 : Memref sig .tc .vmem S1x128 .f32) (harg8 : arg8.IsWhole) (arg9 : Memref sig .tc .vmem S2x1024 .f32) (harg9 : arg9.IsWhole) (arg10 : Memref sig .tc .vmem S1024x2048 .bf16) (harg10 : arg10.IsWhole) (arg11 : Memref sig .tc .vmem S1024x128 .f32) (harg11 : arg11.IsWhole) (arg12 : Memref sig .tc .vmem S8x1024 .f32) (harg12 : arg12.IsWhole) (arg13 : Memref sig .tc .vmem S1024x1024 .bf16) (harg13 : arg13.IsWhole)
    (hc0 : ¬cond0_0 (grid0.coords t)) (hc1 : cond0_1 (grid0.coords t)) (hc2 : cond0_2 (grid0.coords t)) (hc3 : ¬cond0_3 (grid0.coords t)) (hc4 : ¬cond0_4 (grid0.coords t)) (hc5 : ¬cond0_5 (grid0.coords t)) (hc6 : ¬cond0_6 (grid0.coords t)) (hc7 : ¬cond0_7 (grid0.coords t)) (hc8 : cond0_8 (grid0.coords t)) (hc9 : ¬cond0_9 (grid0.coords t))
    (x6 : Vec F S1024x2048 .bf16) (x13 : Vec F S1024x1024 .bf16) (fh0 : HbBuf0 (F := F) c hbM0_0) (fh1 : HbBuf0 (F := F) c hbM0_1) :
    { L10 : List (View.Piece (Elt F) S1024x2048 .bf16) //
      ∀ (W : Waits sig Unit) (K : PUnit → sProp 𝕄),
        iprop(owns (c : Thread nD τ) arg6 fullShare x6 ∗ owns (c : Thread nD τ) arg13 fullShare x13 ∗ (∃ d, owns (c : Thread nD τ) arg10 fullShare d) ∗ Ring.inflight (flightW0_1 c fh1) (Ring.sl 3 (chunk t.val)) (Ring.bk 5 (chunk t.val)) ∗ Ring.free (cellP0_1 c) (slotW0_1 c fh1) (Ring.sl 3 (chunk (t.val + 2))) ∗ owes (c : Thread nD τ) 0 W
            ∗ (iprop(owns (c : Thread nD τ) arg6 fullShare x6 ∗ owns (c : Thread nD τ) arg13 fullShare x13 ∗ (∃ f, arg10.view.loc (c : Thread nD τ) ↦[arg10.view.set]{fullShare} arg10.view.writes (Elt F) f L10) ∗ Ring.free (cellP0_1 c) (slotW0_1 c fh1) (Ring.sl 3 (chunk t.val)) ∗ Ring.inflight (flightW0_1 c fh1) (Ring.sl 3 (chunk (t.val + 2))) (Ring.bk 5 (chunk (t.val + 2))) ∗ (∃ W', owes (c : Thread nD τ) 0 W')) -∗ K ⟨⟩))
          ⊢ wp frame (wpE (defs₀ (F := F)) Variants.none c none) Set.univ (cc0_inproj (grid0.coords t) (Memref.whole main_v0) (Memref.isWhole_whole _) arg3 harg3 arg4 harg4 (Memref.whole main_v4) (Memref.isWhole_whole _) arg6 harg6 arg7 harg7 arg8 harg8 arg9 harg9 arg10 harg10 arg11 harg11 arg12 harg12 arg13 harg13 scM0_1 (Memref.isWhole_whole _) cc0_scratch2 scM0_2 (Memref.isWhole_whole _) cc0_scratch4) K } := by
  refine ⟨?_, fun W K => ?run⟩
  case run =>
    haveI : Fact (¬cond0_0 (grid0.coords t)) := ⟨hc0⟩
    haveI : Fact (cond0_1 (grid0.coords t)) := ⟨hc1⟩
    haveI : Fact (cond0_2 (grid0.coords t)) := ⟨hc2⟩
    haveI : Fact (¬cond0_3 (grid0.coords t)) := ⟨hc3⟩
    haveI : Fact (¬cond0_4 (grid0.coords t)) := ⟨hc4⟩
    haveI : Fact (¬cond0_5 (grid0.coords t)) := ⟨hc5⟩
    haveI : Fact (¬cond0_6 (grid0.coords t)) := ⟨hc6⟩
    haveI : Fact (¬cond0_7 (grid0.coords t)) := ⟨hc7⟩
    haveI : Fact (cond0_8 (grid0.coords t)) := ⟨hc8⟩
    haveI : Fact (¬cond0_9 (grid0.coords t)) := ⟨hc9⟩
    simp only [cc0_inproj_eq_skeleton]; unfold cc0_inproj_skel
    simp only [k0_part9_eq_skeleton, k0_part10_eq_skeleton, k0_part1_eq_skeleton, k0_part2_eq_skeleton, k0_part3_eq_skeleton, k0_part4_eq_skeleton, k0_part5_eq_skeleton, k0_part6_eq_skeleton, k0_part7_eq_skeleton, k0_part8_eq_skeleton]
    have hcanon := canon_w5 t hc8
    unfold owns Ring.free Ring.inflight
    iintro ⟨⟨%f6, %hf6, H6⟩, ⟨%f13, %hf13, H13⟩, ⟨%d10, %f10, -, H10⟩, ⟨%fw, Hw, Hrw⟩, ⟨Hck2, ⟨%gk2, Hsk2, Hhk2⟩⟩, HW, Hk⟩
    ihave Hpk2 := (src0_1_split c fh1 (Ring.sl 3 (chunk (t.val + 2))) (Ring.bk 5 (chunk (t.val + 2)))).1 $$ Hhk2
    icases Hpk2 with ⟨Hbk2, Hrk2⟩
    obtain rfl := harg6.eq_unread hf6; obtain rfl := harg13.eq_unread hf13
    sl_exec (disch := first | sl_exact hc0 | sl_exact hc1 | sl_exact hc2 | sl_exact hc3 | sl_exact hc4 | sl_exact hc5 | sl_exact hc6 | sl_exact hc7 | sl_exact hc8 | sl_exact hc9)
    sl_step
    iapply Hk
    isplitl [H6]
    · iexists _; isplitr; · ipureintro; exact harg6.read_unread _
      iexact H6
    isplitl [H13]
    · iexists _; isplitr; · ipureintro; exact harg13.read_unread _
      iexact H13
    isplitl [H10]; · iexists _; iexact H10
    isplitl [Hw Hw_dst Hw_src Hrw]
    · isplitl [Hw]; · iexact Hw
      iexists _; isplitl [Hw_dst]; · iexact Hw_dst
      iapply (src0_1_split c fh1 (Ring.sl 3 (chunk t.val)) (Ring.bk 5 (chunk t.val))).2; isplitl [Hw_src]; · iexact Hw_src
      iexact Hrw
    isplitl [Hck2 Hrk2]
    · iexists _; isplitl [Hck2]; · iexact Hck2
      iexact Hrk2
    iexists _; iexact HW

set_option maxHeartbeats 1600000 in
/-- The body at the last row's fifth point: what it leaves in the buffers it fills, and that it runs so. -/
noncomputable def runH (c : Dev nD) (t : Fin cfg0.N) (arg3 : Memref sig .tc .vmem S1x3x1024 .f32) (harg3 : arg3.IsWhole) (arg4 : Memref sig .tc .vmem S1x1024 .f32) (harg4 : arg4.IsWhole) (arg6 : Memref sig .tc .vmem S1024x2048 .bf16) (harg6 : arg6.IsWhole) (arg7 : Memref sig .tc .vmem S1024x128 .bf16) (harg7 : arg7.IsWhole) (arg8 : Memref sig .tc .vmem S1x128 .f32) (harg8 : arg8.IsWhole) (arg9 : Memref sig .tc .vmem S2x1024 .f32) (harg9 : arg9.IsWhole) (arg10 : Memref sig .tc .vmem S1024x2048 .bf16) (harg10 : arg10.IsWhole) (arg11 : Memref sig .tc .vmem S1024x128 .f32) (harg11 : arg11.IsWhole) (arg12 : Memref sig .tc .vmem S8x1024 .f32) (harg12 : arg12.IsWhole) (arg13 : Memref sig .tc .vmem S1024x1024 .bf16) (harg13 : arg13.IsWhole)
    (hc0 : ¬cond0_0 (grid0.coords t)) (hc1 : ¬cond0_1 (grid0.coords t)) (hc2 : cond0_2 (grid0.coords t)) (hc3 : ¬cond0_3 (grid0.coords t)) (hc4 : ¬cond0_4 (grid0.coords t)) (hc5 : ¬cond0_5 (grid0.coords t)) (hc6 : ¬cond0_6 (grid0.coords t)) (hc7 : ¬cond0_7 (grid0.coords t)) (hc8 : cond0_8 (grid0.coords t)) (hc9 : ¬cond0_9 (grid0.coords t))
    (x6 : Vec F S1024x2048 .bf16) (x13 : Vec F S1024x1024 .bf16) (fh0 : HbBuf0 (F := F) c hbM0_0) (fh1 : HbBuf0 (F := F) c hbM0_1) :
    { L10 : List (View.Piece (Elt F) S1024x2048 .bf16) //
      ∀ (W : Waits sig Unit) (K : PUnit → sProp 𝕄),
        iprop(owns (c : Thread nD τ) arg6 fullShare x6 ∗ owns (c : Thread nD τ) arg13 fullShare x13 ∗ (∃ d, owns (c : Thread nD τ) arg10 fullShare d) ∗ Ring.inflight (flightW0_1 c fh1) (Ring.sl 3 (chunk t.val)) (Ring.bk 5 (chunk t.val)) ∗ owes (c : Thread nD τ) 0 W
            ∗ (iprop(owns (c : Thread nD τ) arg6 fullShare x6 ∗ owns (c : Thread nD τ) arg13 fullShare x13 ∗ (∃ f, arg10.view.loc (c : Thread nD τ) ↦[arg10.view.set]{fullShare} arg10.view.writes (Elt F) f L10) ∗ Ring.free (cellP0_1 c) (slotW0_1 c fh1) (Ring.sl 3 (chunk t.val)) ∗ (∃ W', owes (c : Thread nD τ) 0 W')) -∗ K ⟨⟩))
          ⊢ wp frame (wpE (defs₀ (F := F)) Variants.none c none) Set.univ (cc0_inproj (grid0.coords t) (Memref.whole main_v0) (Memref.isWhole_whole _) arg3 harg3 arg4 harg4 (Memref.whole main_v4) (Memref.isWhole_whole _) arg6 harg6 arg7 harg7 arg8 harg8 arg9 harg9 arg10 harg10 arg11 harg11 arg12 harg12 arg13 harg13 scM0_1 (Memref.isWhole_whole _) cc0_scratch2 scM0_2 (Memref.isWhole_whole _) cc0_scratch4) K } := by
  refine ⟨?_, fun W K => ?run⟩
  case run =>
    haveI : Fact (¬cond0_0 (grid0.coords t)) := ⟨hc0⟩
    haveI : Fact (¬cond0_1 (grid0.coords t)) := ⟨hc1⟩
    haveI : Fact (cond0_2 (grid0.coords t)) := ⟨hc2⟩
    haveI : Fact (¬cond0_3 (grid0.coords t)) := ⟨hc3⟩
    haveI : Fact (¬cond0_4 (grid0.coords t)) := ⟨hc4⟩
    haveI : Fact (¬cond0_5 (grid0.coords t)) := ⟨hc5⟩
    haveI : Fact (¬cond0_6 (grid0.coords t)) := ⟨hc6⟩
    haveI : Fact (¬cond0_7 (grid0.coords t)) := ⟨hc7⟩
    haveI : Fact (cond0_8 (grid0.coords t)) := ⟨hc8⟩
    haveI : Fact (¬cond0_9 (grid0.coords t)) := ⟨hc9⟩
    simp only [cc0_inproj_eq_skeleton]; unfold cc0_inproj_skel
    simp only [k0_part9_eq_skeleton, k0_part10_eq_skeleton, k0_part1_eq_skeleton, k0_part2_eq_skeleton, k0_part3_eq_skeleton, k0_part4_eq_skeleton, k0_part5_eq_skeleton, k0_part6_eq_skeleton, k0_part7_eq_skeleton, k0_part8_eq_skeleton]
    have hcanon := canon_w5 t hc8
    unfold owns Ring.free Ring.inflight
    iintro ⟨⟨%f6, %hf6, H6⟩, ⟨%f13, %hf13, H13⟩, ⟨%d10, %f10, -, H10⟩, ⟨%fw, Hw, Hrw⟩, HW, Hk⟩
    obtain rfl := harg6.eq_unread hf6; obtain rfl := harg13.eq_unread hf13
    sl_exec (disch := first | sl_exact hc0 | sl_exact hc1 | sl_exact hc2 | sl_exact hc3 | sl_exact hc4 | sl_exact hc5 | sl_exact hc6 | sl_exact hc7 | sl_exact hc8 | sl_exact hc9)
    sl_step
    iapply Hk
    isplitl [H6]
    · iexists _; isplitr; · ipureintro; exact harg6.read_unread _
      iexact H6
    isplitl [H13]
    · iexists _; isplitr; · ipureintro; exact harg13.read_unread _
      iexact H13
    isplitl [H10]; · iexists _; iexact H10
    isplitl [Hw Hw_dst Hw_src Hrw]
    · isplitl [Hw]; · iexact Hw
      iexists _; isplitl [Hw_dst]; · iexact Hw_dst
      iapply (src0_1_split c fh1 (Ring.sl 3 (chunk t.val)) (Ring.bk 5 (chunk t.val))).2; isplitl [Hw_src]; · iexact Hw_src
      iexact Hrw
    iexists _; iexact HW

set_option maxHeartbeats 1600000 in
/-- The body at a row's last point: what it leaves in the buffers it fills, and that it runs so. -/
noncomputable def runG (c : Dev nD) (t : Fin cfg0.N) (arg3 : Memref sig .tc .vmem S1x3x1024 .f32) (harg3 : arg3.IsWhole) (arg4 : Memref sig .tc .vmem S1x1024 .f32) (harg4 : arg4.IsWhole) (arg6 : Memref sig .tc .vmem S1024x2048 .bf16) (harg6 : arg6.IsWhole) (arg7 : Memref sig .tc .vmem S1024x128 .bf16) (harg7 : arg7.IsWhole) (arg8 : Memref sig .tc .vmem S1x128 .f32) (harg8 : arg8.IsWhole) (arg9 : Memref sig .tc .vmem S2x1024 .f32) (harg9 : arg9.IsWhole) (arg10 : Memref sig .tc .vmem S1024x2048 .bf16) (harg10 : arg10.IsWhole) (arg11 : Memref sig .tc .vmem S1024x128 .f32) (harg11 : arg11.IsWhole) (arg12 : Memref sig .tc .vmem S8x1024 .f32) (harg12 : arg12.IsWhole) (arg13 : Memref sig .tc .vmem S1024x1024 .bf16) (harg13 : arg13.IsWhole)
    (hc0 : ¬cond0_0 (grid0.coords t)) (hc1 : cond0_1 (grid0.coords t)) (hc2 : ¬cond0_2 (grid0.coords t)) (hc3 : ¬cond0_3 (grid0.coords t)) (hc4 : ¬cond0_4 (grid0.coords t)) (hc5 : ¬cond0_5 (grid0.coords t)) (hc6 : ¬cond0_6 (grid0.coords t)) (hc7 : ¬cond0_7 (grid0.coords t)) (hc8 : ¬cond0_8 (grid0.coords t)) (hc9 : cond0_9 (grid0.coords t))
    (x6 : Vec F S1024x2048 .bf16) (x13 : Vec F S1024x1024 .bf16) (fh0 : HbBuf0 (F := F) c hbM0_0) (fh1 : HbBuf0 (F := F) c hbM0_1) :
    { L10 : List (View.Piece (Elt F) S1024x2048 .bf16) //
      ∀ (W : Waits sig Unit) (K : PUnit → sProp 𝕄),
        iprop(owns (c : Thread nD τ) arg6 fullShare x6 ∗ owns (c : Thread nD τ) arg13 fullShare x13 ∗ (∃ d, owns (c : Thread nD τ) arg10 fullShare d) ∗ Ring.free (cellP0_1 c) (slotW0_1 c fh1) (Ring.sl 3 (chunk (t.val + 2))) ∗ owes (c : Thread nD τ) 0 W
            ∗ (iprop(owns (c : Thread nD τ) arg6 fullShare x6 ∗ owns (c : Thread nD τ) arg13 fullShare x13 ∗ (∃ f, arg10.view.loc (c : Thread nD τ) ↦[arg10.view.set]{fullShare} arg10.view.writes (Elt F) f L10) ∗ Ring.inflight (flightW0_1 c fh1) (Ring.sl 3 (chunk (t.val + 2))) (Ring.bk 5 (chunk (t.val + 2))) ∗ (∃ W', owes (c : Thread nD τ) 0 W')) -∗ K ⟨⟩))
          ⊢ wp frame (wpE (defs₀ (F := F)) Variants.none c none) Set.univ (cc0_inproj (grid0.coords t) (Memref.whole main_v0) (Memref.isWhole_whole _) arg3 harg3 arg4 harg4 (Memref.whole main_v4) (Memref.isWhole_whole _) arg6 harg6 arg7 harg7 arg8 harg8 arg9 harg9 arg10 harg10 arg11 harg11 arg12 harg12 arg13 harg13 scM0_1 (Memref.isWhole_whole _) cc0_scratch2 scM0_2 (Memref.isWhole_whole _) cc0_scratch4) K } := by
  refine ⟨?_, fun W K => ?run⟩
  case run =>
    haveI : Fact (¬cond0_0 (grid0.coords t)) := ⟨hc0⟩
    haveI : Fact (cond0_1 (grid0.coords t)) := ⟨hc1⟩
    haveI : Fact (¬cond0_2 (grid0.coords t)) := ⟨hc2⟩
    haveI : Fact (¬cond0_3 (grid0.coords t)) := ⟨hc3⟩
    haveI : Fact (¬cond0_4 (grid0.coords t)) := ⟨hc4⟩
    haveI : Fact (¬cond0_5 (grid0.coords t)) := ⟨hc5⟩
    haveI : Fact (¬cond0_6 (grid0.coords t)) := ⟨hc6⟩
    haveI : Fact (¬cond0_7 (grid0.coords t)) := ⟨hc7⟩
    haveI : Fact (¬cond0_8 (grid0.coords t)) := ⟨hc8⟩
    haveI : Fact (cond0_9 (grid0.coords t)) := ⟨hc9⟩
    simp only [cc0_inproj_eq_skeleton]; unfold cc0_inproj_skel
    simp only [k0_part9_eq_skeleton, k0_part10_eq_skeleton, k0_part1_eq_skeleton, k0_part2_eq_skeleton, k0_part3_eq_skeleton, k0_part4_eq_skeleton, k0_part5_eq_skeleton, k0_part6_eq_skeleton, k0_part7_eq_skeleton, k0_part8_eq_skeleton]
    unfold owns Ring.free Ring.inflight
    iintro ⟨⟨%f6, %hf6, H6⟩, ⟨%f13, %hf13, H13⟩, ⟨%d10, %f10, -, H10⟩, ⟨Hck2, ⟨%gk2, Hsk2, Hhk2⟩⟩, HW, Hk⟩
    ihave Hpk2 := (src0_1_split c fh1 (Ring.sl 3 (chunk (t.val + 2))) (Ring.bk 5 (chunk (t.val + 2)))).1 $$ Hhk2
    icases Hpk2 with ⟨Hbk2, Hrk2⟩
    obtain rfl := harg6.eq_unread hf6; obtain rfl := harg13.eq_unread hf13
    sl_exec (disch := first | sl_exact hc0 | sl_exact hc1 | sl_exact hc2 | sl_exact hc3 | sl_exact hc4 | sl_exact hc5 | sl_exact hc6 | sl_exact hc7 | sl_exact hc8 | sl_exact hc9)
    sl_step
    iapply Hk
    isplitl [H6]
    · iexists _; isplitr; · ipureintro; exact harg6.read_unread _
      iexact H6
    isplitl [H13]
    · iexists _; isplitr; · ipureintro; exact harg13.read_unread _
      iexact H13
    isplitl [H10]; · iexists _; iexact H10
    isplitl [Hck2 Hrk2]
    · iexists _; isplitl [Hck2]; · iexact Hck2
      iexact Hrk2
    iexists _; iexact HW

set_option maxHeartbeats 1600000 in
/-- The body at the last row's last point: what it leaves in the buffers it fills, and that it runs so. -/
noncomputable def runI (c : Dev nD) (t : Fin cfg0.N) (arg3 : Memref sig .tc .vmem S1x3x1024 .f32) (harg3 : arg3.IsWhole) (arg4 : Memref sig .tc .vmem S1x1024 .f32) (harg4 : arg4.IsWhole) (arg6 : Memref sig .tc .vmem S1024x2048 .bf16) (harg6 : arg6.IsWhole) (arg7 : Memref sig .tc .vmem S1024x128 .bf16) (harg7 : arg7.IsWhole) (arg8 : Memref sig .tc .vmem S1x128 .f32) (harg8 : arg8.IsWhole) (arg9 : Memref sig .tc .vmem S2x1024 .f32) (harg9 : arg9.IsWhole) (arg10 : Memref sig .tc .vmem S1024x2048 .bf16) (harg10 : arg10.IsWhole) (arg11 : Memref sig .tc .vmem S1024x128 .f32) (harg11 : arg11.IsWhole) (arg12 : Memref sig .tc .vmem S8x1024 .f32) (harg12 : arg12.IsWhole) (arg13 : Memref sig .tc .vmem S1024x1024 .bf16) (harg13 : arg13.IsWhole)
    (hc0 : ¬cond0_0 (grid0.coords t)) (hc1 : ¬cond0_1 (grid0.coords t)) (hc2 : ¬cond0_2 (grid0.coords t)) (hc3 : ¬cond0_3 (grid0.coords t)) (hc4 : ¬cond0_4 (grid0.coords t)) (hc5 : ¬cond0_5 (grid0.coords t)) (hc6 : ¬cond0_6 (grid0.coords t)) (hc7 : ¬cond0_7 (grid0.coords t)) (hc8 : ¬cond0_8 (grid0.coords t)) (hc9 : cond0_9 (grid0.coords t))
    (x6 : Vec F S1024x2048 .bf16) (x13 : Vec F S1024x1024 .bf16) (fh0 : HbBuf0 (F := F) c hbM0_0) (fh1 : HbBuf0 (F := F) c hbM0_1) :
    { L10 : List (View.Piece (Elt F) S1024x2048 .bf16) //
      ∀ (W : Waits sig Unit) (K : PUnit → sProp 𝕄),
        iprop(owns (c : Thread nD τ) arg6 fullShare x6 ∗ owns (c : Thread nD τ) arg13 fullShare x13 ∗ (∃ d, owns (c : Thread nD τ) arg10 fullShare d) ∗ owes (c : Thread nD τ) 0 W
            ∗ (iprop(owns (c : Thread nD τ) arg6 fullShare x6 ∗ owns (c : Thread nD τ) arg13 fullShare x13 ∗ (∃ f, arg10.view.loc (c : Thread nD τ) ↦[arg10.view.set]{fullShare} arg10.view.writes (Elt F) f L10) ∗ (∃ W', owes (c : Thread nD τ) 0 W')) -∗ K ⟨⟩))
          ⊢ wp frame (wpE (defs₀ (F := F)) Variants.none c none) Set.univ (cc0_inproj (grid0.coords t) (Memref.whole main_v0) (Memref.isWhole_whole _) arg3 harg3 arg4 harg4 (Memref.whole main_v4) (Memref.isWhole_whole _) arg6 harg6 arg7 harg7 arg8 harg8 arg9 harg9 arg10 harg10 arg11 harg11 arg12 harg12 arg13 harg13 scM0_1 (Memref.isWhole_whole _) cc0_scratch2 scM0_2 (Memref.isWhole_whole _) cc0_scratch4) K } := by
  refine ⟨?_, fun W K => ?run⟩
  case run =>
    haveI : Fact (¬cond0_0 (grid0.coords t)) := ⟨hc0⟩
    haveI : Fact (¬cond0_1 (grid0.coords t)) := ⟨hc1⟩
    haveI : Fact (¬cond0_2 (grid0.coords t)) := ⟨hc2⟩
    haveI : Fact (¬cond0_3 (grid0.coords t)) := ⟨hc3⟩
    haveI : Fact (¬cond0_4 (grid0.coords t)) := ⟨hc4⟩
    haveI : Fact (¬cond0_5 (grid0.coords t)) := ⟨hc5⟩
    haveI : Fact (¬cond0_6 (grid0.coords t)) := ⟨hc6⟩
    haveI : Fact (¬cond0_7 (grid0.coords t)) := ⟨hc7⟩
    haveI : Fact (¬cond0_8 (grid0.coords t)) := ⟨hc8⟩
    haveI : Fact (cond0_9 (grid0.coords t)) := ⟨hc9⟩
    simp only [cc0_inproj_eq_skeleton]; unfold cc0_inproj_skel
    simp only [k0_part9_eq_skeleton, k0_part10_eq_skeleton, k0_part1_eq_skeleton, k0_part2_eq_skeleton, k0_part3_eq_skeleton, k0_part4_eq_skeleton, k0_part5_eq_skeleton, k0_part6_eq_skeleton, k0_part7_eq_skeleton, k0_part8_eq_skeleton]
    unfold owns
    iintro ⟨⟨%f6, %hf6, H6⟩, ⟨%f13, %hf13, H13⟩, ⟨%d10, %f10, -, H10⟩, HW, Hk⟩
    obtain rfl := harg6.eq_unread hf6; obtain rfl := harg13.eq_unread hf13
    sl_exec (disch := first | sl_exact hc0 | sl_exact hc1 | sl_exact hc2 | sl_exact hc3 | sl_exact hc4 | sl_exact hc5 | sl_exact hc6 | sl_exact hc7 | sl_exact hc8 | sl_exact hc9)
    sl_step
    iapply Hk
    isplitl [H6]
    · iexists _; isplitr; · ipureintro; exact harg6.read_unread _
      iexact H6
    isplitl [H13]
    · iexists _; isplitr; · ipureintro; exact harg13.read_unread _
      iexact H13
    isplitl [H10]; · iexists _; iexact H10
    iexists _; iexact HW

end Cert.Kernel2Ideal.Gen

end
-- ==== Proof.IRunC.lean ====
module

public import proofs.«01_k».proof.Proof.IRunB
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
set_option maxHeartbeats 1600000 in
/-- The body at a later row's first point: what it leaves in the buffers it fills, and that it runs so. -/
noncomputable def runB (c : Dev nD) (t : Fin cfg0.N) (arg3 : Memref sig .tc .vmem S1x3x1024 .f32) (harg3 : arg3.IsWhole) (arg4 : Memref sig .tc .vmem S1x1024 .f32) (harg4 : arg4.IsWhole) (arg6 : Memref sig .tc .vmem S1024x2048 .bf16) (harg6 : arg6.IsWhole) (arg7 : Memref sig .tc .vmem S1024x128 .bf16) (harg7 : arg7.IsWhole) (arg8 : Memref sig .tc .vmem S1x128 .f32) (harg8 : arg8.IsWhole) (arg9 : Memref sig .tc .vmem S2x1024 .f32) (harg9 : arg9.IsWhole) (arg10 : Memref sig .tc .vmem S1024x2048 .bf16) (harg10 : arg10.IsWhole) (arg11 : Memref sig .tc .vmem S1024x128 .f32) (harg11 : arg11.IsWhole) (arg12 : Memref sig .tc .vmem S8x1024 .f32) (harg12 : arg12.IsWhole) (arg13 : Memref sig .tc .vmem S1024x1024 .bf16) (harg13 : arg13.IsWhole)
    (hc0 : ¬cond0_0 (grid0.coords t)) (hc1 : cond0_1 (grid0.coords t)) (hc2 : cond0_2 (grid0.coords t)) (hc3 : ¬cond0_3 (grid0.coords t)) (hc4 : ¬cond0_4 (grid0.coords t)) (hc5 : cond0_5 (grid0.coords t)) (hc6 : cond0_6 (grid0.coords t)) (hc7 : ¬cond0_7 (grid0.coords t)) (hc8 : ¬cond0_8 (grid0.coords t)) (hc9 : ¬cond0_9 (grid0.coords t))
    (x3 : Vec F S1x3x1024 .f32) (x4 : Vec F S1x1024 .f32) (x7 : Vec F S1024x128 .bf16) (x8 : Vec F S1x128 .f32) (x9 : Vec F S2x1024 .f32) (fh0 : HbBuf0 (F := F) c hbM0_0) (fh1 : HbBuf0 (F := F) c hbM0_1) :
    Σ' (L10 : List (View.Piece (Elt F) S1024x2048 .bf16)), Σ' (L11 : List (View.Piece (Elt F) S1024x128 .f32)), Σ' (L12 : List (View.Piece (Elt F) S8x1024 .f32)), { L13 : List (View.Piece (Elt F) S1024x1024 .bf16) //
      ∀ (W : Waits sig Unit) (K : PUnit → sProp 𝕄),
        iprop(owns (c : Thread nD τ) arg3 fullShare x3 ∗ owns (c : Thread nD τ) arg4 fullShare x4 ∗ owns (c : Thread nD τ) arg7 fullShare x7 ∗ owns (c : Thread nD τ) arg8 fullShare x8 ∗ owns (c : Thread nD τ) arg9 fullShare x9 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ Ring.inflight (flightW0_1 c fh1) (Ring.sl 3 (chunk t.val)) (Ring.bk 5 (chunk t.val)) ∗ Ring.free (cellP0_1 c) (slotW0_1 c fh1) (Ring.sl 3 (chunk (t.val + 2))) ∗ Ring.inflight (flightW0_0 c fh0) (Ring.sl 2 (row t.val)) (Ring.bk 32 (row t.val)) ∗ owes (c : Thread nD τ) 0 W
            ∗ (iprop(owns (c : Thread nD τ) arg3 fullShare x3 ∗ owns (c : Thread nD τ) arg4 fullShare x4 ∗ owns (c : Thread nD τ) arg7 fullShare x7 ∗ owns (c : Thread nD τ) arg8 fullShare x8 ∗ owns (c : Thread nD τ) arg9 fullShare x9 ∗ (∃ f, arg10.view.loc (c : Thread nD τ) ↦[arg10.view.set]{fullShare} arg10.view.writes (Elt F) f L10) ∗ (∃ f, arg11.view.loc (c : Thread nD τ) ↦[arg11.view.set]{fullShare} arg11.view.writes (Elt F) f L11) ∗ (∃ f, arg12.view.loc (c : Thread nD τ) ↦[arg12.view.set]{fullShare} arg12.view.writes (Elt F) f L12) ∗ (∃ f, arg13.view.loc (c : Thread nD τ) ↦[arg13.view.set]{fullShare} arg13.view.writes (Elt F) f L13) ∗ Ring.free (cellP0_1 c) (slotW0_1 c fh1) (Ring.sl 3 (chunk t.val)) ∗ Ring.inflight (flightW0_1 c fh1) (Ring.sl 3 (chunk (t.val + 2))) (Ring.bk 5 (chunk (t.val + 2))) ∗ Ring.free (cellP0_0 c) (slotW0_0 c fh0) (Ring.sl 2 (row t.val)) ∗ (∃ W', owes (c : Thread nD τ) 0 W')) -∗ K ⟨⟩))
          ⊢ wp frame (wpE (defs₀ (F := F)) Variants.none c none) Set.univ (cc0_inproj (grid0.coords t) (Memref.whole main_v0) (Memref.isWhole_whole _) arg3 harg3 arg4 harg4 (Memref.whole main_v4) (Memref.isWhole_whole _) arg6 harg6 arg7 harg7 arg8 harg8 arg9 harg9 arg10 harg10 arg11 harg11 arg12 harg12 arg13 harg13 scM0_1 (Memref.isWhole_whole _) cc0_scratch2 scM0_2 (Memref.isWhole_whole _) cc0_scratch4) K } := by
  refine ⟨?_, ?_, ?_, ?_, fun W K => ?run⟩
  case run =>
    haveI : Fact (¬cond0_0 (grid0.coords t)) := ⟨hc0⟩
    haveI : Fact (cond0_1 (grid0.coords t)) := ⟨hc1⟩
    haveI : Fact (cond0_2 (grid0.coords t)) := ⟨hc2⟩
    haveI : Fact (¬cond0_3 (grid0.coords t)) := ⟨hc3⟩
    haveI : Fact (¬cond0_4 (grid0.coords t)) := ⟨hc4⟩
    haveI : Fact (cond0_5 (grid0.coords t)) := ⟨hc5⟩
    haveI : Fact (cond0_6 (grid0.coords t)) := ⟨hc6⟩
    haveI : Fact (¬cond0_7 (grid0.coords t)) := ⟨hc7⟩
    haveI : Fact (¬cond0_8 (grid0.coords t)) := ⟨hc8⟩
    haveI : Fact (¬cond0_9 (grid0.coords t)) := ⟨hc9⟩
    simp only [cc0_inproj_eq_skeleton]; unfold cc0_inproj_skel
    simp only [k0_part9_eq_skeleton, k0_part10_eq_skeleton, k0_part1_eq_skeleton, k0_part2_eq_skeleton, k0_part3_eq_skeleton, k0_part4_eq_skeleton, k0_part5_eq_skeleton, k0_part6_eq_skeleton, k0_part7_eq_skeleton, k0_part8_eq_skeleton]
    have hcanon := canon_w4 t hc6
    unfold owns Ring.free Ring.inflight
    iintro ⟨⟨%f3, %hf3, H3⟩, ⟨%f4, %hf4, H4⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%fw, Hw, Hrw⟩, ⟨Hck2, ⟨%gk2, Hsk2, Hhk2⟩⟩, ⟨%fx, Hx, Hrx⟩, HW, Hk⟩
    ihave Hpk2 := (src0_1_split c fh1 (Ring.sl 3 (chunk (t.val + 2))) (Ring.bk 5 (chunk (t.val + 2)))).1 $$ Hhk2
    icases Hpk2 with ⟨Hbk2, Hrk2⟩
    obtain rfl := harg3.eq_unread hf3; obtain rfl := harg4.eq_unread hf4; obtain rfl := harg7.eq_unread hf7; obtain rfl := harg8.eq_unread hf8; obtain rfl := harg9.eq_unread hf9
    sl_exec (disch := first | sl_exact hc0 | sl_exact hc1 | sl_exact hc2 | sl_exact hc3 | sl_exact hc4 | sl_exact hc5 | sl_exact hc6 | sl_exact hc7 | sl_exact hc8 | sl_exact hc9)
    sl_step
    iapply Hk
    isplitl [H3]
    · iexists _; isplitr; · ipureintro; exact harg3.read_unread _
      iexact H3
    isplitl [H4]
    · iexists _; isplitr; · ipureintro; exact harg4.read_unread _
      iexact H4
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]; · iexists _; iexact H10
    isplitl [H11]; · iexists _; iexact H11
    isplitl [H12]; · iexists _; iexact H12
    isplitl [H13]; · iexists _; iexact H13
    isplitl [Hw Hw_dst Hw_src Hrw]
    · isplitl [Hw]; · iexact Hw
      iexists _; isplitl [Hw_dst]; · iexact Hw_dst
      iapply (src0_1_split c fh1 (Ring.sl 3 (chunk t.val)) (Ring.bk 5 (chunk t.val))).2; isplitl [Hw_src]; · iexact Hw_src
      iexact Hrw
    isplitl [Hck2 Hrk2]
    · iexists _; isplitl [Hck2]; · iexact Hck2
      iexact Hrk2
    isplitl [Hx Hx_dst Hx_src Hrx]
    · isplitl [Hx]; · iexact Hx
      iexists _; isplitl [Hx_dst]; · iexact Hx_dst
      iapply (src0_0_split c fh0 (Ring.sl 2 (row t.val)) (Ring.bk 32 (row t.val))).2; isplitl [Hx_src]; · iexact Hx_src
      iexact Hrx
    iexists _; iexact HW

end Cert.Kernel2Ideal.Gen

end
-- ==== Proof.IRunD.lean ====
module

public import proofs.«01_k».proof.Proof.IRunC
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
set_option maxHeartbeats 1600000 in
/-- The body at the first point: what it leaves in the buffers it fills, and that it runs so. -/
noncomputable def runA (c : Dev nD) (t : Fin cfg0.N) (arg3 : Memref sig .tc .vmem S1x3x1024 .f32) (harg3 : arg3.IsWhole) (arg4 : Memref sig .tc .vmem S1x1024 .f32) (harg4 : arg4.IsWhole) (arg6 : Memref sig .tc .vmem S1024x2048 .bf16) (harg6 : arg6.IsWhole) (arg7 : Memref sig .tc .vmem S1024x128 .bf16) (harg7 : arg7.IsWhole) (arg8 : Memref sig .tc .vmem S1x128 .f32) (harg8 : arg8.IsWhole) (arg9 : Memref sig .tc .vmem S2x1024 .f32) (harg9 : arg9.IsWhole) (arg10 : Memref sig .tc .vmem S1024x2048 .bf16) (harg10 : arg10.IsWhole) (arg11 : Memref sig .tc .vmem S1024x128 .f32) (harg11 : arg11.IsWhole) (arg12 : Memref sig .tc .vmem S8x1024 .f32) (harg12 : arg12.IsWhole) (arg13 : Memref sig .tc .vmem S1024x1024 .bf16) (harg13 : arg13.IsWhole)
    (hc0 : cond0_0 (grid0.coords t)) (hc1 : cond0_1 (grid0.coords t)) (hc2 : cond0_2 (grid0.coords t)) (hc3 : cond0_3 (grid0.coords t)) (hc4 : ¬cond0_4 (grid0.coords t)) (hc5 : cond0_5 (grid0.coords t)) (hc6 : cond0_6 (grid0.coords t)) (hc7 : ¬cond0_7 (grid0.coords t)) (hc8 : ¬cond0_8 (grid0.coords t)) (hc9 : ¬cond0_9 (grid0.coords t))
    (x3 : Vec F S1x3x1024 .f32) (x4 : Vec F S1x1024 .f32) (x7 : Vec F S1024x128 .bf16) (x8 : Vec F S1x128 .f32) (x9 : Vec F S2x1024 .f32) (fh0 : HbBuf0 (F := F) c hbM0_0) (fh1 : HbBuf0 (F := F) c hbM0_1) :
    Σ' (L10 : List (View.Piece (Elt F) S1024x2048 .bf16)), Σ' (L11 : List (View.Piece (Elt F) S1024x128 .f32)), Σ' (L12 : List (View.Piece (Elt F) S8x1024 .f32)), { L13 : List (View.Piece (Elt F) S1024x1024 .bf16) //
      ∀ (W : Waits sig Unit) (K : PUnit → sProp 𝕄),
        iprop(owns (c : Thread nD τ) arg3 fullShare x3 ∗ owns (c : Thread nD τ) arg4 fullShare x4 ∗ owns (c : Thread nD τ) arg7 fullShare x7 ∗ owns (c : Thread nD τ) arg8 fullShare x8 ∗ owns (c : Thread nD τ) arg9 fullShare x9 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ Ring.free (cellP0_1 c) (slotW0_1 c fh1) (Ring.sl 3 (chunk t.val)) ∗ Ring.free (cellP0_1 c) (slotW0_1 c fh1) (Ring.sl 3 (chunk (t.val + 1))) ∗ Ring.free (cellP0_1 c) (slotW0_1 c fh1) (Ring.sl 3 (chunk (t.val + 2))) ∗ Ring.free (cellP0_0 c) (slotW0_0 c fh0) (Ring.sl 2 (row t.val)) ∗ owes (c : Thread nD τ) 0 W
            ∗ (iprop(owns (c : Thread nD τ) arg3 fullShare x3 ∗ owns (c : Thread nD τ) arg4 fullShare x4 ∗ owns (c : Thread nD τ) arg7 fullShare x7 ∗ owns (c : Thread nD τ) arg8 fullShare x8 ∗ owns (c : Thread nD τ) arg9 fullShare x9 ∗ (∃ f, arg10.view.loc (c : Thread nD τ) ↦[arg10.view.set]{fullShare} arg10.view.writes (Elt F) f L10) ∗ (∃ f, arg11.view.loc (c : Thread nD τ) ↦[arg11.view.set]{fullShare} arg11.view.writes (Elt F) f L11) ∗ (∃ f, arg12.view.loc (c : Thread nD τ) ↦[arg12.view.set]{fullShare} arg12.view.writes (Elt F) f L12) ∗ (∃ f, arg13.view.loc (c : Thread nD τ) ↦[arg13.view.set]{fullShare} arg13.view.writes (Elt F) f L13) ∗ Ring.free (cellP0_1 c) (slotW0_1 c fh1) (Ring.sl 3 (chunk t.val)) ∗ Ring.inflight (flightW0_1 c fh1) (Ring.sl 3 (chunk (t.val + 1))) (Ring.bk 5 (chunk (t.val + 1))) ∗ Ring.inflight (flightW0_1 c fh1) (Ring.sl 3 (chunk (t.val + 2))) (Ring.bk 5 (chunk (t.val + 2))) ∗ Ring.free (cellP0_0 c) (slotW0_0 c fh0) (Ring.sl 2 (row t.val)) ∗ (∃ W', owes (c : Thread nD τ) 0 W')) -∗ K ⟨⟩))
          ⊢ wp frame (wpE (defs₀ (F := F)) Variants.none c none) Set.univ (cc0_inproj (grid0.coords t) (Memref.whole main_v0) (Memref.isWhole_whole _) arg3 harg3 arg4 harg4 (Memref.whole main_v4) (Memref.isWhole_whole _) arg6 harg6 arg7 harg7 arg8 harg8 arg9 harg9 arg10 harg10 arg11 harg11 arg12 harg12 arg13 harg13 scM0_1 (Memref.isWhole_whole _) cc0_scratch2 scM0_2 (Memref.isWhole_whole _) cc0_scratch4) K } := by
  refine ⟨?_, ?_, ?_, ?_, fun W K => ?run⟩
  case run =>
    haveI : Fact (cond0_0 (grid0.coords t)) := ⟨hc0⟩
    haveI : Fact (cond0_1 (grid0.coords t)) := ⟨hc1⟩
    haveI : Fact (cond0_2 (grid0.coords t)) := ⟨hc2⟩
    haveI : Fact (cond0_3 (grid0.coords t)) := ⟨hc3⟩
    haveI : Fact (¬cond0_4 (grid0.coords t)) := ⟨hc4⟩
    haveI : Fact (cond0_5 (grid0.coords t)) := ⟨hc5⟩
    haveI : Fact (cond0_6 (grid0.coords t)) := ⟨hc6⟩
    haveI : Fact (¬cond0_7 (grid0.coords t)) := ⟨hc7⟩
    haveI : Fact (¬cond0_8 (grid0.coords t)) := ⟨hc8⟩
    haveI : Fact (¬cond0_9 (grid0.coords t)) := ⟨hc9⟩
    simp only [cc0_inproj_eq_skeleton]; unfold cc0_inproj_skel
    simp only [k0_part9_eq_skeleton, k0_part10_eq_skeleton, k0_part1_eq_skeleton, k0_part2_eq_skeleton, k0_part3_eq_skeleton, k0_part4_eq_skeleton, k0_part5_eq_skeleton, k0_part6_eq_skeleton, k0_part7_eq_skeleton, k0_part8_eq_skeleton]
    have hcanon := canon_w4 t hc6
    unfold owns Ring.free Ring.inflight
    iintro ⟨⟨%f3, %hf3, H3⟩, ⟨%f4, %hf4, H4⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨Hck0, ⟨%gk0, Hsk0, Hhk0⟩⟩, ⟨Hck1, ⟨%gk1, Hsk1, Hhk1⟩⟩, ⟨Hck2, ⟨%gk2, Hsk2, Hhk2⟩⟩, ⟨Hcx, ⟨%gx, Hsx, Hhx⟩⟩, HW, Hk⟩
    ihave Hpk0 := (src0_1_split c fh1 (Ring.sl 3 (chunk t.val)) (Ring.bk 5 (chunk t.val))).1 $$ Hhk0
    icases Hpk0 with ⟨Hbk0, Hrk0⟩
    ihave Hpk1 := (src0_1_split c fh1 (Ring.sl 3 (chunk (t.val + 1))) (Ring.bk 5 (chunk (t.val + 1)))).1 $$ Hhk1
    icases Hpk1 with ⟨Hbk1, Hrk1⟩
    ihave Hpk2 := (src0_1_split c fh1 (Ring.sl 3 (chunk (t.val + 2))) (Ring.bk 5 (chunk (t.val + 2)))).1 $$ Hhk2
    icases Hpk2 with ⟨Hbk2, Hrk2⟩
    ihave Hpx := (src0_0_split c fh0 (Ring.sl 2 (row t.val)) (Ring.bk 32 (row t.val))).1 $$ Hhx
    icases Hpx with ⟨Hbx, Hrx⟩
    obtain rfl := harg3.eq_unread hf3; obtain rfl := harg4.eq_unread hf4; obtain rfl := harg7.eq_unread hf7; obtain rfl := harg8.eq_unread hf8; obtain rfl := harg9.eq_unread hf9
    sl_exec (disch := first | sl_exact hc0 | sl_exact hc1 | sl_exact hc2 | sl_exact hc3 | sl_exact hc4 | sl_exact hc5 | sl_exact hc6 | sl_exact hc7 | sl_exact hc8 | sl_exact hc9)
    sl_step
    iapply Hk
    isplitl [H3]
    · iexists _; isplitr; · ipureintro; exact harg3.read_unread _
      iexact H3
    isplitl [H4]
    · iexists _; isplitr; · ipureintro; exact harg4.read_unread _
      iexact H4
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]; · iexists _; iexact H10
    isplitl [H11]; · iexists _; iexact H11
    isplitl [H12]; · iexists _; iexact H12
    isplitl [H13]; · iexists _; iexact H13
    isplitl [Hck0 Hsk0 Hbk0 Hrk0]
    · isplitl [Hck0]; · iexact Hck0
      iexists _; isplitl [Hsk0]; · iexact Hsk0
      iapply (src0_1_split c fh1 (Ring.sl 3 (chunk t.val)) (Ring.bk 5 (chunk t.val))).2; isplitl [Hbk0]; · iexact Hbk0
      iexact Hrk0
    isplitl [Hck1 Hrk1]
    · iexists _; isplitl [Hck1]; · iexact Hck1
      iexact Hrk1
    isplitl [Hck2 Hrk2]
    · iexists _; isplitl [Hck2]; · iexact Hck2
      iexact Hrk2
    isplitl [Hcx Hsx Hbx Hrx]
    · isplitl [Hcx]; · iexact Hcx
      iexists _; isplitl [Hsx]; · iexact Hsx
      iapply (src0_0_split c fh0 (Ring.sl 2 (row t.val)) (Ring.bk 32 (row t.val))).2; isplitl [Hbx]; · iexact Hbx
      iexact Hrx
    iexists _; iexact HW

end Cert.Kernel2Ideal.Gen

end
-- ==== Proof.IOut.lean ====
module

public import proofs.«01_k».proof.Proof.IRunD
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
/-- The conditions the body tests, at the first point. -/
theorem atA (t : Fin grid0.N) (h : t.val = 0) : cond0_0 (grid0.coords t) ∧ cond0_1 (grid0.coords t) ∧ cond0_2 (grid0.coords t) ∧ cond0_3 (grid0.coords t) ∧ ¬cond0_4 (grid0.coords t) ∧ cond0_5 (grid0.coords t) ∧ cond0_6 (grid0.coords t) ∧ ¬cond0_7 (grid0.coords t) ∧ ¬cond0_8 (grid0.coords t) ∧ ¬cond0_9 (grid0.coords t) := by
  have := lt_of_lt_of_eq t.isLt N_0
  simp only [hcond0_0, hcond0_1, hcond0_2, hcond0_3, hcond0_4, hcond0_5, hcond0_6, hcond0_7, hcond0_8, hcond0_9]; omega

/-- The conditions the body tests, at a later row's first point. -/
theorem atB (t : Fin grid0.N) (h : 0 < t.val ∧ t.val % 6 = 0) : ¬cond0_0 (grid0.coords t) ∧ cond0_1 (grid0.coords t) ∧ cond0_2 (grid0.coords t) ∧ ¬cond0_3 (grid0.coords t) ∧ ¬cond0_4 (grid0.coords t) ∧ cond0_5 (grid0.coords t) ∧ cond0_6 (grid0.coords t) ∧ ¬cond0_7 (grid0.coords t) ∧ ¬cond0_8 (grid0.coords t) ∧ ¬cond0_9 (grid0.coords t) := by
  have := lt_of_lt_of_eq t.isLt N_0
  simp only [hcond0_0, hcond0_1, hcond0_2, hcond0_3, hcond0_4, hcond0_5, hcond0_6, hcond0_7, hcond0_8, hcond0_9]; omega

/-- The conditions the body tests, at a row's second point. -/
theorem atC (t : Fin grid0.N) (h : t.val % 6 = 1 ∧ t.val < 186) : ¬cond0_0 (grid0.coords t) ∧ cond0_1 (grid0.coords t) ∧ cond0_2 (grid0.coords t) ∧ ¬cond0_3 (grid0.coords t) ∧ cond0_4 (grid0.coords t) ∧ ¬cond0_5 (grid0.coords t) ∧ ¬cond0_6 (grid0.coords t) ∧ cond0_7 (grid0.coords t) ∧ ¬cond0_8 (grid0.coords t) ∧ ¬cond0_9 (grid0.coords t) := by
  have := lt_of_lt_of_eq t.isLt N_0
  simp only [hcond0_0, hcond0_1, hcond0_2, hcond0_3, hcond0_4, hcond0_5, hcond0_6, hcond0_7, hcond0_8, hcond0_9]; omega

/-- The conditions the body tests, at a row's third point. -/
theorem atD (t : Fin grid0.N) (h : (t.val % 6 = 2 ∨ t.val = 187)) : ¬cond0_0 (grid0.coords t) ∧ cond0_1 (grid0.coords t) ∧ cond0_2 (grid0.coords t) ∧ ¬cond0_3 (grid0.coords t) ∧ ¬cond0_4 (grid0.coords t) ∧ ¬cond0_5 (grid0.coords t) ∧ ¬cond0_6 (grid0.coords t) ∧ cond0_7 (grid0.coords t) ∧ ¬cond0_8 (grid0.coords t) ∧ ¬cond0_9 (grid0.coords t) := by
  have := lt_of_lt_of_eq t.isLt N_0
  simp only [hcond0_0, hcond0_1, hcond0_2, hcond0_3, hcond0_4, hcond0_5, hcond0_6, hcond0_7, hcond0_8, hcond0_9]; omega

/-- The conditions the body tests, at a row's fourth point. -/
theorem atE (t : Fin grid0.N) (h : t.val % 6 = 3) : ¬cond0_0 (grid0.coords t) ∧ ¬cond0_1 (grid0.coords t) ∧ cond0_2 (grid0.coords t) ∧ ¬cond0_3 (grid0.coords t) ∧ ¬cond0_4 (grid0.coords t) ∧ ¬cond0_5 (grid0.coords t) ∧ ¬cond0_6 (grid0.coords t) ∧ cond0_7 (grid0.coords t) ∧ ¬cond0_8 (grid0.coords t) ∧ ¬cond0_9 (grid0.coords t) := by
  have := lt_of_lt_of_eq t.isLt N_0
  simp only [hcond0_0, hcond0_1, hcond0_2, hcond0_3, hcond0_4, hcond0_5, hcond0_6, hcond0_7, hcond0_8, hcond0_9]; omega

/-- The conditions the body tests, at a row's fifth point. -/
theorem atF (t : Fin grid0.N) (h : t.val % 6 = 4 ∧ t.val < 190) : ¬cond0_0 (grid0.coords t) ∧ cond0_1 (grid0.coords t) ∧ cond0_2 (grid0.coords t) ∧ ¬cond0_3 (grid0.coords t) ∧ ¬cond0_4 (grid0.coords t) ∧ ¬cond0_5 (grid0.coords t) ∧ ¬cond0_6 (grid0.coords t) ∧ ¬cond0_7 (grid0.coords t) ∧ cond0_8 (grid0.coords t) ∧ ¬cond0_9 (grid0.coords t) := by
  have := lt_of_lt_of_eq t.isLt N_0
  simp only [hcond0_0, hcond0_1, hcond0_2, hcond0_3, hcond0_4, hcond0_5, hcond0_6, hcond0_7, hcond0_8, hcond0_9]; omega

/-- The conditions the body tests, at a row's last point. -/
theorem atG (t : Fin grid0.N) (h : t.val % 6 = 5 ∧ t.val < 191) : ¬cond0_0 (grid0.coords t) ∧ cond0_1 (grid0.coords t) ∧ ¬cond0_2 (grid0.coords t) ∧ ¬cond0_3 (grid0.coords t) ∧ ¬cond0_4 (grid0.coords t) ∧ ¬cond0_5 (grid0.coords t) ∧ ¬cond0_6 (grid0.coords t) ∧ ¬cond0_7 (grid0.coords t) ∧ ¬cond0_8 (grid0.coords t) ∧ cond0_9 (grid0.coords t) := by
  have := lt_of_lt_of_eq t.isLt N_0
  simp only [hcond0_0, hcond0_1, hcond0_2, hcond0_3, hcond0_4, hcond0_5, hcond0_6, hcond0_7, hcond0_8, hcond0_9]; omega

/-- The conditions the body tests, at the last row's fifth point. -/
theorem atH (t : Fin grid0.N) (h : t.val = 190) : ¬cond0_0 (grid0.coords t) ∧ ¬cond0_1 (grid0.coords t) ∧ cond0_2 (grid0.coords t) ∧ ¬cond0_3 (grid0.coords t) ∧ ¬cond0_4 (grid0.coords t) ∧ ¬cond0_5 (grid0.coords t) ∧ ¬cond0_6 (grid0.coords t) ∧ ¬cond0_7 (grid0.coords t) ∧ cond0_8 (grid0.coords t) ∧ ¬cond0_9 (grid0.coords t) := by
  have := lt_of_lt_of_eq t.isLt N_0
  simp only [hcond0_0, hcond0_1, hcond0_2, hcond0_3, hcond0_4, hcond0_5, hcond0_6, hcond0_7, hcond0_8, hcond0_9]; omega

/-- The conditions the body tests, at the last point. -/
theorem atI (t : Fin grid0.N) (h : t.val = 191) : ¬cond0_0 (grid0.coords t) ∧ ¬cond0_1 (grid0.coords t) ∧ ¬cond0_2 (grid0.coords t) ∧ ¬cond0_3 (grid0.coords t) ∧ ¬cond0_4 (grid0.coords t) ∧ ¬cond0_5 (grid0.coords t) ∧ ¬cond0_6 (grid0.coords t) ∧ ¬cond0_7 (grid0.coords t) ∧ ¬cond0_8 (grid0.coords t) ∧ cond0_9 (grid0.coords t) := by
  have := lt_of_lt_of_eq t.isLt N_0
  simp only [hcond0_0, hcond0_1, hcond0_2, hcond0_3, hcond0_4, hcond0_5, hcond0_6, hcond0_7, hcond0_8, hcond0_9]; omega

/-- The body's run at the first point, on the buffers and blocks the launch gives it there. -/
noncomputable abbrev stepA (c : Dev nD) (t : Fin cfg0.N) (h : t.val = 0) := runA c t (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (atA t h).1 (atA t h).2.1 (atA t h).2.2.1 (atA t h).2.2.2.1 (atA t h).2.2.2.2.1 (atA t h).2.2.2.2.2.1 (atA t h).2.2.2.2.2.2.1 (atA t h).2.2.2.2.2.2.2.1 (atA t h).2.2.2.2.2.2.2.2.1 (atA t h).2.2.2.2.2.2.2.2.2 (iblk m c 0 t) (iblk m c 1 t) (iblk m c 3 t) (iblk m c 4 t) (iblk m c 5 t) (V m c main_v0) (V m c main_v4)

/-- The body's run at a later row's first point, on the buffers and blocks the launch gives it there. -/
noncomputable abbrev stepB (c : Dev nD) (t : Fin cfg0.N) (h : 0 < t.val ∧ t.val % 6 = 0) := runB c t (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (atB t h).1 (atB t h).2.1 (atB t h).2.2.1 (atB t h).2.2.2.1 (atB t h).2.2.2.2.1 (atB t h).2.2.2.2.2.1 (atB t h).2.2.2.2.2.2.1 (atB t h).2.2.2.2.2.2.2.1 (atB t h).2.2.2.2.2.2.2.2.1 (atB t h).2.2.2.2.2.2.2.2.2 (iblk m c 0 t) (iblk m c 1 t) (iblk m c 3 t) (iblk m c 4 t) (iblk m c 5 t) (V m c main_v0) (V m c main_v4)

/-- The body's run at a row's second point, on the buffers and blocks the launch gives it there. -/
noncomputable abbrev stepC (c : Dev nD) (t : Fin cfg0.N) (h : t.val % 6 = 1 ∧ t.val < 186) (x : Vec F S1024x1024 .bf16) := runC c t (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (atC t h).1 (atC t h).2.1 (atC t h).2.2.1 (atC t h).2.2.2.1 (atC t h).2.2.2.2.1 (atC t h).2.2.2.2.2.1 (atC t h).2.2.2.2.2.2.1 (atC t h).2.2.2.2.2.2.2.1 (atC t h).2.2.2.2.2.2.2.2.1 (atC t h).2.2.2.2.2.2.2.2.2 x (V m c main_v0) (V m c main_v4)

/-- The body's run at a row's third point, on the buffers and blocks the launch gives it there. -/
noncomputable abbrev stepD (c : Dev nD) (t : Fin cfg0.N) (h : (t.val % 6 = 2 ∨ t.val = 187)) (x : Vec F S1024x1024 .bf16) := runD c t (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (atD t h).1 (atD t h).2.1 (atD t h).2.2.1 (atD t h).2.2.2.1 (atD t h).2.2.2.2.1 (atD t h).2.2.2.2.2.1 (atD t h).2.2.2.2.2.2.1 (atD t h).2.2.2.2.2.2.2.1 (atD t h).2.2.2.2.2.2.2.2.1 (atD t h).2.2.2.2.2.2.2.2.2 x (V m c main_v0) (V m c main_v4)

/-- The body's run at a row's fourth point, on the buffers and blocks the launch gives it there. -/
noncomputable abbrev stepE (c : Dev nD) (t : Fin cfg0.N) (h : t.val % 6 = 3) (x : Vec F S1024x1024 .bf16) := runE c t (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (atE t h).1 (atE t h).2.1 (atE t h).2.2.1 (atE t h).2.2.2.1 (atE t h).2.2.2.2.1 (atE t h).2.2.2.2.2.1 (atE t h).2.2.2.2.2.2.1 (atE t h).2.2.2.2.2.2.2.1 (atE t h).2.2.2.2.2.2.2.2.1 (atE t h).2.2.2.2.2.2.2.2.2 x (V m c main_v0) (V m c main_v4)

/-- The body's run at a row's fifth point, on the buffers and blocks the launch gives it there. -/
noncomputable abbrev stepF (c : Dev nD) (t : Fin cfg0.N) (h : t.val % 6 = 4 ∧ t.val < 190) (x : Vec F S1024x1024 .bf16) := runF c t (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (atF t h).1 (atF t h).2.1 (atF t h).2.2.1 (atF t h).2.2.2.1 (atF t h).2.2.2.2.1 (atF t h).2.2.2.2.2.1 (atF t h).2.2.2.2.2.2.1 (atF t h).2.2.2.2.2.2.2.1 (atF t h).2.2.2.2.2.2.2.2.1 (atF t h).2.2.2.2.2.2.2.2.2 (iblk m c 2 t) x (V m c main_v0) (V m c main_v4)

/-- The body's run at a row's last point, on the buffers and blocks the launch gives it there. -/
noncomputable abbrev stepG (c : Dev nD) (t : Fin cfg0.N) (h : t.val % 6 = 5 ∧ t.val < 191) (x : Vec F S1024x1024 .bf16) := runG c t (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (atG t h).1 (atG t h).2.1 (atG t h).2.2.1 (atG t h).2.2.2.1 (atG t h).2.2.2.2.1 (atG t h).2.2.2.2.2.1 (atG t h).2.2.2.2.2.2.1 (atG t h).2.2.2.2.2.2.2.1 (atG t h).2.2.2.2.2.2.2.2.1 (atG t h).2.2.2.2.2.2.2.2.2 (iblk m c 2 t) x (V m c main_v0) (V m c main_v4)

/-- The body's run at the last row's fifth point, on the buffers and blocks the launch gives it there. -/
noncomputable abbrev stepH (c : Dev nD) (t : Fin cfg0.N) (h : t.val = 190) (x : Vec F S1024x1024 .bf16) := runH c t (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (atH t h).1 (atH t h).2.1 (atH t h).2.2.1 (atH t h).2.2.2.1 (atH t h).2.2.2.2.1 (atH t h).2.2.2.2.2.1 (atH t h).2.2.2.2.2.2.1 (atH t h).2.2.2.2.2.2.2.1 (atH t h).2.2.2.2.2.2.2.2.1 (atH t h).2.2.2.2.2.2.2.2.2 (iblk m c 2 t) x (V m c main_v0) (V m c main_v4)

/-- The body's run at the last point, on the buffers and blocks the launch gives it there. -/
noncomputable abbrev stepI (c : Dev nD) (t : Fin cfg0.N) (h : t.val = 191) (x : Vec F S1024x1024 .bf16) := runI c t (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (atI t h).1 (atI t h).2.1 (atI t h).2.2.1 (atI t h).2.2.2.1 (atI t h).2.2.2.2.1 (atI t h).2.2.2.2.2.1 (atI t h).2.2.2.2.2.2.1 (atI t h).2.2.2.2.2.2.2.1 (atI t h).2.2.2.2.2.2.2.2.1 (atI t h).2.2.2.2.2.2.2.2.2 (iblk m c 2 t) x (V m c main_v0) (V m c main_v4)

/-- A buffer holding the writes of a covering list is owned at that list's contents, read through any view. -/
theorem owns_of_cover (c : Dev nD) {S : Shape} {e : EltTy} (M : Memref sig .tc .vmem S e) (V0 : View sig .tc .vmem S e)
    (L : List (View.Piece (Elt F) S e)) (hL : ∀ y, ∃ pc ∈ L, y ∈ pc.1.set) :
    iprop(∃ f, M.view.loc (c : Thread nD τ) ↦[M.view.set]{fullShare} M.view.writes (Elt F) f L)
      ⊢ (owns (c : Thread nD τ) M fullShare (V0.read (Elt F) (V0.writes (Elt F) V0.junk L)) : sProp 𝕄) := by
  unfold owns
  iintro ⟨%f, H⟩
  iexists _; isplitr
  swap; · iexact H
  ipureintro; exact View.read_writes_of_cover _ _ _ _ _ hL

/-! ## The stores of each run fill the buffer they go to -/

theorem coverA_10 (c : Dev nD) (t : Fin cfg0.N) (h : t.val = 0) : ∀ y, ∃ pc ∈ (stepA m c t h).1, y ∈ pc.1.set :=
  View.cover_of_tiledL _ S1024x128.size (by sl_kernel_rfl)

theorem coverA_11 (c : Dev nD) (t : Fin cfg0.N) (h : t.val = 0) : ∀ y, ∃ pc ∈ (stepA m c t h).2.1, y ∈ pc.1.set :=
  View.cover_of_tiledL _ S1024x128.size (by sl_kernel_rfl)

theorem coverA_12 (c : Dev nD) (t : Fin cfg0.N) (h : t.val = 0) : ∀ y, ∃ pc ∈ (stepA m c t h).2.2.1, y ∈ pc.1.set :=
  View.cover_of_tiledL _ S8x1024.size (by sl_kernel_rfl)

theorem coverA_13 (c : Dev nD) (t : Fin cfg0.N) (h : t.val = 0) : ∀ y, ∃ pc ∈ (stepA m c t h).2.2.2.1, y ∈ pc.1.set :=
  View.cover_of_tiledL _ S1024x1024.size (by sl_kernel_rfl)

theorem coverB_10 (c : Dev nD) (t : Fin cfg0.N) (h : 0 < t.val ∧ t.val % 6 = 0) : ∀ y, ∃ pc ∈ (stepB m c t h).1, y ∈ pc.1.set :=
  View.cover_of_tiledL _ S1024x128.size (by sl_kernel_rfl)

theorem coverB_11 (c : Dev nD) (t : Fin cfg0.N) (h : 0 < t.val ∧ t.val % 6 = 0) : ∀ y, ∃ pc ∈ (stepB m c t h).2.1, y ∈ pc.1.set :=
  View.cover_of_tiledL _ S1024x128.size (by sl_kernel_rfl)

theorem coverB_12 (c : Dev nD) (t : Fin cfg0.N) (h : 0 < t.val ∧ t.val % 6 = 0) : ∀ y, ∃ pc ∈ (stepB m c t h).2.2.1, y ∈ pc.1.set :=
  View.cover_of_tiledL _ S8x1024.size (by sl_kernel_rfl)

theorem coverB_13 (c : Dev nD) (t : Fin cfg0.N) (h : 0 < t.val ∧ t.val % 6 = 0) : ∀ y, ∃ pc ∈ (stepB m c t h).2.2.2.1, y ∈ pc.1.set :=
  View.cover_of_tiledL _ S1024x1024.size (by sl_kernel_rfl)

theorem coverC_10 (c : Dev nD) (t : Fin cfg0.N) (h : t.val % 6 = 1 ∧ t.val < 186) (x : Vec F S1024x1024 .bf16) : ∀ y, ∃ pc ∈ (stepC m c t h x).1, y ∈ pc.1.set :=
  View.cover_of_tiledL _ S1024x2048.size (by sl_kernel_rfl)

theorem coverD_10 (c : Dev nD) (t : Fin cfg0.N) (h : (t.val % 6 = 2 ∨ t.val = 187)) (x : Vec F S1024x1024 .bf16) : ∀ y, ∃ pc ∈ (stepD m c t h x).1, y ∈ pc.1.set :=
  View.cover_of_tiledL _ S1024x2048.size (by sl_kernel_rfl)

theorem coverE_10 (c : Dev nD) (t : Fin cfg0.N) (h : t.val % 6 = 3) (x : Vec F S1024x1024 .bf16) : ∀ y, ∃ pc ∈ (stepE m c t h x).1, y ∈ pc.1.set :=
  View.cover_of_tiledL _ S1024x2048.size (by sl_kernel_rfl)

theorem coverF_10 (c : Dev nD) (t : Fin cfg0.N) (h : t.val % 6 = 4 ∧ t.val < 190) (x : Vec F S1024x1024 .bf16) : ∀ y, ∃ pc ∈ (stepF m c t h x).1, y ∈ pc.1.set :=
  View.cover_of_tiledL _ S1024x1024.size (by sl_kernel_rfl)

theorem coverG_10 (c : Dev nD) (t : Fin cfg0.N) (h : t.val % 6 = 5 ∧ t.val < 191) (x : Vec F S1024x1024 .bf16) : ∀ y, ∃ pc ∈ (stepG m c t h x).1, y ∈ pc.1.set :=
  View.cover_of_tiledL _ S1024x1024.size (by sl_kernel_rfl)

theorem coverH_10 (c : Dev nD) (t : Fin cfg0.N) (h : t.val = 190) (x : Vec F S1024x1024 .bf16) : ∀ y, ∃ pc ∈ (stepH m c t h x).1, y ∈ pc.1.set :=
  View.cover_of_tiledL _ S1024x1024.size (by sl_kernel_rfl)

theorem coverI_10 (c : Dev nD) (t : Fin cfg0.N) (h : t.val = 191) (x : Vec F S1024x1024 .bf16) : ∀ y, ∃ pc ∈ (stepI m c t h x).1, y ∈ pc.1.set :=
  View.cover_of_tiledL _ S1024x1024.size (by sl_kernel_rfl)

/-! ## What the points leave -/

/-- The whole scratch through which the normalised rows are stated. -/
abbrev VO0_h : View sig .tc .vmem S1024x1024 .bf16 := scM0_0.view

/-- What a row's first point leaves: its block of the projection, its gates, its gates transposed, its normalised rows. -/
noncomputable def head (c : Dev nD) (t : Fin cfg0.N) (h : t.val % 6 = 0) :
    Vec F S1024x2048 .bf16 × Vec F S1024x128 .f32 × Vec F S8x1024 .f32 × Vec F S1024x1024 .bf16 :=
  if h0 : t.val = 0 then
    (VO0_6.read (Elt F) (VO0_6.writes (Elt F) VO0_6.junk (stepA m c t h0).1),
     VO0_7.read (Elt F) (VO0_7.writes (Elt F) VO0_7.junk (stepA m c t h0).2.1),
     VO0_8.read (Elt F) (VO0_8.writes (Elt F) VO0_8.junk (stepA m c t h0).2.2.1),
     VO0_h.read (Elt F) (VO0_h.writes (Elt F) VO0_h.junk (stepA m c t h0).2.2.2.1))
  else
    (VO0_6.read (Elt F) (VO0_6.writes (Elt F) VO0_6.junk (stepB m c t ⟨Nat.pos_of_ne_zero h0, h⟩).1),
     VO0_7.read (Elt F) (VO0_7.writes (Elt F) VO0_7.junk (stepB m c t ⟨Nat.pos_of_ne_zero h0, h⟩).2.1),
     VO0_8.read (Elt F) (VO0_8.writes (Elt F) VO0_8.junk (stepB m c t ⟨Nat.pos_of_ne_zero h0, h⟩).2.2.1),
     VO0_h.read (Elt F) (VO0_h.writes (Elt F) VO0_h.junk (stepB m c t ⟨Nat.pos_of_ne_zero h0, h⟩).2.2.2.1))

/-- The first point of the row point `t` is in. -/
def rowStart (t : Fin cfg0.N) : Fin cfg0.N := ⟨6 * (t.val / 6), by have := t.isLt; omega⟩
theorem rowStart_mod (t : Fin cfg0.N) : (rowStart t).val % 6 = 0 := by
  show 6 * (t.val / 6) % 6 = 0; omega
/-- What the first point of `t`'s row left. -/
noncomputable def rowHead (c : Dev nD) (t : Fin cfg0.N) := head m c (rowStart t) (rowStart_mod t)
theorem rowHead_congr (c : Dev nD) (t t' : Fin cfg0.N) (h : t.val / 6 = t'.val / 6) : rowHead m c t = rowHead m c t' := by
  have : rowStart t = rowStart t' := Fin.ext (by show 6 * _ = 6 * _; rw [h])
  unfold rowHead; simp only [this]
theorem rowHead_start (c : Dev nD) (t : Fin cfg0.N) (h : t.val % 6 = 0) : rowHead m c t = head m c t h := by
  have : rowStart t = t := Fin.ext (by show 6 * _ = _; omega)
  unfold rowHead; simp only [this]

/-- Point `t`'s block of the projection. -/
noncomputable def pAt (c : Dev nD) (t : Fin cfg0.N) : Vec F S1024x2048 .bf16 :=
  if h0 : t.val % 6 = 0 then (head m c t h0).1
  else VO0_6.read (Elt F) (VO0_6.writes (Elt F) VO0_6.junk (
    if hC : t.val % 6 = 1 ∧ t.val < 186 then (stepC m c t hC (rowHead m c t).2.2.2).1
    else if hD : (t.val % 6 = 2 ∨ t.val = 187) then (stepD m c t hD (rowHead m c t).2.2.2).1
    else if hE : t.val % 6 = 3 then (stepE m c t hE (rowHead m c t).2.2.2).1
    else if hF : t.val % 6 = 4 ∧ t.val < 190 then (stepF m c t hF (rowHead m c t).2.2.2).1
    else if hH : t.val = 190 then (stepH m c t hH (rowHead m c t).2.2.2).1
    else if hG : t.val % 6 = 5 ∧ t.val < 191 then (stepG m c t hG (rowHead m c t).2.2.2).1
    else (stepI m c t (by have := lt_of_lt_of_eq t.isLt N_0; omega) (rowHead m c t).2.2.2).1))

theorem head_A (c : Dev nD) (t : Fin cfg0.N) (h : t.val = 0) : head m c t (by omega) =
    (VO0_6.read (Elt F) (VO0_6.writes (Elt F) VO0_6.junk (stepA m c t h).1),
     VO0_7.read (Elt F) (VO0_7.writes (Elt F) VO0_7.junk (stepA m c t h).2.1),
     VO0_8.read (Elt F) (VO0_8.writes (Elt F) VO0_8.junk (stepA m c t h).2.2.1),
     VO0_h.read (Elt F) (VO0_h.writes (Elt F) VO0_h.junk (stepA m c t h).2.2.2.1)) := by
  unfold head; rw [dif_pos h]

theorem head_B (c : Dev nD) (t : Fin cfg0.N) (h : 0 < t.val ∧ t.val % 6 = 0) : head m c t (by omega) =
    (VO0_6.read (Elt F) (VO0_6.writes (Elt F) VO0_6.junk (stepB m c t h).1),
     VO0_7.read (Elt F) (VO0_7.writes (Elt F) VO0_7.junk (stepB m c t h).2.1),
     VO0_8.read (Elt F) (VO0_8.writes (Elt F) VO0_8.junk (stepB m c t h).2.2.1),
     VO0_h.read (Elt F) (VO0_h.writes (Elt F) VO0_h.junk (stepB m c t h).2.2.2.1)) := by
  unfold head; rw [dif_neg (by omega)]

theorem pAt_first (c : Dev nD) (t : Fin cfg0.N) (h : t.val % 6 = 0) : pAt m c t = (head m c t h).1 := by
  unfold pAt; rw [dif_pos h]

theorem pAt_C (c : Dev nD) (t : Fin cfg0.N) (h : t.val % 6 = 1 ∧ t.val < 186) :
    pAt m c t = VO0_6.read (Elt F) (VO0_6.writes (Elt F) VO0_6.junk (stepC m c t h (rowHead m c t).2.2.2).1) := by
  unfold pAt; rw [dif_neg (by omega), dif_pos h]

theorem pAt_D (c : Dev nD) (t : Fin cfg0.N) (h : (t.val % 6 = 2 ∨ t.val = 187)) :
    pAt m c t = VO0_6.read (Elt F) (VO0_6.writes (Elt F) VO0_6.junk (stepD m c t h (rowHead m c t).2.2.2).1) := by
  unfold pAt; rw [dif_neg (by omega), dif_neg (by omega), dif_pos h]

theorem pAt_E (c : Dev nD) (t : Fin cfg0.N) (h : t.val % 6 = 3) :
    pAt m c t = VO0_6.read (Elt F) (VO0_6.writes (Elt F) VO0_6.junk (stepE m c t h (rowHead m c t).2.2.2).1) := by
  unfold pAt; rw [dif_neg (by omega), dif_neg (by omega), dif_neg (by omega), dif_pos h]

theorem pAt_F (c : Dev nD) (t : Fin cfg0.N) (h : t.val % 6 = 4 ∧ t.val < 190) :
    pAt m c t = VO0_6.read (Elt F) (VO0_6.writes (Elt F) VO0_6.junk (stepF m c t h (rowHead m c t).2.2.2).1) := by
  unfold pAt; rw [dif_neg (by omega), dif_neg (by omega), dif_neg (by omega), dif_neg (by omega), dif_pos h]

theorem pAt_H (c : Dev nD) (t : Fin cfg0.N) (h : t.val = 190) :
    pAt m c t = VO0_6.read (Elt F) (VO0_6.writes (Elt F) VO0_6.junk (stepH m c t h (rowHead m c t).2.2.2).1) := by
  unfold pAt; rw [dif_neg (by omega), dif_neg (by omega), dif_neg (by omega), dif_neg (by omega), dif_neg (by omega), dif_pos h]

theorem pAt_G (c : Dev nD) (t : Fin cfg0.N) (h : t.val % 6 = 5 ∧ t.val < 191) :
    pAt m c t = VO0_6.read (Elt F) (VO0_6.writes (Elt F) VO0_6.junk (stepG m c t h (rowHead m c t).2.2.2).1) := by
  unfold pAt; rw [dif_neg (by omega), dif_neg (by omega), dif_neg (by omega), dif_neg (by omega), dif_neg (by omega), dif_neg (by omega), dif_pos h]

theorem pAt_I (c : Dev nD) (t : Fin cfg0.N) (h : t.val = 191) :
    pAt m c t = VO0_6.read (Elt F) (VO0_6.writes (Elt F) VO0_6.junk (stepI m c t h (rowHead m c t).2.2.2).1) := by
  unfold pAt; rw [dif_neg (by omega), dif_neg (by omega), dif_neg (by omega), dif_neg (by omega), dif_neg (by omega), dif_neg (by omega), dif_neg (by omega)]

/-! ## The rings and the normalised rows between the points -/

/-- The slot of weight chunk `k`: the chunk on its way when it is among the first `n`, else free. -/
def wSlot (c : Dev nD) (n k : ℕ) : sProp 𝕄 :=
  if k < n then Ring.inflight (flightW0_1 c (V m c main_v4)) (Ring.sl 3 k) (Ring.bk 5 k)
  else Ring.free (cellP0_1 c) (slotW0_1 c (V m c main_v4)) (Ring.sl 3 k)
/-- How many chunks are started before point `t`. -/
def started (t : ℕ) : ℕ := if t = 0 then 0 else min (chunk (t + 2)) 160
/-- The weight ring before point `t`: the chunk it waits for next, and the two after. -/
def wAt (c : Dev nD) (t : ℕ) : sProp 𝕄 :=
  iprop(wSlot m c (started t) (chunk t) ∗ wSlot m c (started t) (chunk t + 1) ∗ wSlot m c (started t) (chunk t + 2))
theorem wSlot_on (c : Dev nD) {n k : ℕ} (h : k < n) :
    wSlot m c n k = Ring.inflight (flightW0_1 c (V m c main_v4)) (Ring.sl 3 k) (Ring.bk 5 k) := if_pos h
theorem wSlot_off (c : Dev nD) {n k : ℕ} (h : ¬k < n) :
    wSlot m c n k = Ring.free (cellP0_1 c) (slotW0_1 c (V m c main_v4)) (Ring.sl 3 k) := if_neg h

/-- The slot of row block `r`: on its way, or free. -/
def xSlot (c : Dev nD) (b : Bool) (r : ℕ) : sProp 𝕄 :=
  if b then Ring.inflight (flightW0_0 c (V m c main_v0)) (Ring.sl 2 r) (Ring.bk 32 r)
  else Ring.free (cellP0_0 c) (slotW0_0 c (V m c main_v0)) (Ring.sl 2 r)
/-- The ring of row blocks before point `t`: its own row's slot, and the next row's. -/
def xAt (c : Dev nD) (t : ℕ) : sProp 𝕄 :=
  iprop(xSlot m c (decide (t % 6 = 0 ∧ 0 < t ∧ t < 192)) (row t) ∗ xSlot m c (decide (2 ≤ t % 6 ∧ t < 186)) (row t + 1))

/-- The scratch of normalised rows before point `t`: at a row's first point anything, later what that point left. -/
def hAt (c : Dev nD) (t : ℕ) : sProp 𝕄 :=
  if h : t % 6 ≠ 0 ∧ t < cfg0.N then owns (c : Thread nD τ) scM0_0 fullShare (rowHead m c ⟨t, h.2⟩).2.2.2
  else iprop(∃ d, owns (c : Thread nD τ) scM0_0 fullShare d)

/-- Everything the body keeps for itself, before point `t`. -/
def PhiR (c : Dev nD) (t : ℕ) : sProp 𝕄 :=
  iprop(hAt m c t ∗ (∃ r, prngReg c r) ∗ xAt m c t ∗ wAt m c t)

end Cert.Kernel2Ideal.Gen

end
-- ==== Proof.IBody.lean ====
module

public import proofs.«01_k».proof.Proof.IOut
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
/-! ## The proof data of the launch -/

/-- The arrays as the region finds them, what the body leaves in each window's buffer at each point, and what it keeps
    for itself between them. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => pAt m c t
    | ⟨7, _⟩ => (rowHead m c t).2.1
    | ⟨8, _⟩ => (rowHead m c t).2.2.1
  Φ t := PhiR m c t.val
  q _ := fullShare
  owed _ := 0

theorem A_eq (c : Dev nD) (w : Fin cfg0.W) : (dats m 0 c).A w = V m c (Pipeline.arrRef spec0 w) := by
  dsimp only [dats]
theorem PhiR_castSucc (c : Dev nD) (t : Fin cfg0.N) : (dats m 0 c).Φ t.castSucc = PhiR m c t.val := by
  dsimp only [dats]; simp only [Fin.coe_castSucc]
theorem PhiR_succ (c : Dev nD) (t : Fin cfg0.N) : (dats m 0 c).Φ t.succ = PhiR m c (t.val + 1) := by
  dsimp only [dats]; simp only [Fin.val_succ]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = pAt m c t := by dsimp only [dats]
theorem after0_7 (c : Dev nD) (t : Fin cfg0.N) : (dats m 0 c).after 7 t = (rowHead m c t).2.1 := by dsimp only [dats]
theorem after0_8 (c : Dev nD) (t : Fin cfg0.N) : (dats m 0 c).after 8 t = (rowHead m c t).2.2.1 := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- Past a row's first point the buffer of output 7 holds what that point left. -/
theorem before0_7 (c : Dev nD) : ∀ (n : ℕ) (hn : n < cfg0.N) (h : n % 6 ≠ 0) (d), (dats m 0 c).before 7 ⟨n, hn⟩ d = (rowHead m c ⟨n, hn⟩).2.1
  | 0, _, h, _ => absurd rfl h
  | n + 1, hn, h, d => by
    rw [(dats m 0 c).before_of_pos 7 ⟨n + 1, hn⟩ (Nat.succ_ne_zero n) rfl d]
    have hp : (⟨(⟨n + 1, hn⟩ : Fin cfg0.N).val - 1, Nat.lt_of_le_of_lt (Nat.sub_le _ _) hn⟩ : Fin cfg0.N) = ⟨n, Nat.lt_of_succ_lt hn⟩ := Fin.ext (by simp)
    have hnN : n < cfg0.N := Nat.lt_of_succ_lt hn
    rw [hp, flush0_7 ⟨n, hnN⟩, if_neg (by simp; omega)]
    have hrow : rowHead m c ⟨n + 1, hn⟩ = rowHead m c ⟨n, hnN⟩ := rowHead_congr m c _ _ (by show (n + 1) / 6 = n / 6; omega)
    unfold Dat.left
    have hi := idle0_7 ⟨n, hnN⟩
    by_cases h0 : n % 6 = 0
    · rw [show cfg0.idle 7 (cfg0.grid.coords ⟨n, hnN⟩) = false from hi.trans (by simp [h0])]
      show (dats m 0 c).kept 7 ⟨n, _⟩ d = _
      unfold Dat.kept
      rw [Pipeline.fill_of_clip_none 7 _ (fun _ => rfl) d ((dats m 0 c).after 7 ⟨n, hnN⟩), Window.fill_cut, after0_7, hrow]
    · rw [show cfg0.idle 7 (cfg0.grid.coords ⟨n, hnN⟩) = true from hi.trans (by simp [h0])]
      show (dats m 0 c).before 7 ⟨n, _⟩ d = _
      rw [before0_7 c n hnN h0 d, hrow]

/-- So at such a point the buffer handed back is what the loop expects. -/
theorem leaves0_7 (c : Dev nD) (t : Fin cfg0.N) (h : t.val % 6 ≠ 0) (d) :
    owns (c : Thread nD τ) (ms0_7 t) fullShare ((dats m 0 c).before 7 t d) ⊢ (dats m 0 c).leavesExact 7 t := by
  have hi : cfg0.idle 7 (cfg0.grid.coords t) = true := (idle0_7 t).trans (by simp [h])
  by_cases h5 : t.val % 6 = 5
  · have hf : (cfg0.win 7).flush t = true := (flush0_7 t).trans (by simp [h5])
    unfold Dat.leavesExact; rw [hi, hf]
    show _ ⊢ owns (c : Thread nD τ) (ms0_7 t) fullShare ((dats m 0 c).after 7 t)
    rw [after0_7, show (dats m 0 c).before 7 t d = _ from before0_7 m c t.val t.isLt h d]
  · have hf : (cfg0.win 7).flush t = false := (flush0_7 t).trans (by simp [h5])
    rw [Dat.leavesExact_idle _ _ _ hi hf]
    iintro H; iexists d; iexact H

/-- Past a row's first point the buffer of output 8 holds what that point left. -/
theorem before0_8 (c : Dev nD) : ∀ (n : ℕ) (hn : n < cfg0.N) (h : n % 6 ≠ 0) (d), (dats m 0 c).before 8 ⟨n, hn⟩ d = (rowHead m c ⟨n, hn⟩).2.2.1
  | 0, _, h, _ => absurd rfl h
  | n + 1, hn, h, d => by
    rw [(dats m 0 c).before_of_pos 8 ⟨n + 1, hn⟩ (Nat.succ_ne_zero n) rfl d]
    have hp : (⟨(⟨n + 1, hn⟩ : Fin cfg0.N).val - 1, Nat.lt_of_le_of_lt (Nat.sub_le _ _) hn⟩ : Fin cfg0.N) = ⟨n, Nat.lt_of_succ_lt hn⟩ := Fin.ext (by simp)
    have hnN : n < cfg0.N := Nat.lt_of_succ_lt hn
    rw [hp, flush0_8 ⟨n, hnN⟩, if_neg (by simp; omega)]
    have hrow : rowHead m c ⟨n + 1, hn⟩ = rowHead m c ⟨n, hnN⟩ := rowHead_congr m c _ _ (by show (n + 1) / 6 = n / 6; omega)
    unfold Dat.left
    have hi := idle0_8 ⟨n, hnN⟩
    by_cases h0 : n % 6 = 0
    · rw [show cfg0.idle 8 (cfg0.grid.coords ⟨n, hnN⟩) = false from hi.trans (by simp [h0])]
      show (dats m 0 c).kept 8 ⟨n, _⟩ d = _
      unfold Dat.kept
      rw [Pipeline.fill_of_clip_none 8 _ (fun _ => rfl) d ((dats m 0 c).after 8 ⟨n, hnN⟩), Window.fill_cut, after0_8, hrow]
    · rw [show cfg0.idle 8 (cfg0.grid.coords ⟨n, hnN⟩) = true from hi.trans (by simp [h0])]
      show (dats m 0 c).before 8 ⟨n, _⟩ d = _
      rw [before0_8 c n hnN h0 d, hrow]

/-- So at such a point the buffer handed back is what the loop expects. -/
theorem leaves0_8 (c : Dev nD) (t : Fin cfg0.N) (h : t.val % 6 ≠ 0) (d) :
    owns (c : Thread nD τ) (ms0_8 t) fullShare ((dats m 0 c).before 8 t d) ⊢ (dats m 0 c).leavesExact 8 t := by
  have hi : cfg0.idle 8 (cfg0.grid.coords t) = true := (idle0_8 t).trans (by simp [h])
  by_cases h5 : t.val % 6 = 5
  · have hf : (cfg0.win 8).flush t = true := (flush0_8 t).trans (by simp [h5])
    unfold Dat.leavesExact; rw [hi, hf]
    show _ ⊢ owns (c : Thread nD τ) (ms0_8 t) fullShare ((dats m 0 c).after 8 t)
    rw [after0_8, show (dats m 0 c).before 8 t d = _ from before0_8 m c t.val t.isLt h d]
  · have hf : (cfg0.win 8).flush t = false := (flush0_8 t).trans (by simp [h5])
    rw [Dat.leavesExact_idle _ _ _ hi hf]
    iintro H; iexists d; iexact H

/-! ## The body obligation -/

/-- The body at point `t`, on what the launch calls it with. -/
abbrev bodyAt0 (t : Fin cfg0.N) : Prog (TpuEff nD τ sig (Elt F) Λ₀ .tc) PUnit :=
  cc0_inproj (grid0.coords t) (Memref.whole main_v0) (Memref.isWhole_whole _) (ms0_0 t) (hs0_0 t) (ms0_1 t) (hs0_1 t) (Memref.whole main_v4) (Memref.isWhole_whole _) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) cc0_scratch2 scM0_2 (Memref.isWhole_whole _) cc0_scratch4

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

theorem hAt_later (c : Dev nD) (t : Fin cfg0.N) (h : t.val % 6 ≠ 0) :
    hAt m c t.val = owns (c : Thread nD τ) scM0_0 fullShare (rowHead m c t).2.2.2 := dif_pos ⟨h, t.isLt⟩
theorem hAt_first (c : Dev nD) (n : ℕ) (h : n % 6 = 0) : hAt m c n = iprop(∃ d, owns (c : Thread nD τ) scM0_0 fullShare d) :=
  dif_neg fun h' => h'.1 h
/-- The normalised rows a point's row holds are those the next point finds. -/
theorem hAt_next (c : Dev nD) (t : Fin cfg0.N) :
    owns (c : Thread nD τ) scM0_0 fullShare (rowHead m c t).2.2.2 ⊢ hAt m c (t.val + 1) := by
  by_cases h : (t.val + 1) % 6 = 0
  · rw [hAt_first m c _ h]; iintro H; iexists _; iexact H
  · have hN : cfg0.N = 192 := N_0
    have hn : t.val + 1 < cfg0.N := by have := t.isLt; omega
    rw [show hAt m c (t.val + 1) = _ from hAt_later m c ⟨t.val + 1, hn⟩ h, rowHead_congr m c ⟨t.val + 1, hn⟩ t (by show (t.val + 1) / 6 = _; omega)]

/-- The buffers of the inputs and of the projection are handed back at what the data say. -/
theorem leaves0_0 (c : Dev nD) (t : Fin cfg0.N) : (dats m 0 c).leavesExact 0 t = owns (c : Thread nD τ) (ms0_0 t) fullShare (iblk m c 0 t) := by
  unfold Dat.leavesExact; rw [show cfg0.idle 0 (cfg0.grid.coords t) = false from rfl, after0_0]
theorem leaves0_1 (c : Dev nD) (t : Fin cfg0.N) : (dats m 0 c).leavesExact 1 t = owns (c : Thread nD τ) (ms0_1 t) fullShare (iblk m c 1 t) := by
  unfold Dat.leavesExact; rw [show cfg0.idle 1 (cfg0.grid.coords t) = false from rfl, after0_1]
theorem leaves0_2 (c : Dev nD) (t : Fin cfg0.N) : (dats m 0 c).leavesExact 2 t = owns (c : Thread nD τ) (ms0_2 t) fullShare (iblk m c 2 t) := by
  unfold Dat.leavesExact; rw [show cfg0.idle 2 (cfg0.grid.coords t) = false from rfl, after0_2]
theorem leaves0_3 (c : Dev nD) (t : Fin cfg0.N) : (dats m 0 c).leavesExact 3 t = owns (c : Thread nD τ) (ms0_3 t) fullShare (iblk m c 3 t) := by
  unfold Dat.leavesExact; rw [show cfg0.idle 3 (cfg0.grid.coords t) = false from rfl, after0_3]
theorem leaves0_4 (c : Dev nD) (t : Fin cfg0.N) : (dats m 0 c).leavesExact 4 t = owns (c : Thread nD τ) (ms0_4 t) fullShare (iblk m c 4 t) := by
  unfold Dat.leavesExact; rw [show cfg0.idle 4 (cfg0.grid.coords t) = false from rfl, after0_4]
theorem leaves0_5 (c : Dev nD) (t : Fin cfg0.N) : (dats m 0 c).leavesExact 5 t = owns (c : Thread nD τ) (ms0_5 t) fullShare (iblk m c 5 t) := by
  unfold Dat.leavesExact; rw [show cfg0.idle 5 (cfg0.grid.coords t) = false from rfl, after0_5]
theorem leaves0_6 (c : Dev nD) (t : Fin cfg0.N) : (dats m 0 c).leavesExact 6 t = owns (c : Thread nD τ) (ms0_6 t) fullShare (pAt m c t) := by
  unfold Dat.leavesExact; rw [show cfg0.idle 6 (cfg0.grid.coords t) = false from idle0_6 t, after0_6]
theorem leaves0_7_first (c : Dev nD) (t : Fin cfg0.N) (h : t.val % 6 = 0) : (dats m 0 c).leavesExact 7 t = owns (c : Thread nD τ) (ms0_7 t) fullShare ((rowHead m c t).2.1) := by
  unfold Dat.leavesExact; rw [show cfg0.idle 7 (cfg0.grid.coords t) = false from (idle0_7 t).trans (by simp [h]), after0_7]
theorem leaves0_8_first (c : Dev nD) (t : Fin cfg0.N) (h : t.val % 6 = 0) : (dats m 0 c).leavesExact 8 t = owns (c : Thread nD τ) (ms0_8 t) fullShare ((rowHead m c t).2.2.1) := by
  unfold Dat.leavesExact; rw [show cfg0.idle 8 (cfg0.grid.coords t) = false from (idle0_8 t).trans (by simp [h]), after0_8]

set_option maxHeartbeats 1600000 in
/-- A point past its row's first: a run that needs the ring pieces `P` and leaves `Q` proves the point, if the rings before
    it give `P` and a rest `R`, and `Q` and `R` make the rings after it. -/
theorem body_later (c : Dev nD) (t : Fin cfg0.N) (h : t.val % 6 ≠ 0) (P Q R : sProp 𝕄)
    (hin : iprop(xAt m c t.val ∗ wAt m c t.val) ⊢ iprop(P ∗ R)) (hout : iprop(Q ∗ R) ⊢ iprop(xAt m c (t.val + 1) ∗ wAt m c (t.val + 1)))
    (hrun : ∀ (W : Waits sig Unit) (K : PUnit → sProp 𝕄),
      iprop(owns (c : Thread nD τ) (ms0_2 t) fullShare (iblk m c 2 t) ∗ owns (c : Thread nD τ) scM0_0 fullShare (rowHead m c t).2.2.2 ∗ (∃ d, owns (c : Thread nD τ) (ms0_6 t) fullShare (d)) ∗ P ∗ owes (c : Thread nD τ) 0 W
        ∗ (iprop(owns (c : Thread nD τ) (ms0_2 t) fullShare (iblk m c 2 t) ∗ owns (c : Thread nD τ) scM0_0 fullShare (rowHead m c t).2.2.2 ∗ owns (c : Thread nD τ) (ms0_6 t) fullShare (pAt m c t) ∗ Q ∗ (∃ W', owes (c : Thread nD τ) 0 W')) -∗ K ⟨⟩))
      ⊢ wp frame (wpE (defs₀ (F := F)) Variants.none c none) Set.univ (bodyAt0 t) K) :
    bodyPre m c t ⊢ wp frame (wpE (defs₀ (F := F)) Variants.none c none) Set.univ (bodyAt0 t) (fun _ => bodyPost m c t) := by
  unfold bodyPre bodyPost
  simp only [before0_0, before0_1, before0_2, before0_3, before0_4, before0_5]
  rw [PhiR_castSucc m c t, PhiR_succ m c t]
  unfold Dat.owesAt Pipeline.owesWithin
  rw [show (dats m 0 c).owed t.castSucc = 0 from rfl, show (dats m 0 c).owed t.succ = 0 from rfl]
  unfold PhiR
  rw [leaves0_0, leaves0_1, leaves0_2, leaves0_3, leaves0_4, leaves0_5, leaves0_6, hAt_later m c t h]
  iintro ⟨⟨HS, Hg, Hx, Hw⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  ihave HPR := hin $$ [Hx Hw]
  · isplitl [Hx]; · iexact Hx
    iexact Hw
  icases HPR with ⟨HP, HR⟩
  iapply (hrun W _)
  isplitl [H2]; · iexact H2
  isplitl [HS]; · iexact HS
  isplitl [H6]; · iexists _; iexact H6
  isplitl [HP]; · iexact HP
  isplitl [HW]; · iexact HW
  iintro ⟨H2, HS, H6, HQ, ⟨%W', HW'⟩⟩
  isplitl [HS Hg HQ HR]
  · isplitl [HS]; · iapply (hAt_next m c t); iexact HS
    isplitl [Hg]; · iexact Hg
    iapply hout
    isplitl [HQ]; · iexact HQ
    iexact HR
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iapply (leaves0_7 m c t h d7); iexact H7
  iapply (leaves0_8 m c t h d8); iexact H8

set_option maxHeartbeats 1600000 in
/-- A row's first point, likewise. -/
theorem body_first (c : Dev nD) (t : Fin cfg0.N) (h : t.val % 6 = 0) (P Q R : sProp 𝕄)
    (hin : iprop(xAt m c t.val ∗ wAt m c t.val) ⊢ iprop(P ∗ R)) (hout : iprop(Q ∗ R) ⊢ iprop(xAt m c (t.val + 1) ∗ wAt m c (t.val + 1)))
    (hrun : ∀ (W : Waits sig Unit) (K : PUnit → sProp 𝕄),
      iprop(owns (c : Thread nD τ) (ms0_0 t) fullShare (iblk m c 0 t) ∗ owns (c : Thread nD τ) (ms0_1 t) fullShare (iblk m c 1 t) ∗ owns (c : Thread nD τ) (ms0_3 t) fullShare (iblk m c 3 t) ∗ owns (c : Thread nD τ) (ms0_4 t) fullShare (iblk m c 4 t) ∗ owns (c : Thread nD τ) (ms0_5 t) fullShare (iblk m c 5 t) ∗ (∃ d, owns (c : Thread nD τ) (ms0_6 t) fullShare (d)) ∗ (∃ d, owns (c : Thread nD τ) (ms0_7 t) fullShare (d)) ∗ (∃ d, owns (c : Thread nD τ) (ms0_8 t) fullShare (d)) ∗ (∃ d, owns (c : Thread nD τ) scM0_0 fullShare d) ∗ P ∗ owes (c : Thread nD τ) 0 W
        ∗ (iprop(owns (c : Thread nD τ) (ms0_0 t) fullShare (iblk m c 0 t) ∗ owns (c : Thread nD τ) (ms0_1 t) fullShare (iblk m c 1 t) ∗ owns (c : Thread nD τ) (ms0_3 t) fullShare (iblk m c 3 t) ∗ owns (c : Thread nD τ) (ms0_4 t) fullShare (iblk m c 4 t) ∗ owns (c : Thread nD τ) (ms0_5 t) fullShare (iblk m c 5 t) ∗ owns (c : Thread nD τ) (ms0_6 t) fullShare (pAt m c t) ∗ owns (c : Thread nD τ) (ms0_7 t) fullShare ((rowHead m c t).2.1) ∗ owns (c : Thread nD τ) (ms0_8 t) fullShare ((rowHead m c t).2.2.1) ∗ owns (c : Thread nD τ) scM0_0 fullShare (rowHead m c t).2.2.2 ∗ Q ∗ (∃ W', owes (c : Thread nD τ) 0 W')) -∗ K ⟨⟩))
      ⊢ wp frame (wpE (defs₀ (F := F)) Variants.none c none) Set.univ (bodyAt0 t) K) :
    bodyPre m c t ⊢ wp frame (wpE (defs₀ (F := F)) Variants.none c none) Set.univ (bodyAt0 t) (fun _ => bodyPost m c t) := by
  unfold bodyPre bodyPost
  simp only [before0_0, before0_1, before0_2, before0_3, before0_4, before0_5]
  rw [PhiR_castSucc m c t, PhiR_succ m c t]
  unfold Dat.owesAt Pipeline.owesWithin
  rw [show (dats m 0 c).owed t.castSucc = 0 from rfl, show (dats m 0 c).owed t.succ = 0 from rfl]
  unfold PhiR
  rw [leaves0_0, leaves0_1, leaves0_2, leaves0_3, leaves0_4, leaves0_5, leaves0_6, leaves0_7_first m c t h, leaves0_8_first m c t h, hAt_first m c t.val h]
  iintro ⟨⟨HS, Hg, Hx, Hw⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  ihave HPR := hin $$ [Hx Hw]
  · isplitl [Hx]; · iexact Hx
    iexact Hw
  icases HPR with ⟨HP, HR⟩
  iapply (hrun W _)
  isplitl [H0]; · iexact H0
  isplitl [H1]; · iexact H1
  isplitl [H3]; · iexact H3
  isplitl [H4]; · iexact H4
  isplitl [H5]; · iexact H5
  isplitl [H6]; · iexists _; iexact H6
  isplitl [H7]; · iexists _; iexact H7
  isplitl [H8]; · iexists _; iexact H8
  isplitl [HS]; · iexact HS
  isplitl [HP]; · iexact HP
  isplitl [HW]; · iexact HW
  iintro ⟨H0, H1, H3, H4, H5, H6, H7, H8, HS, HQ, ⟨%W', HW'⟩⟩
  isplitl [HS Hg HQ HR]
  · isplitl [HS]; · iapply (hAt_next m c t); iexact HS
    isplitl [Hg]; · iexact Hg
    iapply hout
    isplitl [HQ]; · iexact HQ
    iexact HR
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

end Cert.Kernel2Ideal.Gen

end
-- ==== Proof.IFrame.lean ====
module

public import proofs.«01_k».proof.Proof.IBody
public import Idealize.ShloMosaic.Lib.Pipeline.FrameBody
public import Idealize.ShloMosaic.Lib.Ring
public import Idealize.ShloMosaic.Lib.Claim
public import Idealize.ShloMosaic.Lib.Tactic
public import Idealize.ShloMosaic.Lib.WordCmp

@[expose] public section

set_option maxRecDepth 16384

noncomputable section

namespace Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
/-! ## The rings at each kind of point -/

/-- Weight chunk `k` on its way into its slot; that slot free. -/
abbrev wFl (c : Dev nD) (k : ℕ) : sProp 𝕄 := Ring.inflight (flightW0_1 c (V m c main_v4)) (Ring.sl 3 k) (Ring.bk 5 k)
abbrev wFr (c : Dev nD) (k : ℕ) : sProp 𝕄 := Ring.free (cellP0_1 c) (slotW0_1 c (V m c main_v4)) (Ring.sl 3 k)
/-- Row block `r` on its way into its slot; that slot free. -/
abbrev xFl (c : Dev nD) (r : ℕ) : sProp 𝕄 := Ring.inflight (flightW0_0 c (V m c main_v0)) (Ring.sl 2 r) (Ring.bk 32 r)
abbrev xFr (c : Dev nD) (r : ℕ) : sProp 𝕄 := Ring.free (cellP0_0 c) (slotW0_0 c (V m c main_v0)) (Ring.sl 2 r)
theorem wFr_turn (c : Dev nD) (k : ℕ) : wFr m c (k + 3) = wFr m c k := by unfold wFr; rw [Ring.sl_add]
theorem xFr_turn (c : Dev nD) (r : ℕ) : xFr m c (r + 2) = xFr m c r := by unfold xFr; rw [Ring.sl_add]

/-- The weight ring's three slots, by how many of them are filling. -/
theorem wAt_two (c : Dev nD) (t k : ℕ) (hk : chunk t = k) (h : 0 < t ∧ t % 6 ≤ 3 ∧ t < 192) :
    wAt m c t = iprop(wFl m c k ∗ wFl m c (k + 1) ∗ wFr m c (k + 2)) := by
  subst hk; unfold wAt
  rw [wSlot_on, wSlot_on, wSlot_off] <;> (unfold started chunk; rw [if_neg (by omega)]; omega)
theorem wAt_one (c : Dev nD) (t k : ℕ) (hk : chunk t = k) (h : 4 ≤ t % 6 ∧ t < 191) :
    wAt m c t = iprop(wFl m c k ∗ wFr m c (k + 1) ∗ wFr m c (k + 2)) := by
  subst hk; unfold wAt
  rw [wSlot_on, wSlot_off, wSlot_off] <;> (unfold started chunk; rw [if_neg (by omega)]; omega)
theorem wAt_none (c : Dev nD) (t k : ℕ) (hk : chunk t = k) (h : t = 0 ∨ t = 191 ∨ t = 192) :
    wAt m c t = iprop(wFr m c k ∗ wFr m c (k + 1) ∗ wFr m c (k + 2)) := by
  subst hk; unfold wAt
  rw [wSlot_off, wSlot_off, wSlot_off] <;> (rcases h with h | h | h <;> subst h <;> decide)

/-- The ring of row blocks: both slots free, its own row on the way, or the next. -/
theorem xAt_none (c : Dev nD) (t r : ℕ) (hr : row t = r) (h : t = 0 ∨ t = 192 ∨ t % 6 = 1 ∨ (187 ≤ t ∧ t < 192)) : xAt m c t = iprop(xFr m c r ∗ xFr m c (r + 1)) := by
  subst hr; unfold xAt xSlot; rw [decide_eq_false (by omega), decide_eq_false (by omega)]; rfl
theorem xAt_here (c : Dev nD) (t r : ℕ) (hr : row t = r) (h : t % 6 = 0 ∧ 0 < t ∧ t < 192) : xAt m c t = iprop(xFl m c r ∗ xFr m c (r + 1)) := by
  subst hr; unfold xAt xSlot; rw [decide_eq_true h, decide_eq_false (by omega)]; rfl
theorem xAt_next (c : Dev nD) (t r : ℕ) (hr : row t = r) (h : 2 ≤ t % 6 ∧ t < 186) : xAt m c t = iprop(xFr m c r ∗ xFl m c (r + 1)) := by
  subst hr; unfold xAt xSlot; rw [decide_eq_true h, decide_eq_false (by omega)]; rfl
theorem xAt_same (c : Dev nD) (t : ℕ) (h : t % 6 = 2 ∨ t % 6 = 3 ∨ t % 6 = 4 ∨ t = 187) : xAt m c (t + 1) = xAt m c t := by
  by_cases h' : t < 186
  · rw [xAt_next m c (t + 1) (row t) (by unfold row; omega) (by omega), xAt_next m c t (row t) rfl (by omega)]
  · by_cases hN : t < 191
    · rw [xAt_none m c (t + 1) (row t) (by unfold row; omega) (by omega)]
      by_cases h6 : 187 ≤ t
      · rw [xAt_none m c t (row t) rfl (by omega)]
      · exfalso; omega
    · unfold xAt xSlot row
      rw [decide_eq_false (by omega), decide_eq_false (by omega), decide_eq_false (by omega), decide_eq_false (by omega), show (t + 1) / 6 = t / 6 by omega]

set_option maxHeartbeats 3200000 in
/-- The first point. -/
theorem bodyA (c : Dev nD) (t : Fin cfg0.N) (h : t.val = 0) :
    bodyPre m c t ⊢ wp frame (wpE (defs₀ (F := F)) Variants.none c none) Set.univ (bodyAt0 t) (fun _ => bodyPost m c t) := by
  have hN : t.val < 192 := lt_of_lt_of_eq t.isLt N_0
  refine body_first m c t (by omega) iprop(wFr m c (chunk t.val) ∗ wFr m c (chunk (t.val + 1)) ∗ wFr m c (chunk (t.val + 2)) ∗ xFr m c (row t.val)) iprop(wFr m c (chunk t.val) ∗ wFl m c (chunk (t.val + 1)) ∗ wFl m c (chunk (t.val + 2)) ∗ xFr m c (row t.val)) iprop(xFr m c (row t.val + 1)) ?_ ?_ ?_
  · rw [show chunk (t.val + 1) = chunk t.val + 1 by unfold chunk; omega, show chunk (t.val + 2) = chunk t.val + 2 by unfold chunk; omega, xAt_none m c t.val _ rfl (by omega), wAt_none m c t.val _ rfl (by omega)]
    iintro ⟨⟨hfr0, hfr1⟩, ⟨hfk0, hfk1, hfk2⟩⟩
    isplitl [hfk0 hfk1 hfk2 hfr0]
    · isplitl [hfk0]; · iexact hfk0
      isplitl [hfk1]; · iexact hfk1
      isplitl [hfk2]; · iexact hfk2
      iexact hfr0
    iexact hfr1
  · rw [show chunk (t.val + 1) = chunk t.val + 1 by unfold chunk; omega, show chunk (t.val + 2) = chunk t.val + 2 by unfold chunk; omega, xAt_none m c (t.val + 1) (row t.val) (by unfold row; omega) (by omega), wAt_two m c (t.val + 1) (chunk t.val + 1) (by unfold chunk; omega) (by omega), show chunk t.val + 1 + 1 = chunk t.val + 2 from rfl, show chunk t.val + 1 + 2 = chunk t.val + 3 from rfl, wFr_turn]
    iintro ⟨⟨hfk0, hlk1, hlk2, hfr0⟩, hfr1⟩
    isplitl [hfr0 hfr1]
    · isplitl [hfr0]; · iexact hfr0
      iexact hfr1
    isplitl [hlk1]; · iexact hlk1
    isplitl [hlk2]; · iexact hlk2
    iexact hfk0
  · intro W K
    iintro ⟨H0, H1, H3, H4, H5, H6, H7, H8, HS, ⟨hfk0, hfk1, hfk2, hfr0⟩, HW, Hk⟩
    have hrun := (stepA m c t h).2.2.2.2 W K
    iapply hrun
    isplitl [H0]; · iexact H0
    isplitl [H1]; · iexact H1
    isplitl [H3]; · iexact H3
    isplitl [H4]; · iexact H4
    isplitl [H5]; · iexact H5
    isplitl [H6]; · iexact H6
    isplitl [H7]; · iexact H7
    isplitl [H8]; · iexact H8
    isplitl [HS]; · iexact HS
    isplitl [hfk0]; · iexact hfk0
    isplitl [hfk1]; · iexact hfk1
    isplitl [hfk2]; · iexact hfk2
    isplitl [hfr0]; · iexact hfr0
    isplitl [HW]; · iexact HW
    iintro ⟨H0, H1, H3, H4, H5, H6, H7, H8, HS, hfk0, hlk1, hlk2, hfr0, HW⟩
    iapply Hk
    isplitl [H0]; · iexact H0
    isplitl [H1]; · iexact H1
    isplitl [H3]; · iexact H3
    isplitl [H4]; · iexact H4
    isplitl [H5]; · iexact H5
    isplitl [H6]
    · rw [pAt_first m c t (by omega), head_A m c t h]; iapply (owns_of_cover c _ VO0_6 _ (coverA_10 m c t h)); iexact H6
    isplitl [H7]
    · rw [rowHead_start m c t (by omega), head_A m c t h]; iapply (owns_of_cover c _ VO0_7 _ (coverA_11 m c t h)); iexact H7
    isplitl [H8]
    · rw [rowHead_start m c t (by omega), head_A m c t h]; iapply (owns_of_cover c _ VO0_8 _ (coverA_12 m c t h)); iexact H8
    isplitl [HS]
    · rw [rowHead_start m c t (by omega), head_A m c t h]; iapply (owns_of_cover c _ VO0_h _ (coverA_13 m c t h)); iexact HS
    isplitl [hfk0 hlk1 hlk2 hfr0]
    · isplitl [hfk0]; · iexact hfk0
      isplitl [hlk1]; · iexact hlk1
      isplitl [hlk2]; · iexact hlk2
      iexact hfr0
    iexact HW

set_option maxHeartbeats 3200000 in
/-- A later row's first point. -/
theorem bodyB (c : Dev nD) (t : Fin cfg0.N) (h : 0 < t.val ∧ t.val % 6 = 0) :
    bodyPre m c t ⊢ wp frame (wpE (defs₀ (F := F)) Variants.none c none) Set.univ (bodyAt0 t) (fun _ => bodyPost m c t) := by
  have hN : t.val < 192 := lt_of_lt_of_eq t.isLt N_0
  refine body_first m c t (by omega) iprop(wFl m c (chunk t.val) ∗ wFr m c (chunk (t.val + 2)) ∗ xFl m c (row t.val)) iprop(wFr m c (chunk t.val) ∗ wFl m c (chunk (t.val + 2)) ∗ xFr m c (row t.val)) iprop(wFl m c (chunk t.val + 1) ∗ xFr m c (row t.val + 1)) ?_ ?_ ?_
  · rw [show chunk (t.val + 2) = chunk t.val + 2 by unfold chunk; omega, xAt_here m c t.val _ rfl (by omega), wAt_two m c t.val _ rfl (by omega)]
    iintro ⟨⟨hlr0, hfr1⟩, ⟨hlk0, hlk1, hfk2⟩⟩
    isplitl [hlk0 hfk2 hlr0]
    · isplitl [hlk0]; · iexact hlk0
      isplitl [hfk2]; · iexact hfk2
      iexact hlr0
    isplitl [hlk1]; · iexact hlk1
    iexact hfr1
  · rw [show chunk (t.val + 2) = chunk t.val + 2 by unfold chunk; omega, xAt_none m c (t.val + 1) (row t.val) (by unfold row; omega) (by omega), wAt_two m c (t.val + 1) (chunk t.val + 1) (by unfold chunk; omega) (by omega), show chunk t.val + 1 + 1 = chunk t.val + 2 from rfl, show chunk t.val + 1 + 2 = chunk t.val + 3 from rfl, wFr_turn]
    iintro ⟨⟨hfk0, hlk2, hfr0⟩, ⟨hlk1, hfr1⟩⟩
    isplitl [hfr0 hfr1]
    · isplitl [hfr0]; · iexact hfr0
      iexact hfr1
    isplitl [hlk1]; · iexact hlk1
    isplitl [hlk2]; · iexact hlk2
    iexact hfk0
  · intro W K
    iintro ⟨H0, H1, H3, H4, H5, H6, H7, H8, HS, ⟨hlk0, hfk2, hlr0⟩, HW, Hk⟩
    have hrun := (stepB m c t h).2.2.2.2 W K
    iapply hrun
    isplitl [H0]; · iexact H0
    isplitl [H1]; · iexact H1
    isplitl [H3]; · iexact H3
    isplitl [H4]; · iexact H4
    isplitl [H5]; · iexact H5
    isplitl [H6]; · iexact H6
    isplitl [H7]; · iexact H7
    isplitl [H8]; · iexact H8
    isplitl [HS]; · iexact HS
    isplitl [hlk0]; · iexact hlk0
    isplitl [hfk2]; · iexact hfk2
    isplitl [hlr0]; · iexact hlr0
    isplitl [HW]; · iexact HW
    iintro ⟨H0, H1, H3, H4, H5, H6, H7, H8, HS, hfk0, hlk2, hfr0, HW⟩
    iapply Hk
    isplitl [H0]; · iexact H0
    isplitl [H1]; · iexact H1
    isplitl [H3]; · iexact H3
    isplitl [H4]; · iexact H4
    isplitl [H5]; · iexact H5
    isplitl [H6]
    · rw [pAt_first m c t (by omega), head_B m c t h]; iapply (owns_of_cover c _ VO0_6 _ (coverB_10 m c t h)); iexact H6
    isplitl [H7]
    · rw [rowHead_start m c t (by omega), head_B m c t h]; iapply (owns_of_cover c _ VO0_7 _ (coverB_11 m c t h)); iexact H7
    isplitl [H8]
    · rw [rowHead_start m c t (by omega), head_B m c t h]; iapply (owns_of_cover c _ VO0_8 _ (coverB_12 m c t h)); iexact H8
    isplitl [HS]
    · rw [rowHead_start m c t (by omega), head_B m c t h]; iapply (owns_of_cover c _ VO0_h _ (coverB_13 m c t h)); iexact HS
    isplitl [hfk0 hlk2 hfr0]
    · isplitl [hfk0]; · iexact hfk0
      isplitl [hlk2]; · iexact hlk2
      iexact hfr0
    iexact HW

/-- A row's second point. -/
theorem bodyC (c : Dev nD) (t : Fin cfg0.N) (h : t.val % 6 = 1 ∧ t.val < 186) :
    bodyPre m c t ⊢ wp frame (wpE (defs₀ (F := F)) Variants.none c none) Set.univ (bodyAt0 t) (fun _ => bodyPost m c t) := by
  have hN : t.val < 192 := lt_of_lt_of_eq t.isLt N_0
  refine body_later m c t (by omega) iprop(wFl m c (chunk t.val) ∗ wFr m c (chunk (t.val + 2)) ∗ xFr m c (row t.val + 1)) iprop(wFr m c (chunk t.val) ∗ wFl m c (chunk (t.val + 2)) ∗ xFl m c (row t.val + 1)) iprop(wFl m c (chunk t.val + 1) ∗ xFr m c (row t.val)) ?_ ?_ ?_
  · rw [show chunk (t.val + 2) = chunk t.val + 2 by unfold chunk; omega, xAt_none m c t.val _ rfl (by omega), wAt_two m c t.val _ rfl (by omega)]
    iintro ⟨⟨hfr0, hfr1⟩, ⟨hlk0, hlk1, hfk2⟩⟩
    isplitl [hlk0 hfk2 hfr1]
    · isplitl [hlk0]; · iexact hlk0
      isplitl [hfk2]; · iexact hfk2
      iexact hfr1
    isplitl [hlk1]; · iexact hlk1
    iexact hfr0
  · rw [show chunk (t.val + 2) = chunk t.val + 2 by unfold chunk; omega, xAt_next m c (t.val + 1) (row t.val) (by unfold row; omega) (by omega), wAt_two m c (t.val + 1) (chunk t.val + 1) (by unfold chunk; omega) (by omega), show chunk t.val + 1 + 1 = chunk t.val + 2 from rfl, show chunk t.val + 1 + 2 = chunk t.val + 3 from rfl, wFr_turn]
    iintro ⟨⟨hfk0, hlk2, hlr1⟩, ⟨hlk1, hfr0⟩⟩
    isplitl [hfr0 hlr1]
    · isplitl [hfr0]; · iexact hfr0
      iexact hlr1
    isplitl [hlk1]; · iexact hlk1
    isplitl [hlk2]; · iexact hlk2
    iexact hfk0
  · intro W K
    iintro ⟨H2, HS, H6, ⟨hlk0, hfk2, hfr1⟩, HW, Hk⟩
    have hrun := (stepC m c t h (rowHead m c t).2.2.2).2 W K
    iapply hrun
    isplitl [HS]; · iexact HS
    isplitl [H6]; · iexact H6
    isplitl [hlk0]; · iexact hlk0
    isplitl [hfk2]; · iexact hfk2
    isplitl [hfr1]; · iexact hfr1
    isplitl [HW]; · iexact HW
    iintro ⟨HS, H6, hfk0, hlk2, hlr1, HW⟩
    iapply Hk
    isplitl [H2]; · iexact H2
    isplitl [HS]; · iexact HS
    isplitl [H6]; · rw [pAt_C m c t h]; iapply (owns_of_cover c _ VO0_6 _ (coverC_10 m c t h _)); iexact H6
    isplitl [hfk0 hlk2 hlr1]
    · isplitl [hfk0]; · iexact hfk0
      isplitl [hlk2]; · iexact hlk2
      iexact hlr1
    iexact HW

/-- A row's third point. -/
theorem bodyD (c : Dev nD) (t : Fin cfg0.N) (h : (t.val % 6 = 2 ∨ t.val = 187)) :
    bodyPre m c t ⊢ wp frame (wpE (defs₀ (F := F)) Variants.none c none) Set.univ (bodyAt0 t) (fun _ => bodyPost m c t) := by
  have hN : t.val < 192 := lt_of_lt_of_eq t.isLt N_0
  refine body_later m c t (by omega) iprop(wFl m c (chunk t.val) ∗ wFr m c (chunk (t.val + 2))) iprop(wFr m c (chunk t.val) ∗ wFl m c (chunk (t.val + 2))) iprop(wFl m c (chunk t.val + 1) ∗ xAt m c t.val) ?_ ?_ ?_
  · rw [show chunk (t.val + 2) = chunk t.val + 2 by unfold chunk; omega, wAt_two m c t.val _ rfl (by omega)]
    iintro ⟨hX, ⟨hlk0, hlk1, hfk2⟩⟩
    isplitl [hlk0 hfk2]
    · isplitl [hlk0]; · iexact hlk0
      iexact hfk2
    isplitl [hlk1]; · iexact hlk1
    iexact hX
  · rw [show chunk (t.val + 2) = chunk t.val + 2 by unfold chunk; omega, xAt_same m c t.val (by omega), wAt_two m c (t.val + 1) (chunk t.val + 1) (by unfold chunk; omega) (by omega), show chunk t.val + 1 + 1 = chunk t.val + 2 from rfl, show chunk t.val + 1 + 2 = chunk t.val + 3 from rfl, wFr_turn]
    iintro ⟨⟨hfk0, hlk2⟩, ⟨hlk1, hX⟩⟩
    isplitl [hX]
    · iexact hX
    isplitl [hlk1]; · iexact hlk1
    isplitl [hlk2]; · iexact hlk2
    iexact hfk0
  · intro W K
    iintro ⟨H2, HS, H6, ⟨hlk0, hfk2⟩, HW, Hk⟩
    have hrun := (stepD m c t h (rowHead m c t).2.2.2).2 W K
    iapply hrun
    isplitl [HS]; · iexact HS
    isplitl [H6]; · iexact H6
    isplitl [hlk0]; · iexact hlk0
    isplitl [hfk2]; · iexact hfk2
    isplitl [HW]; · iexact HW
    iintro ⟨HS, H6, hfk0, hlk2, HW⟩
    iapply Hk
    isplitl [H2]; · iexact H2
    isplitl [HS]; · iexact HS
    isplitl [H6]; · rw [pAt_D m c t h]; iapply (owns_of_cover c _ VO0_6 _ (coverD_10 m c t h _)); iexact H6
    isplitl [hfk0 hlk2]
    · isplitl [hfk0]; · iexact hfk0
      iexact hlk2
    iexact HW

/-- A row's fourth point. -/
theorem bodyE (c : Dev nD) (t : Fin cfg0.N) (h : t.val % 6 = 3) :
    bodyPre m c t ⊢ wp frame (wpE (defs₀ (F := F)) Variants.none c none) Set.univ (bodyAt0 t) (fun _ => bodyPost m c t) := by
  have hN : t.val < 192 := lt_of_lt_of_eq t.isLt N_0
  refine body_later m c t (by omega) iprop(wFl m c (chunk t.val)) iprop(wFr m c (chunk t.val)) iprop(wFl m c (chunk t.val + 1) ∗ wFr m c (chunk t.val + 2) ∗ xAt m c t.val) ?_ ?_ ?_
  · rw [wAt_two m c t.val _ rfl (by omega)]
    iintro ⟨hX, ⟨hlk0, hlk1, hfk2⟩⟩
    isplitl [hlk0]
    · iexact hlk0
    isplitl [hlk1]; · iexact hlk1
    isplitl [hfk2]; · iexact hfk2
    iexact hX
  · rw [xAt_same m c t.val (by omega), wAt_one m c (t.val + 1) (chunk t.val + 1) (by unfold chunk; omega) (by omega), show chunk t.val + 1 + 1 = chunk t.val + 2 from rfl, show chunk t.val + 1 + 2 = chunk t.val + 3 from rfl, wFr_turn]
    iintro ⟨hfk0, ⟨hlk1, hfk2, hX⟩⟩
    isplitl [hX]
    · iexact hX
    isplitl [hlk1]; · iexact hlk1
    isplitl [hfk2]; · iexact hfk2
    iexact hfk0
  · intro W K
    iintro ⟨H2, HS, H6, hlk0, HW, Hk⟩
    have hrun := (stepE m c t h (rowHead m c t).2.2.2).2 W K
    iapply hrun
    isplitl [HS]; · iexact HS
    isplitl [H6]; · iexact H6
    isplitl [hlk0]; · iexact hlk0
    isplitl [HW]; · iexact HW
    iintro ⟨HS, H6, hfk0, HW⟩
    iapply Hk
    isplitl [H2]; · iexact H2
    isplitl [HS]; · iexact HS
    isplitl [H6]; · rw [pAt_E m c t h]; iapply (owns_of_cover c _ VO0_6 _ (coverE_10 m c t h _)); iexact H6
    isplitl [hfk0]
    · iexact hfk0
    iexact HW

/-- A row's fifth point. -/
theorem bodyF (c : Dev nD) (t : Fin cfg0.N) (h : t.val % 6 = 4 ∧ t.val < 190) :
    bodyPre m c t ⊢ wp frame (wpE (defs₀ (F := F)) Variants.none c none) Set.univ (bodyAt0 t) (fun _ => bodyPost m c t) := by
  have hN : t.val < 192 := lt_of_lt_of_eq t.isLt N_0
  refine body_later m c t (by omega) iprop(wFl m c (chunk t.val) ∗ wFr m c (chunk (t.val + 2))) iprop(wFr m c (chunk t.val) ∗ wFl m c (chunk (t.val + 2))) iprop(wFr m c (chunk t.val + 2) ∗ xAt m c t.val) ?_ ?_ ?_
  · rw [show chunk (t.val + 2) = chunk t.val + 1 by unfold chunk; omega, wAt_one m c t.val _ rfl (by omega)]
    iintro ⟨hX, ⟨hlk0, hfk1, hfk2⟩⟩
    isplitl [hlk0 hfk1]
    · isplitl [hlk0]; · iexact hlk0
      iexact hfk1
    isplitl [hfk2]; · iexact hfk2
    iexact hX
  · rw [show chunk (t.val + 2) = chunk t.val + 1 by unfold chunk; omega, xAt_same m c t.val (by omega), wAt_one m c (t.val + 1) (chunk t.val + 1) (by unfold chunk; omega) (by omega), show chunk t.val + 1 + 1 = chunk t.val + 2 from rfl, show chunk t.val + 1 + 2 = chunk t.val + 3 from rfl, wFr_turn]
    iintro ⟨⟨hfk0, hlk1⟩, ⟨hfk2, hX⟩⟩
    isplitl [hX]
    · iexact hX
    isplitl [hlk1]; · iexact hlk1
    isplitl [hfk2]; · iexact hfk2
    iexact hfk0
  · intro W K
    iintro ⟨H2, HS, H6, ⟨hlk0, hfk1⟩, HW, Hk⟩
    have hrun := (stepF m c t h (rowHead m c t).2.2.2).2 W K
    iapply hrun
    isplitl [H2]; · iexact H2
    isplitl [HS]; · iexact HS
    isplitl [H6]; · iexact H6
    isplitl [hlk0]; · iexact hlk0
    isplitl [hfk1]; · iexact hfk1
    isplitl [HW]; · iexact HW
    iintro ⟨H2, HS, H6, hfk0, hlk1, HW⟩
    iapply Hk
    isplitl [H2]; · iexact H2
    isplitl [HS]; · iexact HS
    isplitl [H6]; · rw [pAt_F m c t h]; iapply (owns_of_cover c _ VO0_6 _ (coverF_10 m c t h _)); iexact H6
    isplitl [hfk0 hlk1]
    · isplitl [hfk0]; · iexact hfk0
      iexact hlk1
    iexact HW

/-- The last row's fifth point. -/
theorem bodyH (c : Dev nD) (t : Fin cfg0.N) (h : t.val = 190) :
    bodyPre m c t ⊢ wp frame (wpE (defs₀ (F := F)) Variants.none c none) Set.univ (bodyAt0 t) (fun _ => bodyPost m c t) := by
  have hN : t.val < 192 := lt_of_lt_of_eq t.isLt N_0
  refine body_later m c t (by omega) iprop(wFl m c (chunk t.val)) iprop(wFr m c (chunk t.val)) iprop(wFr m c (chunk t.val + 1) ∗ wFr m c (chunk t.val + 2) ∗ xAt m c t.val) ?_ ?_ ?_
  · rw [wAt_one m c t.val _ rfl (by omega)]
    iintro ⟨hX, ⟨hlk0, hfk1, hfk2⟩⟩
    isplitl [hlk0]
    · iexact hlk0
    isplitl [hfk1]; · iexact hfk1
    isplitl [hfk2]; · iexact hfk2
    iexact hX
  · rw [xAt_same m c t.val (by omega), wAt_none m c (t.val + 1) (chunk t.val + 1) (by unfold chunk; omega) (by omega), show chunk t.val + 1 + 1 = chunk t.val + 2 from rfl, show chunk t.val + 1 + 2 = chunk t.val + 3 from rfl, wFr_turn]
    iintro ⟨hfk0, ⟨hfk1, hfk2, hX⟩⟩
    isplitl [hX]
    · iexact hX
    isplitl [hfk1]; · iexact hfk1
    isplitl [hfk2]; · iexact hfk2
    iexact hfk0
  · intro W K
    iintro ⟨H2, HS, H6, hlk0, HW, Hk⟩
    have hrun := (stepH m c t h (rowHead m c t).2.2.2).2 W K
    iapply hrun
    isplitl [H2]; · iexact H2
    isplitl [HS]; · iexact HS
    isplitl [H6]; · iexact H6
    isplitl [hlk0]; · iexact hlk0
    isplitl [HW]; · iexact HW
    iintro ⟨H2, HS, H6, hfk0, HW⟩
    iapply Hk
    isplitl [H2]; · iexact H2
    isplitl [HS]; · iexact HS
    isplitl [H6]; · rw [pAt_H m c t h]; iapply (owns_of_cover c _ VO0_6 _ (coverH_10 m c t h _)); iexact H6
    isplitl [hfk0]
    · iexact hfk0
    iexact HW

/-- A row's last point. -/
theorem bodyG (c : Dev nD) (t : Fin cfg0.N) (h : t.val % 6 = 5 ∧ t.val < 191) :
    bodyPre m c t ⊢ wp frame (wpE (defs₀ (F := F)) Variants.none c none) Set.univ (bodyAt0 t) (fun _ => bodyPost m c t) := by
  have hN : t.val < 192 := lt_of_lt_of_eq t.isLt N_0
  refine body_later m c t (by omega) iprop(wFr m c (chunk (t.val + 2))) iprop(wFl m c (chunk (t.val + 2))) iprop(wFl m c (chunk t.val) ∗ wFr m c (chunk t.val + 2) ∗ xFr m c (row t.val) ∗ xFl m c (row t.val + 1)) ?_ ?_ ?_
  · rw [show chunk (t.val + 2) = chunk t.val + 1 by unfold chunk; omega, xAt_next m c t.val _ rfl (by omega), wAt_one m c t.val _ rfl (by omega)]
    iintro ⟨⟨hfr0, hlr1⟩, ⟨hlk0, hfk1, hfk2⟩⟩
    isplitl [hfk1]
    · iexact hfk1
    isplitl [hlk0]; · iexact hlk0
    isplitl [hfk2]; · iexact hfk2
    isplitl [hfr0]; · iexact hfr0
    iexact hlr1
  · rw [show chunk (t.val + 2) = chunk t.val + 1 by unfold chunk; omega, xAt_here m c (t.val + 1) (row t.val + 1) (by unfold row; omega) (by omega), show row t.val + 1 + 1 = row t.val + 2 from rfl, xFr_turn, wAt_two m c (t.val + 1) (chunk t.val) (by unfold chunk; omega) (by omega)]
    iintro ⟨hlk1, ⟨hlk0, hfk2, hfr0, hlr1⟩⟩
    isplitl [hlr1 hfr0]
    · isplitl [hlr1]; · iexact hlr1
      iexact hfr0
    isplitl [hlk0]; · iexact hlk0
    isplitl [hlk1]; · iexact hlk1
    iexact hfk2
  · intro W K
    iintro ⟨H2, HS, H6, hfk1, HW, Hk⟩
    have hrun := (stepG m c t h (rowHead m c t).2.2.2).2 W K
    iapply hrun
    isplitl [H2]; · iexact H2
    isplitl [HS]; · iexact HS
    isplitl [H6]; · iexact H6
    isplitl [hfk1]; · iexact hfk1
    isplitl [HW]; · iexact HW
    iintro ⟨H2, HS, H6, hlk1, HW⟩
    iapply Hk
    isplitl [H2]; · iexact H2
    isplitl [HS]; · iexact HS
    isplitl [H6]; · rw [pAt_G m c t h]; iapply (owns_of_cover c _ VO0_6 _ (coverG_10 m c t h _)); iexact H6
    isplitl [hlk1]
    · iexact hlk1
    iexact HW

/-- The last point. -/
theorem bodyI (c : Dev nD) (t : Fin cfg0.N) (h : t.val = 191) :
    bodyPre m c t ⊢ wp frame (wpE (defs₀ (F := F)) Variants.none c none) Set.univ (bodyAt0 t) (fun _ => bodyPost m c t) := by
  have hN : t.val < 192 := lt_of_lt_of_eq t.isLt N_0
  refine body_later m c t (by omega) iprop(emp) iprop(emp) iprop(wFr m c (chunk t.val) ∗ wFr m c (chunk t.val + 1) ∗ wFr m c (chunk t.val + 2) ∗ xFr m c (row t.val) ∗ xFr m c (row t.val + 1)) ?_ ?_ ?_
  · rw [xAt_none m c t.val _ rfl (by omega), wAt_none m c t.val _ rfl (by omega)]
    iintro ⟨⟨hfr0, hfr1⟩, ⟨hfk0, hfk1, hfk2⟩⟩
    isplitr; · iempintro
    isplitl [hfk0]; · iexact hfk0
    isplitl [hfk1]; · iexact hfk1
    isplitl [hfk2]; · iexact hfk2
    isplitl [hfr0]; · iexact hfr0
    iexact hfr1
  · rw [xAt_none m c (t.val + 1) (row t.val + 1) (by unfold row; omega) (by omega), show row t.val + 1 + 1 = row t.val + 2 from rfl, xFr_turn, wAt_none m c (t.val + 1) (chunk t.val) (by unfold chunk; omega) (by omega)]
    iintro ⟨-, ⟨hfk0, hfk1, hfk2, hfr0, hfr1⟩⟩
    isplitl [hfr1 hfr0]
    · isplitl [hfr1]; · iexact hfr1
      iexact hfr0
    isplitl [hfk0]; · iexact hfk0
    isplitl [hfk1]; · iexact hfk1
    iexact hfk2
  · intro W K
    iintro ⟨H2, HS, H6, -, HW, Hk⟩
    have hrun := (stepI m c t h (rowHead m c t).2.2.2).2 W K
    iapply hrun
    isplitl [H2]; · iexact H2
    isplitl [HS]; · iexact HS
    isplitl [H6]; · iexact H6
    isplitl [HW]; · iexact HW
    iintro ⟨H2, HS, H6, HW⟩
    iapply Hk
    isplitl [H2]; · iexact H2
    isplitl [HS]; · iexact HS
    isplitl [H6]; · rw [pAt_I m c t h]; iapply (owns_of_cover c _ VO0_6 _ (coverI_10 m c t h _)); iexact H6
    isplitr; · iempintro
    iexact HW

/-- The body at every point. -/
theorem sound_body (c : Dev nD) (t : Fin cfg0.N) :
    bodyPre m c t ⊢ wp frame (wpE (defs₀ (F := F)) Variants.none c none) Set.univ (bodyAt0 t) (fun _ => bodyPost m c t) := by
  have hN : t.val < 192 := lt_of_lt_of_eq t.isLt N_0
  by_cases hA : t.val = 0
  · exact bodyA m c t hA
  by_cases hB : t.val % 6 = 0
  · exact bodyB m c t (by omega)
  by_cases hC : t.val % 6 = 1 ∧ t.val < 186
  · exact bodyC m c t hC
  by_cases hD : t.val % 6 = 2 ∨ t.val = 187
  · exact bodyD m c t hD
  by_cases hE : t.val % 6 = 3
  · exact bodyE m c t hE
  by_cases hF : t.val % 6 = 4 ∧ t.val < 190
  · exact bodyF m c t hF
  by_cases hH : t.val = 190
  · exact bodyH m c t hH
  by_cases hG : t.val % 6 = 5 ∧ t.val < 191
  · exact bodyG m c t hG
  exact bodyI m c t (by omega)

/-! ## The launch -/

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region makes both rings, every slot free, -/
theorem rings_in (c : Dev nD) : Pipeline.ΦD osem0 spec0 H0 (V m) c ⊢ (dats m 0 c).Φ 0 := by
  rw [PhiD0_eq, show (dats m 0 c).Φ 0 = PhiR m c 0 from rfl]
  unfold PhiR
  rw [hAt_first m c 0 rfl, xAt_none m c 0 0 rfl (Or.inl rfl), wAt_none m c 0 0 rfl (Or.inl rfl)]
  unfold xFr wFr
  rw [show (Ring.sl 2 0) = 0 from rfl, show (Ring.sl 2 (0 + 1)) = 1 from rfl, show (Ring.sl 3 0) = 0 from rfl, show (Ring.sl 3 (0 + 1)) = 1 from rfl, show (Ring.sl 3 (0 + 2)) = 2 from rfl]
  simp only [Ring.free, cellP0_0_0, cellP0_0_1, cellP0_1_0, cellP0_1_1, cellP0_1_2]
  iintro ⟨⟨HS0, HR1, HR0⟩, Hg, ⟨Hq0, Hq1, Hq2, Hq3, Hq4⟩, ⟨Hh0, Hh1⟩⟩
  ihave HS' := (slots0_0_in (F := F) c) $$ HR0
  icases HS' with ⟨⟨%a0, Ha0⟩, ⟨%a1, Ha1⟩⟩
  ihave HW' := (whole0_0_split (F := F) c (V m c main_v0)).1 $$ Hh0
  icases HW' with ⟨Hu0, Hu1⟩
  ihave HS'' := (slots0_1_in (F := F) c) $$ HR1
  icases HS'' with ⟨⟨%b0, Hb0⟩, ⟨%b1, Hb1⟩, ⟨%b2, Hb2⟩⟩
  ihave HW'' := (whole0_1_split (F := F) c (V m c main_v4)).1 $$ Hh1
  icases HW'' with ⟨Hv0, Hv1, Hv2⟩
  isplitl [HS0]; · iexact HS0
  isplitl [Hg]; · iexact Hg
  isplitl [Hq3 Ha0 Hu0 Hq4 Ha1 Hu1]
  · isplitl [Hq3 Ha0 Hu0]
    · isplitl [Hq3]; · iexact Hq3
      iexists a0; isplitl [Ha0]; · iexact Ha0
      iexact Hu0
    isplitl [Hq4]; · iexact Hq4
    iexists a1; isplitl [Ha1]; · iexact Ha1
    iexact Hu1
  isplitl [Hq0 Hb0 Hv0]
  · isplitl [Hq0]; · iexact Hq0
    iexists b0; isplitl [Hb0]; · iexact Hb0
    iexact Hv0
  isplitl [Hq1 Hb1 Hv1]
  · isplitl [Hq1]; · iexact Hq1
    iexists b1; isplitl [Hb1]; · iexact Hb1
    iexact Hv1
  isplitl [Hq2]; · iexact Hq2
  iexists b2; isplitl [Hb2]; · iexact Hb2
  iexact Hv2

/-- and after the last point, every slot free again, it gets all of it back. -/
theorem rings_out (c : Dev nD) : (dats m 0 c).Φ (Fin.last cfg0.N) ⊢ Pipeline.ΦD osem0 spec0 H0 (V m) c := by
  rw [PhiD0_eq, show (dats m 0 c).Φ (Fin.last cfg0.N) = PhiR m c grid0.N from rfl, show grid0.N = 192 by rw [N_0]]
  unfold PhiR
  rw [hAt_first m c 192 rfl, xAt_none m c 192 32 rfl (by omega), wAt_none m c 192 160 rfl (by omega)]
  unfold xFr wFr
  rw [show (Ring.sl 2 32) = 0 from rfl, show (Ring.sl 2 (32 + 1)) = 1 from rfl, show (Ring.sl 3 160) = 1 from rfl, show (Ring.sl 3 (160 + 1)) = 2 from rfl, show (Ring.sl 3 (160 + 2)) = 0 from rfl]
  simp only [Ring.free, cellP0_0_0, cellP0_0_1, cellP0_1_0, cellP0_1_1, cellP0_1_2]
  iintro ⟨HS0, Hg, ⟨⟨Hq3, ⟨%a0, Ha0, Hu0⟩⟩, ⟨Hq4, ⟨%a1, Ha1, Hu1⟩⟩⟩, ⟨⟨Hq1, ⟨%b1, Hb1, Hv1⟩⟩, ⟨Hq2, ⟨%b2, Hb2, Hv2⟩⟩, ⟨Hq0, ⟨%b0, Hb0, Hv0⟩⟩⟩⟩
  isplitl [HS0 Ha0 Ha1 Hb0 Hb1 Hb2]
  · isplitl [HS0]; · iexact HS0
    isplitl [Hb0 Hb1 Hb2]
    · iapply (slots0_1_out (F := F) c); isplitl [Hb0]; · iexists b0; iexact Hb0
      isplitl [Hb1]; · iexists b1; iexact Hb1
      iexists b2; iexact Hb2
    iapply (slots0_0_out (F := F) c); isplitl [Ha0]; · iexists a0; iexact Ha0
    iexists a1; iexact Ha1
  isplitl [Hg]; · iexact Hg
  isplitl [Hq0 Hq1 Hq2 Hq3 Hq4]
  · isplitl [Hq0]; · iexact Hq0
    isplitl [Hq1]; · iexact Hq1
    isplitl [Hq2]; · iexact Hq2
    isplitl [Hq3]; · iexact Hq3
    iexact Hq4
  isplitl [Hu0 Hu1]
  · iapply (whole0_0_split (F := F) c (V m c main_v0)).2; isplitl [Hu0]; · iexact Hu0
    iexact Hu1
  iapply (whole0_1_split (F := F) c (V m c main_v4)).2; isplitl [Hv0]; · iexact Hv0
  isplitl [Hv1]; · iexact Hv1
  iexact Hv2

set_option backward.isDefEq.respectTransparency.types false in
/-- The launch: what every array ends at, and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m)
    (hin := rings_in m) (hout := rings_out m)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (frame_of m ρ (dats m) (A_eq m) (run_main m ρ)) ((θ_run defs _ _).mono (fun _ h => h.2) (run_main_quiescent m ρ))

end Cert.Kernel2Ideal.Gen

end
-- ==== Proof.Frames2.lean ====
/- The input projection's two programs and its reference run, and leave their arguments as they were. -/
module

public import Idealize.ShloMosaic.Lib.Quiescent
public import Idealize.ShloMosaic.Lib.Tactic
public import proofs.«01_k».proof.Defs
public import proofs.«01_k».proof.Proof.Gen.Kernel2
public import proofs.«01_k».proof.Proof.Gen.Kernel2Ideal
public import proofs.«01_k».proof.Proof.Gen.Reference2Ideal
public import proofs.«01_k».proof.Proof.Gen.Reference2Ideal.Run
public import proofs.«01_k».proof.Proof.IFrame

@[expose] public section

set_option maxRecDepth 16384

noncomputable section

namespace Frames2

open Idealize.ShloMosaic Idealize.ShloMosaic.TcCoe Idealize.SL.Sem

/-- The kernel over the machine's floats: its text is the ideal program's. -/
theorem same_text : Cert.quiescent_Kernel2 =
    ∀ (m : (ℓ : Loc Cert.Kernel2Ideal.nD Cert.Kernel2Ideal.τ Cert.Kernel2Ideal.sig) → Buf (Elt Bits) ℓ) (g : Dev Cert.Kernel2Ideal.nD → PrngReg), True →
      θ_run (Cert.Kernel2Ideal.defs (F := Bits)) (onTc (τ := Cert.Kernel2Ideal.τ) (Cert.Kernel2Ideal.main (F := Bits))) ⟨m, fun _ => 0, g⟩
        (fun r => (∀ c : Dev Cert.Kernel2Ideal.nD,
        r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0) := by
  sl_kernel_rfl

theorem kernel : Cert.quiescent_Kernel2 :=
  same_text.mpr fun m g _ => Cert.Kernel2Ideal.Gen.frame (F := Bits) m g

/-- The kernel over the extended reals. -/
theorem kernelIdeal : Cert.quiescent_Kernel2Ideal := fun m ρ _ => Cert.Kernel2Ideal.Gen.frame (F := Ideal) m ρ

/-- The reference. -/
theorem reference : Cert.quiescent_Reference2Ideal := fun m ρ _ =>
  (θ_run Cert.Reference2Ideal.defs _ _).mono (fun r h => ⟨fun c => (h c).2.2.2, sem_eq_zero_of_no_sems (by decide) r.2⟩)
    (Cert.Reference2Ideal.Value.run (F := Ideal) m ρ)

end Frames2

end

end
-- ==== Proof.Proj.lean ====
/- What the input projection computes, entry by entry: normalised, modulated rows times the weights, the columns of the
   queries and keys normalised over their head, the gates shifted by their biases. -/
module

public import Idealize.ShloMosaic.Lib.Pointwise

@[expose] public section

noncomputable section

namespace Proj

open Idealize.ShloMosaic

/-- The call's arguments, as functions of their positions. -/
structure Args where
  x : Fin 8 → Fin 4096 → Fin 1024 → EReal
  ada : Fin 8 → Fin 3072 → EReal
  nw : Fin 1024 → EReal
  w : Fin 1024 → Fin 11272 → EReal
  qw : Fin 128 → EReal
  kw : Fin 128 → EReal
  bi : Fin 4 → EReal
  bf : Fin 4 → EReal

/-- A vector's entry divided by the root of its mean square over `N` entries. -/
def unit {n : ℕ} (N : BitVec 32) (f : Fin n → EReal) (d : Fin n) : EReal :=
  f d * Ideal.rsqrt (Ideal.div (∑ e, f e * f e) (Ideal.ofBits FTy.f32 N) + Ideal.ofBits FTy.f32 0x358637BD#32)

variable (I : Args)

/-- The normalised, scaled and shifted row at time `s` of batch `b`. -/
def Args.hn (b : Fin 8) (s : Fin 4096) (k : Fin 1024) : EReal :=
  unit 0x44800000#32 (I.x b s) k * I.nw k * (1 + I.ada b ⟨1024 + k, by omega⟩) + I.ada b ⟨k, by omega⟩

/-- A column of the weights, zero past the last. -/
def Args.col (k : Fin 1024) (j : ℕ) : EReal := if h : j < 11272 then I.w k ⟨j, h⟩ else 0

/-- The row times column `j` of the weights. -/
def Args.u (b : Fin 8) (s : Fin 4096) (j : ℕ) : EReal := ∑ k, I.hn b s k * I.col k j

/-- Column `c` of `u`, normalised over its head. -/
def Args.nu (b : Fin 8) (s : Fin 4096) (c : ℕ) : EReal :=
  unit 0x43000000#32 (fun e : Fin 128 => I.u b s (c / 128 * 128 + e)) ⟨c % 128, Nat.mod_lt _ (by norm_num)⟩

/-- The bias of gate `c`. -/
def Args.bias (c : ℕ) : EReal := if h : c < 4 then I.bi ⟨c, h⟩ else if h : c < 8 then I.bf ⟨c - 4, by omega⟩ else 0

/-- Gate `c`. -/
def Args.gate (b : Fin 8) (s : Fin 4096) (c : ℕ) : EReal := I.u b s (9216 + c) + I.bias c

/-- The projection's column `c`. -/
def Args.p (b : Fin 8) (s : Fin 4096) (c : ℕ) : EReal :=
  if c < 1024 then I.nu b s c * (I.qw ⟨c % 128, Nat.mod_lt _ (by norm_num)⟩ * Ideal.ofBits FTy.f32 0x3E0293EE#32)
  else if c < 2048 then I.nu b s c * I.kw ⟨c % 128, Nat.mod_lt _ (by norm_num)⟩
  else if c < 9216 then I.u b s c
  else if c < 11264 then I.u b s (c + 8)
  else 0

end Proj

end

end
-- ==== Proof.IVal.lean ====
/- The payloads of the input projection's body, at an entry. -/
module

public import Idealize.ShloMosaic.Lib.Pointwise
public import Idealize.ShloMosaic.Lib.VecWindow
public import Idealize.ShloMosaic.Lib.WritesUnit
public import proofs.«01_k».proof.Proof.Proj
public import proofs.«01_k».proof.Proof.IOut

@[expose] public section

set_option maxRecDepth 16384

noncomputable section

namespace IVal

open Idealize.ShloMosaic Idealize.ShloMosaic.TcCoe Idealize.ShloMosaic.Tactic Idealize.SL.Sem Cert.Kernel2Ideal Cert.Kernel2Ideal.Gen Proj

/-- A head's columns, normalised and scaled. -/
def normed {F : FTy → Type} [FloatOps F] (g : FVec F S1024x128 .f32) (w : FVec F S1x128 .f32) : FVec F S1024x128 .bf16 :=
  truncf .bf16 (mulf (mulf g (broadcastTo S1024x128 (rsqrt (addf (divf
      (shapeCast S1024x1 (multiReduction .add [1] S1024 (mulf g g) 0x00000000#32 reduces_S1024x128_S1024 (.inl rfl) rfl) shapeCasts_S1024_S1024x1)
      (broadcast S1024x1 (Scalar.ofBits .f32 0x43000000#32))) (broadcast S1024x1 (Scalar.ofBits .f32 0x358637BD#32)))) broadcasts_S1024x1_S1024x128))
    (broadcastTo S1024x128 w broadcasts_S1x128_S1024x128)) bitsLt_bf16_f32

theorem normed_at (g : FVec Ideal S1024x128 .f32) (w : FVec Ideal S1x128 .f32) (a : Fin 1024) (d : Fin 128) :
    normed g w (ix2 a d) = Proj.unit 0x43000000#32 (fun e : Fin 128 => g (ix2 a e)) d * w (ix2 0 d) := by
  unfold normed
  pointwise []
  rfl

theorem slab (i : Fin 16) : ∀ a, (![0, 128 * i.val] : Fin 2 → ℕ) a + S1024x128.size a ≤ S1024x2048.size a :=
  Fin.forall_fin_two.mpr ⟨show 0 + 1024 ≤ 1024 by decide, show 128 * i.val + 128 ≤ 2048 by omega⟩
theorem half (i : Fin 16) : S1024x256.Slices ![0, 128 * (i.val % 2)] S1024x128 := by
  revert i; decide +kernel
theorem head_row (i : Fin 16) : S1x1024.Slices ![0, 128 * (i.val % 8)] S1x128 := by
  revert i; decide +kernel

/-- The `i`-th head's columns, from the rows, the weights' columns by twice 128 and the heads' scales. -/
def piece {F : FTy → Type} [FloatOps F] (h : Vec F S1024x1024 .bf16) (wt : Fin 8 → Vec F S1024x256 .bf16) (wq wk : Vec F S1x1024 .f32) (i : Fin 16) :
    View.Piece (Elt F) S1024x2048 .bf16 :=
  ⟨Rect.unit ![0, 128 * i.val] S1024x128.size (slab i),
    normed (extractStridedSlice S1024x128 ![0, 128 * (i.val % 2)] (k0_pay11 h (wt ⟨i.val / 2, by omega⟩)) (half i))
      (extractStridedSlice S1x128 ![0, 128 * (i.val % 8)] (k0_pay10 (if i.val < 8 then wq else wk)) (head_row i))⟩

/-- What writes of heads' columns leave in a head's columns. -/
theorem read_pieces {κ : Kind} {sp : Space} {Val : EltTy → Type} (v : View sig κ sp S1024x2048 .bf16) (f : v.ty.Contents Val) (w : Fin 16 → S1024x128.Idx → Val .bf16)
    (L : List (Fin 16)) (i : Fin 16) (hi : i ∈ L) (a : Fin 1024) (d : Fin 128) :
    v.read Val (v.writes Val f (L.map fun j => (⟨Rect.unit ![0, 128 * j.val] S1024x128.size (slab j), w j⟩ : View.Piece Val S1024x2048 .bf16)))
      (ix2 a ⟨128 * i.val + d, by omega⟩) = w i (ix2 a d) := by
  induction L with
  | nil => exact absurd hi (by simp)
  | cons j L ih =>
    rw [List.map_cons]
    by_cases h : i = j
    · subst h
      exact View.read_writes_cons_unit_of_mem v f (slab i) (w i) _ _ (ix2 a d) rfl
        (Fin.forall_fin_two.mpr ⟨(Nat.zero_add _).symm, rfl⟩)
    · have n : i.val ≠ j.val := fun e => h (Fin.ext e)
      refine (View.read_writes_cons_unit_of_not_mem v f (slab j) (w j) _ _ rfl (1 : Fin 2) ?_).trans (ih (by simpa [h] using hi))
      show 128 * i.val + d.val < 128 * j.val ∨ 128 * j.val + 128 ≤ 128 * i.val + d.val
      omega

theorem pay1_at (w : Vec Ideal S1x1024x2048 .bf16) (h : Vec Ideal S1024x1024 .bf16) (a : Fin 1024) (d : Fin 2048) :
    k0_pay1 w h (ix2 a d) = ∑ k : Fin 1024, h (ix2 a k) * w (ix3 0 k d) := by
  pointwise [k0_pay1]

theorem pay2_at (w : Vec Ideal S1024x1024 .bf16) (h : Vec Ideal S1024x1024 .bf16) (a : Fin 1024) (d : Fin 1024) :
    k0_pay2 w h (ix2 a d) = ∑ k : Fin 1024, h (ix2 a k) * w (ix2 k d) := by
  pointwise [k0_pay2]

theorem pay3_at (w : Vec Ideal S1024x1024 .bf16) (h : Vec Ideal S1024x1024 .bf16) (a : Fin 1024) (d : Fin 1024) :
    k0_pay3 w h (ix2 a d) = ∑ k : Fin 1024, h (ix2 a k) * w (ix2 k d) := by
  pointwise [k0_pay3]

theorem pay4_at (w : Vec Ideal S1024x1024 .bf16) (h : Vec Ideal S1024x1024 .bf16) (a : Fin 1024) (d : Fin 1024) :
    k0_pay4 w h (ix2 a d) = ∑ k : Fin 1024, h (ix2 a k) * w (ix2 k d) := by
  pointwise [k0_pay4]

theorem pay5_at (a : Fin 1024) (d : Fin 1024) : (k0_pay5 (F := Ideal)) (ix2 a d) = 0 := by
  pointwise [k0_pay5]

theorem pay11_at (h : Vec Ideal S1024x1024 .bf16) (w : Vec Ideal S1024x256 .bf16) (a : Fin 1024) (d : Fin 256) :
    k0_pay11 h w (ix2 a d) = ∑ k : Fin 1024, h (ix2 a k) * w (ix2 k d) := by
  pointwise [k0_pay11]

/-- The normalised, modulated rows of a block. -/
theorem pay44_at (x : Vec Ideal S1x1024x1024 .f32) (ad : Vec Ideal S1x3x1024 .f32) (nw : Vec Ideal S1x1024 .f32) (a k : Fin 1024) :
    k0_pay44 (k0_pay6 x) (k0_pay7 ad) (k0_pay8 x) k0_pay9 nw (ix2 a k)
      = Proj.unit 0x44800000#32 (fun e : Fin 1024 => x (ix3 0 a e)) k * nw (ix2 0 k) * (1 + ad (ix3 0 1 k)) + ad (ix3 0 0 k) := by
  pointwise [k0_pay44, k0_pay8, k0_pay9, k0_pay6, k0_pay7]
  rfl

theorem pay45_eq (x : Vec Ideal S1x1024x1024 .f32) (ad : Vec Ideal S1x3x1024 .f32) (nw : Vec Ideal S1x1024 .f32) (a k : Fin 1024) :
    k0_pay45 (k0_pay6 x) (k0_pay7 ad) (k0_pay8 x) k0_pay9 nw (ix2 a k) = k0_pay44 (k0_pay6 x) (k0_pay7 ad) (k0_pay8 x) k0_pay9 nw (ix2 a k) := by
  unfold k0_pay45
  pointwise []

theorem pay46_at (p : FVec Ideal S1024x1024 .f32) (q : FVec Ideal S3x1024 .f32) (r s : FVec Ideal S1024x1 .f32) (nw : Vec Ideal S1x1024 .f32)
    (wg : Vec Ideal S1024x128 .bf16) (gb : Vec Ideal S1x128 .f32) (a : Fin 1024) (d : Fin 128) :
    k0_pay46 p q r s nw wg gb (ix2 a d) = (∑ k : Fin 1024, k0_pay44 p q r s nw (ix2 a k) * wg (ix2 k d)) + gb (ix2 0 d) := by
  unfold k0_pay46
  pointwise []

theorem pay47_at (p : FVec Ideal S1024x1024 .f32) (q : FVec Ideal S3x1024 .f32) (r s : FVec Ideal S1024x1 .f32) (nw : Vec Ideal S1x1024 .f32)
    (wg : Vec Ideal S1024x128 .bf16) (gb : Vec Ideal S1x128 .f32) (a : Fin 1024) (d : Fin 8) :
    k0_pay47 p q r s nw wg gb (ix2 d a) = k0_pay46 p q r s nw wg gb (ix2 a ⟨d, by omega⟩) := by
  unfold k0_pay47
  pointwise []

end IVal

end

end
-- ==== Proof.ILoad.lean ====
/- What the input projection's loads from its two rings find, at an entry. -/
module

public import Idealize.ShloMosaic.Lib.Pointwise
public import Idealize.ShloMosaic.Lib.ValueLayout
public import Idealize.ShloMosaic.Lib.VecWindow
public import Idealize.ShloMosaic.Lib.WritesUnit
public import proofs.«01_k».proof.Proof.IOut

@[expose] public section

set_option maxRecDepth 16384

noncomputable section

namespace ILoad

open Idealize.ShloMosaic Idealize.ShloMosaic.TcCoe Idealize.ShloMosaic.Tactic Idealize.SL.Sem Cert.Kernel2Ideal Cert.Kernel2Ideal.Gen

/-- A landed block, read in its slot, is what it was copied from. -/
theorem landed {κ : Kind} {sp : Space} {S : Shape} {e : EltTy} {Val : EltTy → Type} [∀ e, Nonempty (Val e)] (v : View sig κ sp S e) (w : S.Idx → Val e) :
    v.read Val (v.writes Val v.junk [⟨Rect.whole S, w⟩]) = w :=
  View.read_writes_full v v.junk (fun _ => by simp) w []

/-- A ring's slot loaded whole, after a block landed in it. -/
theorem slot_at {κ : Kind} {sp : Space} {e : EltTy} {Val : EltTy → Type} [∀ e, Nonempty (Val e)] {d : Fin 3 → ℕ} {a b : ℕ} (M : Memref sig κ sp ⟨3, d⟩ e)
    {off off' : Fin 3 → ℕ} (inb : ∀ i, off i + (![1, a, b] : Fin 3 → ℕ) i ≤ d i) (h : off = off') (inb' : ∀ i, off' i + (![1, a, b] : Fin 3 → ℕ) i ≤ d i)
    (hq : (Rect.unit (s := ⟨3, d⟩) off' ![1, a, b] inb').shape.Squeezes ⟨2, ![a, b]⟩) (w : (⟨2, ![a, b]⟩ : Shape).Idx → Val e) (x : Fin a) (y : Fin b) :
    M.view.readAt Val (Rect.unit (s := ⟨3, d⟩) off ![1, a, b] inb).toLoadRect
        (((M.slice (Rect.unit (s := ⟨3, d⟩) off' ![1, a, b] inb') (fun _ => rfl)).squeeze ⟨2, ![a, b]⟩ hq).view.writes Val
          ((M.slice (Rect.unit (s := ⟨3, d⟩) off' ![1, a, b] inb') (fun _ => rfl)).squeeze ⟨2, ![a, b]⟩ hq).view.junk [⟨Rect.whole _, w⟩]) (ix3 0 x y)
      = w (ix2 x y) := by
  subst h
  refine Eq.trans ?_ (congrFun (landed ((M.slice (Rect.unit (s := ⟨3, d⟩) off ![1, a, b] inb) (fun _ => rfl)).squeeze ⟨2, ![a, b]⟩ hq).view w) (ix2 x y))
  generalize ((M.slice (Rect.unit (s := ⟨3, d⟩) off ![1, a, b] inb) (fun _ => rfl)).squeeze ⟨2, ![a, b]⟩ hq).view.writes Val _ _ = f
  show M.view.read Val f ((Rect.unit (s := ⟨3, d⟩) off ![1, a, b] inb).emb (ix3 0 x y))
    = M.view.read Val f ((Rect.unit (s := ⟨3, d⟩) off ![1, a, b] inb).emb (Shape.reshapeEquiv hq.numel_eq (ix2 x y)))
  exact congrArg (fun z => M.view.read Val f ((Rect.unit (s := ⟨3, d⟩) off ![1, a, b] inb).emb z)) (ValueIdx.reshapeEquiv_ix2_1ab hq.numel_eq x y).symm

/-- Columns `o ..` of a block, loaded after it landed. -/
theorem cols_at {κ : Kind} {sp : Space} {e : EltTy} {Val : EltTy → Type} [∀ e, Nonempty (Val e)] {a b n : ℕ} (v : View sig κ sp ⟨2, ![a, b]⟩ e)
    (w : (⟨2, ![a, b]⟩ : Shape).Idx → Val e) (o : ℕ) (inb : ∀ i, (![0, o] : Fin 2 → ℕ) i + (![a, n] : Fin 2 → ℕ) i ≤ (![a, b] : Fin 2 → ℕ) i)
    (k : Fin a) (d : Fin n) (hd : o + d.val < b) :
    v.readCov (Val := Val) [⟨Rect.whole ⟨2, ![a, b]⟩, w⟩] (Rect.unit (s := ⟨2, ![a, b]⟩) ![0, o] ![a, n] inb).toLoadRect (ix2 k d) = w (ix2 k ⟨o + d, hd⟩) := by
  refine Eq.trans ?_ (congrFun (landed v w) (ix2 k ⟨o + d, hd⟩))
  show v.read Val (v.writes Val v.junk [⟨Rect.whole ⟨2, ![a, b]⟩, w⟩]) ((Rect.unit (s := ⟨2, ![a, b]⟩) ![0, o] ![a, n] inb).emb (ix2 k d)) = _
  congr 1
  funext x
  match x with
  | ⟨0, _⟩ => exact Fin.ext (show 0 + 1 * (k : ℕ) = k by omega)
  | ⟨1, _⟩ => exact Fin.ext (show o + 1 * (d : ℕ) = o + d by omega)

theorem bk0 : ∀ t : Fin cfg0.N, (Ring.bk 32 (row t.val)).val = t.val / 6 := (by decide +kernel : ∀ t : Fin grid0.N, _)
theorem bk1 : ∀ t : Fin cfg0.N, t.val % 6 < 5 → (Ring.bk 5 (chunk t.val)).val = t.val % 6 := (by decide +kernel : ∀ t : Fin grid0.N, _)

variable (c : Dev nD) (t : Fin cfg0.N)

theorem row_lt (a : Fin 1024) : 1024 * (t.val / 6) + a.val < 32768 := by have := lt_of_lt_of_eq t.isLt N_0; omega

theorem src0_at (W : HbBuf0 (F := Ideal) c hbM0_0) (a k : Fin 1024) :
    (srcB0_0 (Ring.bk 32 (row t.val))).view.read (Elt Ideal) W (ix2 a k) = (W : FVec Ideal S32768x1024 .f32) (ix2 ⟨1024 * (t.val / 6) + a, row_lt t a⟩ k) := by
  have e := bk0 t
  show (W : FVec Ideal S32768x1024 .f32) ((srcB0_0 (Ring.bk 32 (row t.val))).view.emb (ix2 a k)) = _
  congr 1
  funext x
  match x with
  | ⟨0, _⟩ => exact Fin.ext (show 1024 * (Ring.bk 32 (row t.val)).val + 1 * (a : ℕ) = 1024 * (t.val / 6) + a by omega)
  | ⟨1, _⟩ => exact Fin.ext (show 0 + 1 * (k : ℕ) = k by omega)

theorem src1_at (h : t.val % 6 < 5) (W : HbBuf0 (F := Ideal) c hbM0_1) (k : Fin 1024) (d : Fin 2048) :
    (srcB0_1 (Ring.bk 5 (chunk t.val))).view.read (Elt Ideal) W (ix2 k d)
      = (W : FVec Ideal S1024x10240 .bf16) (ix2 k ⟨2048 * (t.val % 6) + d, by omega⟩) := by
  have e := bk1 t h
  show (W : FVec Ideal S1024x10240 .bf16) ((srcB0_1 (Ring.bk 5 (chunk t.val))).view.emb (ix2 k d)) = _
  congr 1
  funext x
  match x with
  | ⟨0, _⟩ => exact Fin.ext (show 0 + 1 * (k : ℕ) = k by omega)
  | ⟨1, _⟩ => exact Fin.ext (show 2048 * (Ring.bk 5 (chunk t.val)).val + 1 * (d : ℕ) = 2048 * (t.val % 6) + d by omega)

theorem x_at (h : cond0_5 (grid0.coords t)) (W : HbBuf0 (F := Ideal) c hbM0_0) (a k : Fin 1024) :
    runB.sl.v108 c t h W (ix3 0 a k) = (W : FVec Ideal S32768x1024 .f32) (ix2 ⟨1024 * (t.val / 6) + a, row_lt t a⟩ k) :=
  (slot_at (Val := Elt Ideal) scM0_2 _ (coff_x3 t h) _ squeezes_S1x1024x1024_S1024x1024 _ a k).trans (src0_at c t W a k)

theorem w_at (h : cond0_7 (grid0.coords t)) (h5 : t.val % 6 < 5) (W : HbBuf0 (F := Ideal) c hbM0_1) (k : Fin 1024) (d : Fin 2048) :
    runC.sl.v81 c t h W (ix3 0 k d) = (W : FVec Ideal S1024x10240 .bf16) (ix2 k ⟨2048 * (t.val % 6) + d, by omega⟩) :=
  (slot_at (Val := Elt Ideal) scM0_1 _ (coff_w6 t h) _ squeezes_S1x1024x2048_S1024x2048 _ k d).trans (src1_at c t h5 W k d)

/-- Columns `o ..` of a weight chunk loaded after it landed. -/
def wld (W : HbBuf0 (F := Ideal) c hbM0_1) (n o : ℕ) (inb : ∀ a, (![0, o] : Fin 2 → ℕ) a + (![1024, n] : Fin 2 → ℕ) a ≤ S1024x2048.size a) :=
  (rslot0_1 (Ring.sl 3 (chunk t.val))).view.readCov (Val := Elt Ideal)
    [⟨Rect.whole S1024x2048, ReadAs.same.apply ((srcB0_1 (Ring.bk 5 (chunk t.val))).view.read (Elt Ideal) W)⟩]
    (Rect.unit (s := S1024x2048) ![0, o] ![1024, n] inb).toLoadRect

theorem wld_at (h5 : t.val % 6 < 5) (W : HbBuf0 (F := Ideal) c hbM0_1) (n o : ℕ) (inb) (k : Fin 1024) (d : Fin n) (hd : o + d.val < 2048) :
    wld c t W n o inb (ix2 k d) = (W : FVec Ideal S1024x10240 .bf16) (ix2 k ⟨2048 * (t.val % 6) + (o + d), by omega⟩) := by
  exact (cols_at (rslot0_1 (Ring.sl 3 (chunk t.val))).view _ o inb k d hd).trans (src1_at c t h5 W k ⟨o + d, hd⟩)

end ILoad

end

end
-- ==== Proof.ISteps.lean ====
/- The stores of the input projection's runs, named. -/
module

public import proofs.«01_k».proof.Proof.IVal
public import proofs.«01_k».proof.Proof.ILoad

@[expose] public section

set_option maxRecDepth 16384

noncomputable section

namespace ISteps

open Idealize.ShloMosaic Idealize.ShloMosaic.TcCoe Idealize.ShloMosaic.Tactic Idealize.SL.Sem Cert.Kernel2Ideal Cert.Kernel2Ideal.Gen IVal ILoad

variable (m : (ℓ : Loc nD τ sig) → Buf (Elt Ideal) ℓ) (c : Dev nD) (t : Fin cfg0.N)

/-- The block of a window, loaded whole. -/
abbrev l0 : Vec Ideal S1x3x1024 .f32 :=
  (ms0_0 t).view.readAt (Elt Ideal) (Rect.unit ![0, 0, 0] S1x3x1024.size inb_S1x3x1024_S1x3x1024_0_0_0).toLoadRect ((hs0_0 t).unread (iblk m c 0 t))
abbrev l1 : Vec Ideal S1x1024 .f32 :=
  (ms0_1 t).view.readAt (Elt Ideal) (Rect.unit ![0, 0] S1x1024.size inb_S1x1024_S1x1024_0_0).toLoadRect ((hs0_1 t).unread (iblk m c 1 t))
abbrev l3 : Vec Ideal S1024x128 .bf16 :=
  (ms0_3 t).view.readAt (Elt Ideal) (Rect.unit ![0, 0] S1024x128.size inb_S1024x128_S1024x128_0_0).toLoadRect ((hs0_3 t).unread (iblk m c 3 t))
abbrev l4 : Vec Ideal S1x128 .f32 :=
  (ms0_4 t).view.readAt (Elt Ideal) (Rect.unit ![0, 0] S1x128.size inb_S1x128_S1x128_0_0).toLoadRect ((hs0_4 t).unread (iblk m c 4 t))
theorem l0_eq : l0 m c t = iblk m c 0 t := (View.readAt_full _ _ _).trans ((hs0_0 t).read_unread _)
theorem l1_eq : l1 m c t = iblk m c 1 t := (View.readAt_full _ _ _).trans ((hs0_1 t).read_unread _)
theorem l3_eq : l3 m c t = iblk m c 3 t := (View.readAt_full _ _ _).trans ((hs0_3 t).read_unread _)
theorem l4_eq : l4 m c t = iblk m c 4 t := (View.readAt_full _ _ _).trans ((hs0_4 t).read_unread _)

theorem inb5 (r : Fin 2) : ∀ a, (![r.val, 0] : Fin 2 → ℕ) a + S1x1024.size a ≤ S2x1024.size a :=
  Fin.forall_fin_two.mpr ⟨show r.val + 1 ≤ 2 by omega, show 0 + 1024 ≤ 1024 by decide⟩
/-- A row of the heads' scales. -/
abbrev l5 (r : Fin 2) : Vec Ideal S1x1024 .f32 :=
  (ms0_5 t).view.readAt (Elt Ideal) (Rect.unit (s := S2x1024) ![r.val, 0] S1x1024.size (inb5 r)).toLoadRect ((hs0_5 t).unread (iblk m c 5 t))
theorem l5_at (r : Fin 2) (j : Fin 1024) : l5 m c t r (ix2 0 j) = iblk m c 5 t (ix2 r j) := by
  refine Eq.trans ?_ (congrFun ((hs0_5 t).read_unread (iblk m c 5 t)) (ix2 r j))
  show View.read (Elt Ideal) (ms0_5 t).view _ ((Rect.unit (s := S2x1024) ![r.val, 0] S1x1024.size (inb5 r)).emb (ix2 0 j)) = _
  refine congrArg (View.read (Elt Ideal) (ms0_5 t).view ((hs0_5 t).unread (iblk m c 5 t))) ?_
  funext x
  match x with
  | ⟨0, _⟩ => exact Fin.ext (show r.val + 1 * 0 = r by omega)
  | ⟨1, _⟩ => exact Fin.ext (show 0 + 1 * (j : ℕ) = j by omega)

variable (h5 : cond0_5 (grid0.coords t))

/-- The block of rows a row's first point loads. -/
abbrev xb : Vec Ideal S1x1024x1024 .f32 := runB.sl.v108 c t h5 (V m c main_v0)
/-- The normalised, modulated rows. -/
abbrev hx : FVec Ideal S1024x1024 .bf16 := k0_pay44 (k0_pay6 (xb m c t h5)) (k0_pay7 (l0 m c t)) (k0_pay8 (xb m c t h5)) k0_pay9 (l1 m c t)
abbrev hxs : FVec Ideal S1024x1024 .bf16 := k0_pay45 (k0_pay6 (xb m c t h5)) (k0_pay7 (l0 m c t)) (k0_pay8 (xb m c t h5)) k0_pay9 (l1 m c t)
/-- The rows as stored, and loaded again. -/
abbrev hst : List (View.Piece (Elt Ideal) S1024x1024 .bf16) := [⟨Rect.unit ![0, 0] S1024x1024.size inb_S1024x1024_S1024x1024_0_0, hxs m c t h5⟩]
abbrev hld : Vec Ideal S1024x1024 .bf16 := scM0_0.view.readCov (hst m c t h5) (Rect.unit ![0, 0] S1024x1024.size inb_S1024x1024_S1024x1024_0_0).toLoadRect
theorem hld_eq : hld m c t h5 = hxs m c t h5 := View.readCov_full _ _ _ _ _

theorem inbw (j : Fin 8) : ∀ a, (![0, 256 * j.val] : Fin 2 → ℕ) a + (![1024, 256] : Fin 2 → ℕ) a ≤ S1024x2048.size a :=
  Fin.forall_fin_two.mpr ⟨show 0 + 1024 ≤ 1024 by decide, show 256 * j.val + 256 ≤ 2048 by omega⟩
/-- The weights' columns, by twice 128. -/
abbrev wts (j : Fin 8) : Vec Ideal S1024x256 .bf16 := wld c t (V m c main_v4) 256 (256 * j.val) (inbw j)

abbrev pieces : List (View.Piece (Elt Ideal) S1024x2048 .bf16) :=
  [15, 14, 13, 12, 11, 10, 9, 8, 7, 6, 5, 4, 3, 2, 1, 0].map (IVal.piece (hld m c t h5) (wts m c t) (l5 m c t 0) (l5 m c t 1))
abbrev gst : List (View.Piece (Elt Ideal) S1024x128 .f32) :=
  [⟨Rect.unit ![0, 0] S1024x128.size inb_S1024x128_S1024x128_0_0, k0_pay46 (k0_pay6 (xb m c t h5)) (k0_pay7 (l0 m c t)) (k0_pay8 (xb m c t h5)) k0_pay9 (l1 m c t) (l3 m c t) (l4 m c t)⟩]
abbrev ghst : List (View.Piece (Elt Ideal) S8x1024 .f32) :=
  [⟨Rect.unit ![0, 0] S8x1024.size inb_S8x1024_S8x1024_0_0, k0_pay47 (k0_pay6 (xb m c t h5)) (k0_pay7 (l0 m c t)) (k0_pay8 (xb m c t h5)) k0_pay9 (l1 m c t) (l3 m c t) (l4 m c t)⟩]

theorem stepB_p (h : 0 < t.val ∧ t.val % 6 = 0) : (stepB m c t h).1 = pieces m c t h5 := by sl_kernel_rfl
theorem stepB_g (h : 0 < t.val ∧ t.val % 6 = 0) : (stepB m c t h).2.1 = gst m c t h5 := by sl_kernel_rfl
theorem stepB_gh (h : 0 < t.val ∧ t.val % 6 = 0) : (stepB m c t h).2.2.1 = ghst m c t h5 := by sl_kernel_rfl
theorem stepB_h (h : 0 < t.val ∧ t.val % 6 = 0) : (stepB m c t h).2.2.2.1 = hst m c t h5 := by sl_kernel_rfl
theorem stepA_p (h : t.val = 0) : (stepA m c t h).1 = pieces m c t h5 := by sl_kernel_rfl
theorem stepA_g (h : t.val = 0) : (stepA m c t h).2.1 = gst m c t h5 := by sl_kernel_rfl
theorem stepA_gh (h : t.val = 0) : (stepA m c t h).2.2.1 = ghst m c t h5 := by sl_kernel_rfl
theorem stepA_h (h : t.val = 0) : (stepA m c t h).2.2.2.1 = hst m c t h5 := by sl_kernel_rfl

/-- What a row's first point leaves, in both of its forms. -/
theorem head_eq (h : t.val % 6 = 0) : head m c t h =
    (VO0_6.read (Elt Ideal) (VO0_6.writes (Elt Ideal) VO0_6.junk (pieces m c t h5)),
     VO0_7.read (Elt Ideal) (VO0_7.writes (Elt Ideal) VO0_7.junk (gst m c t h5)),
     VO0_8.read (Elt Ideal) (VO0_8.writes (Elt Ideal) VO0_8.junk (ghst m c t h5)),
     VO0_h.read (Elt Ideal) (VO0_h.writes (Elt Ideal) VO0_h.junk (hst m c t h5))) := by
  by_cases h0 : t.val = 0
  · exact (head_A m c t h0).trans (congrArg₂ Prod.mk (congrArg (fun L => VO0_6.read (Elt Ideal) (VO0_6.writes (Elt Ideal) VO0_6.junk L)) (stepA_p m c t h5 h0))
      (congrArg₂ Prod.mk (congrArg (fun L => VO0_7.read (Elt Ideal) (VO0_7.writes (Elt Ideal) VO0_7.junk L)) (stepA_g m c t h5 h0))
        (congrArg₂ Prod.mk (congrArg (fun L => VO0_8.read (Elt Ideal) (VO0_8.writes (Elt Ideal) VO0_8.junk L)) (stepA_gh m c t h5 h0))
          (congrArg (fun L => VO0_h.read (Elt Ideal) (VO0_h.writes (Elt Ideal) VO0_h.junk L)) (stepA_h m c t h5 h0)))))
  · have hB : 0 < t.val ∧ t.val % 6 = 0 := ⟨Nat.pos_of_ne_zero h0, h⟩
    exact (head_B m c t hB).trans (congrArg₂ Prod.mk (congrArg (fun L => VO0_6.read (Elt Ideal) (VO0_6.writes (Elt Ideal) VO0_6.junk L)) (stepB_p m c t h5 hB))
      (congrArg₂ Prod.mk (congrArg (fun L => VO0_7.read (Elt Ideal) (VO0_7.writes (Elt Ideal) VO0_7.junk L)) (stepB_g m c t h5 hB))
        (congrArg₂ Prod.mk (congrArg (fun L => VO0_8.read (Elt Ideal) (VO0_8.writes (Elt Ideal) VO0_8.junk L)) (stepB_gh m c t h5 hB))
          (congrArg (fun L => VO0_h.read (Elt Ideal) (VO0_h.writes (Elt Ideal) VO0_h.junk L)) (stepB_h m c t h5 hB)))))

variable (x : Vec Ideal S1024x1024 .bf16)
/-- The normalised rows, loaded from their scratch. -/
abbrev hscr : Vec Ideal S1024x1024 .bf16 :=
  scM0_0.view.readAt (Elt Ideal) (Rect.unit ![0, 0] S1024x1024.size inb_S1024x1024_S1024x1024_0_0).toLoadRect ((Memref.isWhole_whole cc0_scratch0 : (scM0_0 : Memref sig .tc .vmem S1024x1024 .bf16).IsWhole).unread x)
theorem hscr_eq : hscr x = x := (View.readAt_full _ _ _).trans ((Memref.isWhole_whole cc0_scratch0 : (scM0_0 : Memref sig .tc .vmem S1024x1024 .bf16).IsWhole).read_unread x)

theorem inb2 (r : Fin 2) : ∀ a, (![0, 1024 * r.val] : Fin 2 → ℕ) a + S1024x1024.size a ≤ S1024x2048.size a :=
  Fin.forall_fin_two.mpr ⟨show 0 + 1024 ≤ 1024 by decide, show 1024 * r.val + 1024 ≤ 2048 by omega⟩
/-- Half the columns of the last operand. -/
abbrev l2 (r : Fin 2) : Vec Ideal S1024x1024 .bf16 :=
  (ms0_2 t).view.readAt (Elt Ideal) (Rect.unit (s := S1024x2048) ![0, 1024 * r.val] S1024x1024.size (inb2 r)).toLoadRect ((hs0_2 t).unread (iblk m c 2 t))
theorem l2_at (r : Fin 2) (k : Fin 1024) (j : Fin 1024) : l2 m c t r (ix2 k j) = iblk m c 2 t (ix2 k ⟨1024 * r.val + j, by omega⟩) := by
  refine Eq.trans ?_ (congrFun ((hs0_2 t).read_unread (iblk m c 2 t)) (ix2 k ⟨1024 * r.val + j, by omega⟩))
  show View.read (Elt Ideal) (ms0_2 t).view _ ((Rect.unit (s := S1024x2048) ![0, 1024 * r.val] S1024x1024.size (inb2 r)).emb (ix2 k j)) = _
  refine congrArg (View.read (Elt Ideal) (ms0_2 t).view ((hs0_2 t).unread (iblk m c 2 t))) ?_
  funext x
  match x with
  | ⟨0, _⟩ => exact Fin.ext (show 0 + 1 * (k : ℕ) = k by omega)
  | ⟨1, _⟩ => exact Fin.ext (show 1024 * r.val + 1 * (j : ℕ) = 1024 * r.val + j by omega)

variable (h7 : cond0_7 (grid0.coords t))
/-- A middle point's store. -/
abbrev mid : List (View.Piece (Elt Ideal) S1024x2048 .bf16) :=
  [⟨Rect.unit ![0, 0] S1024x2048.size inb_S1024x2048_S1024x2048_0_0, k0_pay1 (runC.sl.v81 c t h7 (V m c main_v4)) (hscr x)⟩]
theorem stepC_p (h : t.val % 6 = 1 ∧ t.val < 186) : (stepC m c t h x).1 = mid m c t x h7 := by sl_kernel_rfl
theorem stepD_p (h : t.val % 6 = 2 ∨ t.val = 187) : (stepD m c t h x).1 = mid m c t x h7 := by sl_kernel_rfl
theorem stepE_p (h : t.val % 6 = 3) : (stepE m c t h x).1 = mid m c t x h7 := by sl_kernel_rfl

/-- The two stores of a row's fifth point. -/
abbrev fifth : List (View.Piece (Elt Ideal) S1024x2048 .bf16) :=
  [⟨Rect.unit ![0, 1024] S1024x1024.size inb_S1024x2048_S1024x1024_0_1024, k0_pay3 (l2 m c t 0) (hscr x)⟩,
   ⟨Rect.unit ![0, 0] S1024x1024.size inb_S1024x2048_S1024x1024_0_0, k0_pay2 (wld c t (V m c main_v4) 1024 0 inb_S1024x2048_S1024x1024_0_0) (hscr x)⟩]
theorem stepF_p (h : t.val % 6 = 4 ∧ t.val < 190) : (stepF m c t h x).1 = fifth m c t x := by sl_kernel_rfl
theorem stepH_p (h : t.val = 190) : (stepH m c t h x).1 = fifth m c t x := by sl_kernel_rfl

/-- The two stores of a row's last point. -/
abbrev last : List (View.Piece (Elt Ideal) S1024x2048 .bf16) :=
  [⟨Rect.unit ![0, 1024] S1024x1024.size inb_S1024x2048_S1024x1024_0_1024, k0_pay5 (F := Ideal)⟩,
   ⟨Rect.unit ![0, 0] S1024x1024.size inb_S1024x2048_S1024x1024_0_0, k0_pay4 (l2 m c t 1) (hscr x)⟩]
theorem stepG_p (h : t.val % 6 = 5 ∧ t.val < 191) : (stepG m c t h x).1 = last m c t x := by sl_kernel_rfl
theorem stepI_p (h : t.val = 191) : (stepI m c t h x).1 = last m c t x := by sl_kernel_rfl

end ISteps

end

end
-- ==== Proof.RVal.lean ====
/- What the reference of the input projection returns, at an entry. -/
module

public import Idealize.ShloMosaic.Lib.Pointwise
public import proofs.«01_k».proof.Proof.Proj
public import proofs.«01_k».proof.Proof.Gen.Reference2Ideal.Run

@[expose] public section

set_option maxRecDepth 16384

noncomputable section

namespace RVal

open Idealize.ShloMosaic Idealize.ShloMosaic.TcCoe Idealize.SL.Sem Cert.Reference2Ideal Cert.Reference2Ideal.Gen Cert.Reference2Ideal.Value Idealize.ShloMosaic.StableHlo Proj

variable (X : FVec Ideal S8x4096x1024 .f32) (A : FVec Ideal S8x3072 .f32) (NW : FVec Ideal S1024 .f32) (W : FVec Ideal S1024x11272 .f32)
variable (QW KW : FVec Ideal S128 .f32) (BI BF : FVec Ideal S4 .f32)

/-- The arguments' entries. -/
def args : Args where
  x b s k := X (ix3 b s k)
  ada b j := A (ix2 b j)
  nw k := NW (ix1 k)
  w k j := W (ix2 k j)
  qw d := QW (ix1 d)
  kw d := KW (ix1 d)
  bi d := BI (ix1 d)
  bf d := BF (ix1 d)

/-- The modulated rows. -/
def rows : FVec Ideal S8x4096x1024 .f32 :=
  addf (mulf (mulf (mulf X (broadcastInDim S8x4096x1024 ![0, 1, 2] bcast_S8x4096x1_S8x4096x1024_0_1_2
    (Host.rsqrt (addf (Host.divf (broadcastInDim S8x4096x1 ![0, 1] bcast_S8x4096_S8x4096x1_0_1
        (Host.reduceAdd (mulf X X) (constant S_ .f32 0x00000000#32) reducesTo_S8x4096x1024_S8x4096_d2 h_S_))
      (broadcastInDim S8x4096x1 ![] bcast_S_S8x4096x1 (constant S_ .f32 0x44800000#32)))
      (broadcastInDim S8x4096x1 ![] bcast_S_S8x4096x1 (constant S_ .f32 0x358637BD#32))))))
    (broadcastInDim S8x4096x1024 ![0, 1, 2] bcast_S1x1x1024_S8x4096x1024_0_1_2 (broadcastInDim S1x1x1024 ![2] bcast_S1024_S1x1x1024_2 NW)))
    (broadcastInDim S8x4096x1024 ![0, 1, 2] bcast_S8x1x1024_S8x4096x1024_0_1_2
      (addf (broadcastInDim S8x1x1024 ![] bcast_S_S8x1x1024 (constant S_ .f32 0x3F800000#32))
        (extractStridedSlice S8x1x1024 ![0, 0, 1024] (broadcastInDim S8x1x3072 ![0, 2] bcast_S8x3072_S8x1x3072_0_2 A) slices_S8x1x3072_S8x1x1024_0_0_1024))))
    (broadcastInDim S8x4096x1024 ![0, 1, 2] bcast_S8x1x1024_S8x4096x1024_0_1_2
      (extractStridedSlice S8x1x1024 ![0, 0, 0] (broadcastInDim S8x1x3072 ![0, 2] bcast_S8x3072_S8x1x3072_0_2 A) slices_S8x1x3072_S8x1x1024_0_0_0))

/-- The projections. -/
def prod : FVec Ideal S8x4096x11272 .f32 :=
  Host.dotGeneral dot_S8x4096x1024_S1024x11272_S8x4096x11272_2_0_01_1_n_n none (rows X A NW) W

/-- Eight heads' columns, normalised over each head and scaled. -/
def heads (y : FVec Ideal S8x4096x1024 .f32) (w : FVec Ideal S128 .f32) : FVec Ideal S8x4096x8x128 .f32 :=
  mulf (mulf (shapeCast _ y shapeCasts_S8x4096x1024_S8x4096x8x128) (broadcastInDim S8x4096x8x128 ![0, 1, 2, 3] bcast_S8x4096x8x1_S8x4096x8x128_0_1_2_3
    (Host.rsqrt (addf (Host.divf (broadcastInDim S8x4096x8x1 ![0, 1, 2] bcast_S8x4096x8_S8x4096x8x1_0_1_2
        (Host.reduceAdd (mulf (shapeCast _ y shapeCasts_S8x4096x1024_S8x4096x8x128) (shapeCast _ y shapeCasts_S8x4096x1024_S8x4096x8x128))
          (constant S_ .f32 0x00000000#32) reducesTo_S8x4096x8x128_S8x4096x8_d3 h_S_))
      (broadcastInDim S8x4096x8x1 ![] bcast_S_S8x4096x8x1 (constant S_ .f32 0x43000000#32)))
      (broadcastInDim S8x4096x8x1 ![] bcast_S_S8x4096x8x1 (constant S_ .f32 0x358637BD#32))))))
    (broadcastInDim S8x4096x8x128 ![0, 1, 2, 3] bcast_S1x1x1x128_S8x4096x8x128_0_1_2_3 (broadcastInDim S1x1x1x128 ![3] bcast_S128_S1x1x1x128_3 w))

/-- The gates. -/
def gates : FVec Ideal S8x4096x8 .f32 :=
  addf (extractStridedSlice S8x4096x8 ![0, 0, 9216] (prod X A NW W) slices_S8x4096x11272_S8x4096x8_0_0_9216)
    (broadcastInDim S8x4096x8 ![0, 1, 2] bcast_S1x1x8_S8x4096x8_0_1_2 (broadcastInDim S1x1x8 ![2] bcast_S8_S1x1x8_2 (fn_main_v59 (F := Ideal) BI BF)))

/-- The projection's columns put together. -/
def cols : FVec Ideal S8x4096x12288 .f32 :=
  fn_main_v66 (F := Ideal)
    (shapeCast S8x4096x1024 (mulf (heads (extractStridedSlice S8x4096x1024 ![0, 0, 0] (prod X A NW W) slices_S8x4096x11272_S8x4096x1024_0_0_0) QW)
      (broadcastInDim S8x4096x8x128 ![] bcast_S_S8x4096x8x128 (constant (F := Ideal) S_ .f32 0x3E0293EE#32))) shapeCasts_S8x4096x8x128_S8x4096x1024)
    (shapeCast S8x4096x1024 (heads (extractStridedSlice S8x4096x1024 ![0, 0, 1024] (prod X A NW W) slices_S8x4096x11272_S8x4096x1024_0_0_1024) KW) shapeCasts_S8x4096x8x128_S8x4096x1024)
    (extractStridedSlice S8x4096x7168 ![0, 0, 2048] (prod X A NW W) slices_S8x4096x11272_S8x4096x7168_0_0_2048)
    (extractStridedSlice S8x4096x2048 ![0, 0, 9224] (prod X A NW W) slices_S8x4096x11272_S8x4096x2048_0_0_9224)
    (broadcastInDim S8x4096x1024 ![] bcast_S_S8x4096x1024 (constant (F := Ideal) S_ .f32 0x00000000#32))

/-- The first result. -/
def res0 : FVec Ideal S32768x12288 .bf16 := truncf .bf16 (shapeCast _ (cols X A NW W QW KW) shapeCasts_S8x4096x12288_S32768x12288) bitsLt_bf16_f32

/-- The second result. -/
def res1 : FVec Ideal S32768x128 .f32 :=
  shapeCast _ (pad S8x4096x128 ![0, 0, 0] ![0, 0, 120] ![0, 0, 0] (gates X A NW W BI BF) (sitofp .f32 (constantI S_ 32 0#32) : FVec Ideal S_ .f32)
    pads_S8x4096x8_S8x4096x128_000_000_01200 h_S_) shapeCasts_S8x4096x128_S32768x128

/-- The third result. -/
def res2 : FVec Ideal S8x32768 .f32 :=
  transpose S8x32768 [1, 0] (shapeCast _ (gates X A NW W BI BF) shapeCasts_S8x4096x8_S32768x8) transposes_S32768x8_S8x32768_1_0

theorem rows_at (b : Fin 8) (s : Fin 4096) (k : Fin 1024) : rows X A NW (ix3 b s k) = (args X A NW W QW KW BI BF).hn b s k := by
  unfold rows
  pointwise []
  rfl

theorem prod_at (b : Fin 8) (s : Fin 4096) (j : Fin 11272) : prod X A NW W (ix3 b s j) = (args X A NW W QW KW BI BF).u b s j := by
  unfold prod
  pointwise []
  simp only [rows_at X A NW W QW KW BI BF]
  unfold Args.u Args.col
  simp only [j.isLt, dif_pos]
  rfl

theorem heads_at (y : FVec Ideal S8x4096x1024 .f32) (w : FVec Ideal S128 .f32) (b : Fin 8) (s : Fin 4096) (h : Fin 8) (d : Fin 128) :
    heads y w (ix4 b s h d) = Proj.unit 0x43000000#32 (fun e : Fin 128 => y (ix3 b s ⟨h * 128 + e, by omega⟩)) d * w (ix1 d) := by
  unfold heads
  pointwise []
  rfl

theorem gates_at (b : Fin 8) (s : Fin 4096) (c : Fin 8) : gates X A NW W BI BF (ix3 b s c) = (args X A NW W QW KW BI BF).gate b s c := by
  unfold gates
  pointwise []
  rw [prod_at X A NW W QW KW BI BF]
  unfold Args.gate
  congr 1
  unfold fn_main_v59
  pointwise []
  unfold Args.bias
  split
  · rfl
  · rw [dif_pos c.isLt]; rfl

/-- The heads of the columns starting at `o`, where they are columns `o` and on of the projections. -/
theorem heads_nu (y : FVec Ideal S8x4096x1024 .f32) (w : FVec Ideal S128 .f32) (o : ℕ) (ho : o % 128 = 0)
    (hy : ∀ (b : Fin 8) (s : Fin 4096) (j : Fin 1024), y (ix3 b s j) = (args X A NW W QW KW BI BF).u b s (o + j))
    (b : Fin 8) (s : Fin 4096) (c : ℕ) (hc : o ≤ c) (h1 : (c - o) / 128 < 8) (h2 : (c - o) % 128 < 128) :
    heads y w (ix4 b s ⟨(c - o) / 128, h1⟩ ⟨(c - o) % 128, h2⟩)
      = (args X A NW W QW KW BI BF).nu b s c * w (ix1 ⟨c % 128, Nat.mod_lt _ (by norm_num)⟩) := by
  rw [heads_at]
  simp only [hy]
  unfold Args.nu
  have e : (⟨(c - o) % 128, h2⟩ : Fin 128) = ⟨c % 128, Nat.mod_lt _ (by norm_num)⟩ := Fin.ext (show (c - o) % 128 = c % 128 by omega)
  have f : ∀ x : Fin 128, o + ((c - o) / 128 * 128 + (x : ℕ)) = c / 128 * 128 + x := fun x => by omega
  simp only [f, e]

theorem cols_at (b : Fin 8) (s : Fin 4096) (c : Fin 12288) : cols X A NW W QW KW (ix3 b s c) = (args X A NW W QW KW BI BF).p b s c := by
  have hc := c.isLt
  have s0 : ∀ (b : Fin 8) (s : Fin 4096) (j : Fin 1024),
      (extractStridedSlice S8x4096x1024 ![0, 0, 0] (prod X A NW W) slices_S8x4096x11272_S8x4096x1024_0_0_0) (ix3 b s j) = (args X A NW W QW KW BI BF).u b s (0 + j) := by
    intro b s j
    pointwise []
    rw [prod_at X A NW W QW KW BI BF]
  have s1 : ∀ (b : Fin 8) (s : Fin 4096) (j : Fin 1024),
      (extractStridedSlice S8x4096x1024 ![0, 0, 1024] (prod X A NW W) slices_S8x4096x11272_S8x4096x1024_0_0_1024) (ix3 b s j) = (args X A NW W QW KW BI BF).u b s (1024 + j) := by
    intro b s j
    pointwise []
    rw [prod_at X A NW W QW KW BI BF]
  unfold cols fn_main_v66
  pointwise []
  unfold Args.p
  by_cases h0 : (c : ℕ) < 1024
  · rw [dif_pos h0, if_pos h0]
    have := heads_nu X A NW W QW KW BI BF _ QW 0 (by norm_num) s0 b s c (Nat.zero_le _) (by omega) (Nat.mod_lt _ (by norm_num))
    rw [← mul_assoc]
    exact congrArg (· * _) this
  rw [dif_neg h0, if_neg h0]
  by_cases h1 : (c : ℕ) < 2048
  · rw [dif_pos (by omega), if_pos h1]
    exact heads_nu X A NW W QW KW BI BF _ KW 1024 (by norm_num) s1 b s c (by omega) (by omega) (Nat.mod_lt _ (by norm_num))
  rw [dif_neg (by omega), if_neg h1]
  by_cases h2 : (c : ℕ) < 9216
  · rw [dif_pos (by omega), if_pos h2, prod_at X A NW W QW KW BI BF]
    exact congrArg ((args X A NW W QW KW BI BF).u b s) (show 2048 + ((c : ℕ) - 1024 - 1024) = c by omega)
  rw [dif_neg (by omega), if_neg h2]
  by_cases h3 : (c : ℕ) < 11264
  · rw [dif_pos (by omega), if_pos h3, prod_at X A NW W QW KW BI BF]
    exact congrArg ((args X A NW W QW KW BI BF).u b s) (show 9224 + ((c : ℕ) - 1024 - 1024 - 7168) = c + 8 by omega)
  rw [dif_neg (by omega), if_neg h3]

theorem res0_at (r : Fin 32768) (c : Fin 12288) : res0 X A NW W QW KW (ix2 r c) = (args X A NW W QW KW BI BF).p ⟨r / 4096, by omega⟩ ⟨r % 4096, by omega⟩ c := by
  unfold res0
  pointwise []
  exact cols_at X A NW W QW KW BI BF _ _ c

theorem res1_at (r : Fin 32768) (c : Fin 128) : res1 X A NW W BI BF (ix2 r c) = if (c : ℕ) < 8 then (args X A NW W QW KW BI BF).gate ⟨r / 4096, by omega⟩ ⟨r % 4096, by omega⟩ c else 0 := by
  unfold res1
  pointwise []
  by_cases h : (c : ℕ) < 8
  · rw [dif_pos ⟨by omega, by omega, h⟩, if_pos h, gates_at X A NW W QW KW BI BF]
  · rw [dif_neg (fun h' => h h'.2.2), if_neg h]
    exact show ((((0#32 : BitVec 32).toInt : ℤ) : ℝ) : EReal) = 0 by simp

theorem res2_at (r : Fin 32768) (c : Fin 8) : res2 X A NW W BI BF (ix2 c r) = (args X A NW W QW KW BI BF).gate ⟨r / 4096, by omega⟩ ⟨r % 4096, by omega⟩ c := by
  unfold res2
  pointwise []
  exact gates_at X A NW W QW KW BI BF _ _ c

/-- The generated first result is the one described here. -/
theorem out0_eq (m : (ℓ : Loc nD τ sig) → Buf (Elt Ideal) ℓ) (c : Dev nD) :
    res_main_v69 m c = res0 (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) := rfl

end RVal

end

end
-- ==== Proof.IWin.lean ====
/- The input projection's operands, at an entry. -/
module

public import Idealize.ShloMosaic.Lib.Claim
public import Idealize.ShloMosaic.Lib.Pointwise
public import Idealize.ShloMosaic.Lib.VecWindow
public import proofs.«01_k».proof.Proof.RVal
public import proofs.«01_k».proof.Proof.IOut

@[expose] public section

set_option maxRecDepth 16384

noncomputable section

namespace IWin

open Idealize.ShloMosaic Idealize.ShloMosaic.TcCoe Idealize.SL.Sem Cert.Kernel2Ideal Cert.Kernel2Ideal.Gen Proj

variable (m : (ℓ : Loc nD τ sig) → Buf (Elt Ideal) ℓ) (c : Dev nD)

/-- The projection's inputs in a memory. -/
abbrev A : Args :=
  RVal.args (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7))

theorem lt192 (t : Fin cfg0.N) : t.val < 192 := lt_of_lt_of_eq t.isLt N_0
/-- The batch of a grid point. -/
abbrev bOf (t : Fin cfg0.N) : Fin 8 := ⟨t.val / 24, by have := lt192 t; omega⟩
/-- The row a grid point has at `a`, within its batch. -/
abbrev sOf (t : Fin cfg0.N) (a : Fin 1024) : Fin 4096 := ⟨1024 * (t.val / 6 % 4) + a, by omega⟩

/-- The blocks' places. -/
theorem places : ∀ t : Fin cfg0.N,
    (win0_0.index t (0 : Fin 3) = t.val / 24 ∧ win0_0.index t (1 : Fin 3) = 0 ∧ win0_0.index t (2 : Fin 3) = 0)
    ∧ (win0_1.index t (0 : Fin 2) = 0 ∧ win0_1.index t (1 : Fin 2) = 0) ∧ (win0_2.index t (0 : Fin 2) = 0 ∧ win0_2.index t (1 : Fin 2) = 0)
    ∧ (win0_3.index t (0 : Fin 2) = 0 ∧ win0_3.index t (1 : Fin 2) = 0) ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = t.val / 6 ∧ win0_6.index t (1 : Fin 2) = t.val % 6)
    ∧ (win0_7.index t (0 : Fin 2) = t.val / 6 ∧ win0_7.index t (1 : Fin 2) = 0) ∧ (win0_8.index t (0 : Fin 2) = 0 ∧ win0_8.index t (1 : Fin 2) = t.val / 6) :=
  (by decide +kernel : ∀ t : Fin grid0.N, _)

/-- The padding's integer zero, as a float. -/
theorem pad0 (φ : FTy) : FloatOps.sitofp (F := Ideal) φ (0#32 : BitVec 32) = (0 : EReal) := by
  simp [FloatOps.sitofp]

theorem v0 (r : Fin 32768) (k : Fin 1024) : V m c main_v0 (ix2 r k) = (A m c).x ⟨r / 4096, by omega⟩ ⟨r % 4096, by omega⟩ k := by
  simp only [V, hostOps0, hostOps0_1, hostOps0_2, hostOps0_3, hostOps0_4, hostOps0_5, hostOps0_6, List.flatten_cons, List.flatten_nil, List.append_nil, List.cons_append, List.nil_append]
  entry_read
  pointwise []
  rfl

theorem v4 (k : Fin 1024) (j : Fin 10240) : V m c main_v4 (ix2 k j) = if (j : ℕ) < 9216 then (A m c).col k j else 0 := by
  simp only [V, hostOps0, hostOps0_1, hostOps0_2, hostOps0_3, hostOps0_4, hostOps0_5, hostOps0_6, List.flatten_cons, List.flatten_nil, List.append_nil, List.cons_append, List.nil_append]
  entry_read
  show (pad S1024x10240 ![0, 0] ![0, 1024] ![0, 0] (truncf .bf16 (extractStridedSlice S1024x9216 ![0, 0] (m ((c.tc : Thread nD τ).loc main_arg3) : FVec Ideal S1024x11272 .f32) slices_S1024x11272_S1024x9216_0_0) bitsLt_bf16_f32)
    (sitofp .bf16 (constantI S_ 32 0#32)) pads_S1024x9216_S1024x10240_000_010240 h_S_ : FVec Ideal S1024x10240 .bf16) (ix2 k j) = _
  pointwise []
  by_cases h : (j : ℕ) < 9216
  · refine (dif_pos h).trans (Eq.trans ?_ (if_pos h).symm)
    unfold Args.col
    rw [dif_pos (show (j : ℕ) < 11272 by omega)]
    rfl
  · exact (dif_neg h).trans ((pad0 _).trans (if_neg h).symm)

theorem b0 (t : Fin cfg0.N) (j : Fin 3) (k : Fin 1024) : iblk m c 0 t (ix3 0 j k) = (A m c).ada (bOf t) ⟨1024 * j + k, by omega⟩ := by
  have p := (places t).1
  show V m c main_v1 (((cfg0.win 0).blk t).view.emb (ix3 0 j k)) = _
  have e : ((cfg0.win 0).blk t).view.emb (ix3 0 j k) = (ix3 (bOf t) j k : S8x3x1024.Idx) := by
    funext x
    match x with
    | ⟨0, _⟩ => exact Fin.ext (show win0_0.index t (0 : Fin 3) * 1 + 1 * 0 = t.val / 24 by omega)
    | ⟨1, _⟩ => exact Fin.ext (show win0_0.index t (1 : Fin 3) * 3 + 1 * (j : ℕ) = j by omega)
    | ⟨2, _⟩ => exact Fin.ext (show win0_0.index t (2 : Fin 3) * 1024 + 1 * (k : ℕ) = k by omega)
  rw [e]
  simp only [V, hostOps0, hostOps0_1, hostOps0_2, hostOps0_3, hostOps0_4, hostOps0_5, hostOps0_6, List.flatten_cons, List.flatten_nil, List.append_nil, List.cons_append, List.nil_append]
  entry_read
  pointwise []
  exact congrArg (fun x => m ((c.tc : Thread nD τ).loc main_arg1) (ix2 (bOf t) x)) (Fin.ext (by show (j : ℕ) * 1024 + k = 1024 * j + k; omega))

theorem b1 (t : Fin cfg0.N) (k : Fin 1024) : iblk m c 1 t (ix2 0 k) = (A m c).nw k := by
  have p := (places t).2.1
  show V m c main_v24 (((cfg0.win 1).blk t).view.emb (ix2 0 k)) = _
  have e : ((cfg0.win 1).blk t).view.emb (ix2 0 k) = (ix2 0 k : S1x1024.Idx) := by
    funext x
    match x with
    | ⟨0, _⟩ => exact Fin.ext (show win0_1.index t (0 : Fin 2) * 1 + 1 * 0 = 0 by omega)
    | ⟨1, _⟩ => exact Fin.ext (show win0_1.index t (1 : Fin 2) * 1024 + 1 * (k : ℕ) = k by omega)
  rw [e]
  simp only [V, hostOps0, hostOps0_1, hostOps0_2, hostOps0_3, hostOps0_4, hostOps0_5, hostOps0_6, List.flatten_cons, List.flatten_nil, List.append_nil, List.cons_append, List.nil_append]
  entry_read
  pointwise []
  rfl

theorem b2 (t : Fin cfg0.N) (k : Fin 1024) (j : Fin 2048) : iblk m c 2 t (ix2 k j) = (A m c).col k (9224 + j) := by
  have p := (places t).2.2.1
  show V m c main_v6 (((cfg0.win 2).blk t).view.emb (ix2 k j)) = _
  have e : ((cfg0.win 2).blk t).view.emb (ix2 k j) = (ix2 k j : S1024x2048.Idx) := by
    funext x
    match x with
    | ⟨0, _⟩ => exact Fin.ext (show win0_2.index t (0 : Fin 2) * 1024 + 1 * (k : ℕ) = k by omega)
    | ⟨1, _⟩ => exact Fin.ext (show win0_2.index t (1 : Fin 2) * 2048 + 1 * (j : ℕ) = j by omega)
  rw [e]
  simp only [V, hostOps0, hostOps0_1, hostOps0_2, hostOps0_3, hostOps0_4, hostOps0_5, hostOps0_6, List.flatten_cons, List.flatten_nil, List.append_nil, List.cons_append, List.nil_append]
  entry_read
  pointwise []
  unfold Args.col
  rw [dif_pos (by omega)]
  rfl

theorem b3 (t : Fin cfg0.N) (k : Fin 1024) (j : Fin 128) : iblk m c 3 t (ix2 k j) = if (j : ℕ) < 8 then (A m c).col k (9216 + j) else 0 := by
  have p := (places t).2.2.2.1
  show V m c main_v9 (((cfg0.win 3).blk t).view.emb (ix2 k j)) = _
  have e : ((cfg0.win 3).blk t).view.emb (ix2 k j) = (ix2 k j : S1024x128.Idx) := by
    funext x
    match x with
    | ⟨0, _⟩ => exact Fin.ext (show win0_3.index t (0 : Fin 2) * 1024 + 1 * (k : ℕ) = k by omega)
    | ⟨1, _⟩ => exact Fin.ext (show win0_3.index t (1 : Fin 2) * 128 + 1 * (j : ℕ) = j by omega)
  rw [e]
  simp only [V, hostOps0, hostOps0_1, hostOps0_2, hostOps0_3, hostOps0_4, hostOps0_5, hostOps0_6, List.flatten_cons, List.flatten_nil, List.append_nil, List.cons_append, List.nil_append]
  entry_read
  pointwise []
  show (pad S1024x128 ![0, 0] ![0, 120] ![0, 0] (extractStridedSlice S1024x8 ![0, 9216] (m ((c.tc : Thread nD τ).loc main_arg3) : FVec Ideal S1024x11272 .f32) slices_S1024x11272_S1024x8_0_9216)
    (sitofp .f32 (constantI S_ 32 0#32)) pads_S1024x8_S1024x128_000_01200 h_S_ : FVec Ideal S1024x128 .f32) (ix2 k j) = _
  pointwise []
  by_cases h : (j : ℕ) < 8
  · refine (dif_pos h).trans (Eq.trans ?_ (if_pos h).symm)
    unfold Args.col
    rw [dif_pos (show 9216 + (j : ℕ) < 11272 by omega)]
    rfl
  · exact (dif_neg h).trans ((pad0 _).trans (if_neg h).symm)

theorem b4 (t : Fin cfg0.N) (j : Fin 128) : iblk m c 4 t (ix2 0 j) = (A m c).bias j := by
  have p := (places t).2.2.2.2.1
  show V m c main_v12 (((cfg0.win 4).blk t).view.emb (ix2 0 j)) = _
  have e : ((cfg0.win 4).blk t).view.emb (ix2 0 j) = (ix2 0 j : S1x128.Idx) := by
    funext x
    match x with
    | ⟨0, _⟩ => exact Fin.ext (show win0_4.index t (0 : Fin 2) * 1 + 1 * 0 = 0 by omega)
    | ⟨1, _⟩ => exact Fin.ext (show win0_4.index t (1 : Fin 2) * 128 + 1 * (j : ℕ) = j by omega)
  rw [e]
  simp only [V, hostOps0, hostOps0_1, hostOps0_2, hostOps0_3, hostOps0_4, hostOps0_5, hostOps0_6, List.flatten_cons, List.flatten_nil, List.append_nil, List.cons_append, List.nil_append]
  entry_read
  pointwise []
  show (pad S128 ![0] ![120] ![0] (concatenate S8 0 [⟨S4, (m ((c.tc : Thread nD τ).loc main_arg6) : FVec Ideal S4 .f32)⟩, ⟨S4, (m ((c.tc : Thread nD τ).loc main_arg7) : FVec Ideal S4 .f32)⟩] concatenates_S4_S4_S8_d0)
    (sitofp .f32 (constantI S_ 32 0#32)) pads_S8_S128_01200 h_S_ : FVec Ideal S128 .f32) (ix1 j) = _
  pointwise []
  unfold Args.bias
  by_cases h4 : (j : ℕ) < 4
  · rw [dif_pos (show (j : ℕ) < 8 by omega), dif_pos h4, dif_pos h4]
    rfl
  by_cases h8 : (j : ℕ) < 8
  · rw [dif_pos h8, dif_neg h4, dif_neg h4, dif_pos h8]
    rfl
  · rw [dif_neg h8, dif_neg h4, dif_neg h8]
    exact pad0 _

theorem b5 (t : Fin cfg0.N) (r : Fin 2) (j : Fin 1024) : iblk m c 5 t (ix2 r j) =
    if (r : ℕ) = 0 then (A m c).qw ⟨j % 128, by omega⟩ * Ideal.ofBits FTy.f32 0x3E0293EE#32 else (A m c).kw ⟨j % 128, by omega⟩ := by
  have p := (places t).2.2.2.2.2.1
  show V m c main_v23 (((cfg0.win 5).blk t).view.emb (ix2 r j)) = _
  have e : ((cfg0.win 5).blk t).view.emb (ix2 r j) = (ix2 r j : S2x1024.Idx) := by
    funext x
    match x with
    | ⟨0, _⟩ => exact Fin.ext (show win0_5.index t (0 : Fin 2) * 2 + 1 * (r : ℕ) = r by omega)
    | ⟨1, _⟩ => exact Fin.ext (show win0_5.index t (1 : Fin 2) * 1024 + 1 * (j : ℕ) = j by omega)
  rw [e]
  simp only [V, hostOps0, hostOps0_1, hostOps0_2, hostOps0_3, hostOps0_4, hostOps0_5, hostOps0_6, List.flatten_cons, List.flatten_nil, List.append_nil, List.cons_append, List.nil_append]
  entry_read
  pointwise []
  by_cases h : (r : ℕ) = 0
  · exact (dif_pos (show (r : ℕ) < 1 by omega)).trans (if_pos h).symm
  · exact (dif_neg (show ¬(r : ℕ) < 1 by omega)).trans (if_neg h).symm

end IWin

end

end
-- ==== Proof.IEntry.lean ====
/- What each point of the input projection leaves, at an entry. -/
module

public import proofs.«01_k».proof.Proof.ISteps
public import proofs.«01_k».proof.Proof.IWin

@[expose] public section

set_option maxRecDepth 16384

noncomputable section

namespace IEntry

open Idealize.ShloMosaic Idealize.ShloMosaic.TcCoe Idealize.ShloMosaic.Tactic Idealize.SL.Sem Cert.Kernel2Ideal Cert.Kernel2Ideal.Gen Proj IVal ILoad IWin ISteps

variable (m : (ℓ : Loc nD τ sig) → Buf (Elt Ideal) ℓ) (c : Dev nD) (t : Fin cfg0.N)

theorem xb_at (h5 : cond0_5 (grid0.coords t)) (a k : Fin 1024) : xb m c t h5 (ix3 0 a k) = (A m c).x (bOf t) (sOf t a) k := by
  have q := lt192 t
  refine (x_at c t h5 (V m c main_v0) a k).trans ((v0 m c _ k).trans ?_)
  exact congrArg₂ (fun b s => (A m c).x b s k)
    (Fin.ext (by show (1024 * (t.val / 6) + a.val) / 4096 = t.val / 24; omega) : (⟨(1024 * (t.val / 6) + a.val) / 4096, by omega⟩ : Fin 8) = bOf t)
    (Fin.ext (by show (1024 * (t.val / 6) + a.val) % 4096 = 1024 * (t.val / 6 % 4) + a; omega) : (⟨(1024 * (t.val / 6) + a.val) % 4096, by omega⟩ : Fin 4096) = sOf t a)

theorem hx_at (h5 : cond0_5 (grid0.coords t)) (a k : Fin 1024) : hx m c t h5 (ix2 a k) = (A m c).hn (bOf t) (sOf t a) k := by
  refine (pay44_at (xb m c t h5) (l0 m c t) (l1 m c t) a k).trans ?_
  rw [l0_eq, l1_eq]
  have e : (fun e : Fin 1024 => xb m c t h5 (ix3 0 a e)) = (A m c).x (bOf t) (sOf t a) := funext fun e => xb_at m c t h5 a e
  rw [e, b1 m c t k, b0 m c t 1 k, b0 m c t 0 k]
  unfold Args.hn
  refine congrArg₂ (· + ·) ?_ ?_
  · rfl
  · exact congrArg ((A m c).ada (bOf t)) (Fin.ext (show 1024 * 0 + k.val = k by omega))

theorem hxs_at (h5 : cond0_5 (grid0.coords t)) (a k : Fin 1024) : hxs m c t h5 (ix2 a k) = (A m c).hn (bOf t) (sOf t a) k :=
  (pay45_eq (xb m c t h5) (l0 m c t) (l1 m c t) a k).trans (hx_at m c t h5 a k)

theorem g_at (h5 : cond0_5 (grid0.coords t)) (a : Fin 1024) (d : Fin 128) :
    k0_pay46 (k0_pay6 (xb m c t h5)) (k0_pay7 (l0 m c t)) (k0_pay8 (xb m c t h5)) k0_pay9 (l1 m c t) (l3 m c t) (l4 m c t) (ix2 a d)
      = if (d : ℕ) < 8 then (A m c).gate (bOf t) (sOf t a) d else 0 := by
  refine (pay46_at _ _ _ _ _ _ _ a d).trans ?_
  rw [l3_eq, l4_eq, b4 m c t d]
  have e : ∀ k : Fin 1024, hx m c t h5 (ix2 a k) * iblk m c 3 t (ix2 k d)
      = (A m c).hn (bOf t) (sOf t a) k * (if (d : ℕ) < 8 then (A m c).col k (9216 + d) else 0) := fun k => by rw [hx_at, b3]
  rw [Finset.sum_congr rfl fun k _ => e k]
  by_cases h : (d : ℕ) < 8
  · simp only [if_pos h]
    rfl
  · simp only [if_neg h, mul_zero, Finset.sum_const_zero, zero_add]
    unfold Args.bias
    rw [dif_neg (by omega), dif_neg h]

/-- A row's batch and times are those of its first point. -/
theorem bOf_start : bOf (rowStart t) = bOf t := Fin.ext (by show 6 * (t.val / 6) / 24 = t.val / 24; omega)
theorem sOf_start (a : Fin 1024) : sOf (rowStart t) a = sOf t a := Fin.ext (by show 1024 * (6 * (t.val / 6) / 6 % 4) + a.val = 1024 * (t.val / 6 % 4) + a; omega)
theorem cond5_start : cond0_5 (grid0.coords (rowStart t)) := (hcond0_5 (rowStart t)).2 (rowStart_mod t)

/-- The parts of a point's four results. -/
theorem parts {α β γ δ : Type} {z : α × β × γ × δ} {p : α} {q : β} {r : γ} {s : δ} (h : z = (p, q, r, s)) : z.1 = p ∧ z.2.1 = q ∧ z.2.2.1 = r ∧ z.2.2.2 = s := by
  subst h
  exact ⟨rfl, rfl, rfl, rfl⟩

/-- One whole piece, read back. -/
theorem whole_g (w : Vec Ideal S1024x128 .f32) :
    VO0_7.read (Elt Ideal) (VO0_7.writes (Elt Ideal) VO0_7.junk [⟨Rect.unit ![0, 0] S1024x128.size inb_S1024x128_S1024x128_0_0, w⟩]) = w :=
  View.read_writes_full _ _ _ _ _
theorem whole_gh (w : Vec Ideal S8x1024 .f32) :
    VO0_8.read (Elt Ideal) (VO0_8.writes (Elt Ideal) VO0_8.junk [⟨Rect.unit ![0, 0] S8x1024.size inb_S8x1024_S8x1024_0_0, w⟩]) = w :=
  View.read_writes_full _ _ _ _ _
theorem whole_h (w : Vec Ideal S1024x1024 .bf16) :
    VO0_h.read (Elt Ideal) (VO0_h.writes (Elt Ideal) VO0_h.junk [⟨Rect.unit ![0, 0] S1024x1024.size inb_S1024x1024_S1024x1024_0_0, w⟩]) = w :=
  View.read_writes_full _ _ _ _ _

theorem head_p (h5 : cond0_5 (grid0.coords t)) (h : t.val % 6 = 0) :
    (head m c t h).1 = VO0_6.read (Elt Ideal) (VO0_6.writes (Elt Ideal) VO0_6.junk (pieces m c t h5)) := (parts (head_eq m c t h5 h)).1
theorem head_g (h5 : cond0_5 (grid0.coords t)) (h : t.val % 6 = 0) :
    (head m c t h).2.1 = k0_pay46 (k0_pay6 (xb m c t h5)) (k0_pay7 (l0 m c t)) (k0_pay8 (xb m c t h5)) k0_pay9 (l1 m c t) (l3 m c t) (l4 m c t) :=
  (parts (head_eq m c t h5 h)).2.1.trans (whole_g _)
theorem head_gh (h5 : cond0_5 (grid0.coords t)) (h : t.val % 6 = 0) :
    (head m c t h).2.2.1 = k0_pay47 (k0_pay6 (xb m c t h5)) (k0_pay7 (l0 m c t)) (k0_pay8 (xb m c t h5)) k0_pay9 (l1 m c t) (l3 m c t) (l4 m c t) :=
  (parts (head_eq m c t h5 h)).2.2.1.trans (whole_gh _)
theorem head_h (h5 : cond0_5 (grid0.coords t)) (h : t.val % 6 = 0) : (head m c t h).2.2.2 = hxs m c t h5 :=
  (parts (head_eq m c t h5 h)).2.2.2.trans (whole_h _)

/-- The rows a point finds in the scratch. -/
theorem row_h (a k : Fin 1024) : (rowHead m c t).2.2.2 (ix2 a k) = (A m c).hn (bOf t) (sOf t a) k := by
  rw [← bOf_start, ← sOf_start]
  exact (congrFun (head_h m c (rowStart t) (cond5_start t) (rowStart_mod t)) (ix2 a k)).trans (hxs_at m c (rowStart t) (cond5_start t) a k)

theorem row_g (a : Fin 1024) (d : Fin 128) : (rowHead m c t).2.1 (ix2 a d) = if (d : ℕ) < 8 then (A m c).gate (bOf t) (sOf t a) d else 0 := by
  rw [← bOf_start, ← sOf_start]
  exact (congrFun (head_g m c (rowStart t) (cond5_start t) (rowStart_mod t)) (ix2 a d)).trans (g_at m c (rowStart t) (cond5_start t) a d)

theorem row_gh (a : Fin 1024) (d : Fin 8) : (rowHead m c t).2.2.1 (ix2 d a) = (A m c).gate (bOf t) (sOf t a) d := by
  rw [← bOf_start, ← sOf_start]
  exact (congrFun (head_gh m c (rowStart t) (cond5_start t) (rowStart_mod t)) (ix2 d a)).trans
    (((pay47_at _ _ _ _ _ _ _ a d).trans (g_at m c (rowStart t) (cond5_start t) a ⟨d, by omega⟩)).trans (if_pos d.isLt))

/-- Rows times columns of the weights, once the rows and the columns are known. -/
theorem sum_u (x : Vec Ideal S1024x1024 .bf16) (hx : ∀ a k, x (ix2 a k) = (A m c).hn (bOf t) (sOf t a) k) (f : Fin 1024 → EReal) (j : ℕ)
    (hf : ∀ k, f k = (A m c).col k j) (a : Fin 1024) : ∑ k, x (ix2 a k) * f k = (A m c).u (bOf t) (sOf t a) j :=
  Finset.sum_congr rfl fun k _ => by rw [hx, hf]

/-- A column of the padded weights, before the padding. -/
theorem w4 (k : Fin 1024) (j n : ℕ) (hj : j < 10240) (e : j = n) (h : n < 9216) : V m c main_v4 (ix2 k ⟨j, hj⟩) = (A m c).col k n := by
  subst e
  exact (v4 m c k ⟨j, hj⟩).trans (if_pos h)

theorem head_at (h : t.val % 6 = 0) (h5 : cond0_5 (grid0.coords t)) (i : Fin 16) (a : Fin 1024) (d : Fin 128) :
    (IVal.piece (hld m c t h5) (wts m c t) (l5 m c t 0) (l5 m c t 1) i).2 (ix2 a d) = (A m c).p (bOf t) (sOf t a) (128 * i + d) := by
  refine (normed_at _ _ a d).trans ?_
  have eu : ∀ e : Fin 128, extractStridedSlice S1024x128 ![0, 128 * (i.val % 2)] (k0_pay11 (hld m c t h5) (wts m c t ⟨i.val / 2, by omega⟩)) (half i) (ix2 a e)
      = (A m c).u (bOf t) (sOf t a) (128 * i + e) := fun e => by
    have e1 : extractStridedSlice S1024x128 ![0, 128 * (i.val % 2)] (k0_pay11 (hld m c t h5) (wts m c t ⟨i.val / 2, by omega⟩)) (half i) (ix2 a e)
        = k0_pay11 (hld m c t h5) (wts m c t ⟨i.val / 2, by omega⟩) (ix2 a ⟨128 * (i.val % 2) + e, by omega⟩) := by
      refine congrArg (k0_pay11 (hld m c t h5) (wts m c t ⟨i.val / 2, by omega⟩)) ?_
      funext x
      match x with
      | ⟨0, _⟩ => exact Fin.ext (show 0 + a.val = a by omega)
      | ⟨1, _⟩ => rfl
    rw [e1, pay11_at]
    refine sum_u m c t _ (fun a k => by rw [hld_eq]; exact hxs_at m c t h5 a k) _ _ (fun k => ?_) a
    refine (wld_at c t (by omega) (V m c main_v4) 256 (256 * (i.val / 2)) _ k ⟨128 * (i.val % 2) + e, by omega⟩ (by show 256 * (i.val / 2) + (128 * (i.val % 2) + e.val) < 2048; omega)).trans ?_
    exact w4 m c k _ _ _ (by show 2048 * (t.val % 6) + (256 * (i.val / 2) + (128 * (i.val % 2) + e.val)) = 128 * i.val + e.val; omega) (by omega)
  have ew : ∀ W : Vec Ideal S1x1024 .f32, extractStridedSlice S1x128 ![0, 128 * (i.val % 8)] (k0_pay10 W) (head_row i) (ix2 0 d)
      = W (ix2 0 ⟨128 * (i.val % 8) + d, by omega⟩) := fun W => by
    have e1 : extractStridedSlice S1x128 ![0, 128 * (i.val % 8)] (k0_pay10 W) (head_row i) (ix2 0 d)
        = k0_pay10 W (ix2 0 ⟨128 * (i.val % 8) + d, by omega⟩) := by
      refine congrArg (k0_pay10 W) ?_
      funext x
      match x with
      | ⟨0, _⟩ => rfl
      | ⟨1, _⟩ => rfl
    rw [e1]
    pointwise [k0_pay10]
  have e8 : (⟨(128 * (i.val % 8) + d.val) % 128, by omega⟩ : Fin 128) = ⟨(128 * i.val + d.val) % 128, by omega⟩ :=
    Fin.ext (by show (128 * (i.val % 8) + d.val) % 128 = (128 * i.val + d.val) % 128; omega)
  rw [funext eu, ew]
  have nu : (A m c).nu (bOf t) (sOf t a) (128 * i.val + d.val) = Proj.unit 0x43000000#32 (fun e : Fin 128 => (A m c).u (bOf t) (sOf t a) (128 * i + e)) d := by
    unfold Args.nu
    rw [show (128 * i.val + d.val) / 128 * 128 = 128 * i.val by omega]
    exact congrArg _ (Fin.ext (show (128 * i.val + d.val) % 128 = d by omega))
  unfold Args.p
  rw [nu]
  by_cases h8 : i.val < 8
  · rw [if_pos h8, if_pos (by omega), l5_at, b5 m c t, if_pos (show ((0 : Fin 2) : ℕ) = 0 from rfl)]
    exact congrArg (fun z => _ * ((A m c).qw z * _)) e8
  · rw [if_neg h8, if_neg (by omega), if_pos (by omega), l5_at, b5 m c t, if_neg (by decide)]
    exact congrArg (fun z => _ * (A m c).kw z) e8

/-- The sum's column, as the projection's. -/
theorem p_mid (b : Fin 8) (s : Fin 4096) (n : ℕ) (h : 2048 ≤ n) (h' : n < 9216) : (A m c).p b s n = (A m c).u b s n := by
  unfold Args.p
  rw [if_neg (by omega), if_neg (by omega), if_pos h']
theorem p_hi (b : Fin 8) (s : Fin 4096) (n n' : ℕ) (h : 9216 ≤ n) (h' : n < 11264) (e : n' = n + 8) : (A m c).p b s n = (A m c).u b s n' := by
  subst e
  unfold Args.p
  rw [if_neg (by omega), if_neg (by omega), if_neg (by omega), if_pos h']
theorem p_pad (b : Fin 8) (s : Fin 4096) (n : ℕ) (h : 11264 ≤ n) : (A m c).p b s n = 0 := by
  unfold Args.p
  rw [if_neg (by omega), if_neg (by omega), if_neg (by omega), if_neg (by omega)]

/-- The heads, from the last. -/
theorem all16 : ∀ i : Fin 16, i ∈ ([15, 14, 13, 12, 11, 10, 9, 8, 7, 6, 5, 4, 3, 2, 1, 0] : List (Fin 16)) := by decide

theorem first_at' (h : t.val % 6 = 0) (h5 : cond0_5 (grid0.coords t)) (a : Fin 1024) (i : Fin 16) (d : Fin 128) :
    pAt m c t (ix2 a ⟨128 * i.val + d, by omega⟩) = (A m c).p (bOf t) (sOf t a) (128 * i + d) := by
  rw [pAt_first m c t h]
  refine (congrFun (head_p m c t h5 h) _).trans (Eq.trans ?_ (head_at m c t h h5 i a d))
  exact read_pieces VO0_6 VO0_6.junk (fun i => (IVal.piece (hld m c t h5) (wts m c t) (l5 m c t 0) (l5 m c t 1) i).2) _ i (all16 i) a d

theorem first_at (h : t.val % 6 = 0) (a : Fin 1024) (j : Fin 2048) : pAt m c t (ix2 a j) = (A m c).p (bOf t) (sOf t a) (2048 * (t.val % 6) + j) := by
  obtain ⟨i, d, rfl⟩ : ∃ (i : Fin 16) (d : Fin 128), j = ⟨128 * i.val + d, by omega⟩ :=
    ⟨⟨j.val / 128, by omega⟩, ⟨j.val % 128, by omega⟩, Fin.ext (by show j.val = 128 * (j.val / 128) + j.val % 128; omega)⟩
  refine (first_at' m c t h ((hcond0_5 t).2 h) a i d).trans ?_
  exact congrArg ((A m c).p (bOf t) (sOf t a)) (by show 128 * i.val + d.val = 2048 * (t.val % 6) + (128 * i.val + d.val); omega)

theorem mid_at (h : t.val % 6 = 1 ∨ t.val % 6 = 2 ∨ t.val % 6 = 3) (h7 : cond0_7 (grid0.coords t)) (a : Fin 1024) (j : Fin 2048) :
    VO0_6.read (Elt Ideal) (VO0_6.writes (Elt Ideal) VO0_6.junk (mid m c t (rowHead m c t).2.2.2 h7)) (ix2 a j)
      = (A m c).p (bOf t) (sOf t a) (2048 * (t.val % 6) + j) := by
  refine (congrFun (View.read_writes_full _ _ _ _ _) (ix2 a j)).trans ?_
  refine (pay1_at _ _ a j).trans ?_
  rw [hscr_eq, p_mid m c _ _ _ (by omega) (by omega)]
  refine sum_u m c t _ (row_h m c t) _ _ (fun k => ?_) a
  exact (w_at c t h7 (by omega) (V m c main_v4) k j).trans (w4 m c k _ _ _ rfl (by omega))

theorem fifth_at (h : t.val % 6 = 4) (a : Fin 1024) (j : Fin 2048) :
    VO0_6.read (Elt Ideal) (VO0_6.writes (Elt Ideal) VO0_6.junk (fifth m c t (rowHead m c t).2.2.2)) (ix2 a j)
      = (A m c).p (bOf t) (sOf t a) (2048 * (t.val % 6) + j) := by
  by_cases hj : j.val < 1024
  · refine (View.read_writes_cons_unit_of_not_mem VO0_6 _ _ _ _ _ rfl (1 : Fin 2) (.inl hj)).trans ?_
    refine (View.read_writes_cons_unit_of_mem VO0_6 _ _ _ _ (ix2 a j) (ix2 a ⟨j, hj⟩) rfl (Fin.forall_fin_two.mpr ⟨(Nat.zero_add _).symm, (Nat.zero_add _).symm⟩)).trans ?_
    refine (pay2_at _ _ a ⟨j, hj⟩).trans ?_
    rw [hscr_eq, p_mid m c _ _ _ (by omega) (by omega)]
    refine sum_u m c t _ (row_h m c t) _ _ (fun k => ?_) a
    exact (wld_at c t (by omega) (V m c main_v4) 1024 0 _ k ⟨j, hj⟩ (by show 0 + j.val < 2048; omega)).trans (w4 m c k _ _ _ (by show 2048 * (t.val % 6) + (0 + j.val) = _; omega) (by omega))
  · refine (View.read_writes_cons_unit_of_mem VO0_6 _ _ _ _ (ix2 a j) (ix2 a (⟨j - 1024, by omega⟩ : Fin 1024)) rfl
      (Fin.forall_fin_two.mpr ⟨(Nat.zero_add _).symm, (by show j.val = 1024 + (j.val - 1024); omega)⟩)).trans ?_
    refine (pay3_at _ _ a ⟨j - 1024, by omega⟩).trans ?_
    rw [hscr_eq, p_hi m c _ _ _ (9224 + (j.val - 1024)) (by omega) (by omega) (by omega)]
    refine sum_u m c t _ (row_h m c t) _ _ (fun k => ?_) a
    refine (l2_at m c t 0 k ⟨j - 1024, by omega⟩).trans ((b2 m c t k _).trans ?_)
    exact congrArg ((A m c).col k) (by show 9224 + (1024 * 0 + (j.val - 1024)) = _; omega)

theorem last_at (h : t.val % 6 = 5) (a : Fin 1024) (j : Fin 2048) :
    VO0_6.read (Elt Ideal) (VO0_6.writes (Elt Ideal) VO0_6.junk (last m c t (rowHead m c t).2.2.2)) (ix2 a j)
      = (A m c).p (bOf t) (sOf t a) (2048 * (t.val % 6) + j) := by
  by_cases hj : j.val < 1024
  · refine (View.read_writes_cons_unit_of_not_mem VO0_6 _ _ _ _ _ rfl (1 : Fin 2) (.inl hj)).trans ?_
    refine (View.read_writes_cons_unit_of_mem VO0_6 _ _ _ _ (ix2 a j) (ix2 a ⟨j, hj⟩) rfl (Fin.forall_fin_two.mpr ⟨(Nat.zero_add _).symm, (Nat.zero_add _).symm⟩)).trans ?_
    refine (pay4_at _ _ a ⟨j, hj⟩).trans ?_
    rw [hscr_eq, p_hi m c _ _ _ (9224 + (1024 + j.val)) (by omega) (by omega) (by omega)]
    refine sum_u m c t _ (row_h m c t) _ _ (fun k => ?_) a
    refine (l2_at m c t 1 k ⟨j, hj⟩).trans ((b2 m c t k _).trans ?_)
    exact congrArg ((A m c).col k) (by show 9224 + (1024 * 1 + j.val) = _; omega)
  · refine (View.read_writes_cons_unit_of_mem VO0_6 _ _ _ _ (ix2 a j) (ix2 a (⟨j - 1024, by omega⟩ : Fin 1024)) rfl
      (Fin.forall_fin_two.mpr ⟨(Nat.zero_add _).symm, (by show j.val = 1024 + (j.val - 1024); omega)⟩)).trans ?_
    rw [p_pad m c _ _ _ (by omega)]
    exact pay5_at a ⟨j - 1024, by omega⟩

/-- Every point leaves its block of the projection. -/
theorem p_at (a : Fin 1024) (j : Fin 2048) : pAt m c t (ix2 a j) = (A m c).p (bOf t) (sOf t a) (2048 * (t.val % 6) + j) := by
  have q := lt192 t
  by_cases h0 : t.val % 6 = 0
  · exact first_at m c t h0 a j
  by_cases h1 : t.val % 6 = 1 ∨ t.val % 6 = 2 ∨ t.val % 6 = 3
  · have h7 : cond0_7 (grid0.coords t) := (hcond0_7 t).2 h1
    refine Eq.trans ?_ (mid_at m c t h1 h7 a j)
    by_cases hC : t.val % 6 = 1 ∧ t.val < 186
    · rw [pAt_C m c t hC, stepC_p m c t _ h7]
    by_cases hD : t.val % 6 = 2 ∨ t.val = 187
    · rw [pAt_D m c t hD, stepD_p m c t _ h7]
    · have hE : t.val % 6 = 3 := by omega
      rw [pAt_E m c t hE, stepE_p m c t _ h7]
  by_cases h4 : t.val % 6 = 4
  · refine Eq.trans ?_ (fifth_at m c t h4 a j)
    by_cases hH : t.val = 190
    · rw [pAt_H m c t hH, stepH_p m c t]
    · rw [pAt_F m c t ⟨h4, by omega⟩, stepF_p m c t]
  · have h5 : t.val % 6 = 5 := by omega
    refine Eq.trans ?_ (last_at m c t h5 a j)
    by_cases hI : t.val = 191
    · rw [pAt_I m c t hI, stepI_p m c t]
    · rw [pAt_G m c t ⟨h5, by omega⟩, stepG_p m c t]

end IEntry

end

end
-- ==== Proof.IFinal.lean ====
/- The input projection's results are its reference's. -/
module

public import Idealize.ShloMosaic.Lib.Pipeline.Value
public import proofs.«01_k».proof.Defs
public import proofs.«01_k».proof.Proof.IEntry
public import proofs.«01_k».proof.Proof.IFrame

@[expose] public section

set_option maxRecDepth 16384

noncomputable section

namespace IFinal

open Idealize.ShloMosaic Idealize.ShloMosaic.TcCoe Idealize.ShloMosaic.Tactic Idealize.SL.Sem Cert.Kernel2Ideal Cert.Kernel2Ideal.Gen Proj IWin IEntry

variable (m : (ℓ : Loc nD τ sig) → Buf (Elt Ideal) ℓ) (c : Dev nD) (t : Fin cfg0.N)

/-- The reference's results, of the kernel's arguments. -/
def G0 : FVec Ideal S32768x12288 .bf16 :=
  RVal.res0 (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
def G1 : FVec Ideal S32768x128 .f32 :=
  RVal.res1 (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg6)) (m ((c.tc : Thread nD τ).loc main_arg7))
def G2 : FVec Ideal S8x32768 .f32 :=
  RVal.res2 (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg6)) (m ((c.tc : Thread nD τ).loc main_arg7))

theorem row_lt (a : Fin 1024) : 1024 * (t.val / 6) + a < 32768 := by have := lt192 t; omega
/-- The row of the arrays a point's row is. -/
abbrev rOf (a : Fin 1024) : Fin 32768 := ⟨1024 * (t.val / 6) + a, row_lt t a⟩
theorem rOf_b (a : Fin 1024) : (⟨(rOf t a : ℕ) / 4096, by omega⟩ : Fin 8) = bOf t :=
  Fin.ext (by show (1024 * (t.val / 6) + a.val) / 4096 = t.val / 24; omega)
theorem rOf_s (a : Fin 1024) : (⟨(rOf t a : ℕ) % 4096, by omega⟩ : Fin 4096) = sOf t a :=
  Fin.ext (by show (1024 * (t.val / 6) + a.val) % 4096 = 1024 * (t.val / 6 % 4) + a; omega)

theorem G0_at (a : Fin 1024) (j : Fin 2048) : G0 m c (ix2 (rOf t a) ⟨2048 * (t.val % 6) + j, by omega⟩) = (A m c).p (bOf t) (sOf t a) (2048 * (t.val % 6) + j) := by
  rw [← rOf_b, ← rOf_s]
  exact RVal.res0_at _ _ _ _ _ _ (m ((c.tc : Thread nD τ).loc main_arg6)) (m ((c.tc : Thread nD τ).loc main_arg7)) (rOf t a) ⟨2048 * (t.val % 6) + j, by omega⟩
theorem G1_at (a : Fin 1024) (d : Fin 128) : G1 m c (ix2 (rOf t a) d) = if (d : ℕ) < 8 then (A m c).gate (bOf t) (sOf t a) d else 0 := by
  rw [← rOf_b, ← rOf_s]
  exact RVal.res1_at _ _ _ _ (m ((c.tc : Thread nD τ).loc main_arg4)) (m ((c.tc : Thread nD τ).loc main_arg5)) _ _ (rOf t a) d
theorem G2_at (a : Fin 1024) (d : Fin 8) : G2 m c (ix2 d (rOf t a)) = (A m c).gate (bOf t) (sOf t a) d := by
  rw [← rOf_b, ← rOf_s]
  exact RVal.res2_at _ _ _ _ (m ((c.tc : Thread nD τ).loc main_arg4)) (m ((c.tc : Thread nD τ).loc main_arg5)) _ _ (rOf t a) d

/-- An index of two axes, by its coordinates. -/
theorem ix2_cases {p q : ℕ} (y : (⟨2, ![p, q]⟩ : Shape).Idx) : ∃ (a : Fin p) (b : Fin q), y = ix2 a b :=
  ⟨y 0, y 1, by funext x; match x with | ⟨0, _⟩ => rfl | ⟨1, _⟩ => rfl⟩

theorem flush0_6 : ∀ t : Fin cfg0.N, (cfg0.win 6).flush t = true := by decide +kernel

theorem flushed6 : (dats m 0 c).flushed 6 t = ((cfg0.win 6).blk t).view.read (Elt Ideal) (G0 m c) := by
  show (cfg0.win 6).cut (grid0.coords t) ((dats m 0 c).after 6 t) = _
  rw [after0_6]
  have p := (places t).2.2.2.2.2.2.1
  funext y
  obtain ⟨a, j, rfl⟩ : ∃ (a : Fin 1024) (j : Fin 2048), y = ix2 a j := ix2_cases y
  have e : ((cfg0.win 6).blk t).view.emb (ix2 a j) = (ix2 (rOf t a) ⟨2048 * (t.val % 6) + j, by omega⟩ : S32768x12288.Idx) := by
    funext x
    match x with
    | ⟨0, _⟩ => exact Fin.ext (show win0_6.index t (0 : Fin 2) * 1024 + 1 * (a : ℕ) = 1024 * (t.val / 6) + a by omega)
    | ⟨1, _⟩ => exact Fin.ext (show win0_6.index t (1 : Fin 2) * 2048 + 1 * (j : ℕ) = 2048 * (t.val % 6) + j by omega)
  show pAt m c t (ix2 a j) = G0 m c (((cfg0.win 6).blk t).view.emb (ix2 a j))
  exact (p_at m c t a j).trans ((G0_at m c t a j).symm.trans (congrArg (G0 m c) e.symm))

theorem flushed7 : (dats m 0 c).flushed 7 t = ((cfg0.win 7).blk t).view.read (Elt Ideal) (G1 m c) := by
  show (cfg0.win 7).cut (grid0.coords t) ((dats m 0 c).after 7 t) = _
  rw [after0_7]
  have p := (places t).2.2.2.2.2.2.2.1
  funext y
  obtain ⟨a, d, rfl⟩ : ∃ (a : Fin 1024) (d : Fin 128), y = ix2 a d := ix2_cases y
  have e : ((cfg0.win 7).blk t).view.emb (ix2 a d) = (ix2 (rOf t a) d : S32768x128.Idx) := by
    funext x
    match x with
    | ⟨0, _⟩ => exact Fin.ext (show win0_7.index t (0 : Fin 2) * 1024 + 1 * (a : ℕ) = 1024 * (t.val / 6) + a by omega)
    | ⟨1, _⟩ => exact Fin.ext (show win0_7.index t (1 : Fin 2) * 128 + 1 * (d : ℕ) = d by omega)
  show (rowHead m c t).2.1 (ix2 a d) = G1 m c (((cfg0.win 7).blk t).view.emb (ix2 a d))
  exact (row_g m c t a d).trans ((G1_at m c t a d).symm.trans (congrArg (G1 m c) e.symm))

theorem flushed8 : (dats m 0 c).flushed 8 t = ((cfg0.win 8).blk t).view.read (Elt Ideal) (G2 m c) := by
  show (cfg0.win 8).cut (grid0.coords t) ((dats m 0 c).after 8 t) = _
  rw [after0_8]
  have p := (places t).2.2.2.2.2.2.2.2
  funext y
  obtain ⟨d, a, rfl⟩ : ∃ (d : Fin 8) (a : Fin 1024), y = ix2 d a := ix2_cases y
  have e : ((cfg0.win 8).blk t).view.emb (ix2 d a) = (ix2 d (rOf t a) : S8x32768.Idx) := by
    funext x
    match x with
    | ⟨0, _⟩ => exact Fin.ext (show win0_8.index t (0 : Fin 2) * 8 + 1 * (d : ℕ) = d by omega)
    | ⟨1, _⟩ => exact Fin.ext (show win0_8.index t (1 : Fin 2) * 1024 + 1 * (a : ℕ) = 1024 * (t.val / 6) + a by omega)
  show (rowHead m c t).2.2.1 (ix2 d a) = G2 m c (((cfg0.win 8).blk t).view.emb (ix2 d a))
  exact (row_gh m c t a d).trans ((G2_at m c t a d).symm.trans (congrArg (G2 m c) e.symm))

/-- The point of a row of blocks and a column of them. -/
def pt (r : Fin 32) (k : Fin 6) : Fin cfg0.N := ⟨6 * r + k, lt_of_lt_of_eq (show 6 * r.val + k.val < 192 by omega) N_0.symm⟩

theorem cover6 (i : S32768x12288.Idx) : ∃ t : Fin cfg0.N, (cfg0.win 6).flush t = true ∧ i ∈ ((cfg0.win 6).blk t).view.set := by
  obtain ⟨r, j, rfl⟩ := ix2_cases i
  have p := (places (pt ⟨r / 1024, by omega⟩ ⟨j / 2048, by omega⟩)).2.2.2.2.2.2.1
  have q : (pt ⟨r / 1024, by omega⟩ ⟨j / 2048, by omega⟩ : ℕ) = 6 * (r / 1024) + j / 2048 := rfl
  refine ⟨pt ⟨r / 1024, by omega⟩ ⟨j / 2048, by omega⟩, flush0_6 _, ?_⟩
  show _ ∈ ((View.whole main_v25_0).slice (win0_6.rect _)).set
  rw [View.set_slice_whole, Rect.mem_set_unit]
  intro x
  match x with
  | ⟨0, _⟩ => show win0_6.index _ (0 : Fin 2) * 1024 ≤ (r : ℕ) ∧ (r : ℕ) < win0_6.index _ (0 : Fin 2) * 1024 + 1024; omega
  | ⟨1, _⟩ => show win0_6.index _ (1 : Fin 2) * 2048 ≤ (j : ℕ) ∧ (j : ℕ) < win0_6.index _ (1 : Fin 2) * 2048 + 2048; omega

theorem cover7 (i : S32768x128.Idx) : ∃ t : Fin cfg0.N, (cfg0.win 7).flush t = true ∧ i ∈ ((cfg0.win 7).blk t).view.set := by
  obtain ⟨r, j, rfl⟩ := ix2_cases i
  have p := (places (pt ⟨r / 1024, by omega⟩ 5)).2.2.2.2.2.2.2.1
  have q : (pt ⟨r / 1024, by omega⟩ 5 : ℕ) = 6 * (r / 1024) + 5 := rfl
  refine ⟨pt ⟨r / 1024, by omega⟩ 5, (flush0_7 _).trans (decide_eq_true (by omega)), ?_⟩
  show _ ∈ ((View.whole main_v25_1).slice (win0_7.rect _)).set
  rw [View.set_slice_whole, Rect.mem_set_unit]
  intro x
  match x with
  | ⟨0, _⟩ => show win0_7.index _ (0 : Fin 2) * 1024 ≤ (r : ℕ) ∧ (r : ℕ) < win0_7.index _ (0 : Fin 2) * 1024 + 1024; omega
  | ⟨1, _⟩ => show win0_7.index _ (1 : Fin 2) * 128 ≤ (j : ℕ) ∧ (j : ℕ) < win0_7.index _ (1 : Fin 2) * 128 + 128; omega

theorem cover8 (i : S8x32768.Idx) : ∃ t : Fin cfg0.N, (cfg0.win 8).flush t = true ∧ i ∈ ((cfg0.win 8).blk t).view.set := by
  obtain ⟨j, r, rfl⟩ := ix2_cases i
  have p := (places (pt ⟨r / 1024, by omega⟩ 5)).2.2.2.2.2.2.2.2
  have q : (pt ⟨r / 1024, by omega⟩ 5 : ℕ) = 6 * (r / 1024) + 5 := rfl
  refine ⟨pt ⟨r / 1024, by omega⟩ 5, (flush0_8 _).trans (decide_eq_true (by omega)), ?_⟩
  show _ ∈ ((View.whole main_v25_2).slice (win0_8.rect _)).set
  rw [View.set_slice_whole, Rect.mem_set_unit]
  intro x
  match x with
  | ⟨0, _⟩ => show win0_8.index _ (0 : Fin 2) * 8 ≤ (j : ℕ) ∧ (j : ℕ) < win0_8.index _ (0 : Fin 2) * 8 + 8; omega
  | ⟨1, _⟩ => show win0_8.index _ (1 : Fin 2) * 1024 ≤ (r : ℕ) ∧ (r : ℕ) < win0_8.index _ (1 : Fin 2) * 1024 + 1024; omega

/-- The arrays after the run. -/
theorem final6 : (dats m 0 c).arrAt 6 cfg0.N = G0 m c := (dats m 0 c).arrAt_eq_of_cover 6 _ (fun t _ => flushed6 m c t) cover6
theorem final7 : (dats m 0 c).arrAt 7 cfg0.N = G1 m c := (dats m 0 c).arrAt_eq_of_cover 7 _ (fun t _ => flushed7 m c t) cover7
theorem final8 : (dats m 0 c).arrAt 8 cfg0.N = G2 m c := (dats m 0 c).arrAt_eq_of_cover 8 _ (fun t _ => flushed8 m c t) cover8

theorem outs (g : Dev nD → PrngReg) : θ_run (defs (F := Ideal)) (onTc (τ := τ) (main (F := Ideal))) ⟨m, fun _ => 0, g⟩ (fun r => ∀ c : Dev nD,
    r.2.mem ((c.tc : Thread nD τ).loc main_v25_0) = G0 m c ∧ r.2.mem ((c.tc : Thread nD τ).loc main_v25_1) = G1 m c
    ∧ r.2.mem ((c.tc : Thread nD τ).loc main_v25_2) = G2 m c) :=
  (θ_run defs _ _).mono (fun _ h c => ⟨((h c).1 6).trans (final6 m c), ((h c).1 7).trans (final7 m c), ((h c).1 8).trans (final8 m c)⟩) (run_main m g)

/-- The kernel and the reference end with equal results. -/
theorem algebraic : Cert.algebraic_Kernel2Ideal_Reference2Ideal := by
  intro m g m' g' _ hag
  refine ⟨fun c => G0 m c, fun c => G1 m c, fun c => G2 m c, ?_, ?_⟩
  · exact (θ_run _ _ _).mono (fun _ h c => ⟨(h.1 c).1, (h.1 c).2.1, (h.1 c).2.2, h.2.1 c⟩) (θ_run_and (outs m g) (frame (F := Ideal) m g))
  refine (θ_run _ _ _).mono (fun _ h c => ⟨(h c).1.trans ?_, (h c).2.1.trans ?_, (h c).2.2.1.trans ?_, (h c).2.2.2⟩) (Cert.Reference2Ideal.Value.run (F := Ideal) m' g')
  · obtain ⟨a0, a1, a2, a3, a4, a5, a6, a7⟩ := hag c
    refine (RVal.out0_eq m' c).trans ?_
    unfold G0
    rw [a0, a1, a2, a3, a4, a5]
  · obtain ⟨a0, a1, a2, a3, a4, a5, a6, a7⟩ := hag c
    rw [a0, a1, a2, a3, a6, a7]
    rfl
  · obtain ⟨a0, a1, a2, a3, a4, a5, a6, a7⟩ := hag c
    rw [a0, a1, a2, a3, a6, a7]
    rfl

end IFinal

end

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Pre_finite
public import proofs.«01_k».proof.Proof.Gen.Kernel2
public import proofs.«01_k».proof.Proof.Gen.Kernel2.Skeleton
public import proofs.«01_k».proof.Proof.Gen.Kernel2.Launch
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Reference2Ideal
public import proofs.«01_k».proof.Proof.Gen.Reference2Ideal.Run
public import proofs.«01_k».proof.Proof.Final
public import proofs.«01_k».proof.Proof.Frames2
public import proofs.«01_k».proof.Proof.IFinal
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts, Cert.Pre_finite.Gen.facts,
  fun m ρ _ => Cert.Kernel.Gen.frame m ρ, fun m ρ _ => Cert.KernelIdeal.Gen.frame m ρ, fun m ρ _ => Cert.KernelIdeal.Gen.frame m ρ,
  Final.frame_reference, fun m ρ _ => Final.frame_reference m ρ trivial,
  Frames2.kernel, Frames2.kernelIdeal, Frames2.reference, Final.preserves, Final.algebraic, trivial, IFinal.algebraic⟩

end Cert.Proof

end
